-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S4096x1024 : Shape := ⟨2, ![4096, 1024]⟩
abbrev S1024x2048 : Shape := ⟨2, ![1024, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  bcast_S_S4096x1024 : S_.BroadcastsInDim S4096x1024 (![] : Fin 0 → Fin S4096x1024.rank)
  reducesTo_S4096x1024_S4096_d1 : S4096x1024.ReducesTo [1] S4096
  h_S_ : 0 < S_.numel
  reducesTo_S4096_S_d0 : S4096.ReducesTo [0] S_
  bcast_S_S1024x2048 : S_.BroadcastsInDim S1024x2048 (![] : Fin 0 → Fin S1024x2048.rank)
  reducesTo_S1024x2048_S2048_d0 : S1024x2048.ReducesTo [0] S2048
  reducesTo_S2048_S_d0 : S2048.ReducesTo [0] S_
  bcast_S_S1 : S_.BroadcastsInDim S1 (![] : Fin 0 → Fin S1.rank)

variable [Facts]

def fn {F : FTy → Type} [FloatOps F] (main_arg0 : IVec S4096x1024 8) (main_arg1 : IVec S1024x2048 8) (main_arg2 : FVec F S1 .f32) (main_arg3 : FVec F S1 .f32) : IVec S1 1 × IVec S_ 1 :=
  let main_v0 : IVec S4096x1024 32 := (extsi 32 · natLt_8_32) main_arg0
  let main_c : IVec S_ 32 := constantI S_ 32 4294967168#32
  let main_v1 : IVec S4096x1024 32 := broadcastInDim S4096x1024 ![] bcast_S_S4096x1024 main_c
  let main_v2 : IVec S4096x1024 1 := cmpi .ne main_v0 main_v1
  let main_c_0 : IVec S_ 1 := constantI S_ 1 0#1
  let main_v3 : IVec S4096 1 := (fun x v => Host.reduce IntOp.ori x v reducesTo_S4096x1024_S4096_d1 h_S_) main_v2 main_c_0
  let main_c_1 : IVec S_ 1 := constantI S_ 1 1#1
  let main_v4 : IVec S_ 1 := (fun x v => Host.reduce IntOp.andi x v reducesTo_S4096_S_d0 h_S_) main_v3 main_c_1
  let main_v5 : IVec S1024x2048 32 := (extsi 32 · natLt_8_32) main_arg1
  let main_c_2 : IVec S_ 32 := constantI S_ 32 4294967168#32
  let main_v6 : IVec S1024x2048 32 := broadcastInDim S1024x2048 ![] bcast_S_S1024x2048 main_c_2
  let main_v7 : IVec S1024x2048 1 := cmpi .ne main_v5 main_v6
  let main_c_3 : IVec S_ 1 := constantI S_ 1 0#1
  let main_v8 : IVec S2048 1 := (fun x v => Host.reduce IntOp.ori x v reducesTo_S1024x2048_S2048_d0 h_S_) main_v7 main_c_3
  let main_c_4 : IVec S_ 1 := constantI S_ 1 1#1
  let main_v9 : IVec S_ 1 := (fun x v => Host.reduce IntOp.andi x v reducesTo_S2048_S_d0 h_S_) main_v8 main_c_4
  let main_v10 : FVec F S1 .f32 := mulf main_arg2 main_arg3
  let main_v11 : FVec F S1 .f32 := Host.absf main_v10
  let main_cst : FVec F S_ .f32 := constant S_ .f32 0x7F800000#32
  let main_v12 : FVec F S1 .f32 := broadcastInDim S1 ![] bcast_S_S1 main_cst
  let main_v13 : IVec S1 1 := cmpf .olt main_v11 main_v12
  let main_v14 : IVec S_ 1 := ori main_v4 main_v9
  (main_v13, main_v14)
-- ==== Pre_in_range_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩
abbrev S4096 : Shape := ⟨1, ![4096]⟩
abbrev S2048 : Shape := ⟨1, ![2048]⟩

class Facts : Prop where
  natLt_8_32 : 8 < 32
  bcast_S_S4096x4096 : S_.BroadcastsInDim S4096x4096 (![] : Fin 0 → Fin S4096x4096.rank)
  reducesTo_S4096x4096_S4096_d1 : S4096x4096.ReducesTo [1] S4096
  h_S_ : 0 < S_.numel
  reducesTo_S4096_S_d0 : S4096.ReducesTo [0] S_
  bcast_S_S4096x2048 : S_.BroadcastsInDim S4096x2048 (![] : Fin 0 → Fin S4096x2048.rank)
  reducesTo_S4096x2048_S2048_d0 : S4096x2048.ReducesTo [0] S2048
  reducesTo_S2048_S_d0 : S2048.ReducesTo [0] S_
  bcast_S_S1 : S_.BroadcastsInDim S1 (![] : Fin 0 → Fin S1.rank)

variable [Facts]

def fn {F : FTy → Type} [FloatOps F] (main_arg0 : IVec S4096x4096 8) (main_arg1 : IVec S4096x2048 8) (main_arg2 : FVec F S1 .f32) (main_arg3 : FVec F S1 .f32) : IVec S1 1 × IVec S_ 1 :=
  let main_v0 : IVec S4096x4096 32 := (extsi 32 · natLt_8_32) main_arg0
  let main_c : IVec S_ 32 := constantI S_ 32 4294967168#32
  let main_v1 : IVec S4096x4096 32 := broadcastInDim S4096x4096 ![] bcast_S_S4096x4096 main_c
  let main_v2 : IVec S4096x4096 1 := cmpi .ne main_v0 main_v1
  let main_c_0 : IVec S_ 1 := constantI S_ 1 0#1
  let main_v3 : IVec S4096 1 := (fun x v => Host.reduce IntOp.ori x v reducesTo_S4096x4096_S4096_d1 h_S_) main_v2 main_c_0
  let main_c_1 : IVec S_ 1 := constantI S_ 1 1#1
  let main_v4 : IVec S_ 1 := (fun x v => Host.reduce IntOp.andi x v reducesTo_S4096_S_d0 h_S_) main_v3 main_c_1
  let main_v5 : IVec S4096x2048 32 := (extsi 32 · natLt_8_32) main_arg1
  let main_c_2 : IVec S_ 32 := constantI S_ 32 4294967168#32
  let main_v6 : IVec S4096x2048 32 := broadcastInDim S4096x2048 ![] bcast_S_S4096x2048 main_c_2
  let main_v7 : IVec S4096x2048 1 := cmpi .ne main_v5 main_v6
  let main_c_3 : IVec S_ 1 := constantI S_ 1 0#1
  let main_v8 : IVec S2048 1 := (fun x v => Host.reduce IntOp.ori x v reducesTo_S4096x2048_S2048_d0 h_S_) main_v7 main_c_3
  let main_c_4 : IVec S_ 1 := constantI S_ 1 1#1
  let main_v9 : IVec S_ 1 := (fun x v => Host.reduce IntOp.andi x v reducesTo_S2048_S_d0 h_S_) main_v8 main_c_4
  let main_v10 : FVec F S1 .f32 := mulf main_arg2 main_arg3
  let main_v11 : FVec F S1 .f32 := Host.absf main_v10
  let main_cst : FVec F S_ .f32 := constant S_ .f32 0x7F800000#32
  let main_v12 : FVec F S1 .f32 := broadcastInDim S1 ![] bcast_S_S1 main_cst
  let main_v13 : IVec S1 1 := cmpf .olt main_v11 main_v12
  let main_v14 : IVec S_ 1 := ori main_v4 main_v9
  (main_v13, main_v14)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S2x128x2048 : Shape := ⟨3, ![2, 128, 2048]⟩
abbrev S2 : Shape := ⟨1, ![2]⟩
abbrev S_ : Shape := ⟨0, ![]⟩
abbrev S512x1024 : Shape := ⟨2, ![512, 1024]⟩
abbrev S512x2048 : Shape := ⟨2, ![512, 2048]⟩
abbrev S1x128x2048 : Shape := ⟨3, ![1, 128, 2048]⟩
abbrev S128x2048 : Shape := ⟨2, ![128, 2048]⟩

abbrev nBuf : Space → Nat
  | .hbm => 5
  | .vmem => 11
  | .smem => 2
  | _ => 0

abbrev bufTy : (tb : Table) → Fin (tcTables nBuf tb) → BufTy
  | .hbm, ⟨0, _⟩ => ⟨S4096x1024, .i8⟩
  | .hbm, ⟨1, _⟩ => ⟨S1024x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x2048, .f32⟩
  | .local _ .vmem, ⟨1, _⟩ => ⟨S2x128x2048, .f32⟩
  | .local _ .vmem, ⟨2, _⟩ => ⟨S2x128x2048, .f32⟩
  | .local _ .vmem, ⟨3, _⟩ => ⟨S2x128x2048, .f32⟩
  | .local _ .vmem, ⟨4, _⟩ => ⟨S2x128x2048, .f32⟩
  | .local _ .vmem, ⟨5, _⟩ => ⟨S2x128x2048, .f32⟩
  | .local _ .vmem, ⟨6, _⟩ => ⟨S2x128x2048, .f32⟩
  | .local _ .vmem, ⟨7, _⟩ => ⟨S2x128x2048, .f32⟩
  | .local _ .vmem, ⟨8, _⟩ => ⟨S2x128x2048, .f32⟩
  | .local _ .vmem, ⟨9, _⟩ => ⟨S4096x1024, .i8⟩
  | .local _ .vmem, ⟨10, _⟩ => ⟨S1024x2048, .i8⟩
  | .local _ .smem, ⟨0, _⟩ => ⟨S1, .f32⟩
  | .local _ .smem, ⟨1, _⟩ => ⟨S1, .f32⟩
  | _, _ => ⟨S4096x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 9 37 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg2_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch32 : Ref sig .tc := ⟨.vmem, 9, rfl⟩
abbrev cc0_scratch33 : Ref sig .tc := ⟨.vmem, 10, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 8

abbrev nD : Nat := 4
abbrev τ : Topo := Topo.v7x

variable {F : FTy → Type} [FloatOps F]

abbrev grid0 : Pipeline.Grid := .none

def k0_dev1 (d4 : Dev nD) : Nat :=
  let c0_i32_18 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_17 : BitVec 32 := 1#32
  let v31 : BitVec 32 := Scalar.muli v18 c1_i32_17
  let v32 : BitVec 32 := Scalar.addi c0_i32_18 v31
  v32.toNat
def k0_dev2 (d4 : Dev nD) : Nat :=
  let c0_i32_21 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_20 : BitVec 32 := 1#32
  let v33 : BitVec 32 := Scalar.muli v29 c1_i32_20
  let v34 : BitVec 32 := Scalar.addi c0_i32_21 v33
  v34.toNat
@[reducible] def k0_t1_loop : Scf.Loop 32 :=
  let c0_i32_25 : BitVec 32 := 0#32
  let c2_i32_26 : BitVec 32 := 2#32
  let v42 : BitVec 32 := Scalar.addi c0_i32_25 c2_i32_26
  let c1_i32_27 : BitVec 32 := 1#32
  ⟨c0_i32_25, v42, c1_i32_27⟩
def k0_off1 (d4 : Dev nD) (k0_t1 : Fin k0_t1_loop.trips) : Fin 2 → Nat :=
  let c0_i32_25 : BitVec 32 := 0#32
  let c1_i32_27 : BitVec 32 := 1#32
  let arg40 : BitVec 32 := Scf.iv c0_i32_25 c1_i32_27 k0_t1
  let c2_i32_858 : BitVec 32 := 2#32
  let c0_i32_859 : BitVec 32 := 0#32
  let v1018 : BitVec 1 := Scalar.cmpi .eq c2_i32_858 c0_i32_859
  let c1_i32_860 : BitVec 32 := 1#32
  let v1019 : BitVec 32 := Scalar.select v1018 c1_i32_860 c2_i32_858
  let v1020 : BitVec 32 := Scalar.remsi arg40 v1019
  let c0_i32_862 : BitVec 32 := 0#32
  let v1022 : BitVec 1 := Scalar.cmpi .slt v1020 c0_i32_862
  let c0_i32_863 : BitVec 32 := 0#32
  let v1023 : BitVec 1 := Scalar.cmpi .slt v1019 c0_i32_863
  let v1024 : BitVec 1 := Scalar.xori v1022 v1023
  let c0_i32_861 : BitVec 32 := 0#32
  let v1021 : BitVec 1 := Scalar.cmpi .ne v1020 c0_i32_861
  let v1025 : BitVec 1 := Scalar.andi v1024 v1021
  let v1026 : BitVec 32 := Scalar.addi v1020 v1019
  let v1027 : BitVec 32 := Scalar.select v1025 v1026 v1020
  let c4_i32_864 : BitVec 32 := 4#32
  let v1028 : BitVec 32 := Scalar.muli v1027 c4_i32_864
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c0_i32_866 : BitVec 32 := 0#32
  let v1030 : BitVec 1 := Scalar.cmpi .sgt arg40 c0_i32_866
  let v1031 : BitVec 32 := Scalar.extui v1030
  let c0_i32_867 : BitVec 32 := 0#32
  let v1032 : BitVec 1 := Scalar.cmpi .slt arg40 c0_i32_867
  let v1033 : BitVec 32 := Scalar.extui v1032
  let v1034 : BitVec 32 := Scalar.subi v1031 v1033
  let c2_i32_865 : BitVec 32 := 2#32
  let c0_i32_868 : BitVec 32 := 0#32
  let v1035 : BitVec 1 := Scalar.cmpi .sgt c2_i32_865 c0_i32_868
  let v1036 : BitVec 32 := Scalar.extui v1035
  let c0_i32_869 : BitVec 32 := 0#32
  let v1037 : BitVec 1 := Scalar.cmpi .slt c2_i32_865 c0_i32_869
  let v1038 : BitVec 32 := Scalar.extui v1037
  let v1039 : BitVec 32 := Scalar.subi v1036 v1038
  let v1040 : BitVec 1 := Scalar.cmpi .ne v1034 v1039
  let v1041 : BitVec 32 := Scalar.remsi arg40 c2_i32_865
  let c0_i32_870 : BitVec 32 := 0#32
  let v1042 : BitVec 1 := Scalar.cmpi .ne v1041 c0_i32_870
  let v1043 : BitVec 1 := Scalar.andi v1040 v1042
  let v1029 : BitVec 32 := Scalar.divsi arg40 c2_i32_865
  let c1_i32_871 : BitVec 32 := 1#32
  let v1044 : BitVec 32 := Scalar.subi v1029 c1_i32_871
  let v1045 : BitVec 32 := Scalar.select v1043 v1044 v1029
  let v1046 : BitVec 32 := Scalar.addi v6 v1045
  let c4_i32_872 : BitVec 32 := 4#32
  let c0_i32_873 : BitVec 32 := 0#32
  let v1047 : BitVec 1 := Scalar.cmpi .eq c4_i32_872 c0_i32_873
  let c1_i32_874 : BitVec 32 := 1#32
  let v1048 : BitVec 32 := Scalar.select v1047 c1_i32_874 c4_i32_872
  let v1049 : BitVec 32 := Scalar.remsi v1046 v1048
  let c0_i32_876 : BitVec 32 := 0#32
  let v1051 : BitVec 1 := Scalar.cmpi .slt v1049 c0_i32_876
  let c0_i32_877 : BitVec 32 := 0#32
  let v1052 : BitVec 1 := Scalar.cmpi .slt v1048 c0_i32_877
  let v1053 : BitVec 1 := Scalar.xori v1051 v1052
  let c0_i32_875 : BitVec 32 := 0#32
  let v1050 : BitVec 1 := Scalar.cmpi .ne v1049 c0_i32_875
  let v1054 : BitVec 1 := Scalar.andi v1053 v1050
  let v1055 : BitVec 32 := Scalar.addi v1049 v1048
  let v1056 : BitVec 32 := Scalar.select v1054 v1055 v1049
  let v1057 : BitVec 32 := Scalar.addi v1028 v1056
  let c512_i32_878 : BitVec 32 := 512#32
  let v1058 : BitVec 32 := Scalar.muli v1057 c512_i32_878
  let v1059 : Index := Scalar.indexCast v1058
  let c0_879 : Index := 0#32
  ![v1059.toNat, 0]
def k0_off2 (d4 : Dev nD) (k0_t1 : Fin k0_t1_loop.trips) : Fin 2 → Nat :=
  let c0_i32_25 : BitVec 32 := 0#32
  let c1_i32_27 : BitVec 32 := 1#32
  let arg40 : BitVec 32 := Scf.iv c0_i32_25 c1_i32_27 k0_t1
  let c2_i32_858 : BitVec 32 := 2#32
  let c0_i32_859 : BitVec 32 := 0#32
  let v1018 : BitVec 1 := Scalar.cmpi .eq c2_i32_858 c0_i32_859
  let c1_i32_860 : BitVec 32 := 1#32
  let v1019 : BitVec 32 := Scalar.select v1018 c1_i32_860 c2_i32_858
  let v1020 : BitVec 32 := Scalar.remsi arg40 v1019
  let c0_i32_862 : BitVec 32 := 0#32
  let v1022 : BitVec 1 := Scalar.cmpi .slt v1020 c0_i32_862
  let c0_i32_863 : BitVec 32 := 0#32
  let v1023 : BitVec 1 := Scalar.cmpi .slt v1019 c0_i32_863
  let v1024 : BitVec 1 := Scalar.xori v1022 v1023
  let c0_i32_861 : BitVec 32 := 0#32
  let v1021 : BitVec 1 := Scalar.cmpi .ne v1020 c0_i32_861
  let v1025 : BitVec 1 := Scalar.andi v1024 v1021
  let v1026 : BitVec 32 := Scalar.addi v1020 v1019
  let v1027 : BitVec 32 := Scalar.select v1025 v1026 v1020
  let c4_i32_864 : BitVec 32 := 4#32
  let v1028 : BitVec 32 := Scalar.muli v1027 c4_i32_864
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c0_i32_866 : BitVec 32 := 0#32
  let v1030 : BitVec 1 := Scalar.cmpi .sgt arg40 c0_i32_866
  let v1031 : BitVec 32 := Scalar.extui v1030
  let c0_i32_867 : BitVec 32 := 0#32
  let v1032 : BitVec 1 := Scalar.cmpi .slt arg40 c0_i32_867
  let v1033 : BitVec 32 := Scalar.extui v1032
  let v1034 : BitVec 32 := Scalar.subi v1031 v1033
  let c2_i32_865 : BitVec 32 := 2#32
  let c0_i32_868 : BitVec 32 := 0#32
  let v1035 : BitVec 1 := Scalar.cmpi .sgt c2_i32_865 c0_i32_868
  let v1036 : BitVec 32 := Scalar.extui v1035
  let c0_i32_869 : BitVec 32 := 0#32
  let v1037 : BitVec 1 := Scalar.cmpi .slt c2_i32_865 c0_i32_869
  let v1038 : BitVec 32 := Scalar.extui v1037
  let v1039 : BitVec 32 := Scalar.subi v1036 v1038
  let v1040 : BitVec 1 := Scalar.cmpi .ne v1034 v1039
  let v1041 : BitVec 32 := Scalar.remsi arg40 c2_i32_865
  let c0_i32_870 : BitVec 32 := 0#32
  let v1042 : BitVec 1 := Scalar.cmpi .ne v1041 c0_i32_870
  let v1043 : BitVec 1 := Scalar.andi v1040 v1042
  let v1029 : BitVec 32 := Scalar.divsi arg40 c2_i32_865
  let c1_i32_871 : BitVec 32 := 1#32
  let v1044 : BitVec 32 := Scalar.subi v1029 c1_i32_871
  let v1045 : BitVec 32 := Scalar.select v1043 v1044 v1029
  let v1046 : BitVec 32 := Scalar.addi v6 v1045
  let c4_i32_872 : BitVec 32 := 4#32
  let c0_i32_873 : BitVec 32 := 0#32
  let v1047 : BitVec 1 := Scalar.cmpi .eq c4_i32_872 c0_i32_873
  let c1_i32_874 : BitVec 32 := 1#32
  let v1048 : BitVec 32 := Scalar.select v1047 c1_i32_874 c4_i32_872
  let v1049 : BitVec 32 := Scalar.remsi v1046 v1048
  let c0_i32_876 : BitVec 32 := 0#32
  let v1051 : BitVec 1 := Scalar.cmpi .slt v1049 c0_i32_876
  let c0_i32_877 : BitVec 32 := 0#32
  let v1052 : BitVec 1 := Scalar.cmpi .slt v1048 c0_i32_877
  let v1053 : BitVec 1 := Scalar.xori v1051 v1052
  let c0_i32_875 : BitVec 32 := 0#32
  let v1050 : BitVec 1 := Scalar.cmpi .ne v1049 c0_i32_875
  let v1054 : BitVec 1 := Scalar.andi v1053 v1050
  let v1055 : BitVec 32 := Scalar.addi v1049 v1048
  let v1056 : BitVec 32 := Scalar.select v1054 v1055 v1049
  let v1057 : BitVec 32 := Scalar.addi v1028 v1056
  let c512_i32_878 : BitVec 32 := 512#32
  let v1058 : BitVec 32 := Scalar.muli v1057 c512_i32_878
  let v1066 : Index := Scalar.indexCast v1058
  let c0_882 : Index := 0#32
  ![v1066.toNat, 0]
def k0_off3 (d4 : Dev nD) (c0_i32_29 : BitVec 32) (c0_i32_36 : BitVec 32) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32 : BitVec 32 := 12#32
  let v43 : BitVec 32 := Scalar.addi v6 c12_i32
  let v44 : BitVec 32 := Scalar.subi v43 c0_i32_29
  let c4_i32_30 : BitVec 32 := 4#32
  let c0_i32_31 : BitVec 32 := 0#32
  let v45 : BitVec 1 := Scalar.cmpi .eq c4_i32_30 c0_i32_31
  let c1_i32_32 : BitVec 32 := 1#32
  let v46 : BitVec 32 := Scalar.select v45 c1_i32_32 c4_i32_30
  let v47 : BitVec 32 := Scalar.remsi v44 v46
  let c0_i32_34 : BitVec 32 := 0#32
  let v49 : BitVec 1 := Scalar.cmpi .slt v47 c0_i32_34
  let c0_i32_35 : BitVec 32 := 0#32
  let v50 : BitVec 1 := Scalar.cmpi .slt v46 c0_i32_35
  let v51 : BitVec 1 := Scalar.xori v49 v50
  let c0_i32_33 : BitVec 32 := 0#32
  let v48 : BitVec 1 := Scalar.cmpi .ne v47 c0_i32_33
  let v52 : BitVec 1 := Scalar.andi v51 v48
  let v53 : BitVec 32 := Scalar.addi v47 v46
  let v54 : BitVec 32 := Scalar.select v52 v53 v47
  let c512_i32 : BitVec 32 := 512#32
  let v55 : BitVec 32 := Scalar.muli v54 c512_i32
  let v56 : BitVec 32 := Scalar.addi v55 c0_i32_36
  let c0_i32_53 : BitVec 32 := 0#32
  ![v56.toNat, 0]
def k0_off3_at (r : Fin 10) : BitVec 32 × BitVec 32 :=
  if r.val < 5 then
    if r.val < 2 then
      if r.val < 1 then
        (0#32, 0#32)
      else
        (0#32, 128#32)
    else
      if r.val < 3 then
        (0#32, 256#32)
      else
        if r.val < 4 then
          (0#32, 384#32)
        else
          (3#32, 0#32)
  else
    if r.val < 7 then
      if r.val < 6 then
        (2#32, 384#32)
      else
        (3#32, 128#32)
    else
      if r.val < 8 then
        (3#32, 256#32)
      else
        if r.val < 9 then
          (3#32, 384#32)
        else
          (5#32, 384#32)
def k0_dev3 (d4 : Dev nD) : Nat :=
  let c0_i32_50 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_49 : BitVec 32 := 1#32
  let v71 : BitVec 32 := Scalar.muli v29 c1_i32_49
  let v72 : BitVec 32 := Scalar.addi c0_i32_50 v71
  v72.toNat
def k0_off4 (d4 : Dev nD) (c0_i32_37 : BitVec 32) (c0_i32_45 : BitVec 32) : Fin 2 → Nat :=
  let c2048_i32 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let v57 : BitVec 32 := Scalar.addi v6 c0_i32_37
  let c4_i32_38 : BitVec 32 := 4#32
  let c0_i32_39 : BitVec 32 := 0#32
  let v58 : BitVec 1 := Scalar.cmpi .eq c4_i32_38 c0_i32_39
  let c1_i32_40 : BitVec 32 := 1#32
  let v59 : BitVec 32 := Scalar.select v58 c1_i32_40 c4_i32_38
  let v60 : BitVec 32 := Scalar.remsi v57 v59
  let c0_i32_42 : BitVec 32 := 0#32
  let v62 : BitVec 1 := Scalar.cmpi .slt v60 c0_i32_42
  let c0_i32_43 : BitVec 32 := 0#32
  let v63 : BitVec 1 := Scalar.cmpi .slt v59 c0_i32_43
  let v64 : BitVec 1 := Scalar.xori v62 v63
  let c0_i32_41 : BitVec 32 := 0#32
  let v61 : BitVec 1 := Scalar.cmpi .ne v60 c0_i32_41
  let v65 : BitVec 1 := Scalar.andi v64 v61
  let v66 : BitVec 32 := Scalar.addi v60 v59
  let v67 : BitVec 32 := Scalar.select v65 v66 v60
  let c512_i32_44 : BitVec 32 := 512#32
  let v68 : BitVec 32 := Scalar.muli v67 c512_i32_44
  let v69 : BitVec 32 := Scalar.addi c2048_i32 v68
  let v70 : BitVec 32 := Scalar.addi v69 c0_i32_45
  let c0_i32_61 : BitVec 32 := 0#32
  ![v70.toNat, 0]
def k0_off4_at (r : Fin 10) : BitVec 32 × BitVec 32 :=
  if r.val < 5 then
    if r.val < 2 then
      if r.val < 1 then
        (0#32, 0#32)
      else
        (0#32, 128#32)
    else
      if r.val < 3 then
        (0#32, 256#32)
      else
        if r.val < 4 then
          (0#32, 384#32)
        else
          (3#32, 0#32)
  else
    if r.val < 7 then
      if r.val < 6 then
        (2#32, 384#32)
      else
        (3#32, 128#32)
    else
      if r.val < 8 then
        (3#32, 256#32)
      else
        if r.val < 9 then
          (3#32, 384#32)
        else
          (5#32, 384#32)
def k0_dev4 (d4 : Dev nD) : Nat :=
  let c0_i32_58 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_57 : BitVec 32 := 1#32
  let v80 : BitVec 32 := Scalar.muli v18 c1_i32_57
  let v81 : BitVec 32 := Scalar.addi c0_i32_58 v80
  v81.toNat
def k0_dev5 (d4 : Dev nD) : Nat :=
  let c0_i32_85 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_84 : BitVec 32 := 1#32
  let v117 : BitVec 32 := Scalar.muli v29 c1_i32_84
  let v118 : BitVec 32 := Scalar.addi c0_i32_85 v117
  v118.toNat
def k0_dev6 (d4 : Dev nD) : Nat :=
  let c0_i32_93 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_92 : BitVec 32 := 1#32
  let v126 : BitVec 32 := Scalar.muli v18 c1_i32_92
  let v127 : BitVec 32 := Scalar.addi c0_i32_93 v126
  v127.toNat
def k0_dev7 (d4 : Dev nD) : Nat :=
  let c0_i32_120 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_119 : BitVec 32 := 1#32
  let v163 : BitVec 32 := Scalar.muli v29 c1_i32_119
  let v164 : BitVec 32 := Scalar.addi c0_i32_120 v163
  v164.toNat
def k0_dev8 (d4 : Dev nD) : Nat :=
  let c0_i32_128 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_127 : BitVec 32 := 1#32
  let v172 : BitVec 32 := Scalar.muli v18 c1_i32_127
  let v173 : BitVec 32 := Scalar.addi c0_i32_128 v172
  v173.toNat
def k0_dev9 (d4 : Dev nD) : Nat :=
  let c0_i32_155 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_154 : BitVec 32 := 1#32
  let v209 : BitVec 32 := Scalar.muli v29 c1_i32_154
  let v210 : BitVec 32 := Scalar.addi c0_i32_155 v209
  v210.toNat
def k0_dev10 (d4 : Dev nD) : Nat :=
  let c0_i32_163 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_162 : BitVec 32 := 1#32
  let v218 : BitVec 32 := Scalar.muli v18 c1_i32_162
  let v219 : BitVec 32 := Scalar.addi c0_i32_163 v218
  v219.toNat
@[reducible] def k0_t2_loop : Scf.Loop 32 :=
  let c2_i32_167 : BitVec 32 := 2#32
  let c6_i32 : BitVec 32 := 6#32
  let v227 : BitVec 32 := Scalar.addi c2_i32_167 c6_i32
  let c1_i32_168 : BitVec 32 := 1#32
  ⟨c2_i32_167, v227, c1_i32_168⟩
def k0_off5 (d4 : Dev nD) (k0_t2 : Fin k0_t2_loop.trips) : Fin 2 → Nat :=
  let c2_i32_167 : BitVec 32 := 2#32
  let c1_i32_168 : BitVec 32 := 1#32
  let arg40 : BitVec 32 := Scf.iv c2_i32_167 c1_i32_168 k0_t2
  let c2_i32_858 : BitVec 32 := 2#32
  let c0_i32_859 : BitVec 32 := 0#32
  let v1018 : BitVec 1 := Scalar.cmpi .eq c2_i32_858 c0_i32_859
  let c1_i32_860 : BitVec 32 := 1#32
  let v1019 : BitVec 32 := Scalar.select v1018 c1_i32_860 c2_i32_858
  let v1020 : BitVec 32 := Scalar.remsi arg40 v1019
  let c0_i32_862 : BitVec 32 := 0#32
  let v1022 : BitVec 1 := Scalar.cmpi .slt v1020 c0_i32_862
  let c0_i32_863 : BitVec 32 := 0#32
  let v1023 : BitVec 1 := Scalar.cmpi .slt v1019 c0_i32_863
  let v1024 : BitVec 1 := Scalar.xori v1022 v1023
  let c0_i32_861 : BitVec 32 := 0#32
  let v1021 : BitVec 1 := Scalar.cmpi .ne v1020 c0_i32_861
  let v1025 : BitVec 1 := Scalar.andi v1024 v1021
  let v1026 : BitVec 32 := Scalar.addi v1020 v1019
  let v1027 : BitVec 32 := Scalar.select v1025 v1026 v1020
  let c4_i32_864 : BitVec 32 := 4#32
  let v1028 : BitVec 32 := Scalar.muli v1027 c4_i32_864
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c0_i32_866 : BitVec 32 := 0#32
  let v1030 : BitVec 1 := Scalar.cmpi .sgt arg40 c0_i32_866
  let v1031 : BitVec 32 := Scalar.extui v1030
  let c0_i32_867 : BitVec 32 := 0#32
  let v1032 : BitVec 1 := Scalar.cmpi .slt arg40 c0_i32_867
  let v1033 : BitVec 32 := Scalar.extui v1032
  let v1034 : BitVec 32 := Scalar.subi v1031 v1033
  let c2_i32_865 : BitVec 32 := 2#32
  let c0_i32_868 : BitVec 32 := 0#32
  let v1035 : BitVec 1 := Scalar.cmpi .sgt c2_i32_865 c0_i32_868
  let v1036 : BitVec 32 := Scalar.extui v1035
  let c0_i32_869 : BitVec 32 := 0#32
  let v1037 : BitVec 1 := Scalar.cmpi .slt c2_i32_865 c0_i32_869
  let v1038 : BitVec 32 := Scalar.extui v1037
  let v1039 : BitVec 32 := Scalar.subi v1036 v1038
  let v1040 : BitVec 1 := Scalar.cmpi .ne v1034 v1039
  let v1041 : BitVec 32 := Scalar.remsi arg40 c2_i32_865
  let c0_i32_870 : BitVec 32 := 0#32
  let v1042 : BitVec 1 := Scalar.cmpi .ne v1041 c0_i32_870
  let v1043 : BitVec 1 := Scalar.andi v1040 v1042
  let v1029 : BitVec 32 := Scalar.divsi arg40 c2_i32_865
  let c1_i32_871 : BitVec 32 := 1#32
  let v1044 : BitVec 32 := Scalar.subi v1029 c1_i32_871
  let v1045 : BitVec 32 := Scalar.select v1043 v1044 v1029
  let v1046 : BitVec 32 := Scalar.addi v6 v1045
  let c4_i32_872 : BitVec 32 := 4#32
  let c0_i32_873 : BitVec 32 := 0#32
  let v1047 : BitVec 1 := Scalar.cmpi .eq c4_i32_872 c0_i32_873
  let c1_i32_874 : BitVec 32 := 1#32
  let v1048 : BitVec 32 := Scalar.select v1047 c1_i32_874 c4_i32_872
  let v1049 : BitVec 32 := Scalar.remsi v1046 v1048
  let c0_i32_876 : BitVec 32 := 0#32
  let v1051 : BitVec 1 := Scalar.cmpi .slt v1049 c0_i32_876
  let c0_i32_877 : BitVec 32 := 0#32
  let v1052 : BitVec 1 := Scalar.cmpi .slt v1048 c0_i32_877
  let v1053 : BitVec 1 := Scalar.xori v1051 v1052
  let c0_i32_875 : BitVec 32 := 0#32
  let v1050 : BitVec 1 := Scalar.cmpi .ne v1049 c0_i32_875
  let v1054 : BitVec 1 := Scalar.andi v1053 v1050
  let v1055 : BitVec 32 := Scalar.addi v1049 v1048
  let v1056 : BitVec 32 := Scalar.select v1054 v1055 v1049
  let v1057 : BitVec 32 := Scalar.addi v1028 v1056
  let c512_i32_878 : BitVec 32 := 512#32
  let v1058 : BitVec 32 := Scalar.muli v1057 c512_i32_878
  let v1059 : Index := Scalar.indexCast v1058
  let c0_879 : Index := 0#32
  ![v1059.toNat, 0]
def k0_off6 (d4 : Dev nD) (k0_t2 : Fin k0_t2_loop.trips) : Fin 2 → Nat :=
  let c2_i32_167 : BitVec 32 := 2#32
  let c1_i32_168 : BitVec 32 := 1#32
  let arg40 : BitVec 32 := Scf.iv c2_i32_167 c1_i32_168 k0_t2
  let c2_i32_858 : BitVec 32 := 2#32
  let c0_i32_859 : BitVec 32 := 0#32
  let v1018 : BitVec 1 := Scalar.cmpi .eq c2_i32_858 c0_i32_859
  let c1_i32_860 : BitVec 32 := 1#32
  let v1019 : BitVec 32 := Scalar.select v1018 c1_i32_860 c2_i32_858
  let v1020 : BitVec 32 := Scalar.remsi arg40 v1019
  let c0_i32_862 : BitVec 32 := 0#32
  let v1022 : BitVec 1 := Scalar.cmpi .slt v1020 c0_i32_862
  let c0_i32_863 : BitVec 32 := 0#32
  let v1023 : BitVec 1 := Scalar.cmpi .slt v1019 c0_i32_863
  let v1024 : BitVec 1 := Scalar.xori v1022 v1023
  let c0_i32_861 : BitVec 32 := 0#32
  let v1021 : BitVec 1 := Scalar.cmpi .ne v1020 c0_i32_861
  let v1025 : BitVec 1 := Scalar.andi v1024 v1021
  let v1026 : BitVec 32 := Scalar.addi v1020 v1019
  let v1027 : BitVec 32 := Scalar.select v1025 v1026 v1020
  let c4_i32_864 : BitVec 32 := 4#32
  let v1028 : BitVec 32 := Scalar.muli v1027 c4_i32_864
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c0_i32_866 : BitVec 32 := 0#32
  let v1030 : BitVec 1 := Scalar.cmpi .sgt arg40 c0_i32_866
  let v1031 : BitVec 32 := Scalar.extui v1030
  let c0_i32_867 : BitVec 32 := 0#32
  let v1032 : BitVec 1 := Scalar.cmpi .slt arg40 c0_i32_867
  let v1033 : BitVec 32 := Scalar.extui v1032
  let v1034 : BitVec 32 := Scalar.subi v1031 v1033
  let c2_i32_865 : BitVec 32 := 2#32
  let c0_i32_868 : BitVec 32 := 0#32
  let v1035 : BitVec 1 := Scalar.cmpi .sgt c2_i32_865 c0_i32_868
  let v1036 : BitVec 32 := Scalar.extui v1035
  let c0_i32_869 : BitVec 32 := 0#32
  let v1037 : BitVec 1 := Scalar.cmpi .slt c2_i32_865 c0_i32_869
  let v1038 : BitVec 32 := Scalar.extui v1037
  let v1039 : BitVec 32 := Scalar.subi v1036 v1038
  let v1040 : BitVec 1 := Scalar.cmpi .ne v1034 v1039
  let v1041 : BitVec 32 := Scalar.remsi arg40 c2_i32_865
  let c0_i32_870 : BitVec 32 := 0#32
  let v1042 : BitVec 1 := Scalar.cmpi .ne v1041 c0_i32_870
  let v1043 : BitVec 1 := Scalar.andi v1040 v1042
  let v1029 : BitVec 32 := Scalar.divsi arg40 c2_i32_865
  let c1_i32_871 : BitVec 32 := 1#32
  let v1044 : BitVec 32 := Scalar.subi v1029 c1_i32_871
  let v1045 : BitVec 32 := Scalar.select v1043 v1044 v1029
  let v1046 : BitVec 32 := Scalar.addi v6 v1045
  let c4_i32_872 : BitVec 32 := 4#32
  let c0_i32_873 : BitVec 32 := 0#32
  let v1047 : BitVec 1 := Scalar.cmpi .eq c4_i32_872 c0_i32_873
  let c1_i32_874 : BitVec 32 := 1#32
  let v1048 : BitVec 32 := Scalar.select v1047 c1_i32_874 c4_i32_872
  let v1049 : BitVec 32 := Scalar.remsi v1046 v1048
  let c0_i32_876 : BitVec 32 := 0#32
  let v1051 : BitVec 1 := Scalar.cmpi .slt v1049 c0_i32_876
  let c0_i32_877 : BitVec 32 := 0#32
  let v1052 : BitVec 1 := Scalar.cmpi .slt v1048 c0_i32_877
  let v1053 : BitVec 1 := Scalar.xori v1051 v1052
  let c0_i32_875 : BitVec 32 := 0#32
  let v1050 : BitVec 1 := Scalar.cmpi .ne v1049 c0_i32_875
  let v1054 : BitVec 1 := Scalar.andi v1053 v1050
  let v1055 : BitVec 32 := Scalar.addi v1049 v1048
  let v1056 : BitVec 32 := Scalar.select v1054 v1055 v1049
  let v1057 : BitVec 32 := Scalar.addi v1028 v1056
  let c512_i32_878 : BitVec 32 := 512#32
  let v1058 : BitVec 32 := Scalar.muli v1057 c512_i32_878
  let v1066 : Index := Scalar.indexCast v1058
  let c0_882 : Index := 0#32
  ![v1066.toNat, 0]
def k0_off7 (d4 : Dev nD) (c0_i32_221 : BitVec 32) (c0_i32_230 : BitVec 32) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_220 : BitVec 32 := 12#32
  let v280 : BitVec 32 := Scalar.addi v6 c12_i32_220
  let v281 : BitVec 32 := Scalar.subi v280 c0_i32_221
  let c1_i32_222 : BitVec 32 := 1#32
  let v282 : BitVec 32 := Scalar.subi v281 c1_i32_222
  let c4_i32_223 : BitVec 32 := 4#32
  let c0_i32_224 : BitVec 32 := 0#32
  let v283 : BitVec 1 := Scalar.cmpi .eq c4_i32_223 c0_i32_224
  let c1_i32_225 : BitVec 32 := 1#32
  let v284 : BitVec 32 := Scalar.select v283 c1_i32_225 c4_i32_223
  let v285 : BitVec 32 := Scalar.remsi v282 v284
  let c0_i32_227 : BitVec 32 := 0#32
  let v287 : BitVec 1 := Scalar.cmpi .slt v285 c0_i32_227
  let c0_i32_228 : BitVec 32 := 0#32
  let v288 : BitVec 1 := Scalar.cmpi .slt v284 c0_i32_228
  let v289 : BitVec 1 := Scalar.xori v287 v288
  let c0_i32_226 : BitVec 32 := 0#32
  let v286 : BitVec 1 := Scalar.cmpi .ne v285 c0_i32_226
  let v290 : BitVec 1 := Scalar.andi v289 v286
  let v291 : BitVec 32 := Scalar.addi v285 v284
  let v292 : BitVec 32 := Scalar.select v290 v291 v285
  let c512_i32_229 : BitVec 32 := 512#32
  let v293 : BitVec 32 := Scalar.muli v292 c512_i32_229
  let v294 : BitVec 32 := Scalar.addi v293 c0_i32_230
  let v310 : Index := Scalar.indexCast v294
  let c0_242 : Index := 0#32
  ![v310.toNat, 0]
def k0_off7_at (r : Fin 4) : BitVec 32 × BitVec 32 :=
  if r.val < 2 then
    if r.val < 1 then
      (0#32, 0#32)
    else
      (0#32, 128#32)
  else
    if r.val < 3 then
      (0#32, 256#32)
    else
      (2#32, 384#32)
def k0_off8 (d4 : Dev nD) (c0_i32_231 : BitVec 32) (c0_i32_241 : BitVec 32) : Fin 2 → Nat :=
  let c2048_i32_240 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let v295 : BitVec 32 := Scalar.addi v6 c0_i32_231
  let c1_i32_232 : BitVec 32 := 1#32
  let v296 : BitVec 32 := Scalar.addi v295 c1_i32_232
  let c4_i32_233 : BitVec 32 := 4#32
  let c0_i32_234 : BitVec 32 := 0#32
  let v297 : BitVec 1 := Scalar.cmpi .eq c4_i32_233 c0_i32_234
  let c1_i32_235 : BitVec 32 := 1#32
  let v298 : BitVec 32 := Scalar.select v297 c1_i32_235 c4_i32_233
  let v299 : BitVec 32 := Scalar.remsi v296 v298
  let c0_i32_237 : BitVec 32 := 0#32
  let v301 : BitVec 1 := Scalar.cmpi .slt v299 c0_i32_237
  let c0_i32_238 : BitVec 32 := 0#32
  let v302 : BitVec 1 := Scalar.cmpi .slt v298 c0_i32_238
  let v303 : BitVec 1 := Scalar.xori v301 v302
  let c0_i32_236 : BitVec 32 := 0#32
  let v300 : BitVec 1 := Scalar.cmpi .ne v299 c0_i32_236
  let v304 : BitVec 1 := Scalar.andi v303 v300
  let v305 : BitVec 32 := Scalar.addi v299 v298
  let v306 : BitVec 32 := Scalar.select v304 v305 v299
  let c512_i32_239 : BitVec 32 := 512#32
  let v307 : BitVec 32 := Scalar.muli v306 c512_i32_239
  let v308 : BitVec 32 := Scalar.addi c2048_i32_240 v307
  let v309 : BitVec 32 := Scalar.addi v308 c0_i32_241
  let v318 : Index := Scalar.indexCast v309
  let c0_247 : Index := 0#32
  ![v318.toNat, 0]
def k0_off8_at (r : Fin 4) : BitVec 32 × BitVec 32 :=
  if r.val < 2 then
    if r.val < 1 then
      (0#32, 0#32)
    else
      (0#32, 128#32)
  else
    if r.val < 3 then
      (0#32, 256#32)
    else
      (2#32, 384#32)
def k0_dev11 (d4 : Dev nD) : Nat :=
  let c0_i32_254 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_253 : BitVec 32 := 1#32
  let v326 : BitVec 32 := Scalar.muli v18 c1_i32_253
  let v327 : BitVec 32 := Scalar.addi c0_i32_254 v326
  v327.toNat
def k0_dev12 (d4 : Dev nD) : Nat :=
  let c0_i32_257 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_256 : BitVec 32 := 1#32
  let v328 : BitVec 32 := Scalar.muli v29 c1_i32_256
  let v329 : BitVec 32 := Scalar.addi c0_i32_257 v328
  v329.toNat
def k0_dev13 (d4 : Dev nD) : Nat :=
  let c0_i32_342 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_341 : BitVec 32 := 1#32
  let v428 : BitVec 32 := Scalar.muli v18 c1_i32_341
  let v429 : BitVec 32 := Scalar.addi c0_i32_342 v428
  v429.toNat
def k0_dev14 (d4 : Dev nD) : Nat :=
  let c0_i32_345 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_344 : BitVec 32 := 1#32
  let v430 : BitVec 32 := Scalar.muli v29 c1_i32_344
  let v431 : BitVec 32 := Scalar.addi c0_i32_345 v430
  v431.toNat
def k0_dev15 (d4 : Dev nD) : Nat :=
  let c0_i32_430 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_429 : BitVec 32 := 1#32
  let v530 : BitVec 32 := Scalar.muli v18 c1_i32_429
  let v531 : BitVec 32 := Scalar.addi c0_i32_430 v530
  v531.toNat
def k0_dev16 (d4 : Dev nD) : Nat :=
  let c0_i32_433 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_432 : BitVec 32 := 1#32
  let v532 : BitVec 32 := Scalar.muli v29 c1_i32_432
  let v533 : BitVec 32 := Scalar.addi c0_i32_433 v532
  v533.toNat
@[reducible] def k0_t3_loop : Scf.Loop 32 :=
  let c1_i32_434 : BitVec 32 := 1#32
  let c2_i32_435 : BitVec 32 := 2#32
  let v534 : BitVec 32 := Scalar.addi c1_i32_434 c2_i32_435
  let c1_i32_436 : BitVec 32 := 1#32
  ⟨c1_i32_434, v534, c1_i32_436⟩
def k0_off9 (k0_t3 : Fin k0_t3_loop.trips) : Fin 1 → Nat :=
  let c1_i32_434 : BitVec 32 := 1#32
  let c1_i32_436 : BitVec 32 := 1#32
  let arg40 : BitVec 32 := Scf.iv c1_i32_434 c1_i32_436 k0_t3
  let c2_i32_860 : BitVec 32 := 2#32
  let c0_i32_861 : BitVec 32 := 0#32
  let v1021 : BitVec 1 := Scalar.cmpi .eq c2_i32_860 c0_i32_861
  let c1_i32_862 : BitVec 32 := 1#32
  let v1022 : BitVec 32 := Scalar.select v1021 c1_i32_862 c2_i32_860
  let v1023 : BitVec 32 := Scalar.remsi arg40 v1022
  let c0_i32_864 : BitVec 32 := 0#32
  let v1025 : BitVec 1 := Scalar.cmpi .slt v1023 c0_i32_864
  let c0_i32_865 : BitVec 32 := 0#32
  let v1026 : BitVec 1 := Scalar.cmpi .slt v1022 c0_i32_865
  let v1027 : BitVec 1 := Scalar.xori v1025 v1026
  let c0_i32_863 : BitVec 32 := 0#32
  let v1024 : BitVec 1 := Scalar.cmpi .ne v1023 c0_i32_863
  let v1028 : BitVec 1 := Scalar.andi v1027 v1024
  let v1029 : BitVec 32 := Scalar.addi v1023 v1022
  let v1030 : BitVec 32 := Scalar.select v1028 v1029 v1023
  ![v1030.toNat]
def k0_off10 (k0_t3 : Fin k0_t3_loop.trips) : Fin 3 → Nat :=
  let c1_i32_434 : BitVec 32 := 1#32
  let c1_i32_436 : BitVec 32 := 1#32
  let arg40 : BitVec 32 := Scf.iv c1_i32_434 c1_i32_436 k0_t3
  let c2_i32_860 : BitVec 32 := 2#32
  let c0_i32_861 : BitVec 32 := 0#32
  let v1021 : BitVec 1 := Scalar.cmpi .eq c2_i32_860 c0_i32_861
  let c1_i32_862 : BitVec 32 := 1#32
  let v1022 : BitVec 32 := Scalar.select v1021 c1_i32_862 c2_i32_860
  let v1023 : BitVec 32 := Scalar.remsi arg40 v1022
  let c0_i32_864 : BitVec 32 := 0#32
  let v1025 : BitVec 1 := Scalar.cmpi .slt v1023 c0_i32_864
  let c0_i32_865 : BitVec 32 := 0#32
  let v1026 : BitVec 1 := Scalar.cmpi .slt v1022 c0_i32_865
  let v1027 : BitVec 1 := Scalar.xori v1025 v1026
  let c0_i32_863 : BitVec 32 := 0#32
  let v1024 : BitVec 1 := Scalar.cmpi .ne v1023 c0_i32_863
  let v1028 : BitVec 1 := Scalar.andi v1027 v1024
  let v1029 : BitVec 32 := Scalar.addi v1023 v1022
  let v1030 : BitVec 32 := Scalar.select v1028 v1029 v1023
  let c0_i32_886 : BitVec 32 := 0#32
  let c0_i32_887 : BitVec 32 := 0#32
  ![v1030.toNat, 0, 0]
def k0_off11 (d4 : Dev nD) (k0_t3 : Fin k0_t3_loop.trips) (c0_i32_874 : BitVec 32) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_866 : BitVec 32 := 12#32
  let v1031 : BitVec 32 := Scalar.addi v6 c12_i32_866
  let c1_i32_434 : BitVec 32 := 1#32
  let c1_i32_436 : BitVec 32 := 1#32
  let arg40 : BitVec 32 := Scf.iv c1_i32_434 c1_i32_436 k0_t3
  let v1032 : BitVec 32 := Scalar.subi v1031 arg40
  let c4_i32_867 : BitVec 32 := 4#32
  let c0_i32_868 : BitVec 32 := 0#32
  let v1033 : BitVec 1 := Scalar.cmpi .eq c4_i32_867 c0_i32_868
  let c1_i32_869 : BitVec 32 := 1#32
  let v1034 : BitVec 32 := Scalar.select v1033 c1_i32_869 c4_i32_867
  let v1035 : BitVec 32 := Scalar.remsi v1032 v1034
  let c0_i32_871 : BitVec 32 := 0#32
  let v1037 : BitVec 1 := Scalar.cmpi .slt v1035 c0_i32_871
  let c0_i32_872 : BitVec 32 := 0#32
  let v1038 : BitVec 1 := Scalar.cmpi .slt v1034 c0_i32_872
  let v1039 : BitVec 1 := Scalar.xori v1037 v1038
  let c0_i32_870 : BitVec 32 := 0#32
  let v1036 : BitVec 1 := Scalar.cmpi .ne v1035 c0_i32_870
  let v1040 : BitVec 1 := Scalar.andi v1039 v1036
  let v1041 : BitVec 32 := Scalar.addi v1035 v1034
  let v1042 : BitVec 32 := Scalar.select v1040 v1041 v1035
  let c512_i32_873 : BitVec 32 := 512#32
  let v1043 : BitVec 32 := Scalar.muli v1042 c512_i32_873
  let v1044 : BitVec 32 := Scalar.addi v1043 c0_i32_874
  let c0_i32_888 : BitVec 32 := 0#32
  ![v1044.toNat, 0]
def k0_dev17 (d4 : Dev nD) : Nat :=
  let c0_i32_885 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_884 : BitVec 32 := 1#32
  let v1059 : BitVec 32 := Scalar.muli v29 c1_i32_884
  let v1060 : BitVec 32 := Scalar.addi c0_i32_885 v1059
  v1060.toNat
def k0_off12 (d4 : Dev nD) (k0_t3 : Fin k0_t3_loop.trips) (c0_i32_883 : BitVec 32) : Fin 2 → Nat :=
  let c2048_i32_882 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_434 : BitVec 32 := 1#32
  let c1_i32_436 : BitVec 32 := 1#32
  let arg40 : BitVec 32 := Scf.iv c1_i32_434 c1_i32_436 k0_t3
  let v1045 : BitVec 32 := Scalar.addi v6 arg40
  let c4_i32_875 : BitVec 32 := 4#32
  let c0_i32_876 : BitVec 32 := 0#32
  let v1046 : BitVec 1 := Scalar.cmpi .eq c4_i32_875 c0_i32_876
  let c1_i32_877 : BitVec 32 := 1#32
  let v1047 : BitVec 32 := Scalar.select v1046 c1_i32_877 c4_i32_875
  let v1048 : BitVec 32 := Scalar.remsi v1045 v1047
  let c0_i32_879 : BitVec 32 := 0#32
  let v1050 : BitVec 1 := Scalar.cmpi .slt v1048 c0_i32_879
  let c0_i32_880 : BitVec 32 := 0#32
  let v1051 : BitVec 1 := Scalar.cmpi .slt v1047 c0_i32_880
  let v1052 : BitVec 1 := Scalar.xori v1050 v1051
  let c0_i32_878 : BitVec 32 := 0#32
  let v1049 : BitVec 1 := Scalar.cmpi .ne v1048 c0_i32_878
  let v1053 : BitVec 1 := Scalar.andi v1052 v1049
  let v1054 : BitVec 32 := Scalar.addi v1048 v1047
  let v1055 : BitVec 32 := Scalar.select v1053 v1054 v1048
  let c512_i32_881 : BitVec 32 := 512#32
  let v1056 : BitVec 32 := Scalar.muli v1055 c512_i32_881
  let v1057 : BitVec 32 := Scalar.addi c2048_i32_882 v1056
  let v1058 : BitVec 32 := Scalar.addi v1057 c0_i32_883
  let c0_i32_893 : BitVec 32 := 0#32
  ![v1058.toNat, 0]
def k0_dev18 (d4 : Dev nD) : Nat :=
  let c0_i32_890 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_889 : BitVec 32 := 1#32
  let v1068 : BitVec 32 := Scalar.muli v18 c1_i32_889
  let v1069 : BitVec 32 := Scalar.addi c0_i32_890 v1068
  v1069.toNat
def k0_off13 (k0_t3 : Fin k0_t3_loop.trips) : Fin 1 → Nat :=
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let c2_i32_895 : BitVec 32 := 2#32
  let c0_i32_896 : BitVec 32 := 0#32
  let v1078 : BitVec 1 := Scalar.cmpi .eq c2_i32_895 c0_i32_896
  let c1_i32_897 : BitVec 32 := 1#32
  let v1079 : BitVec 32 := Scalar.select v1078 c1_i32_897 c2_i32_895
  let v1080 : BitVec 32 := Scalar.remsi v1077 v1079
  let c0_i32_899 : BitVec 32 := 0#32
  let v1082 : BitVec 1 := Scalar.cmpi .slt v1080 c0_i32_899
  let c0_i32_900 : BitVec 32 := 0#32
  let v1083 : BitVec 1 := Scalar.cmpi .slt v1079 c0_i32_900
  let v1084 : BitVec 1 := Scalar.xori v1082 v1083
  let c0_i32_898 : BitVec 32 := 0#32
  let v1081 : BitVec 1 := Scalar.cmpi .ne v1080 c0_i32_898
  let v1085 : BitVec 1 := Scalar.andi v1084 v1081
  let v1086 : BitVec 32 := Scalar.addi v1080 v1079
  let v1087 : BitVec 32 := Scalar.select v1085 v1086 v1080
  ![v1087.toNat]
def k0_off14 (d4 : Dev nD) (k0_t3 : Fin k0_t3_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_901 : BitVec 32 := 12#32
  let v1088 : BitVec 32 := Scalar.addi v6 c12_i32_901
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let v1089 : BitVec 32 := Scalar.subi v1088 v1077
  let c4_i32_902 : BitVec 32 := 4#32
  let c0_i32_903 : BitVec 32 := 0#32
  let v1090 : BitVec 1 := Scalar.cmpi .eq c4_i32_902 c0_i32_903
  let c1_i32_904 : BitVec 32 := 1#32
  let v1091 : BitVec 32 := Scalar.select v1090 c1_i32_904 c4_i32_902
  let v1092 : BitVec 32 := Scalar.remsi v1089 v1091
  let c0_i32_906 : BitVec 32 := 0#32
  let v1094 : BitVec 1 := Scalar.cmpi .slt v1092 c0_i32_906
  let c0_i32_907 : BitVec 32 := 0#32
  let v1095 : BitVec 1 := Scalar.cmpi .slt v1091 c0_i32_907
  let v1096 : BitVec 1 := Scalar.xori v1094 v1095
  let c0_i32_905 : BitVec 32 := 0#32
  let v1093 : BitVec 1 := Scalar.cmpi .ne v1092 c0_i32_905
  let v1097 : BitVec 1 := Scalar.andi v1096 v1093
  let v1098 : BitVec 32 := Scalar.addi v1092 v1091
  let v1099 : BitVec 32 := Scalar.select v1097 v1098 v1092
  let c512_i32_908 : BitVec 32 := 512#32
  let v1100 : BitVec 32 := Scalar.muli v1099 c512_i32_908
  let c384_i32_909 : BitVec 32 := 384#32
  let v1101 : BitVec 32 := Scalar.addi v1100 c384_i32_909
  let c0_i32_920 : BitVec 32 := 0#32
  ![v1101.toNat, 0]
def k0_off15 (k0_t3 : Fin k0_t3_loop.trips) : Fin 3 → Nat :=
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let c2_i32_895 : BitVec 32 := 2#32
  let c0_i32_896 : BitVec 32 := 0#32
  let v1078 : BitVec 1 := Scalar.cmpi .eq c2_i32_895 c0_i32_896
  let c1_i32_897 : BitVec 32 := 1#32
  let v1079 : BitVec 32 := Scalar.select v1078 c1_i32_897 c2_i32_895
  let v1080 : BitVec 32 := Scalar.remsi v1077 v1079
  let c0_i32_899 : BitVec 32 := 0#32
  let v1082 : BitVec 1 := Scalar.cmpi .slt v1080 c0_i32_899
  let c0_i32_900 : BitVec 32 := 0#32
  let v1083 : BitVec 1 := Scalar.cmpi .slt v1079 c0_i32_900
  let v1084 : BitVec 1 := Scalar.xori v1082 v1083
  let c0_i32_898 : BitVec 32 := 0#32
  let v1081 : BitVec 1 := Scalar.cmpi .ne v1080 c0_i32_898
  let v1085 : BitVec 1 := Scalar.andi v1084 v1081
  let v1086 : BitVec 32 := Scalar.addi v1080 v1079
  let v1087 : BitVec 32 := Scalar.select v1085 v1086 v1080
  let c0_i32_921 : BitVec 32 := 0#32
  let c0_i32_922 : BitVec 32 := 0#32
  ![v1087.toNat, 0, 0]
def k0_off16 (d4 : Dev nD) (k0_t3 : Fin k0_t3_loop.trips) : Fin 2 → Nat :=
  let c2048_i32_917 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let v1102 : BitVec 32 := Scalar.addi v6 v1077
  let c4_i32_910 : BitVec 32 := 4#32
  let c0_i32_911 : BitVec 32 := 0#32
  let v1103 : BitVec 1 := Scalar.cmpi .eq c4_i32_910 c0_i32_911
  let c1_i32_912 : BitVec 32 := 1#32
  let v1104 : BitVec 32 := Scalar.select v1103 c1_i32_912 c4_i32_910
  let v1105 : BitVec 32 := Scalar.remsi v1102 v1104
  let c0_i32_914 : BitVec 32 := 0#32
  let v1107 : BitVec 1 := Scalar.cmpi .slt v1105 c0_i32_914
  let c0_i32_915 : BitVec 32 := 0#32
  let v1108 : BitVec 1 := Scalar.cmpi .slt v1104 c0_i32_915
  let v1109 : BitVec 1 := Scalar.xori v1107 v1108
  let c0_i32_913 : BitVec 32 := 0#32
  let v1106 : BitVec 1 := Scalar.cmpi .ne v1105 c0_i32_913
  let v1110 : BitVec 1 := Scalar.andi v1109 v1106
  let v1111 : BitVec 32 := Scalar.addi v1105 v1104
  let v1112 : BitVec 32 := Scalar.select v1110 v1111 v1105
  let c512_i32_916 : BitVec 32 := 512#32
  let v1113 : BitVec 32 := Scalar.muli v1112 c512_i32_916
  let v1114 : BitVec 32 := Scalar.addi c2048_i32_917 v1113
  let c384_i32_918 : BitVec 32 := 384#32
  let v1115 : BitVec 32 := Scalar.addi v1114 c384_i32_918
  let c0_i32_929 : BitVec 32 := 0#32
  ![v1115.toNat, 0]
def k0_cond2 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let c3_i32_943 : BitVec 32 := 3#32
  let v1150 : BitVec 1 := Scalar.cmpi .slt v1077 c3_i32_943
  let v1151 : BitVec 32 := Scalar.extui v1150
  let c0_i32_944 : BitVec 32 := 0#32
  let v1152 : BitVec 1 := Scalar.cmpi .ne v1151 c0_i32_944
  v1152

def k0_off17 (d4 : Dev nD) (k0_t3 : Fin k0_t3_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1211 : BitVec 32 := 12#32
  let v1567 : BitVec 32 := Scalar.addi v6 c12_i32_1211
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let v1568 : BitVec 32 := Scalar.subi v1567 v1077
  let c1_i32_1212 : BitVec 32 := 1#32
  let v1569 : BitVec 32 := Scalar.subi v1568 c1_i32_1212
  let c4_i32_1213 : BitVec 32 := 4#32
  let c0_i32_1214 : BitVec 32 := 0#32
  let v1570 : BitVec 1 := Scalar.cmpi .eq c4_i32_1213 c0_i32_1214
  let c1_i32_1215 : BitVec 32 := 1#32
  let v1571 : BitVec 32 := Scalar.select v1570 c1_i32_1215 c4_i32_1213
  let v1572 : BitVec 32 := Scalar.remsi v1569 v1571
  let c0_i32_1217 : BitVec 32 := 0#32
  let v1574 : BitVec 1 := Scalar.cmpi .slt v1572 c0_i32_1217
  let c0_i32_1218 : BitVec 32 := 0#32
  let v1575 : BitVec 1 := Scalar.cmpi .slt v1571 c0_i32_1218
  let v1576 : BitVec 1 := Scalar.xori v1574 v1575
  let c0_i32_1216 : BitVec 32 := 0#32
  let v1573 : BitVec 1 := Scalar.cmpi .ne v1572 c0_i32_1216
  let v1577 : BitVec 1 := Scalar.andi v1576 v1573
  let v1578 : BitVec 32 := Scalar.addi v1572 v1571
  let v1579 : BitVec 32 := Scalar.select v1577 v1578 v1572
  let c512_i32_1219 : BitVec 32 := 512#32
  let v1580 : BitVec 32 := Scalar.muli v1579 c512_i32_1219
  let c384_i32_1220 : BitVec 32 := 384#32
  let v1581 : BitVec 32 := Scalar.addi v1580 c384_i32_1220
  let v1597 : Index := Scalar.indexCast v1581
  let c0_1231 : Index := 0#32
  ![v1597.toNat, 0]
def k0_off18 (k0_t3 : Fin k0_t3_loop.trips) : Fin 3 → Nat :=
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let c2_i32_937 : BitVec 32 := 2#32
  let c0_i32_938 : BitVec 32 := 0#32
  let v1140 : BitVec 1 := Scalar.cmpi .eq c2_i32_937 c0_i32_938
  let c1_i32_939 : BitVec 32 := 1#32
  let v1141 : BitVec 32 := Scalar.select v1140 c1_i32_939 c2_i32_937
  let v1142 : BitVec 32 := Scalar.remsi v1077 v1141
  let c0_i32_941 : BitVec 32 := 0#32
  let v1144 : BitVec 1 := Scalar.cmpi .slt v1142 c0_i32_941
  let c0_i32_942 : BitVec 32 := 0#32
  let v1145 : BitVec 1 := Scalar.cmpi .slt v1141 c0_i32_942
  let v1146 : BitVec 1 := Scalar.xori v1144 v1145
  let c0_i32_940 : BitVec 32 := 0#32
  let v1143 : BitVec 1 := Scalar.cmpi .ne v1142 c0_i32_940
  let v1147 : BitVec 1 := Scalar.andi v1146 v1143
  let v1148 : BitVec 32 := Scalar.addi v1142 v1141
  let v1149 : BitVec 32 := Scalar.select v1147 v1148 v1142
  let v1600 : Index := Scalar.indexCast v1149
  let c0_1232 : Index := 0#32
  let c0_1233 : Index := 0#32
  ![v1600.toNat, 0, 0]
def k0_off19 (d4 : Dev nD) (k0_t3 : Fin k0_t3_loop.trips) : Fin 2 → Nat :=
  let c2048_i32_1229 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let v1582 : BitVec 32 := Scalar.addi v6 v1077
  let c1_i32_1221 : BitVec 32 := 1#32
  let v1583 : BitVec 32 := Scalar.addi v1582 c1_i32_1221
  let c4_i32_1222 : BitVec 32 := 4#32
  let c0_i32_1223 : BitVec 32 := 0#32
  let v1584 : BitVec 1 := Scalar.cmpi .eq c4_i32_1222 c0_i32_1223
  let c1_i32_1224 : BitVec 32 := 1#32
  let v1585 : BitVec 32 := Scalar.select v1584 c1_i32_1224 c4_i32_1222
  let v1586 : BitVec 32 := Scalar.remsi v1583 v1585
  let c0_i32_1226 : BitVec 32 := 0#32
  let v1588 : BitVec 1 := Scalar.cmpi .slt v1586 c0_i32_1226
  let c0_i32_1227 : BitVec 32 := 0#32
  let v1589 : BitVec 1 := Scalar.cmpi .slt v1585 c0_i32_1227
  let v1590 : BitVec 1 := Scalar.xori v1588 v1589
  let c0_i32_1225 : BitVec 32 := 0#32
  let v1587 : BitVec 1 := Scalar.cmpi .ne v1586 c0_i32_1225
  let v1591 : BitVec 1 := Scalar.andi v1590 v1587
  let v1592 : BitVec 32 := Scalar.addi v1586 v1585
  let v1593 : BitVec 32 := Scalar.select v1591 v1592 v1586
  let c512_i32_1228 : BitVec 32 := 512#32
  let v1594 : BitVec 32 := Scalar.muli v1593 c512_i32_1228
  let v1595 : BitVec 32 := Scalar.addi c2048_i32_1229 v1594
  let c384_i32_1230 : BitVec 32 := 384#32
  let v1596 : BitVec 32 := Scalar.addi v1595 c384_i32_1230
  let v1606 : Index := Scalar.indexCast v1596
  let c0_1235 : Index := 0#32
  ![v1606.toNat, 0]
def k0_cond3 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c1_i32_894 : BitVec 32 := 1#32
  let v1077 : BitVec 32 := Scalar.subi arg40 c1_i32_894
  let c4_i32_945 : BitVec 32 := 4#32
  let v1153 : BitVec 1 := Scalar.cmpi .slt v1077 c4_i32_945
  let v1154 : BitVec 32 := Scalar.extui v1153
  let c0_i32_946 : BitVec 32 := 0#32
  let v1155 : BitVec 1 := Scalar.cmpi .ne v1154 c0_i32_946
  v1155

def k0_dev19 (d4 : Dev nD) : Nat :=
  let c0_i32_1213 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1212 : BitVec 32 := 1#32
  let v1567 : BitVec 32 := Scalar.muli v18 c1_i32_1212
  let v1568 : BitVec 32 := Scalar.addi c0_i32_1213 v1567
  v1568.toNat
def k0_dev20 (d4 : Dev nD) : Nat :=
  let c0_i32_1216 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1215 : BitVec 32 := 1#32
  let v1569 : BitVec 32 := Scalar.muli v29 c1_i32_1215
  let v1570 : BitVec 32 := Scalar.addi c0_i32_1216 v1569
  v1570.toNat
def k0_dev21 (d4 : Dev nD) : Nat :=
  let c0_i32_974 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_973 : BitVec 32 := 1#32
  let v1197 : BitVec 32 := Scalar.muli v29 c1_i32_973
  let v1198 : BitVec 32 := Scalar.addi c0_i32_974 v1197
  v1198.toNat
def k0_dev22 (d4 : Dev nD) : Nat :=
  let c0_i32_979 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_978 : BitVec 32 := 1#32
  let v1206 : BitVec 32 := Scalar.muli v18 c1_i32_978
  let v1207 : BitVec 32 := Scalar.addi c0_i32_979 v1206
  v1207.toNat
def k0_cond5 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c3_i32_1031 : BitVec 32 := 3#32
  let v1287 : BitVec 1 := Scalar.cmpi .slt arg40 c3_i32_1031
  let v1288 : BitVec 32 := Scalar.extui v1287
  let c0_i32_1032 : BitVec 32 := 0#32
  let v1289 : BitVec 1 := Scalar.cmpi .ne v1288 c0_i32_1032
  v1289

def k0_off20 (d4 : Dev nD) (k0_t3 : Fin k0_t3_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1211 : BitVec 32 := 12#32
  let v1567 : BitVec 32 := Scalar.addi v6 c12_i32_1211
  let c1_i32_434 : BitVec 32 := 1#32
  let c1_i32_436 : BitVec 32 := 1#32
  let arg40 : BitVec 32 := Scf.iv c1_i32_434 c1_i32_436 k0_t3
  let v1568 : BitVec 32 := Scalar.subi v1567 arg40
  let c1_i32_1212 : BitVec 32 := 1#32
  let v1569 : BitVec 32 := Scalar.subi v1568 c1_i32_1212
  let c4_i32_1213 : BitVec 32 := 4#32
  let c0_i32_1214 : BitVec 32 := 0#32
  let v1570 : BitVec 1 := Scalar.cmpi .eq c4_i32_1213 c0_i32_1214
  let c1_i32_1215 : BitVec 32 := 1#32
  let v1571 : BitVec 32 := Scalar.select v1570 c1_i32_1215 c4_i32_1213
  let v1572 : BitVec 32 := Scalar.remsi v1569 v1571
  let c0_i32_1217 : BitVec 32 := 0#32
  let v1574 : BitVec 1 := Scalar.cmpi .slt v1572 c0_i32_1217
  let c0_i32_1218 : BitVec 32 := 0#32
  let v1575 : BitVec 1 := Scalar.cmpi .slt v1571 c0_i32_1218
  let v1576 : BitVec 1 := Scalar.xori v1574 v1575
  let c0_i32_1216 : BitVec 32 := 0#32
  let v1573 : BitVec 1 := Scalar.cmpi .ne v1572 c0_i32_1216
  let v1577 : BitVec 1 := Scalar.andi v1576 v1573
  let v1578 : BitVec 32 := Scalar.addi v1572 v1571
  let v1579 : BitVec 32 := Scalar.select v1577 v1578 v1572
  let c512_i32_1219 : BitVec 32 := 512#32
  let v1580 : BitVec 32 := Scalar.muli v1579 c512_i32_1219
  let c0_i32_1220 : BitVec 32 := 0#32
  let v1581 : BitVec 32 := Scalar.addi v1580 c0_i32_1220
  let v1597 : Index := Scalar.indexCast v1581
  let c0_1231 : Index := 0#32
  ![v1597.toNat, 0]
def k0_off21 (k0_t3 : Fin k0_t3_loop.trips) : Fin 3 → Nat :=
  let c1_i32_434 : BitVec 32 := 1#32
  let c1_i32_436 : BitVec 32 := 1#32
  let arg40 : BitVec 32 := Scf.iv c1_i32_434 c1_i32_436 k0_t3
  let c2_i32_1025 : BitVec 32 := 2#32
  let c0_i32_1026 : BitVec 32 := 0#32
  let v1277 : BitVec 1 := Scalar.cmpi .eq c2_i32_1025 c0_i32_1026
  let c1_i32_1027 : BitVec 32 := 1#32
  let v1278 : BitVec 32 := Scalar.select v1277 c1_i32_1027 c2_i32_1025
  let v1279 : BitVec 32 := Scalar.remsi arg40 v1278
  let c0_i32_1029 : BitVec 32 := 0#32
  let v1281 : BitVec 1 := Scalar.cmpi .slt v1279 c0_i32_1029
  let c0_i32_1030 : BitVec 32 := 0#32
  let v1282 : BitVec 1 := Scalar.cmpi .slt v1278 c0_i32_1030
  let v1283 : BitVec 1 := Scalar.xori v1281 v1282
  let c0_i32_1028 : BitVec 32 := 0#32
  let v1280 : BitVec 1 := Scalar.cmpi .ne v1279 c0_i32_1028
  let v1284 : BitVec 1 := Scalar.andi v1283 v1280
  let v1285 : BitVec 32 := Scalar.addi v1279 v1278
  let v1286 : BitVec 32 := Scalar.select v1284 v1285 v1279
  let v1600 : Index := Scalar.indexCast v1286
  let c0_1232 : Index := 0#32
  let c0_1233 : Index := 0#32
  ![v1600.toNat, 0, 0]
def k0_off22 (d4 : Dev nD) (k0_t3 : Fin k0_t3_loop.trips) : Fin 2 → Nat :=
  let c2048_i32_1229 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_434 : BitVec 32 := 1#32
  let c1_i32_436 : BitVec 32 := 1#32
  let arg40 : BitVec 32 := Scf.iv c1_i32_434 c1_i32_436 k0_t3
  let v1582 : BitVec 32 := Scalar.addi v6 arg40
  let c1_i32_1221 : BitVec 32 := 1#32
  let v1583 : BitVec 32 := Scalar.addi v1582 c1_i32_1221
  let c4_i32_1222 : BitVec 32 := 4#32
  let c0_i32_1223 : BitVec 32 := 0#32
  let v1584 : BitVec 1 := Scalar.cmpi .eq c4_i32_1222 c0_i32_1223
  let c1_i32_1224 : BitVec 32 := 1#32
  let v1585 : BitVec 32 := Scalar.select v1584 c1_i32_1224 c4_i32_1222
  let v1586 : BitVec 32 := Scalar.remsi v1583 v1585
  let c0_i32_1226 : BitVec 32 := 0#32
  let v1588 : BitVec 1 := Scalar.cmpi .slt v1586 c0_i32_1226
  let c0_i32_1227 : BitVec 32 := 0#32
  let v1589 : BitVec 1 := Scalar.cmpi .slt v1585 c0_i32_1227
  let v1590 : BitVec 1 := Scalar.xori v1588 v1589
  let c0_i32_1225 : BitVec 32 := 0#32
  let v1587 : BitVec 1 := Scalar.cmpi .ne v1586 c0_i32_1225
  let v1591 : BitVec 1 := Scalar.andi v1590 v1587
  let v1592 : BitVec 32 := Scalar.addi v1586 v1585
  let v1593 : BitVec 32 := Scalar.select v1591 v1592 v1586
  let c512_i32_1228 : BitVec 32 := 512#32
  let v1594 : BitVec 32 := Scalar.muli v1593 c512_i32_1228
  let v1595 : BitVec 32 := Scalar.addi c2048_i32_1229 v1594
  let c0_i32_1230 : BitVec 32 := 0#32
  let v1596 : BitVec 32 := Scalar.addi v1595 c0_i32_1230
  let v1606 : Index := Scalar.indexCast v1596
  let c0_1235 : Index := 0#32
  ![v1606.toNat, 0]
def k0_cond6 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c4_i32_1033 : BitVec 32 := 4#32
  let v1290 : BitVec 1 := Scalar.cmpi .slt arg40 c4_i32_1033
  let v1291 : BitVec 32 := Scalar.extui v1290
  let c0_i32_1034 : BitVec 32 := 0#32
  let v1292 : BitVec 1 := Scalar.cmpi .ne v1291 c0_i32_1034
  v1292

def k0_dev23 (d4 : Dev nD) : Nat :=
  let c0_i32_1213 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1212 : BitVec 32 := 1#32
  let v1567 : BitVec 32 := Scalar.muli v18 c1_i32_1212
  let v1568 : BitVec 32 := Scalar.addi c0_i32_1213 v1567
  v1568.toNat
def k0_dev24 (d4 : Dev nD) : Nat :=
  let c0_i32_1216 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1215 : BitVec 32 := 1#32
  let v1569 : BitVec 32 := Scalar.muli v29 c1_i32_1215
  let v1570 : BitVec 32 := Scalar.addi c0_i32_1216 v1569
  v1570.toNat
def k0_dev25 (d4 : Dev nD) : Nat :=
  let c0_i32_1062 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1061 : BitVec 32 := 1#32
  let v1334 : BitVec 32 := Scalar.muli v29 c1_i32_1061
  let v1335 : BitVec 32 := Scalar.addi c0_i32_1062 v1334
  v1335.toNat
def k0_dev26 (d4 : Dev nD) : Nat :=
  let c0_i32_1067 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1066 : BitVec 32 := 1#32
  let v1343 : BitVec 32 := Scalar.muli v18 c1_i32_1066
  let v1344 : BitVec 32 := Scalar.addi c0_i32_1067 v1343
  v1344.toNat
def k0_cond8 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c3_i32_1119 : BitVec 32 := 3#32
  let v1424 : BitVec 1 := Scalar.cmpi .slt arg40 c3_i32_1119
  let v1425 : BitVec 32 := Scalar.extui v1424
  let c0_i32_1120 : BitVec 32 := 0#32
  let v1426 : BitVec 1 := Scalar.cmpi .ne v1425 c0_i32_1120
  v1426

def k0_off23 (d4 : Dev nD) (k0_t3 : Fin k0_t3_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1211 : BitVec 32 := 12#32
  let v1567 : BitVec 32 := Scalar.addi v6 c12_i32_1211
  let c1_i32_434 : BitVec 32 := 1#32
  let c1_i32_436 : BitVec 32 := 1#32
  let arg40 : BitVec 32 := Scf.iv c1_i32_434 c1_i32_436 k0_t3
  let v1568 : BitVec 32 := Scalar.subi v1567 arg40
  let c1_i32_1212 : BitVec 32 := 1#32
  let v1569 : BitVec 32 := Scalar.subi v1568 c1_i32_1212
  let c4_i32_1213 : BitVec 32 := 4#32
  let c0_i32_1214 : BitVec 32 := 0#32
  let v1570 : BitVec 1 := Scalar.cmpi .eq c4_i32_1213 c0_i32_1214
  let c1_i32_1215 : BitVec 32 := 1#32
  let v1571 : BitVec 32 := Scalar.select v1570 c1_i32_1215 c4_i32_1213
  let v1572 : BitVec 32 := Scalar.remsi v1569 v1571
  let c0_i32_1217 : BitVec 32 := 0#32
  let v1574 : BitVec 1 := Scalar.cmpi .slt v1572 c0_i32_1217
  let c0_i32_1218 : BitVec 32 := 0#32
  let v1575 : BitVec 1 := Scalar.cmpi .slt v1571 c0_i32_1218
  let v1576 : BitVec 1 := Scalar.xori v1574 v1575
  let c0_i32_1216 : BitVec 32 := 0#32
  let v1573 : BitVec 1 := Scalar.cmpi .ne v1572 c0_i32_1216
  let v1577 : BitVec 1 := Scalar.andi v1576 v1573
  let v1578 : BitVec 32 := Scalar.addi v1572 v1571
  let v1579 : BitVec 32 := Scalar.select v1577 v1578 v1572
  let c512_i32_1219 : BitVec 32 := 512#32
  let v1580 : BitVec 32 := Scalar.muli v1579 c512_i32_1219
  let c128_i32_1220 : BitVec 32 := 128#32
  let v1581 : BitVec 32 := Scalar.addi v1580 c128_i32_1220
  let v1597 : Index := Scalar.indexCast v1581
  let c0_1231 : Index := 0#32
  ![v1597.toNat, 0]
def k0_off24 (k0_t3 : Fin k0_t3_loop.trips) : Fin 3 → Nat :=
  let c1_i32_434 : BitVec 32 := 1#32
  let c1_i32_436 : BitVec 32 := 1#32
  let arg40 : BitVec 32 := Scf.iv c1_i32_434 c1_i32_436 k0_t3
  let c2_i32_1113 : BitVec 32 := 2#32
  let c0_i32_1114 : BitVec 32 := 0#32
  let v1414 : BitVec 1 := Scalar.cmpi .eq c2_i32_1113 c0_i32_1114
  let c1_i32_1115 : BitVec 32 := 1#32
  let v1415 : BitVec 32 := Scalar.select v1414 c1_i32_1115 c2_i32_1113
  let v1416 : BitVec 32 := Scalar.remsi arg40 v1415
  let c0_i32_1117 : BitVec 32 := 0#32
  let v1418 : BitVec 1 := Scalar.cmpi .slt v1416 c0_i32_1117
  let c0_i32_1118 : BitVec 32 := 0#32
  let v1419 : BitVec 1 := Scalar.cmpi .slt v1415 c0_i32_1118
  let v1420 : BitVec 1 := Scalar.xori v1418 v1419
  let c0_i32_1116 : BitVec 32 := 0#32
  let v1417 : BitVec 1 := Scalar.cmpi .ne v1416 c0_i32_1116
  let v1421 : BitVec 1 := Scalar.andi v1420 v1417
  let v1422 : BitVec 32 := Scalar.addi v1416 v1415
  let v1423 : BitVec 32 := Scalar.select v1421 v1422 v1416
  let v1600 : Index := Scalar.indexCast v1423
  let c0_1232 : Index := 0#32
  let c0_1233 : Index := 0#32
  ![v1600.toNat, 0, 0]
def k0_off25 (d4 : Dev nD) (k0_t3 : Fin k0_t3_loop.trips) : Fin 2 → Nat :=
  let c2048_i32_1229 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_434 : BitVec 32 := 1#32
  let c1_i32_436 : BitVec 32 := 1#32
  let arg40 : BitVec 32 := Scf.iv c1_i32_434 c1_i32_436 k0_t3
  let v1582 : BitVec 32 := Scalar.addi v6 arg40
  let c1_i32_1221 : BitVec 32 := 1#32
  let v1583 : BitVec 32 := Scalar.addi v1582 c1_i32_1221
  let c4_i32_1222 : BitVec 32 := 4#32
  let c0_i32_1223 : BitVec 32 := 0#32
  let v1584 : BitVec 1 := Scalar.cmpi .eq c4_i32_1222 c0_i32_1223
  let c1_i32_1224 : BitVec 32 := 1#32
  let v1585 : BitVec 32 := Scalar.select v1584 c1_i32_1224 c4_i32_1222
  let v1586 : BitVec 32 := Scalar.remsi v1583 v1585
  let c0_i32_1226 : BitVec 32 := 0#32
  let v1588 : BitVec 1 := Scalar.cmpi .slt v1586 c0_i32_1226
  let c0_i32_1227 : BitVec 32 := 0#32
  let v1589 : BitVec 1 := Scalar.cmpi .slt v1585 c0_i32_1227
  let v1590 : BitVec 1 := Scalar.xori v1588 v1589
  let c0_i32_1225 : BitVec 32 := 0#32
  let v1587 : BitVec 1 := Scalar.cmpi .ne v1586 c0_i32_1225
  let v1591 : BitVec 1 := Scalar.andi v1590 v1587
  let v1592 : BitVec 32 := Scalar.addi v1586 v1585
  let v1593 : BitVec 32 := Scalar.select v1591 v1592 v1586
  let c512_i32_1228 : BitVec 32 := 512#32
  let v1594 : BitVec 32 := Scalar.muli v1593 c512_i32_1228
  let v1595 : BitVec 32 := Scalar.addi c2048_i32_1229 v1594
  let c128_i32_1230 : BitVec 32 := 128#32
  let v1596 : BitVec 32 := Scalar.addi v1595 c128_i32_1230
  let v1606 : Index := Scalar.indexCast v1596
  let c0_1235 : Index := 0#32
  ![v1606.toNat, 0]
def k0_cond9 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c4_i32_1121 : BitVec 32 := 4#32
  let v1427 : BitVec 1 := Scalar.cmpi .slt arg40 c4_i32_1121
  let v1428 : BitVec 32 := Scalar.extui v1427
  let c0_i32_1122 : BitVec 32 := 0#32
  let v1429 : BitVec 1 := Scalar.cmpi .ne v1428 c0_i32_1122
  v1429

def k0_dev27 (d4 : Dev nD) : Nat :=
  let c0_i32_1213 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1212 : BitVec 32 := 1#32
  let v1567 : BitVec 32 := Scalar.muli v18 c1_i32_1212
  let v1568 : BitVec 32 := Scalar.addi c0_i32_1213 v1567
  v1568.toNat
def k0_dev28 (d4 : Dev nD) : Nat :=
  let c0_i32_1216 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1215 : BitVec 32 := 1#32
  let v1569 : BitVec 32 := Scalar.muli v29 c1_i32_1215
  let v1570 : BitVec 32 := Scalar.addi c0_i32_1216 v1569
  v1570.toNat
def k0_dev29 (d4 : Dev nD) : Nat :=
  let c0_i32_1150 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1149 : BitVec 32 := 1#32
  let v1471 : BitVec 32 := Scalar.muli v29 c1_i32_1149
  let v1472 : BitVec 32 := Scalar.addi c0_i32_1150 v1471
  v1472.toNat
def k0_dev30 (d4 : Dev nD) : Nat :=
  let c0_i32_1155 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1154 : BitVec 32 := 1#32
  let v1480 : BitVec 32 := Scalar.muli v18 c1_i32_1154
  let v1481 : BitVec 32 := Scalar.addi c0_i32_1155 v1480
  v1481.toNat
def k0_cond11 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c3_i32_1207 : BitVec 32 := 3#32
  let v1561 : BitVec 1 := Scalar.cmpi .slt arg40 c3_i32_1207
  let v1562 : BitVec 32 := Scalar.extui v1561
  let c0_i32_1208 : BitVec 32 := 0#32
  let v1563 : BitVec 1 := Scalar.cmpi .ne v1562 c0_i32_1208
  v1563

def k0_off26 (d4 : Dev nD) (k0_t3 : Fin k0_t3_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1211 : BitVec 32 := 12#32
  let v1567 : BitVec 32 := Scalar.addi v6 c12_i32_1211
  let c1_i32_434 : BitVec 32 := 1#32
  let c1_i32_436 : BitVec 32 := 1#32
  let arg40 : BitVec 32 := Scf.iv c1_i32_434 c1_i32_436 k0_t3
  let v1568 : BitVec 32 := Scalar.subi v1567 arg40
  let c1_i32_1212 : BitVec 32 := 1#32
  let v1569 : BitVec 32 := Scalar.subi v1568 c1_i32_1212
  let c4_i32_1213 : BitVec 32 := 4#32
  let c0_i32_1214 : BitVec 32 := 0#32
  let v1570 : BitVec 1 := Scalar.cmpi .eq c4_i32_1213 c0_i32_1214
  let c1_i32_1215 : BitVec 32 := 1#32
  let v1571 : BitVec 32 := Scalar.select v1570 c1_i32_1215 c4_i32_1213
  let v1572 : BitVec 32 := Scalar.remsi v1569 v1571
  let c0_i32_1217 : BitVec 32 := 0#32
  let v1574 : BitVec 1 := Scalar.cmpi .slt v1572 c0_i32_1217
  let c0_i32_1218 : BitVec 32 := 0#32
  let v1575 : BitVec 1 := Scalar.cmpi .slt v1571 c0_i32_1218
  let v1576 : BitVec 1 := Scalar.xori v1574 v1575
  let c0_i32_1216 : BitVec 32 := 0#32
  let v1573 : BitVec 1 := Scalar.cmpi .ne v1572 c0_i32_1216
  let v1577 : BitVec 1 := Scalar.andi v1576 v1573
  let v1578 : BitVec 32 := Scalar.addi v1572 v1571
  let v1579 : BitVec 32 := Scalar.select v1577 v1578 v1572
  let c512_i32_1219 : BitVec 32 := 512#32
  let v1580 : BitVec 32 := Scalar.muli v1579 c512_i32_1219
  let c256_i32_1220 : BitVec 32 := 256#32
  let v1581 : BitVec 32 := Scalar.addi v1580 c256_i32_1220
  let v1597 : Index := Scalar.indexCast v1581
  let c0_1231 : Index := 0#32
  ![v1597.toNat, 0]
def k0_off27 (k0_t3 : Fin k0_t3_loop.trips) : Fin 3 → Nat :=
  let c1_i32_434 : BitVec 32 := 1#32
  let c1_i32_436 : BitVec 32 := 1#32
  let arg40 : BitVec 32 := Scf.iv c1_i32_434 c1_i32_436 k0_t3
  let c2_i32_1201 : BitVec 32 := 2#32
  let c0_i32_1202 : BitVec 32 := 0#32
  let v1551 : BitVec 1 := Scalar.cmpi .eq c2_i32_1201 c0_i32_1202
  let c1_i32_1203 : BitVec 32 := 1#32
  let v1552 : BitVec 32 := Scalar.select v1551 c1_i32_1203 c2_i32_1201
  let v1553 : BitVec 32 := Scalar.remsi arg40 v1552
  let c0_i32_1205 : BitVec 32 := 0#32
  let v1555 : BitVec 1 := Scalar.cmpi .slt v1553 c0_i32_1205
  let c0_i32_1206 : BitVec 32 := 0#32
  let v1556 : BitVec 1 := Scalar.cmpi .slt v1552 c0_i32_1206
  let v1557 : BitVec 1 := Scalar.xori v1555 v1556
  let c0_i32_1204 : BitVec 32 := 0#32
  let v1554 : BitVec 1 := Scalar.cmpi .ne v1553 c0_i32_1204
  let v1558 : BitVec 1 := Scalar.andi v1557 v1554
  let v1559 : BitVec 32 := Scalar.addi v1553 v1552
  let v1560 : BitVec 32 := Scalar.select v1558 v1559 v1553
  let v1600 : Index := Scalar.indexCast v1560
  let c0_1232 : Index := 0#32
  let c0_1233 : Index := 0#32
  ![v1600.toNat, 0, 0]
def k0_off28 (d4 : Dev nD) (k0_t3 : Fin k0_t3_loop.trips) : Fin 2 → Nat :=
  let c2048_i32_1229 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_434 : BitVec 32 := 1#32
  let c1_i32_436 : BitVec 32 := 1#32
  let arg40 : BitVec 32 := Scf.iv c1_i32_434 c1_i32_436 k0_t3
  let v1582 : BitVec 32 := Scalar.addi v6 arg40
  let c1_i32_1221 : BitVec 32 := 1#32
  let v1583 : BitVec 32 := Scalar.addi v1582 c1_i32_1221
  let c4_i32_1222 : BitVec 32 := 4#32
  let c0_i32_1223 : BitVec 32 := 0#32
  let v1584 : BitVec 1 := Scalar.cmpi .eq c4_i32_1222 c0_i32_1223
  let c1_i32_1224 : BitVec 32 := 1#32
  let v1585 : BitVec 32 := Scalar.select v1584 c1_i32_1224 c4_i32_1222
  let v1586 : BitVec 32 := Scalar.remsi v1583 v1585
  let c0_i32_1226 : BitVec 32 := 0#32
  let v1588 : BitVec 1 := Scalar.cmpi .slt v1586 c0_i32_1226
  let c0_i32_1227 : BitVec 32 := 0#32
  let v1589 : BitVec 1 := Scalar.cmpi .slt v1585 c0_i32_1227
  let v1590 : BitVec 1 := Scalar.xori v1588 v1589
  let c0_i32_1225 : BitVec 32 := 0#32
  let v1587 : BitVec 1 := Scalar.cmpi .ne v1586 c0_i32_1225
  let v1591 : BitVec 1 := Scalar.andi v1590 v1587
  let v1592 : BitVec 32 := Scalar.addi v1586 v1585
  let v1593 : BitVec 32 := Scalar.select v1591 v1592 v1586
  let c512_i32_1228 : BitVec 32 := 512#32
  let v1594 : BitVec 32 := Scalar.muli v1593 c512_i32_1228
  let v1595 : BitVec 32 := Scalar.addi c2048_i32_1229 v1594
  let c256_i32_1230 : BitVec 32 := 256#32
  let v1596 : BitVec 32 := Scalar.addi v1595 c256_i32_1230
  let v1606 : Index := Scalar.indexCast v1596
  let c0_1235 : Index := 0#32
  ![v1606.toNat, 0]
def k0_cond12 (k0_t3 : Fin k0_t3_loop.trips) : BitVec 1 :=
  let c1_i32_434 : BitVec 32 := 1#32
  let c1_i32_436 : BitVec 32 := 1#32
  let arg40 : BitVec 32 := Scf.iv c1_i32_434 c1_i32_436 k0_t3
  let c4_i32_1209 : BitVec 32 := 4#32
  let v1564 : BitVec 1 := Scalar.cmpi .slt arg40 c4_i32_1209
  let v1565 : BitVec 32 := Scalar.extui v1564
  let c0_i32_1210 : BitVec 32 := 0#32
  let v1566 : BitVec 1 := Scalar.cmpi .ne v1565 c0_i32_1210
  v1566

def k0_dev31 (d4 : Dev nD) : Nat :=
  let c0_i32_1213 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1212 : BitVec 32 := 1#32
  let v1567 : BitVec 32 := Scalar.muli v18 c1_i32_1212
  let v1568 : BitVec 32 := Scalar.addi c0_i32_1213 v1567
  v1568.toNat
def k0_dev32 (d4 : Dev nD) : Nat :=
  let c0_i32_1216 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1215 : BitVec 32 := 1#32
  let v1569 : BitVec 32 := Scalar.muli v29 c1_i32_1215
  let v1570 : BitVec 32 := Scalar.addi c0_i32_1216 v1569
  v1570.toNat
def k0_dev33 (d4 : Dev nD) : Nat :=
  let c0_i32_464 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_463 : BitVec 32 := 1#32
  let v563 : BitVec 32 := Scalar.muli v29 c1_i32_463
  let v564 : BitVec 32 := Scalar.addi c0_i32_464 v563
  v564.toNat
def k0_dev34 (d4 : Dev nD) : Nat :=
  let c0_i32_470 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_469 : BitVec 32 := 1#32
  let v571 : BitVec 32 := Scalar.muli v18 c1_i32_469
  let v572 : BitVec 32 := Scalar.addi c0_i32_470 v571
  v572.toNat
def k0_dev35 (d4 : Dev nD) : Nat :=
  let c0_i32_557 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_556 : BitVec 32 := 1#32
  let v677 : BitVec 32 := Scalar.muli v18 c1_i32_556
  let v678 : BitVec 32 := Scalar.addi c0_i32_557 v677
  v678.toNat
def k0_dev36 (d4 : Dev nD) : Nat :=
  let c0_i32_560 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_559 : BitVec 32 := 1#32
  let v679 : BitVec 32 := Scalar.muli v29 c1_i32_559
  let v680 : BitVec 32 := Scalar.addi c0_i32_560 v679
  v680.toNat
def k0_dev37 (d4 : Dev nD) : Nat :=
  let c0_i32_588 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_587 : BitVec 32 := 1#32
  let v709 : BitVec 32 := Scalar.muli v29 c1_i32_587
  let v710 : BitVec 32 := Scalar.addi c0_i32_588 v709
  v710.toNat
def k0_dev38 (d4 : Dev nD) : Nat :=
  let c0_i32_594 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_593 : BitVec 32 := 1#32
  let v717 : BitVec 32 := Scalar.muli v18 c1_i32_593
  let v718 : BitVec 32 := Scalar.addi c0_i32_594 v717
  v718.toNat
def k0_dev39 (d4 : Dev nD) : Nat :=
  let c0_i32_641 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_640 : BitVec 32 := 1#32
  let v773 : BitVec 32 := Scalar.muli v18 c1_i32_640
  let v774 : BitVec 32 := Scalar.addi c0_i32_641 v773
  v774.toNat
def k0_dev40 (d4 : Dev nD) : Nat :=
  let c0_i32_644 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_643 : BitVec 32 := 1#32
  let v775 : BitVec 32 := Scalar.muli v29 c1_i32_643
  let v776 : BitVec 32 := Scalar.addi c0_i32_644 v775
  v776.toNat
def k0_dev41 (d4 : Dev nD) : Nat :=
  let c0_i32_672 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_671 : BitVec 32 := 1#32
  let v805 : BitVec 32 := Scalar.muli v29 c1_i32_671
  let v806 : BitVec 32 := Scalar.addi c0_i32_672 v805
  v806.toNat
def k0_dev42 (d4 : Dev nD) : Nat :=
  let c0_i32_678 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_677 : BitVec 32 := 1#32
  let v813 : BitVec 32 := Scalar.muli v18 c1_i32_677
  let v814 : BitVec 32 := Scalar.addi c0_i32_678 v813
  v814.toNat
def k0_dev43 (d4 : Dev nD) : Nat :=
  let c0_i32_725 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_724 : BitVec 32 := 1#32
  let v869 : BitVec 32 := Scalar.muli v18 c1_i32_724
  let v870 : BitVec 32 := Scalar.addi c0_i32_725 v869
  v870.toNat
def k0_dev44 (d4 : Dev nD) : Nat :=
  let c0_i32_728 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_727 : BitVec 32 := 1#32
  let v871 : BitVec 32 := Scalar.muli v29 c1_i32_727
  let v872 : BitVec 32 := Scalar.addi c0_i32_728 v871
  v872.toNat
def k0_dev45 (d4 : Dev nD) : Nat :=
  let c0_i32_756 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_755 : BitVec 32 := 1#32
  let v901 : BitVec 32 := Scalar.muli v29 c1_i32_755
  let v902 : BitVec 32 := Scalar.addi c0_i32_756 v901
  v902.toNat
def k0_dev46 (d4 : Dev nD) : Nat :=
  let c0_i32_762 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_761 : BitVec 32 := 1#32
  let v909 : BitVec 32 := Scalar.muli v18 c1_i32_761
  let v910 : BitVec 32 := Scalar.addi c0_i32_762 v909
  v910.toNat
def k0_dev47 (d4 : Dev nD) : Nat :=
  let c0_i32_809 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_808 : BitVec 32 := 1#32
  let v965 : BitVec 32 := Scalar.muli v18 c1_i32_808
  let v966 : BitVec 32 := Scalar.addi c0_i32_809 v965
  v966.toNat
def k0_dev48 (d4 : Dev nD) : Nat :=
  let c0_i32_812 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_811 : BitVec 32 := 1#32
  let v967 : BitVec 32 := Scalar.muli v29 c1_i32_811
  let v968 : BitVec 32 := Scalar.addi c0_i32_812 v967
  v968.toNat
@[reducible] def k0_t4_loop : Scf.Loop 32 :=
  let c4_i32_813 : BitVec 32 := 4#32
  let c2_i32_814 : BitVec 32 := 2#32
  let v969 : BitVec 32 := Scalar.addi c4_i32_813 c2_i32_814
  let c1_i32_815 : BitVec 32 := 1#32
  ⟨c4_i32_813, v969, c1_i32_815⟩
def k0_off29 (k0_t4 : Fin k0_t4_loop.trips) : Fin 1 → Nat :=
  let c4_i32_813 : BitVec 32 := 4#32
  let c1_i32_815 : BitVec 32 := 1#32
  let arg40 : BitVec 32 := Scf.iv c4_i32_813 c1_i32_815 k0_t4
  let c2_i32_860 : BitVec 32 := 2#32
  let c0_i32_861 : BitVec 32 := 0#32
  let v1021 : BitVec 1 := Scalar.cmpi .eq c2_i32_860 c0_i32_861
  let c1_i32_862 : BitVec 32 := 1#32
  let v1022 : BitVec 32 := Scalar.select v1021 c1_i32_862 c2_i32_860
  let v1023 : BitVec 32 := Scalar.remsi arg40 v1022
  let c0_i32_864 : BitVec 32 := 0#32
  let v1025 : BitVec 1 := Scalar.cmpi .slt v1023 c0_i32_864
  let c0_i32_865 : BitVec 32 := 0#32
  let v1026 : BitVec 1 := Scalar.cmpi .slt v1022 c0_i32_865
  let v1027 : BitVec 1 := Scalar.xori v1025 v1026
  let c0_i32_863 : BitVec 32 := 0#32
  let v1024 : BitVec 1 := Scalar.cmpi .ne v1023 c0_i32_863
  let v1028 : BitVec 1 := Scalar.andi v1027 v1024
  let v1029 : BitVec 32 := Scalar.addi v1023 v1022
  let v1030 : BitVec 32 := Scalar.select v1028 v1029 v1023
  ![v1030.toNat]
def k0_off30 (d4 : Dev nD) (k0_t4 : Fin k0_t4_loop.trips) (c0_i32_874 : BitVec 32) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_866 : BitVec 32 := 12#32
  let v1031 : BitVec 32 := Scalar.addi v6 c12_i32_866
  let c4_i32_813 : BitVec 32 := 4#32
  let c1_i32_815 : BitVec 32 := 1#32
  let arg40 : BitVec 32 := Scf.iv c4_i32_813 c1_i32_815 k0_t4
  let v1032 : BitVec 32 := Scalar.subi v1031 arg40
  let c4_i32_867 : BitVec 32 := 4#32
  let c0_i32_868 : BitVec 32 := 0#32
  let v1033 : BitVec 1 := Scalar.cmpi .eq c4_i32_867 c0_i32_868
  let c1_i32_869 : BitVec 32 := 1#32
  let v1034 : BitVec 32 := Scalar.select v1033 c1_i32_869 c4_i32_867
  let v1035 : BitVec 32 := Scalar.remsi v1032 v1034
  let c0_i32_871 : BitVec 32 := 0#32
  let v1037 : BitVec 1 := Scalar.cmpi .slt v1035 c0_i32_871
  let c0_i32_872 : BitVec 32 := 0#32
  let v1038 : BitVec 1 := Scalar.cmpi .slt v1034 c0_i32_872
  let v1039 : BitVec 1 := Scalar.xori v1037 v1038
  let c0_i32_870 : BitVec 32 := 0#32
  let v1036 : BitVec 1 := Scalar.cmpi .ne v1035 c0_i32_870
  let v1040 : BitVec 1 := Scalar.andi v1039 v1036
  let v1041 : BitVec 32 := Scalar.addi v1035 v1034
  let v1042 : BitVec 32 := Scalar.select v1040 v1041 v1035
  let c512_i32_873 : BitVec 32 := 512#32
  let v1043 : BitVec 32 := Scalar.muli v1042 c512_i32_873
  let v1044 : BitVec 32 := Scalar.addi v1043 c0_i32_874
  let c0_i32_886 : BitVec 32 := 0#32
  ![v1044.toNat, 0]
def k0_dev49 (d4 : Dev nD) : Nat :=
  let c0_i32_885 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_884 : BitVec 32 := 1#32
  let v1059 : BitVec 32 := Scalar.muli v29 c1_i32_884
  let v1060 : BitVec 32 := Scalar.addi c0_i32_885 v1059
  v1060.toNat
def k0_off31 (d4 : Dev nD) (k0_t4 : Fin k0_t4_loop.trips) (c0_i32_883 : BitVec 32) : Fin 2 → Nat :=
  let c2048_i32_882 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_813 : BitVec 32 := 4#32
  let c1_i32_815 : BitVec 32 := 1#32
  let arg40 : BitVec 32 := Scf.iv c4_i32_813 c1_i32_815 k0_t4
  let v1045 : BitVec 32 := Scalar.addi v6 arg40
  let c4_i32_875 : BitVec 32 := 4#32
  let c0_i32_876 : BitVec 32 := 0#32
  let v1046 : BitVec 1 := Scalar.cmpi .eq c4_i32_875 c0_i32_876
  let c1_i32_877 : BitVec 32 := 1#32
  let v1047 : BitVec 32 := Scalar.select v1046 c1_i32_877 c4_i32_875
  let v1048 : BitVec 32 := Scalar.remsi v1045 v1047
  let c0_i32_879 : BitVec 32 := 0#32
  let v1050 : BitVec 1 := Scalar.cmpi .slt v1048 c0_i32_879
  let c0_i32_880 : BitVec 32 := 0#32
  let v1051 : BitVec 1 := Scalar.cmpi .slt v1047 c0_i32_880
  let v1052 : BitVec 1 := Scalar.xori v1050 v1051
  let c0_i32_878 : BitVec 32 := 0#32
  let v1049 : BitVec 1 := Scalar.cmpi .ne v1048 c0_i32_878
  let v1053 : BitVec 1 := Scalar.andi v1052 v1049
  let v1054 : BitVec 32 := Scalar.addi v1048 v1047
  let v1055 : BitVec 32 := Scalar.select v1053 v1054 v1048
  let c512_i32_881 : BitVec 32 := 512#32
  let v1056 : BitVec 32 := Scalar.muli v1055 c512_i32_881
  let v1057 : BitVec 32 := Scalar.addi c2048_i32_882 v1056
  let v1058 : BitVec 32 := Scalar.addi v1057 c0_i32_883
  let c0_i32_890 : BitVec 32 := 0#32
  ![v1058.toNat, 0]
def k0_dev50 (d4 : Dev nD) : Nat :=
  let c0_i32_889 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_888 : BitVec 32 := 1#32
  let v1067 : BitVec 32 := Scalar.muli v18 c1_i32_888
  let v1068 : BitVec 32 := Scalar.addi c0_i32_889 v1067
  v1068.toNat
def k0_off32 (k0_t4 : Fin k0_t4_loop.trips) : Fin 1 → Nat :=
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let c2_i32_893 : BitVec 32 := 2#32
  let c0_i32_894 : BitVec 32 := 0#32
  let v1076 : BitVec 1 := Scalar.cmpi .eq c2_i32_893 c0_i32_894
  let c1_i32_895 : BitVec 32 := 1#32
  let v1077 : BitVec 32 := Scalar.select v1076 c1_i32_895 c2_i32_893
  let v1078 : BitVec 32 := Scalar.remsi v1075 v1077
  let c0_i32_897 : BitVec 32 := 0#32
  let v1080 : BitVec 1 := Scalar.cmpi .slt v1078 c0_i32_897
  let c0_i32_898 : BitVec 32 := 0#32
  let v1081 : BitVec 1 := Scalar.cmpi .slt v1077 c0_i32_898
  let v1082 : BitVec 1 := Scalar.xori v1080 v1081
  let c0_i32_896 : BitVec 32 := 0#32
  let v1079 : BitVec 1 := Scalar.cmpi .ne v1078 c0_i32_896
  let v1083 : BitVec 1 := Scalar.andi v1082 v1079
  let v1084 : BitVec 32 := Scalar.addi v1078 v1077
  let v1085 : BitVec 32 := Scalar.select v1083 v1084 v1078
  ![v1085.toNat]
def k0_off33 (d4 : Dev nD) (k0_t4 : Fin k0_t4_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_899 : BitVec 32 := 12#32
  let v1086 : BitVec 32 := Scalar.addi v6 c12_i32_899
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let v1087 : BitVec 32 := Scalar.subi v1086 v1075
  let c4_i32_900 : BitVec 32 := 4#32
  let c0_i32_901 : BitVec 32 := 0#32
  let v1088 : BitVec 1 := Scalar.cmpi .eq c4_i32_900 c0_i32_901
  let c1_i32_902 : BitVec 32 := 1#32
  let v1089 : BitVec 32 := Scalar.select v1088 c1_i32_902 c4_i32_900
  let v1090 : BitVec 32 := Scalar.remsi v1087 v1089
  let c0_i32_904 : BitVec 32 := 0#32
  let v1092 : BitVec 1 := Scalar.cmpi .slt v1090 c0_i32_904
  let c0_i32_905 : BitVec 32 := 0#32
  let v1093 : BitVec 1 := Scalar.cmpi .slt v1089 c0_i32_905
  let v1094 : BitVec 1 := Scalar.xori v1092 v1093
  let c0_i32_903 : BitVec 32 := 0#32
  let v1091 : BitVec 1 := Scalar.cmpi .ne v1090 c0_i32_903
  let v1095 : BitVec 1 := Scalar.andi v1094 v1091
  let v1096 : BitVec 32 := Scalar.addi v1090 v1089
  let v1097 : BitVec 32 := Scalar.select v1095 v1096 v1090
  let c512_i32_906 : BitVec 32 := 512#32
  let v1098 : BitVec 32 := Scalar.muli v1097 c512_i32_906
  let c384_i32_907 : BitVec 32 := 384#32
  let v1099 : BitVec 32 := Scalar.addi v1098 c384_i32_907
  let c0_i32_918 : BitVec 32 := 0#32
  ![v1099.toNat, 0]
def k0_off34 (d4 : Dev nD) (k0_t4 : Fin k0_t4_loop.trips) : Fin 2 → Nat :=
  let c2048_i32_915 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let v1100 : BitVec 32 := Scalar.addi v6 v1075
  let c4_i32_908 : BitVec 32 := 4#32
  let c0_i32_909 : BitVec 32 := 0#32
  let v1101 : BitVec 1 := Scalar.cmpi .eq c4_i32_908 c0_i32_909
  let c1_i32_910 : BitVec 32 := 1#32
  let v1102 : BitVec 32 := Scalar.select v1101 c1_i32_910 c4_i32_908
  let v1103 : BitVec 32 := Scalar.remsi v1100 v1102
  let c0_i32_912 : BitVec 32 := 0#32
  let v1105 : BitVec 1 := Scalar.cmpi .slt v1103 c0_i32_912
  let c0_i32_913 : BitVec 32 := 0#32
  let v1106 : BitVec 1 := Scalar.cmpi .slt v1102 c0_i32_913
  let v1107 : BitVec 1 := Scalar.xori v1105 v1106
  let c0_i32_911 : BitVec 32 := 0#32
  let v1104 : BitVec 1 := Scalar.cmpi .ne v1103 c0_i32_911
  let v1108 : BitVec 1 := Scalar.andi v1107 v1104
  let v1109 : BitVec 32 := Scalar.addi v1103 v1102
  let v1110 : BitVec 32 := Scalar.select v1108 v1109 v1103
  let c512_i32_914 : BitVec 32 := 512#32
  let v1111 : BitVec 32 := Scalar.muli v1110 c512_i32_914
  let v1112 : BitVec 32 := Scalar.addi c2048_i32_915 v1111
  let c384_i32_916 : BitVec 32 := 384#32
  let v1113 : BitVec 32 := Scalar.addi v1112 c384_i32_916
  let c0_i32_925 : BitVec 32 := 0#32
  ![v1113.toNat, 0]
def k0_cond14 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let c3_i32_937 : BitVec 32 := 3#32
  let v1144 : BitVec 1 := Scalar.cmpi .slt v1075 c3_i32_937
  let v1145 : BitVec 32 := Scalar.extui v1144
  let c0_i32_938 : BitVec 32 := 0#32
  let v1146 : BitVec 1 := Scalar.cmpi .ne v1145 c0_i32_938
  v1146

def k0_off35 (d4 : Dev nD) (k0_t4 : Fin k0_t4_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1187 : BitVec 32 := 12#32
  let v1543 : BitVec 32 := Scalar.addi v6 c12_i32_1187
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let v1544 : BitVec 32 := Scalar.subi v1543 v1075
  let c1_i32_1188 : BitVec 32 := 1#32
  let v1545 : BitVec 32 := Scalar.subi v1544 c1_i32_1188
  let c4_i32_1189 : BitVec 32 := 4#32
  let c0_i32_1190 : BitVec 32 := 0#32
  let v1546 : BitVec 1 := Scalar.cmpi .eq c4_i32_1189 c0_i32_1190
  let c1_i32_1191 : BitVec 32 := 1#32
  let v1547 : BitVec 32 := Scalar.select v1546 c1_i32_1191 c4_i32_1189
  let v1548 : BitVec 32 := Scalar.remsi v1545 v1547
  let c0_i32_1193 : BitVec 32 := 0#32
  let v1550 : BitVec 1 := Scalar.cmpi .slt v1548 c0_i32_1193
  let c0_i32_1194 : BitVec 32 := 0#32
  let v1551 : BitVec 1 := Scalar.cmpi .slt v1547 c0_i32_1194
  let v1552 : BitVec 1 := Scalar.xori v1550 v1551
  let c0_i32_1192 : BitVec 32 := 0#32
  let v1549 : BitVec 1 := Scalar.cmpi .ne v1548 c0_i32_1192
  let v1553 : BitVec 1 := Scalar.andi v1552 v1549
  let v1554 : BitVec 32 := Scalar.addi v1548 v1547
  let v1555 : BitVec 32 := Scalar.select v1553 v1554 v1548
  let c512_i32_1195 : BitVec 32 := 512#32
  let v1556 : BitVec 32 := Scalar.muli v1555 c512_i32_1195
  let c384_i32_1196 : BitVec 32 := 384#32
  let v1557 : BitVec 32 := Scalar.addi v1556 c384_i32_1196
  let v1573 : Index := Scalar.indexCast v1557
  let c0_1207 : Index := 0#32
  ![v1573.toNat, 0]
def k0_off36 (k0_t4 : Fin k0_t4_loop.trips) : Fin 3 → Nat :=
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let c2_i32_931 : BitVec 32 := 2#32
  let c0_i32_932 : BitVec 32 := 0#32
  let v1134 : BitVec 1 := Scalar.cmpi .eq c2_i32_931 c0_i32_932
  let c1_i32_933 : BitVec 32 := 1#32
  let v1135 : BitVec 32 := Scalar.select v1134 c1_i32_933 c2_i32_931
  let v1136 : BitVec 32 := Scalar.remsi v1075 v1135
  let c0_i32_935 : BitVec 32 := 0#32
  let v1138 : BitVec 1 := Scalar.cmpi .slt v1136 c0_i32_935
  let c0_i32_936 : BitVec 32 := 0#32
  let v1139 : BitVec 1 := Scalar.cmpi .slt v1135 c0_i32_936
  let v1140 : BitVec 1 := Scalar.xori v1138 v1139
  let c0_i32_934 : BitVec 32 := 0#32
  let v1137 : BitVec 1 := Scalar.cmpi .ne v1136 c0_i32_934
  let v1141 : BitVec 1 := Scalar.andi v1140 v1137
  let v1142 : BitVec 32 := Scalar.addi v1136 v1135
  let v1143 : BitVec 32 := Scalar.select v1141 v1142 v1136
  let v1576 : Index := Scalar.indexCast v1143
  let c0_1208 : Index := 0#32
  let c0_1209 : Index := 0#32
  ![v1576.toNat, 0, 0]
def k0_off37 (d4 : Dev nD) (k0_t4 : Fin k0_t4_loop.trips) : Fin 2 → Nat :=
  let c2048_i32_1205 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let v1558 : BitVec 32 := Scalar.addi v6 v1075
  let c1_i32_1197 : BitVec 32 := 1#32
  let v1559 : BitVec 32 := Scalar.addi v1558 c1_i32_1197
  let c4_i32_1198 : BitVec 32 := 4#32
  let c0_i32_1199 : BitVec 32 := 0#32
  let v1560 : BitVec 1 := Scalar.cmpi .eq c4_i32_1198 c0_i32_1199
  let c1_i32_1200 : BitVec 32 := 1#32
  let v1561 : BitVec 32 := Scalar.select v1560 c1_i32_1200 c4_i32_1198
  let v1562 : BitVec 32 := Scalar.remsi v1559 v1561
  let c0_i32_1202 : BitVec 32 := 0#32
  let v1564 : BitVec 1 := Scalar.cmpi .slt v1562 c0_i32_1202
  let c0_i32_1203 : BitVec 32 := 0#32
  let v1565 : BitVec 1 := Scalar.cmpi .slt v1561 c0_i32_1203
  let v1566 : BitVec 1 := Scalar.xori v1564 v1565
  let c0_i32_1201 : BitVec 32 := 0#32
  let v1563 : BitVec 1 := Scalar.cmpi .ne v1562 c0_i32_1201
  let v1567 : BitVec 1 := Scalar.andi v1566 v1563
  let v1568 : BitVec 32 := Scalar.addi v1562 v1561
  let v1569 : BitVec 32 := Scalar.select v1567 v1568 v1562
  let c512_i32_1204 : BitVec 32 := 512#32
  let v1570 : BitVec 32 := Scalar.muli v1569 c512_i32_1204
  let v1571 : BitVec 32 := Scalar.addi c2048_i32_1205 v1570
  let c384_i32_1206 : BitVec 32 := 384#32
  let v1572 : BitVec 32 := Scalar.addi v1571 c384_i32_1206
  let v1582 : Index := Scalar.indexCast v1572
  let c0_1211 : Index := 0#32
  ![v1582.toNat, 0]
def k0_cond15 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c1_i32_892 : BitVec 32 := 1#32
  let v1075 : BitVec 32 := Scalar.subi arg40 c1_i32_892
  let c4_i32_939 : BitVec 32 := 4#32
  let v1147 : BitVec 1 := Scalar.cmpi .slt v1075 c4_i32_939
  let v1148 : BitVec 32 := Scalar.extui v1147
  let c0_i32_940 : BitVec 32 := 0#32
  let v1149 : BitVec 1 := Scalar.cmpi .ne v1148 c0_i32_940
  v1149

def k0_dev51 (d4 : Dev nD) : Nat :=
  let c0_i32_1189 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1188 : BitVec 32 := 1#32
  let v1543 : BitVec 32 := Scalar.muli v18 c1_i32_1188
  let v1544 : BitVec 32 := Scalar.addi c0_i32_1189 v1543
  v1544.toNat
def k0_dev52 (d4 : Dev nD) : Nat :=
  let c0_i32_1192 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1191 : BitVec 32 := 1#32
  let v1545 : BitVec 32 := Scalar.muli v29 c1_i32_1191
  let v1546 : BitVec 32 := Scalar.addi c0_i32_1192 v1545
  v1546.toNat
def k0_dev53 (d4 : Dev nD) : Nat :=
  let c0_i32_968 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_967 : BitVec 32 := 1#32
  let v1191 : BitVec 32 := Scalar.muli v29 c1_i32_967
  let v1192 : BitVec 32 := Scalar.addi c0_i32_968 v1191
  v1192.toNat
def k0_dev54 (d4 : Dev nD) : Nat :=
  let c0_i32_972 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_971 : BitVec 32 := 1#32
  let v1199 : BitVec 32 := Scalar.muli v18 c1_i32_971
  let v1200 : BitVec 32 := Scalar.addi c0_i32_972 v1199
  v1200.toNat
def k0_cond17 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c3_i32_1019 : BitVec 32 := 3#32
  let v1275 : BitVec 1 := Scalar.cmpi .slt arg40 c3_i32_1019
  let v1276 : BitVec 32 := Scalar.extui v1275
  let c0_i32_1020 : BitVec 32 := 0#32
  let v1277 : BitVec 1 := Scalar.cmpi .ne v1276 c0_i32_1020
  v1277

def k0_off38 (d4 : Dev nD) (k0_t4 : Fin k0_t4_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1187 : BitVec 32 := 12#32
  let v1543 : BitVec 32 := Scalar.addi v6 c12_i32_1187
  let c4_i32_813 : BitVec 32 := 4#32
  let c1_i32_815 : BitVec 32 := 1#32
  let arg40 : BitVec 32 := Scf.iv c4_i32_813 c1_i32_815 k0_t4
  let v1544 : BitVec 32 := Scalar.subi v1543 arg40
  let c1_i32_1188 : BitVec 32 := 1#32
  let v1545 : BitVec 32 := Scalar.subi v1544 c1_i32_1188
  let c4_i32_1189 : BitVec 32 := 4#32
  let c0_i32_1190 : BitVec 32 := 0#32
  let v1546 : BitVec 1 := Scalar.cmpi .eq c4_i32_1189 c0_i32_1190
  let c1_i32_1191 : BitVec 32 := 1#32
  let v1547 : BitVec 32 := Scalar.select v1546 c1_i32_1191 c4_i32_1189
  let v1548 : BitVec 32 := Scalar.remsi v1545 v1547
  let c0_i32_1193 : BitVec 32 := 0#32
  let v1550 : BitVec 1 := Scalar.cmpi .slt v1548 c0_i32_1193
  let c0_i32_1194 : BitVec 32 := 0#32
  let v1551 : BitVec 1 := Scalar.cmpi .slt v1547 c0_i32_1194
  let v1552 : BitVec 1 := Scalar.xori v1550 v1551
  let c0_i32_1192 : BitVec 32 := 0#32
  let v1549 : BitVec 1 := Scalar.cmpi .ne v1548 c0_i32_1192
  let v1553 : BitVec 1 := Scalar.andi v1552 v1549
  let v1554 : BitVec 32 := Scalar.addi v1548 v1547
  let v1555 : BitVec 32 := Scalar.select v1553 v1554 v1548
  let c512_i32_1195 : BitVec 32 := 512#32
  let v1556 : BitVec 32 := Scalar.muli v1555 c512_i32_1195
  let c0_i32_1196 : BitVec 32 := 0#32
  let v1557 : BitVec 32 := Scalar.addi v1556 c0_i32_1196
  let v1573 : Index := Scalar.indexCast v1557
  let c0_1207 : Index := 0#32
  ![v1573.toNat, 0]
def k0_off39 (k0_t4 : Fin k0_t4_loop.trips) : Fin 3 → Nat :=
  let c4_i32_813 : BitVec 32 := 4#32
  let c1_i32_815 : BitVec 32 := 1#32
  let arg40 : BitVec 32 := Scf.iv c4_i32_813 c1_i32_815 k0_t4
  let c2_i32_1013 : BitVec 32 := 2#32
  let c0_i32_1014 : BitVec 32 := 0#32
  let v1265 : BitVec 1 := Scalar.cmpi .eq c2_i32_1013 c0_i32_1014
  let c1_i32_1015 : BitVec 32 := 1#32
  let v1266 : BitVec 32 := Scalar.select v1265 c1_i32_1015 c2_i32_1013
  let v1267 : BitVec 32 := Scalar.remsi arg40 v1266
  let c0_i32_1017 : BitVec 32 := 0#32
  let v1269 : BitVec 1 := Scalar.cmpi .slt v1267 c0_i32_1017
  let c0_i32_1018 : BitVec 32 := 0#32
  let v1270 : BitVec 1 := Scalar.cmpi .slt v1266 c0_i32_1018
  let v1271 : BitVec 1 := Scalar.xori v1269 v1270
  let c0_i32_1016 : BitVec 32 := 0#32
  let v1268 : BitVec 1 := Scalar.cmpi .ne v1267 c0_i32_1016
  let v1272 : BitVec 1 := Scalar.andi v1271 v1268
  let v1273 : BitVec 32 := Scalar.addi v1267 v1266
  let v1274 : BitVec 32 := Scalar.select v1272 v1273 v1267
  let v1576 : Index := Scalar.indexCast v1274
  let c0_1208 : Index := 0#32
  let c0_1209 : Index := 0#32
  ![v1576.toNat, 0, 0]
def k0_off40 (d4 : Dev nD) (k0_t4 : Fin k0_t4_loop.trips) : Fin 2 → Nat :=
  let c2048_i32_1205 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_813 : BitVec 32 := 4#32
  let c1_i32_815 : BitVec 32 := 1#32
  let arg40 : BitVec 32 := Scf.iv c4_i32_813 c1_i32_815 k0_t4
  let v1558 : BitVec 32 := Scalar.addi v6 arg40
  let c1_i32_1197 : BitVec 32 := 1#32
  let v1559 : BitVec 32 := Scalar.addi v1558 c1_i32_1197
  let c4_i32_1198 : BitVec 32 := 4#32
  let c0_i32_1199 : BitVec 32 := 0#32
  let v1560 : BitVec 1 := Scalar.cmpi .eq c4_i32_1198 c0_i32_1199
  let c1_i32_1200 : BitVec 32 := 1#32
  let v1561 : BitVec 32 := Scalar.select v1560 c1_i32_1200 c4_i32_1198
  let v1562 : BitVec 32 := Scalar.remsi v1559 v1561
  let c0_i32_1202 : BitVec 32 := 0#32
  let v1564 : BitVec 1 := Scalar.cmpi .slt v1562 c0_i32_1202
  let c0_i32_1203 : BitVec 32 := 0#32
  let v1565 : BitVec 1 := Scalar.cmpi .slt v1561 c0_i32_1203
  let v1566 : BitVec 1 := Scalar.xori v1564 v1565
  let c0_i32_1201 : BitVec 32 := 0#32
  let v1563 : BitVec 1 := Scalar.cmpi .ne v1562 c0_i32_1201
  let v1567 : BitVec 1 := Scalar.andi v1566 v1563
  let v1568 : BitVec 32 := Scalar.addi v1562 v1561
  let v1569 : BitVec 32 := Scalar.select v1567 v1568 v1562
  let c512_i32_1204 : BitVec 32 := 512#32
  let v1570 : BitVec 32 := Scalar.muli v1569 c512_i32_1204
  let v1571 : BitVec 32 := Scalar.addi c2048_i32_1205 v1570
  let c0_i32_1206 : BitVec 32 := 0#32
  let v1572 : BitVec 32 := Scalar.addi v1571 c0_i32_1206
  let v1582 : Index := Scalar.indexCast v1572
  let c0_1211 : Index := 0#32
  ![v1582.toNat, 0]
def k0_cond18 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c4_i32_1021 : BitVec 32 := 4#32
  let v1278 : BitVec 1 := Scalar.cmpi .slt arg40 c4_i32_1021
  let v1279 : BitVec 32 := Scalar.extui v1278
  let c0_i32_1022 : BitVec 32 := 0#32
  let v1280 : BitVec 1 := Scalar.cmpi .ne v1279 c0_i32_1022
  v1280

def k0_dev55 (d4 : Dev nD) : Nat :=
  let c0_i32_1189 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1188 : BitVec 32 := 1#32
  let v1543 : BitVec 32 := Scalar.muli v18 c1_i32_1188
  let v1544 : BitVec 32 := Scalar.addi c0_i32_1189 v1543
  v1544.toNat
def k0_dev56 (d4 : Dev nD) : Nat :=
  let c0_i32_1192 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1191 : BitVec 32 := 1#32
  let v1545 : BitVec 32 := Scalar.muli v29 c1_i32_1191
  let v1546 : BitVec 32 := Scalar.addi c0_i32_1192 v1545
  v1546.toNat
def k0_dev57 (d4 : Dev nD) : Nat :=
  let c0_i32_1050 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1049 : BitVec 32 := 1#32
  let v1322 : BitVec 32 := Scalar.muli v29 c1_i32_1049
  let v1323 : BitVec 32 := Scalar.addi c0_i32_1050 v1322
  v1323.toNat
def k0_dev58 (d4 : Dev nD) : Nat :=
  let c0_i32_1054 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1053 : BitVec 32 := 1#32
  let v1330 : BitVec 32 := Scalar.muli v18 c1_i32_1053
  let v1331 : BitVec 32 := Scalar.addi c0_i32_1054 v1330
  v1331.toNat
def k0_cond20 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c3_i32_1101 : BitVec 32 := 3#32
  let v1406 : BitVec 1 := Scalar.cmpi .slt arg40 c3_i32_1101
  let v1407 : BitVec 32 := Scalar.extui v1406
  let c0_i32_1102 : BitVec 32 := 0#32
  let v1408 : BitVec 1 := Scalar.cmpi .ne v1407 c0_i32_1102
  v1408

def k0_off41 (d4 : Dev nD) (k0_t4 : Fin k0_t4_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1187 : BitVec 32 := 12#32
  let v1543 : BitVec 32 := Scalar.addi v6 c12_i32_1187
  let c4_i32_813 : BitVec 32 := 4#32
  let c1_i32_815 : BitVec 32 := 1#32
  let arg40 : BitVec 32 := Scf.iv c4_i32_813 c1_i32_815 k0_t4
  let v1544 : BitVec 32 := Scalar.subi v1543 arg40
  let c1_i32_1188 : BitVec 32 := 1#32
  let v1545 : BitVec 32 := Scalar.subi v1544 c1_i32_1188
  let c4_i32_1189 : BitVec 32 := 4#32
  let c0_i32_1190 : BitVec 32 := 0#32
  let v1546 : BitVec 1 := Scalar.cmpi .eq c4_i32_1189 c0_i32_1190
  let c1_i32_1191 : BitVec 32 := 1#32
  let v1547 : BitVec 32 := Scalar.select v1546 c1_i32_1191 c4_i32_1189
  let v1548 : BitVec 32 := Scalar.remsi v1545 v1547
  let c0_i32_1193 : BitVec 32 := 0#32
  let v1550 : BitVec 1 := Scalar.cmpi .slt v1548 c0_i32_1193
  let c0_i32_1194 : BitVec 32 := 0#32
  let v1551 : BitVec 1 := Scalar.cmpi .slt v1547 c0_i32_1194
  let v1552 : BitVec 1 := Scalar.xori v1550 v1551
  let c0_i32_1192 : BitVec 32 := 0#32
  let v1549 : BitVec 1 := Scalar.cmpi .ne v1548 c0_i32_1192
  let v1553 : BitVec 1 := Scalar.andi v1552 v1549
  let v1554 : BitVec 32 := Scalar.addi v1548 v1547
  let v1555 : BitVec 32 := Scalar.select v1553 v1554 v1548
  let c512_i32_1195 : BitVec 32 := 512#32
  let v1556 : BitVec 32 := Scalar.muli v1555 c512_i32_1195
  let c128_i32_1196 : BitVec 32 := 128#32
  let v1557 : BitVec 32 := Scalar.addi v1556 c128_i32_1196
  let v1573 : Index := Scalar.indexCast v1557
  let c0_1207 : Index := 0#32
  ![v1573.toNat, 0]
def k0_off42 (k0_t4 : Fin k0_t4_loop.trips) : Fin 3 → Nat :=
  let c4_i32_813 : BitVec 32 := 4#32
  let c1_i32_815 : BitVec 32 := 1#32
  let arg40 : BitVec 32 := Scf.iv c4_i32_813 c1_i32_815 k0_t4
  let c2_i32_1095 : BitVec 32 := 2#32
  let c0_i32_1096 : BitVec 32 := 0#32
  let v1396 : BitVec 1 := Scalar.cmpi .eq c2_i32_1095 c0_i32_1096
  let c1_i32_1097 : BitVec 32 := 1#32
  let v1397 : BitVec 32 := Scalar.select v1396 c1_i32_1097 c2_i32_1095
  let v1398 : BitVec 32 := Scalar.remsi arg40 v1397
  let c0_i32_1099 : BitVec 32 := 0#32
  let v1400 : BitVec 1 := Scalar.cmpi .slt v1398 c0_i32_1099
  let c0_i32_1100 : BitVec 32 := 0#32
  let v1401 : BitVec 1 := Scalar.cmpi .slt v1397 c0_i32_1100
  let v1402 : BitVec 1 := Scalar.xori v1400 v1401
  let c0_i32_1098 : BitVec 32 := 0#32
  let v1399 : BitVec 1 := Scalar.cmpi .ne v1398 c0_i32_1098
  let v1403 : BitVec 1 := Scalar.andi v1402 v1399
  let v1404 : BitVec 32 := Scalar.addi v1398 v1397
  let v1405 : BitVec 32 := Scalar.select v1403 v1404 v1398
  let v1576 : Index := Scalar.indexCast v1405
  let c0_1208 : Index := 0#32
  let c0_1209 : Index := 0#32
  ![v1576.toNat, 0, 0]
def k0_off43 (d4 : Dev nD) (k0_t4 : Fin k0_t4_loop.trips) : Fin 2 → Nat :=
  let c2048_i32_1205 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_813 : BitVec 32 := 4#32
  let c1_i32_815 : BitVec 32 := 1#32
  let arg40 : BitVec 32 := Scf.iv c4_i32_813 c1_i32_815 k0_t4
  let v1558 : BitVec 32 := Scalar.addi v6 arg40
  let c1_i32_1197 : BitVec 32 := 1#32
  let v1559 : BitVec 32 := Scalar.addi v1558 c1_i32_1197
  let c4_i32_1198 : BitVec 32 := 4#32
  let c0_i32_1199 : BitVec 32 := 0#32
  let v1560 : BitVec 1 := Scalar.cmpi .eq c4_i32_1198 c0_i32_1199
  let c1_i32_1200 : BitVec 32 := 1#32
  let v1561 : BitVec 32 := Scalar.select v1560 c1_i32_1200 c4_i32_1198
  let v1562 : BitVec 32 := Scalar.remsi v1559 v1561
  let c0_i32_1202 : BitVec 32 := 0#32
  let v1564 : BitVec 1 := Scalar.cmpi .slt v1562 c0_i32_1202
  let c0_i32_1203 : BitVec 32 := 0#32
  let v1565 : BitVec 1 := Scalar.cmpi .slt v1561 c0_i32_1203
  let v1566 : BitVec 1 := Scalar.xori v1564 v1565
  let c0_i32_1201 : BitVec 32 := 0#32
  let v1563 : BitVec 1 := Scalar.cmpi .ne v1562 c0_i32_1201
  let v1567 : BitVec 1 := Scalar.andi v1566 v1563
  let v1568 : BitVec 32 := Scalar.addi v1562 v1561
  let v1569 : BitVec 32 := Scalar.select v1567 v1568 v1562
  let c512_i32_1204 : BitVec 32 := 512#32
  let v1570 : BitVec 32 := Scalar.muli v1569 c512_i32_1204
  let v1571 : BitVec 32 := Scalar.addi c2048_i32_1205 v1570
  let c128_i32_1206 : BitVec 32 := 128#32
  let v1572 : BitVec 32 := Scalar.addi v1571 c128_i32_1206
  let v1582 : Index := Scalar.indexCast v1572
  let c0_1211 : Index := 0#32
  ![v1582.toNat, 0]
def k0_cond21 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c4_i32_1103 : BitVec 32 := 4#32
  let v1409 : BitVec 1 := Scalar.cmpi .slt arg40 c4_i32_1103
  let v1410 : BitVec 32 := Scalar.extui v1409
  let c0_i32_1104 : BitVec 32 := 0#32
  let v1411 : BitVec 1 := Scalar.cmpi .ne v1410 c0_i32_1104
  v1411

def k0_dev59 (d4 : Dev nD) : Nat :=
  let c0_i32_1189 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1188 : BitVec 32 := 1#32
  let v1543 : BitVec 32 := Scalar.muli v18 c1_i32_1188
  let v1544 : BitVec 32 := Scalar.addi c0_i32_1189 v1543
  v1544.toNat
def k0_dev60 (d4 : Dev nD) : Nat :=
  let c0_i32_1192 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1191 : BitVec 32 := 1#32
  let v1545 : BitVec 32 := Scalar.muli v29 c1_i32_1191
  let v1546 : BitVec 32 := Scalar.addi c0_i32_1192 v1545
  v1546.toNat
def k0_dev61 (d4 : Dev nD) : Nat :=
  let c0_i32_1132 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1131 : BitVec 32 := 1#32
  let v1453 : BitVec 32 := Scalar.muli v29 c1_i32_1131
  let v1454 : BitVec 32 := Scalar.addi c0_i32_1132 v1453
  v1454.toNat
def k0_dev62 (d4 : Dev nD) : Nat :=
  let c0_i32_1136 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1135 : BitVec 32 := 1#32
  let v1461 : BitVec 32 := Scalar.muli v18 c1_i32_1135
  let v1462 : BitVec 32 := Scalar.addi c0_i32_1136 v1461
  v1462.toNat
def k0_cond23 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c3_i32_1183 : BitVec 32 := 3#32
  let v1537 : BitVec 1 := Scalar.cmpi .slt arg40 c3_i32_1183
  let v1538 : BitVec 32 := Scalar.extui v1537
  let c0_i32_1184 : BitVec 32 := 0#32
  let v1539 : BitVec 1 := Scalar.cmpi .ne v1538 c0_i32_1184
  v1539

def k0_off44 (d4 : Dev nD) (k0_t4 : Fin k0_t4_loop.trips) : Fin 2 → Nat :=
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c12_i32_1187 : BitVec 32 := 12#32
  let v1543 : BitVec 32 := Scalar.addi v6 c12_i32_1187
  let c4_i32_813 : BitVec 32 := 4#32
  let c1_i32_815 : BitVec 32 := 1#32
  let arg40 : BitVec 32 := Scf.iv c4_i32_813 c1_i32_815 k0_t4
  let v1544 : BitVec 32 := Scalar.subi v1543 arg40
  let c1_i32_1188 : BitVec 32 := 1#32
  let v1545 : BitVec 32 := Scalar.subi v1544 c1_i32_1188
  let c4_i32_1189 : BitVec 32 := 4#32
  let c0_i32_1190 : BitVec 32 := 0#32
  let v1546 : BitVec 1 := Scalar.cmpi .eq c4_i32_1189 c0_i32_1190
  let c1_i32_1191 : BitVec 32 := 1#32
  let v1547 : BitVec 32 := Scalar.select v1546 c1_i32_1191 c4_i32_1189
  let v1548 : BitVec 32 := Scalar.remsi v1545 v1547
  let c0_i32_1193 : BitVec 32 := 0#32
  let v1550 : BitVec 1 := Scalar.cmpi .slt v1548 c0_i32_1193
  let c0_i32_1194 : BitVec 32 := 0#32
  let v1551 : BitVec 1 := Scalar.cmpi .slt v1547 c0_i32_1194
  let v1552 : BitVec 1 := Scalar.xori v1550 v1551
  let c0_i32_1192 : BitVec 32 := 0#32
  let v1549 : BitVec 1 := Scalar.cmpi .ne v1548 c0_i32_1192
  let v1553 : BitVec 1 := Scalar.andi v1552 v1549
  let v1554 : BitVec 32 := Scalar.addi v1548 v1547
  let v1555 : BitVec 32 := Scalar.select v1553 v1554 v1548
  let c512_i32_1195 : BitVec 32 := 512#32
  let v1556 : BitVec 32 := Scalar.muli v1555 c512_i32_1195
  let c256_i32_1196 : BitVec 32 := 256#32
  let v1557 : BitVec 32 := Scalar.addi v1556 c256_i32_1196
  let v1573 : Index := Scalar.indexCast v1557
  let c0_1207 : Index := 0#32
  ![v1573.toNat, 0]
def k0_off45 (k0_t4 : Fin k0_t4_loop.trips) : Fin 3 → Nat :=
  let c4_i32_813 : BitVec 32 := 4#32
  let c1_i32_815 : BitVec 32 := 1#32
  let arg40 : BitVec 32 := Scf.iv c4_i32_813 c1_i32_815 k0_t4
  let c2_i32_1177 : BitVec 32 := 2#32
  let c0_i32_1178 : BitVec 32 := 0#32
  let v1527 : BitVec 1 := Scalar.cmpi .eq c2_i32_1177 c0_i32_1178
  let c1_i32_1179 : BitVec 32 := 1#32
  let v1528 : BitVec 32 := Scalar.select v1527 c1_i32_1179 c2_i32_1177
  let v1529 : BitVec 32 := Scalar.remsi arg40 v1528
  let c0_i32_1181 : BitVec 32 := 0#32
  let v1531 : BitVec 1 := Scalar.cmpi .slt v1529 c0_i32_1181
  let c0_i32_1182 : BitVec 32 := 0#32
  let v1532 : BitVec 1 := Scalar.cmpi .slt v1528 c0_i32_1182
  let v1533 : BitVec 1 := Scalar.xori v1531 v1532
  let c0_i32_1180 : BitVec 32 := 0#32
  let v1530 : BitVec 1 := Scalar.cmpi .ne v1529 c0_i32_1180
  let v1534 : BitVec 1 := Scalar.andi v1533 v1530
  let v1535 : BitVec 32 := Scalar.addi v1529 v1528
  let v1536 : BitVec 32 := Scalar.select v1534 v1535 v1529
  let v1576 : Index := Scalar.indexCast v1536
  let c0_1208 : Index := 0#32
  let c0_1209 : Index := 0#32
  ![v1576.toNat, 0, 0]
def k0_off46 (d4 : Dev nD) (k0_t4 : Fin k0_t4_loop.trips) : Fin 2 → Nat :=
  let c2048_i32_1205 : BitVec 32 := 2048#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_813 : BitVec 32 := 4#32
  let c1_i32_815 : BitVec 32 := 1#32
  let arg40 : BitVec 32 := Scf.iv c4_i32_813 c1_i32_815 k0_t4
  let v1558 : BitVec 32 := Scalar.addi v6 arg40
  let c1_i32_1197 : BitVec 32 := 1#32
  let v1559 : BitVec 32 := Scalar.addi v1558 c1_i32_1197
  let c4_i32_1198 : BitVec 32 := 4#32
  let c0_i32_1199 : BitVec 32 := 0#32
  let v1560 : BitVec 1 := Scalar.cmpi .eq c4_i32_1198 c0_i32_1199
  let c1_i32_1200 : BitVec 32 := 1#32
  let v1561 : BitVec 32 := Scalar.select v1560 c1_i32_1200 c4_i32_1198
  let v1562 : BitVec 32 := Scalar.remsi v1559 v1561
  let c0_i32_1202 : BitVec 32 := 0#32
  let v1564 : BitVec 1 := Scalar.cmpi .slt v1562 c0_i32_1202
  let c0_i32_1203 : BitVec 32 := 0#32
  let v1565 : BitVec 1 := Scalar.cmpi .slt v1561 c0_i32_1203
  let v1566 : BitVec 1 := Scalar.xori v1564 v1565
  let c0_i32_1201 : BitVec 32 := 0#32
  let v1563 : BitVec 1 := Scalar.cmpi .ne v1562 c0_i32_1201
  let v1567 : BitVec 1 := Scalar.andi v1566 v1563
  let v1568 : BitVec 32 := Scalar.addi v1562 v1561
  let v1569 : BitVec 32 := Scalar.select v1567 v1568 v1562
  let c512_i32_1204 : BitVec 32 := 512#32
  let v1570 : BitVec 32 := Scalar.muli v1569 c512_i32_1204
  let v1571 : BitVec 32 := Scalar.addi c2048_i32_1205 v1570
  let c256_i32_1206 : BitVec 32 := 256#32
  let v1572 : BitVec 32 := Scalar.addi v1571 c256_i32_1206
  let v1582 : Index := Scalar.indexCast v1572
  let c0_1211 : Index := 0#32
  ![v1582.toNat, 0]
def k0_cond24 (k0_t4 : Fin k0_t4_loop.trips) : BitVec 1 :=
  let c4_i32_813 : BitVec 32 := 4#32
  let c1_i32_815 : BitVec 32 := 1#32
  let arg40 : BitVec 32 := Scf.iv c4_i32_813 c1_i32_815 k0_t4
  let c4_i32_1185 : BitVec 32 := 4#32
  let v1540 : BitVec 1 := Scalar.cmpi .slt arg40 c4_i32_1185
  let v1541 : BitVec 32 := Scalar.extui v1540
  let c0_i32_1186 : BitVec 32 := 0#32
  let v1542 : BitVec 1 := Scalar.cmpi .ne v1541 c0_i32_1186
  v1542

def k0_dev63 (d4 : Dev nD) : Nat :=
  let c0_i32_1189 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c4_i32_1 : BitVec 32 := 4#32
  let v7 : BitVec 32 := Scalar.addi v6 c4_i32_1
  let c1_i32_2 : BitVec 32 := 1#32
  let v8 : BitVec 32 := Scalar.subi v7 c1_i32_2
  let c4_i32_3 : BitVec 32 := 4#32
  let c0_i32_4 : BitVec 32 := 0#32
  let v9 : BitVec 1 := Scalar.cmpi .eq c4_i32_3 c0_i32_4
  let c1_i32_5 : BitVec 32 := 1#32
  let v10 : BitVec 32 := Scalar.select v9 c1_i32_5 c4_i32_3
  let v11 : BitVec 32 := Scalar.remsi v8 v10
  let c0_i32_7 : BitVec 32 := 0#32
  let v13 : BitVec 1 := Scalar.cmpi .slt v11 c0_i32_7
  let c0_i32_8 : BitVec 32 := 0#32
  let v14 : BitVec 1 := Scalar.cmpi .slt v10 c0_i32_8
  let v15 : BitVec 1 := Scalar.xori v13 v14
  let c0_i32_6 : BitVec 32 := 0#32
  let v12 : BitVec 1 := Scalar.cmpi .ne v11 c0_i32_6
  let v16 : BitVec 1 := Scalar.andi v15 v12
  let v17 : BitVec 32 := Scalar.addi v11 v10
  let v18 : BitVec 32 := Scalar.select v16 v17 v11
  let c1_i32_1188 : BitVec 32 := 1#32
  let v1543 : BitVec 32 := Scalar.muli v18 c1_i32_1188
  let v1544 : BitVec 32 := Scalar.addi c0_i32_1189 v1543
  v1544.toNat
def k0_dev64 (d4 : Dev nD) : Nat :=
  let c0_i32_1192 : BitVec 32 := 0#32
  let v4 : BitVec 32 := Dev.word d4
  let c1_i32_0 : BitVec 32 := 1#32
  let v5 : BitVec 32 := Scalar.divsi v4 c1_i32_0
  let c4_i32 : BitVec 32 := 4#32
  let v6 : BitVec 32 := Scalar.remsi v5 c4_i32
  let c1_i32_9 : BitVec 32 := 1#32
  let v19 : BitVec 32 := Scalar.addi v6 c1_i32_9
  let c4_i32_10 : BitVec 32 := 4#32
  let c0_i32_11 : BitVec 32 := 0#32
  let v20 : BitVec 1 := Scalar.cmpi .eq c4_i32_10 c0_i32_11
  let c1_i32_12 : BitVec 32 := 1#32
  let v21 : BitVec 32 := Scalar.select v20 c1_i32_12 c4_i32_10
  let v22 : BitVec 32 := Scalar.remsi v19 v21
  let c0_i32_14 : BitVec 32 := 0#32
  let v24 : BitVec 1 := Scalar.cmpi .slt v22 c0_i32_14
  let c0_i32_15 : BitVec 32 := 0#32
  let v25 : BitVec 1 := Scalar.cmpi .slt v21 c0_i32_15
  let v26 : BitVec 1 := Scalar.xori v24 v25
  let c0_i32_13 : BitVec 32 := 0#32
  let v23 : BitVec 1 := Scalar.cmpi .ne v22 c0_i32_13
  let v27 : BitVec 1 := Scalar.andi v26 v23
  let v28 : BitVec 32 := Scalar.addi v22 v21
  let v29 : BitVec 32 := Scalar.select v27 v28 v22
  let c1_i32_1191 : BitVec 32 := 1#32
  let v1545 : BitVec 32 := Scalar.muli v29 c1_i32_1191
  let v1546 : BitVec 32 := Scalar.addi c0_i32_1192 v1545
  v1546.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Common.lean ====
/-
# The ring protocol of the fused matmul and all-reduce

Four devices stand on a ring. Each holds its own partial product, cut into two halves of rows (one for each ring
direction), four chunks per half and four lanes of 128 rows per chunk. Every lane runs the same six hops: three that
sum the partials (a reduce-scatter through a two-slot landing buffer) and three that hand the sums round (an all-gather
straight into the result buffer). A device that has freed the place of hop `j + 2` says so by a credit.

This module names the cells (semaphores), the payments in program order with their levels, the contents in flight,
and the schedule: what each payment hands to the device that waits for it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Release
public import Idealize.ShloMosaic.Lib.Memref
public import Idealize.ShloMosaic.Lib.VecWindow
public import Idealize.ShloMosaic.Lib.Tactic
public import Mathlib.Tactic.DeriveFintype

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra: the staging cells' rounds, the ring's rounds, the credits' releases -/

/-- The place a credit frees: of which device, in which direction and lane, by which credit. -/
abbrev Key : Type := Dev nD × Bool × Fin 4 × ℕ
abbrev UB : Type := URounds (GSem nD τ sig) ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-! ## The ring and its two directions (`false`: to the right neighbour, `true`: to the left) -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device that direction `b` sends to, -/
def tgt (b : Bool) (c : Dev nD) : Dev nD := if b then prv c else nxt c
/-- and the one it receives from. -/
def frm (b : Bool) (c : Dev nD) : Dev nD := if b then nxt c else prv c

theorem tgt_frm (b : Bool) (c : Dev nD) : tgt b (frm b c) = c := by revert b c; decide
theorem frm_tgt (b : Bool) (c : Dev nD) : frm b (tgt b c) = c := by revert b c; decide

def tgtEquiv (b : Bool) : Dev nD ≃ Dev nD := ⟨tgt b, frm b, frm_tgt b, tgt_frm b⟩
def frmEquiv (b : Bool) : Dev nD ≃ Dev nD := ⟨frm b, tgt b, tgt_frm b, frm_tgt b⟩

set_option backward.proofsInPublic true in
/-- The chunk device `c` sends at hop `h` in direction `b`. -/
def chunk (b : Bool) (c : Dev nD) (h : ℕ) : Fin 4 :=
  ⟨(c.val + (if b then h else 3 * h)) % 4, Nat.mod_lt _ (by decide)⟩

/-- What a device sends at a hop, its receiver sends at the next. -/
theorem chunk_tgt (b : Bool) (c : Dev nD) (h : ℕ) : chunk b (tgt b c) (h + 1) = chunk b c h := by
  apply Fin.ext
  obtain ⟨c, hc⟩ := c
  cases b <;> simp only [chunk, tgt, nxt, prv, Bool.false_eq_true, if_false, if_true] <;> omega
theorem chunk_frm (b : Bool) (c : Dev nD) (h : ℕ) : chunk b (frm b c) h = chunk b c (h + 1) := by
  have := chunk_tgt b (frm b c) h
  rw [tgt_frm] at this; exact this.symm
theorem chunk_add_four (b : Bool) (c : Dev nD) (h : ℕ) : chunk b c (h + 4) = chunk b c h := by
  apply Fin.ext
  cases b <;> simp only [chunk, Bool.false_eq_true, if_false, if_true] <;> omega

/-! ## The memrefs -/

abbrev oM : Memref sig .tc .vmem S4096x2048 .f32 := Memref.whole cc0_stg2_0
abbrev xM : Memref sig .tc .vmem S4096x1024 .i8 := Memref.whole cc0_scratch32
abbrev wM : Memref sig .tc .vmem S1024x2048 .i8 := Memref.whole cc0_scratch33
abbrev xA : Memref sig .tc .hbm S4096x1024 .i8 := Memref.whole main_arg0
abbrev wA : Memref sig .tc .hbm S1024x2048 .i8 := Memref.whole main_arg1

/-- The landing buffer of a lane. -/
def rM (b : Bool) (s : Fin 4) : Memref sig .tc .vmem S2x128x2048 .f32 :=
  match b, s with
  | false, ⟨0, _⟩ => Memref.whole cc0_scratch0
  | false, ⟨1, _⟩ => Memref.whole cc0_scratch1
  | false, ⟨2, _⟩ => Memref.whole cc0_scratch2
  | false, ⟨3, _⟩ => Memref.whole cc0_scratch3
  | true, ⟨0, _⟩ => Memref.whole cc0_scratch4
  | true, ⟨1, _⟩ => Memref.whole cc0_scratch5
  | true, ⟨2, _⟩ => Memref.whole cc0_scratch6
  | true, ⟨3, _⟩ => Memref.whole cc0_scratch7

/-- The first row of lane `s` of chunk `k` in the half of direction `b`. -/
def row (b : Bool) (k s : Fin 4) : ℕ := (if b then 2048 else 0) + 512 * k.val + 128 * s.val

theorem row_lt (b : Bool) (k s : Fin 4) : row b k s + 128 ≤ 4096 := by
  unfold row; cases b <;> simp only [Bool.false_eq_true, if_false, if_true] <;> omega

theorem row_inb (b : Bool) (k s : Fin 4) : ∀ a, (![row b k s, 0] : Fin 2 → ℕ) a + S128x2048.size a ≤ S4096x2048.size a := by
  intro a; have := row_lt b k s
  match a with
  | ⟨0, _⟩ => exact this
  | ⟨1, _⟩ => exact Nat.le_refl 2048

theorem slot_inb (q : Fin 2) : ∀ a, (![q.val, 0, 0] : Fin 3 → ℕ) a + S1x128x2048.size a ≤ S2x128x2048.size a := by
  revert q; decide

/-- The rows of the result a lane moves at once. -/
abbrev oblk (b : Bool) (k s : Fin 4) : Memref sig .tc .vmem S128x2048 .f32 :=
  oM.slice (Rect.unit (s := S4096x2048) ![row b k s, 0] S128x2048.size (row_inb b k s)) (fun _ => rfl)
/-- A slot of a landing buffer. -/
abbrev rslot (b : Bool) (s : Fin 4) (q : Fin 2) : Memref sig .tc .vmem S128x2048 .f32 :=
  ((rM b s).slice (Rect.unit (s := S2x128x2048) ![q.val, 0, 0] S1x128x2048.size (slot_inb q)) (fun _ => rfl)).squeeze
    S128x2048 squeezes_S1x128x2048_S128x2048

/-- The slot hop `h` uses. -/
def par (h : ℕ) : Fin 2 := ⟨h % 2, Nat.mod_lt _ (by decide)⟩

/-! ## The cells -/

inductive Cell where
  /-- the runtime's barrier semaphore -/
  | bar
  /-- a transfer's source has been read -/
  | send (b : Bool) (s : Fin 4) (q : Fin 2)
  /-- a transfer has landed -/
  | recv (b : Bool) (s : Fin 4) (q : Fin 2)
  /-- the credits of a lane -/
  | cred (b : Bool) (s : Fin 4)
  /-- the two copies of the operands -/
  | cp (i : Fin 2)
  deriving DecidableEq, Fintype

set_option backward.proofsInPublic true in
/-- The semaphore of a cell. -/
def csem : Cell → SemLoc sig
  | .bar => .reg ⟨8, by decide⟩
  | .send b s q => .dma ⟨3 + 8 * s.val + (if b then 4 else 0) + q.val, by revert b s q; decide⟩
  | .recv b s q => .dma ⟨5 + 8 * s.val + (if b then 4 else 0) + q.val, by revert b s q; decide⟩
  | .cred b s => .reg ⟨2 * s.val + (if b then 1 else 0), by revert b s; decide⟩
  | .cp i => .dma ⟨35 + i.val, by revert i; decide⟩

set_option backward.proofsInPublic true in
/-- The cell of a semaphore, if it is one of the ring's. -/
def dec : SemLoc sig → Option Cell
  | .reg q => if q.val = 8 then some .bar else some (.cred (decide (q.val % 2 = 1)) ⟨q.val / 2 % 4, Nat.mod_lt _ (by decide)⟩)
  | .dma q =>
    if q.val < 3 then none
    else if 35 ≤ q.val then some (.cp ⟨(q.val - 35) % 2, Nat.mod_lt _ (by decide)⟩)
    else if (q.val - 3) % 4 < 2 then
      some (.send (decide ((q.val - 3) % 8 / 4 = 1)) ⟨(q.val - 3) / 8 % 4, Nat.mod_lt _ (by decide)⟩ ⟨(q.val - 3) % 2, Nat.mod_lt _ (by decide)⟩)
    else
      some (.recv (decide ((q.val - 3) % 8 / 4 = 1)) ⟨(q.val - 3) / 8 % 4, Nat.mod_lt _ (by decide)⟩ ⟨(q.val - 3) % 2, Nat.mod_lt _ (by decide)⟩)

theorem dec_csem (k : Cell) : dec (csem k) = some k := by
  cases k with
  | bar => decide
  | send b s q => revert b s q; decide
  | recv b s q => revert b s q; decide
  | cred b s => revert b s; decide
  | cp i => revert i; decide

theorem csem_inj : Function.Injective csem := fun a b h =>
  Option.some.inj ((dec_csem a).symm.trans ((congrArg dec h).trans (dec_csem b)))

/-- A cell of device `c`. -/
abbrev cell (c : Dev nD) (k : Cell) : GSem nD τ sig := ((c : Thread nD τ), csem k)

theorem cell_inj {c c' : Dev nD} {k k' : Cell} (h : cell c k = cell c' k') : c = c' ∧ k = k' := by
  have h1 : (c : Thread nD τ) = (c' : Thread nD τ) := congrArg Prod.fst h
  exact ⟨congrArg Prod.fst h1, csem_inj (congrArg Prod.snd h)⟩

/-- The credit of a lane's transfer, and of the two operand copies. -/
abbrev NB : ℕ := (oblk false 0 0).view.dmaCredit
abbrev NX : ℕ := xM.view.dmaCredit
abbrev NW : ℕ := wM.view.dmaCredit
theorem NB_pos : 0 < NB := View.dmaCredit_pos _ (by decide)
theorem NX_pos : 0 < NX := View.dmaCredit_pos _ (by decide)
theorem NW_pos : 0 < NW := View.dmaCredit_pos _ (by decide)

theorem credit_oblk (b : Bool) (k s : Fin 4) : (oblk b k s).view.dmaCredit = NB := rfl
theorem credit_rslot (b : Bool) (s : Fin 4) (q : Fin 2) : (rslot b s q).view.dmaCredit = NB := by
  revert s; cases b <;> intro s <;> fin_cases s <;> rfl

/-! ## The payments, in program order -/

inductive Ev where
  /-- the barrier's signal to the device that sends here in direction `b` -/
  | bar (b : Bool)
  /-- the transfer of hop `h` -/
  | start (h : ℕ) (s : Fin 4) (b : Bool)
  /-- credit `j` -/
  | cred (j : ℕ) (s : Fin 4) (b : Bool)
  deriving DecidableEq

/-- The payments of a trip of the ring at hop `h`: each lane's transfer after the credits of the lane finished before it. -/
def hopEvs (h : ℕ) : List Ev :=
  [.start h 0 false, .start h 0 true, .cred (h - 1) 3 false, .cred (h - 1) 3 true,
   .start h 1 false, .start h 1 true, .cred h 0 false, .cred h 0 true,
   .start h 2 false, .start h 2 true, .cred h 1 false, .cred h 1 true,
   .start h 3 false, .start h 3 true, .cred h 2 false, .cred h 2 true]

def evs : List Ev :=
  [.bar false, .bar true,
   .start 0 0 false, .start 0 0 true, .start 0 1 false, .start 0 1 true,
   .start 0 2 false, .start 0 2 true, .start 0 3 false, .start 0 3 true,
   .cred 0 0 false, .cred 0 0 true, .cred 0 1 false, .cred 0 1 true, .cred 0 2 false, .cred 0 2 true]
  ++ hopEvs 1 ++ hopEvs 2 ++ hopEvs 3
  ++ [.start 4 0 false, .start 4 0 true, .cred 3 3 false, .cred 3 3 true, .start 4 1 false, .start 4 1 true,
      .start 4 2 false, .start 4 2 true, .start 4 3 false, .start 4 3 true,
      .start 5 0 false, .start 5 0 true, .start 5 1 false, .start 5 1 true,
      .start 5 2 false, .start 5 2 true, .start 5 3 false, .start 5 3 true]

theorem evs_nodup : evs.Nodup := by decide
theorem evs_length : evs.length = 82 := by decide

/-- The level of a payment: its place in program order, above the staging copies' level 0. -/
def lev (e : Ev) : ℕ := evs.idxOf e + 1

/-- Whom device `c` pays, -/
def Ev.dst (c : Dev nD) : Ev → Dev nD
  | .bar b => frm b c
  | .start _ _ b => tgt b c
  | .cred _ _ b => frm b c
/-- at which cell, -/
def Ev.cell : Ev → Cell
  | .bar _ => .bar
  | .start h s b => .recv b s (par h)
  | .cred _ s b => .cred b s
/-- and how much. -/
def Ev.amt : Ev → ℕ
  | .start _ _ _ => NB
  | _ => 1

def tal (c : Dev nD) (e : Ev) : CellTallies nD τ sig ℕ := tallyAt (cell (e.dst c) e.cell) (lev e) e.amt

/-- What device `c` still owes after its first `n` payments. -/
def Ow (c : Dev nD) (n : ℕ) : CellTallies nD τ sig ℕ := ((evs.drop n).map (tal c)).sum

theorem Ow_step (c : Dev nD) {n : ℕ} {e : Ev} (h : evs[n]? = some e) : Ow c n = Ow c (n + 1) + tal c e := by
  obtain ⟨hn, he⟩ := List.getElem?_eq_some_iff.mp h
  unfold Ow
  rw [List.drop_eq_getElem_cons hn, List.map_cons, List.sum_cons, he, add_comm]

theorem Ow_end (c : Dev nD) : Ow c 82 = 0 := by
  unfold Ow; rw [List.drop_of_length_le (by rw [evs_length]), List.map_nil, List.sum_nil]

theorem lev_of {n : ℕ} {e : Ev} (h : evs[n]? = some e) : lev e = n + 1 := by
  obtain ⟨hn, he⟩ := List.getElem?_eq_some_iff.mp h
  unfold lev; rw [← he, List.Nodup.idxOf_getElem evs_nodup]

theorem sum_pos {l : List (CellTallies nD τ sig ℕ)} {g : GSem nD τ sig} {u : ℕ} (h : 0 < l.sum g u) : ∃ t ∈ l, 0 < t g u := by
  induction l with
  | nil => exact absurd h (Nat.lt_irrefl 0)
  | cons t l ih =>
    rw [List.sum_cons, Pi.add_apply, Finsupp.add_apply] at h
    by_cases ht : 0 < t g u
    · exact ⟨t, List.mem_cons_self, ht⟩
    · obtain ⟨t', h', hp⟩ := ih (by omega)
      exact ⟨t', List.mem_cons_of_mem _ h', hp⟩

/-- What is owed after `n` payments is owed at a level above `n`, to a TensorCore's cell. -/
theorem Ow_pos {c : Dev nD} {n : ℕ} {g : GSem nD τ sig} {u : ℕ} (h : 0 < Ow c n g u) : n < u ∧ u ≤ 82 ∧ g.1.2 = .tc := by
  obtain ⟨t, ht, hp⟩ := sum_pos h
  obtain ⟨e, he, rfl⟩ := List.mem_map.mp ht
  obtain ⟨i, hi, rfl⟩ := List.mem_iff_getElem.mp he
  rw [List.getElem_drop] at hp
  have hlen : i < 82 - n := by rw [List.length_drop, evs_length] at hi; exact hi
  have hn : n + i < evs.length := by rw [evs_length]; omega
  unfold tal at hp
  rw [tallyAt_apply] at hp
  by_cases hg : g = cell (evs[n + i].dst c) evs[n + i].cell ∧ u = lev evs[n + i]
  · have hl : lev evs[n + i] = n + i + 1 := lev_of (List.getElem?_eq_getElem hn)
    refine ⟨by rw [hg.2, hl]; omega, by rw [hg.2, hl]; omega, by rw [hg.1]⟩
  · rw [if_neg hg] at hp; exact absurd hp (Nat.lt_irrefl 0)

/-- The levels a TensorCore's cell is accounted at; a payment's level is its index. -/
def L (g : GSem nD τ sig) : Finset ℕ := if g.1.2 = .tc then Finset.range 83 else ∅
def lv (_ : GSem nD τ sig) (u : ℕ) : ℕ := u

theorem L_of_ne (g : GSem nD τ sig) (h : g.1.2 ≠ .tc) : L g = ∅ := if_neg h
theorem L_tc (c : Dev nD) (sm : SemLoc sig) : L ((c : Thread nD τ), sm) = Finset.range 83 := if_pos rfl

omit [FloatOps F] in
/-- A device may wait at any level it has paid past. -/
theorem mayWait (c : Dev nD) (sm : SemLoc sig) {u n : ℕ} (hu : u ≤ n) (hn : n ≤ 82) :
    (levAts L lv : sProp 𝕄) ⊢ MayWait (c : Thread nD τ) sm u (Ow c n) :=
  MayOwe.of_cut (L := L) (lev := lv) n
    (fun p hp => by rw [Finset.mem_singleton.mp hp, L_tc]; exact Finset.mem_range.mpr (by omega))
    (fun g w hg => by
      obtain ⟨h1, h2, h3⟩ := Ow_pos hg
      unfold L; rw [if_pos h3]; exact Finset.mem_range.mpr (by omega))
    (fun p hp => by rw [Finset.mem_singleton.mp hp]; exact hu)
    (fun g w hg => (Ow_pos hg).1)

/-! ## Contents -/

/-- What the ring moves: the operands' blocks each device holds, and its own product, lane by lane. -/
structure Data (F : FTy → Type) where
  X : Dev nD → S4096x1024.Idx → Elt F .i8
  W : Dev nD → S1024x2048.Idx → Elt F .i8
  P : Dev nD → Bool → Fin 4 → Fin 4 → Vec F S128x2048 .f32

/-- What device `c` sends at hop `h` in lane `s` of direction `b`: its own product of the chunk, then the running sum with
    its own product added, and from hop 4 what it was handed. -/
def sent (D : Data F) (b : Bool) (s : Fin 4) : ℕ → Dev nD → Vec F S128x2048 .f32
  | 0, c => D.P c b (chunk b c 0) s
  | h + 1, c => if h < 3 then addf (D.P c b (chunk b c (h + 1)) s) (sent D b s h (frm b c)) else sent D b s h (frm b c)

abbrev own (c : Dev nD) {sp : Space} {sh : Shape} {e : EltTy} (M : Memref sig .tc sp sh e) (X : sh.Idx → Elt F e) : sProp 𝕄 :=
  owns (c : Thread nD τ) M fullShare X

/-! ## The schedule -/

/-- The place on device `n` that hop `h` writes, to hand to the writer: with the fact that the landing cell has
    reached the hop's round. -/
def place (n : Dev nD) (b : Bool) (s : Fin 4) (h : ℕ) : sProp 𝕄 :=
  iprop((if h < 3 then (∃ X, own n (rslot b s (par h)) X) else (∃ X, own n (oblk b (chunk b n (h + 1)) s) X))
    ∗ reached ER (cell n (.recv b s (par h))) (h / 2))

/-- The place credit `j` of a lane frees: that of hop `j + 2`. -/
def slotRes (k : Key) : sProp 𝕄 := place (F := F) k.1 k.2.1 k.2.2.1 (k.2.2.2 + 2)

/-- What the signal of direction `b` hands device `c`: the places of hops 0 and 1 on the device it sends to. -/
def barPay (c : Dev nD) (b : Bool) : sProp 𝕄 :=
  bigSep Finset.univ fun s : Fin 4 => iprop(place (F := F) (tgt b c) b s 0 ∗ place (F := F) (tgt b c) b s 1)

/-- What the source's end of hop `h` gives back: the rows sent. -/
def sendPay (D : Data F) (c : Dev nD) (b : Bool) (s : Fin 4) (h : ℕ) : sProp 𝕄 :=
  own c (oblk b (chunk b c h) s) (sent D b s h c)
/-- What the landing of hop `h` gives device `c`. -/
def recvPay (D : Data F) (c : Dev nD) (b : Bool) (s : Fin 4) (h : ℕ) : sProp 𝕄 :=
  if h < 3 then own c (rslot b s (par h)) (sent D b s h (frm b c))
  else own c (oblk b (chunk b c (h + 1)) s) (sent D b s h (frm b c))
/-- What credit `j` tells device `c`: that the places of the credits up to `j` have been freed. -/
def credPay (c : Dev nD) (b : Bool) (s : Fin 4) (j : ℕ) : sProp 𝕄 :=
  bigSep (Finset.range (j + 1)) fun i => released ES ((tgt b c, b, s, i) : Key) 1
/-- What a copy of an operand gives: the copy and the original back. -/
def cpPay (D : Data F) (c : Dev nD) (i : Fin 2) : sProp 𝕄 :=
  if i = 0 then iprop(own c xM (D.X c) ∗ own c xA (D.X c)) else iprop(own c wM (D.W c) ∗ own c wA (D.W c))

def dutiesOf (r : ℕ) : Option Cell → Finset ℕ
  | some .bar => if r = 0 then {0, 1} else ∅
  | some (.send _ _ _) => if r < 3 then {0} else ∅
  | some (.recv _ _ _) => if r < 3 then {0} else ∅
  | some (.cred _ _) => if r = 0 then Finset.range 4 else ∅
  | some (.cp _) => if r = 0 then {0} else ∅
  | none => ∅

def amountOf : Option Cell → ℕ
  | some (.send _ _ _) => NB
  | some (.recv _ _ _) => NB
  | some (.cp i) => if i = 0 then NX else NW
  | _ => 1

theorem amountOf_pos (k : Option Cell) : 0 < amountOf k := by
  rcases k with _ | (_ | ⟨b, s, q⟩ | ⟨b, s, q⟩ | ⟨b, s⟩ | i)
  · exact Nat.one_pos
  · exact Nat.one_pos
  · exact NB_pos
  · exact NB_pos
  · exact Nat.one_pos
  · show 0 < if i = 0 then NX else NW
    split; exacts [NX_pos, NW_pos]

def payOf (D : Data F) (c : Dev nD) (r d : ℕ) : Option Cell → sProp 𝕄
  | some .bar => barPay (F := F) c (decide (d = 1))
  | some (.send b s q) => sendPay D c b s (2 * r + q.val)
  | some (.recv b s q) => recvPay D c b s (2 * r + q.val)
  | some (.cred b s) => credPay (F := F) c b s d
  | some (.cp i) => cpPay D c i
  | none => iprop(emp)

def Rd (D : Data F) : Rounds.Schedule (GSem nD τ sig) ℕ 𝕄 where
  duties g r := dutiesOf r (dec g.2)
  unitless _ := False
  amount g _ _ := amountOf (dec g.2)
  payload g r d := payOf D g.1.1 r d (dec g.2)
  amount_pos g _ _ _ := amountOf_pos _

end Cert.RingProof

end
-- ==== Proof.Sched.lean ====
/-
# The schedule at each cell, and the protocol's steps

What a cell's round expects and hands over, and for each step of the ring (a transfer, a wait, a credit) what a lane
gives and what it comes back with.
-/
module

public import proofs.«01_k».proof.Proof.Common
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## The payloads may be kept in invariants -/

omit [FloatOps F] in
instance place_storable (n : Dev nD) (b : Bool) (s : Fin 4) (h : ℕ) :
    BI.Storable (upEmb : UEmb _ 𝕄) (place (F := F) n b s h) := by
  unfold place; split <;> infer_instance

omit [FloatOps F] in
instance slotRes_storable (k : Key) : BI.Storable (upEmb : UEmb _ 𝕄) (slotRes (F := F) k) := by
  unfold slotRes; infer_instance

instance payOf_storable (D : Data F) (c : Dev nD) (r d : ℕ) (k : Option Cell) :
    BI.Storable (upEmb : UEmb _ 𝕄) (payOf D c r d k) := by
  rcases k with _ | (_ | ⟨b, s, q⟩ | ⟨b, s, q⟩ | ⟨b, s⟩ | i)
  · show BI.Storable (upEmb : UEmb _ 𝕄) iprop(emp); infer_instance
  · show BI.Storable (upEmb : UEmb _ 𝕄) (barPay (F := F) c _); unfold barPay; infer_instance
  · show BI.Storable (upEmb : UEmb _ 𝕄) (sendPay D c b s _); unfold sendPay; infer_instance
  · show BI.Storable (upEmb : UEmb _ 𝕄) (recvPay D c b s _); unfold recvPay; split <;> infer_instance
  · show BI.Storable (upEmb : UEmb _ 𝕄) (credPay (F := F) c b s _); unfold credPay; infer_instance
  · show BI.Storable (upEmb : UEmb _ 𝕄) (cpPay D c i); unfold cpPay; split <;> infer_instance

instance Rd_payload_storable (D : Data F) (g : GSem nD τ sig) (r d : ℕ) :
    BI.Storable (upEmb : UEmb _ 𝕄) ((Rd D).payload g r d) := payOf_storable D _ _ _ _

/-! ## The schedule at a cell -/

section Sched
variable (D : Data F) (c : Dev nD) (b : Bool) (s : Fin 4) (q : Fin 2)

theorem duties_cell (k : Cell) (r : ℕ) : (Rd D).duties (cell c k) r = dutiesOf r (some k) := by
  show dutiesOf r (dec (csem k)) = _; rw [dec_csem]
theorem amount_cell (k : Cell) (r d : ℕ) : (Rd D).amount (cell c k) r d = amountOf (some k) := by
  show amountOf (dec (csem k)) = _; rw [dec_csem]
theorem payload_cell (k : Cell) (r d : ℕ) : (Rd D).payload (cell c k) r d = payOf D c r d (some k) := by
  show payOf D c r d (dec (csem k)) = _; rw [dec_csem]
theorem expect_cell (k : Cell) (r : ℕ) :
    (Rd D).expect (cell c k) r = (dutiesOf r (some k)).card * amountOf (some k) := by
  unfold Schedule.expect Schedule.amountOf
  rw [Finset.sum_congr rfl fun d _ => amount_cell D c k r d, Finset.sum_const, smul_eq_mul, duties_cell]

theorem duties_send {r : ℕ} (hr : r < 3) : (Rd D).duties (cell c (.send b s q)) r = {0} := by
  rw [duties_cell]; exact if_pos hr
theorem duties_recv {r : ℕ} (hr : r < 3) : (Rd D).duties (cell c (.recv b s q)) r = {0} := by
  rw [duties_cell]; exact if_pos hr
theorem duties_cred : (Rd D).duties (cell c (.cred b s)) 0 = Finset.range 4 := by rw [duties_cell]; rfl
theorem duties_bar : (Rd D).duties (cell c .bar) 0 = {0, 1} := by rw [duties_cell]; rfl
theorem duties_cp (i : Fin 2) : (Rd D).duties (cell c (.cp i)) 0 = {0} := by rw [duties_cell]; rfl

/-- No cell has a duty past round 2. -/
theorem duties_later (k : Cell) : ∀ r, 3 ≤ r → (Rd D).duties (cell c k) r = ∅ := fun r hr => by
  rw [duties_cell]
  rcases k with _ | ⟨b, s, q⟩ | ⟨b, s, q⟩ | ⟨b, s⟩ | i <;> exact if_neg (by omega)
theorem duties_cred_later : ∀ r, 1 ≤ r → (Rd D).duties (cell c (.cred b s)) r = ∅ := fun r hr => by
  rw [duties_cell]; exact if_neg (by omega)
theorem duties_bar_later : ∀ r, 1 ≤ r → (Rd D).duties (cell c .bar) r = ∅ := fun r hr => by
  rw [duties_cell]; exact if_neg (by omega)
theorem duties_cp_later (i : Fin 2) : ∀ r, 1 ≤ r → (Rd D).duties (cell c (.cp i)) r = ∅ := fun r hr => by
  rw [duties_cell]; exact if_neg (by omega)

theorem expect_send {r : ℕ} (hr : r < 3) : (Rd D).expect (cell c (.send b s q)) r = NB := by
  rw [expect_cell, ← duties_cell D c, duties_send D c b s q hr, Finset.card_singleton, Nat.one_mul]; rfl
theorem expect_recv {r : ℕ} (hr : r < 3) : (Rd D).expect (cell c (.recv b s q)) r = NB := by
  rw [expect_cell, ← duties_cell D c, duties_recv D c b s q hr, Finset.card_singleton, Nat.one_mul]; rfl
theorem expect_cred : (Rd D).expect (cell c (.cred b s)) 0 = 4 := by rw [expect_cell]; rfl
theorem expect_bar : (Rd D).expect (cell c .bar) 0 = 2 := by rw [expect_cell]; rfl
theorem expect_cp (i : Fin 2) : (Rd D).expect (cell c (.cp i)) 0 = amountOf (some (.cp i)) := by
  rw [expect_cell, ← duties_cell D c, duties_cp, Finset.card_singleton, Nat.one_mul]

theorem payload_send (r d : ℕ) : (Rd D).payload (cell c (.send b s q)) r d = sendPay D c b s (2 * r + q.val) := payload_cell D c _ r d
theorem payload_recv (r d : ℕ) : (Rd D).payload (cell c (.recv b s q)) r d = recvPay D c b s (2 * r + q.val) := payload_cell D c _ r d
theorem payload_cred (r d : ℕ) : (Rd D).payload (cell c (.cred b s)) r d = credPay (F := F) c b s d := payload_cell D c _ r d
theorem payload_bar (r d : ℕ) : (Rd D).payload (cell c .bar) r d = barPay (F := F) c (decide (d = 1)) := payload_cell D c _ r d
theorem payload_cp (i : Fin 2) (r d : ℕ) : (Rd D).payload (cell c (.cp i)) r d = cpPay D c i := payload_cell D c _ r d

theorem par_val (h : ℕ) : 2 * (h / 2) + (par h).val = h := by show 2 * (h / 2) + h % 2 = h; omega

end Sched

/-! ## A device's records and debts -/

abbrev 𝒱₀ : Variants := Variants.none

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The places credits free, one per device, direction, lane and credit. -/
def keys : Finset Key := Finset.univ ×ˢ Finset.univ ×ˢ Finset.univ ×ˢ Finset.range 4

/-- The invariants of every cell and every place, the levels, and that every cell has reached its first round: what every
    device's steps are taken under. -/
def recs (D : Data F) (K : Dev nD × Cell → ℕ) (Ks : Key → ℕ) : sProp 𝕄 :=
  iprop((bigSep Finset.univ fun x : Dev nD × Cell => cellInv ER (Rd D) (K x) (cell x.1 x.2))
    ∗ (bigSep keys fun k => slotInv ES (Ks k) k (slotRes (F := F) k))
    ∗ levAts L lv
    ∗ (bigSep Finset.univ fun x : Dev nD × Cell => reached ER (cell x.1 x.2) 0))

instance recs_persistent (D : Data F) (K : Dev nD × Cell → ℕ) (Ks : Key → ℕ) : BI.Persistent (recs D K Ks) := by
  unfold recs; infer_instance

/-- Device `c` owes what is left after its first `n` payments. -/
def owesE (c : Dev nD) (n : ℕ) : sProp 𝕄 := iprop(∃ W, owes (c : Thread nD τ) (Ow c n) W)

theorem bigSep_take {M : Type _} [URA M] {I : Type} [DecidableEq I] {s : Finset I} {a : I} (ha : a ∈ s) (Φ : I → sProp M) :
    bigSep s Φ = iprop(Φ a ∗ bigSep (s.erase a) Φ) := bigSep_erase ha

section Recs
variable (D : Data F) (K : Dev nD × Cell → ℕ) (Ks : Key → ℕ)

theorem recs_cell (c : Dev nD) (k : Cell) : recs D K Ks ⊢ cellInv ER (Rd D) (K (c, k)) (cell c k) := by
  unfold recs
  iintro ⟨#H, -, -⟩
  ihave H' := (Entails.of_eq (bigSep_take (Finset.mem_univ (c, k)) _)) $$ H
  icases H' with ⟨H', -⟩
  iexact H'
theorem recs_slot {k : Key} (hk : k ∈ keys) : recs D K Ks ⊢ slotInv ES (Ks k) k (slotRes (F := F) k) := by
  unfold recs
  iintro ⟨-, #H, -⟩
  ihave H' := (Entails.of_eq (bigSep_take hk _)) $$ H
  icases H' with ⟨H', -⟩
  iexact H'
theorem recs_lev : recs D K Ks ⊢ levAts L lv := by
  unfold recs
  iintro ⟨-, -, H, -⟩
  iexact H
theorem recs_reached (c : Dev nD) (k : Cell) : recs D K Ks ⊢ reached ER (cell c k) 0 := by
  unfold recs
  iintro ⟨-, -, -, #H⟩
  ihave H' := (Entails.of_eq (bigSep_take (Finset.mem_univ (c, k)) _)) $$ H
  icases H' with ⟨H', -⟩
  iexact H'
theorem recs_mayWait (c : Dev nD) (sm : SemLoc sig) {u n : ℕ} (hu : u ≤ n) (hn : n ≤ 82) :
    recs D K Ks ⊢ MayWait (c : Thread nD τ) sm u (Ow c n) := (recs_lev D K Ks).trans (mayWait c sm hu hn)

end Recs

/-! ## What a lane holds of the protocol

By counts: `ns` transfers started, `nw` of their sources read, `nr` landed, `ng` credits given, `nt` taken. -/

section Lane
variable (c : Dev nD) (b : Bool) (s : Fin 4)

/-- The right to start the transfers from `ns` on. -/
def tStart (ns : ℕ) : sProp 𝕄 :=
  bigSep (Finset.Ico ns 6) fun h => iprop(dutyTok ER (cell c (.send b s (par h))) (h / 2) 0
    ∗ dutyTok ER (cell (tgt b c) (.recv b s (par h))) (h / 2) 0)
/-- What device `c` is owed for the landings from `nr` on. -/
def tLand (nr : ℕ) : sProp 𝕄 :=
  bigSep (Finset.Ico nr 6) fun h => cred (tallyAt (cell c (.recv b s (par h))) (lev (.start h s b)) NB)
/-- The right to give the credits from `ng` on. -/
def tGive (ng : ℕ) : sProp 𝕄 :=
  bigSep (Finset.Ico ng 4) fun j => iprop(dutyTok ER (cell (frm b c) (.cred b s)) 0 j ∗ readerAt ES ((c, b, s, j) : Key) 0)
/-- The right to take the credits from `nt` on. -/
def tTake (nt : ℕ) : sProp 𝕄 :=
  bigSep (Finset.Ico nt 4) fun j => iprop(cred (tallyAt (cell c (.cred b s)) (lev (.cred j s b)) 1)
    ∗ writeTok ES ((tgt b c, b, s, j) : Key) 1)

/-- Where a cell stands. -/
def at' (k : Cell) (r : ℕ) : sProp 𝕄 := iprop(atPos ER (cell c k) r ∅ 0 ∗ reached ER (cell c k) r)
def sentAt (nw : ℕ) : sProp 𝕄 := iprop(at' (F := F) c (.send b s 0) ((nw + 1) / 2) ∗ at' (F := F) c (.send b s 1) (nw / 2))
def landAt (nr : ℕ) : sProp 𝕄 := iprop(at' (F := F) c (.recv b s 0) ((nr + 1) / 2) ∗ at' (F := F) c (.recv b s 1) (nr / 2))
/-- Where the credits' cell stands, with what has been heard. -/
def credAt (nt : ℕ) : sProp 𝕄 :=
  if nt < 4 then iprop(∃ T : Finset ℕ, ⌜T ⊆ Finset.range 4⌝ ∗ atPos ER (cell c (.cred b s)) 0 T nt
    ∗ bigSep T fun j => credPay (F := F) c b s j)
  else atPos ER (cell c (.cred b s)) 1 ∅ 0

end Lane

end Cert.RingProof

end
-- ==== Proof.Steps.lean ====
/-
# The protocol's steps

One theorem for each kind of effect of the ring: a transfer, the wait for its source, the wait for its landing, a credit
given, a credit taken. Each is stated at any lane and hop, over what a lane holds of the protocol.
-/
module

public import proofs.«01_k».proof.Proof.Sched

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Dev nD × Cell → ℕ) (Ks : Key → ℕ)

/-! ## Where the two slots' cells stand, one transfer on -/

section Slots
variable (c : Dev nD) (b : Bool) (s : Fin 4)

/-- The slot of the next wait taken out, to be put back one round on. -/
theorem sentAt_step (n : ℕ) : (sentAt c b s n : sProp 𝕄)
    ⊢ iprop(at' c (.send b s (par n)) (n / 2) ∗ (at' c (.send b s (par n)) (n / 2 + 1) -∗ sentAt c b s (n + 1))) := by
  unfold sentAt
  rcases Nat.even_or_odd' n with ⟨k, rfl | rfl⟩
  · have hp : par (2 * k) = 0 := Fin.ext (by show 2 * k % 2 = 0; omega)
    rw [hp, show (2 * k + 1) / 2 = k by omega, show 2 * k / 2 = k by omega, show (2 * k + 1 + 1) / 2 = k + 1 by omega]
    iintro ⟨H0, H1⟩
    isplitl [H0]; · iexact H0
    iintro H0; isplitl [H0] <;> iassumption
  · have hp : par (2 * k + 1) = 1 := Fin.ext (by show (2 * k + 1) % 2 = 1; omega)
    rw [hp, show (2 * k + 1) / 2 = k by omega, show (2 * k + 1 + 1) / 2 = k + 1 by omega, show (2 * k + 1 + 1 + 1) / 2 = k + 1 by omega]
    iintro ⟨H0, H1⟩
    isplitl [H1]; · iexact H1
    iintro H1; isplitl [H0] <;> iassumption

theorem landAt_step (n : ℕ) : (landAt c b s n : sProp 𝕄)
    ⊢ iprop(at' c (.recv b s (par n)) (n / 2) ∗ (at' c (.recv b s (par n)) (n / 2 + 1) -∗ landAt c b s (n + 1))) := by
  unfold landAt
  rcases Nat.even_or_odd' n with ⟨k, rfl | rfl⟩
  · have hp : par (2 * k) = 0 := Fin.ext (by show 2 * k % 2 = 0; omega)
    rw [hp, show (2 * k + 1) / 2 = k by omega, show 2 * k / 2 = k by omega, show (2 * k + 1 + 1) / 2 = k + 1 by omega]
    iintro ⟨H0, H1⟩
    isplitl [H0]; · iexact H0
    iintro H0; isplitl [H0] <;> iassumption
  · have hp : par (2 * k + 1) = 1 := Fin.ext (by show (2 * k + 1) % 2 = 1; omega)
    rw [hp, show (2 * k + 1) / 2 = k by omega, show (2 * k + 1 + 1) / 2 = k + 1 by omega, show (2 * k + 1 + 1 + 1) / 2 = k + 1 by omega]
    iintro ⟨H0, H1⟩
    isplitl [H1]; · iexact H1
    iintro H1; isplitl [H0] <;> iassumption

/-- The source's cell has reached the round of the next transfer. -/
theorem sentAt_reached (n : ℕ) : (sentAt c b s n : sProp 𝕄)
    ⊢ iprop(sentAt c b s n ∗ reached ER (cell c (.send b s (par n))) (n / 2)) := by
  unfold sentAt at'
  rcases Nat.even_or_odd' n with ⟨k, rfl | rfl⟩
  · rw [show par (2 * k) = 0 from Fin.ext (by show 2 * k % 2 = 0; omega), show (2 * k + 1) / 2 = k by omega, show 2 * k / 2 = k by omega]
    iintro ⟨⟨H0, #R0⟩, H1⟩
    isplitl
    · isplitl [H0]
      · isplitl; · iexact H0
        iexact R0
      · iexact H1
    iexact R0
  · rw [show par (2 * k + 1) = 1 from Fin.ext (by show (2 * k + 1) % 2 = 1; omega), show (2 * k + 1) / 2 = k by omega]
    iintro ⟨H0, ⟨H1, #R1⟩⟩
    isplitl
    · isplitl [H0]; · iexact H0
      isplitl; · iexact H1
      iexact R1
    iexact R1

/-- The two landing cells have reached the rounds of their next transfers. -/
theorem landAt_reached (n : ℕ) : (landAt c b s n : sProp 𝕄)
    ⊢ iprop(landAt c b s n ∗ reached ER (cell c (.recv b s (par n))) (n / 2) ∗ reached ER (cell c (.recv b s (par (n + 1)))) ((n + 1) / 2)) := by
  unfold landAt at'
  rcases Nat.even_or_odd' n with ⟨k, rfl | rfl⟩
  · rw [show par (2 * k) = 0 from Fin.ext (by show 2 * k % 2 = 0; omega), show par (2 * k + 1) = 1 from Fin.ext (by show (2 * k + 1) % 2 = 1; omega),
      show (2 * k + 1) / 2 = k by omega, show 2 * k / 2 = k by omega]
    iintro ⟨⟨H0, #R0⟩, ⟨H1, #R1⟩⟩
    isplitl [H0 H1]
    · isplitl [H0]
      · isplitl; · iexact H0
        iexact R0
      · isplitl; · iexact H1
        iexact R1
    isplitl; · iexact R0
    iexact R1
  · rw [show par (2 * k + 1) = 1 from Fin.ext (by show (2 * k + 1) % 2 = 1; omega), show par (2 * k + 1 + 1) = 0 from Fin.ext (by show (2 * k + 1 + 1) % 2 = 0; omega),
      show (2 * k + 1) / 2 = k by omega, show (2 * k + 1 + 1) / 2 = k + 1 by omega]
    iintro ⟨⟨H0, #R0⟩, ⟨H1, #R1⟩⟩
    isplitl [H0 H1]
    · isplitl [H0]
      · isplitl; · iexact H0
        iexact R0
      · isplitl; · iexact H1
        iexact R1
    isplitl; · iexact R1
    iexact R0

end Slots

/-! ## A transfer -/

/-- Where hop `h` of a lane lands, on the device it is sent to. -/
abbrev dstM (b : Bool) (c : Dev nD) (s : Fin 4) (h : ℕ) : Memref sig .tc .vmem S128x2048 .f32 :=
  if h < 3 then rslot b s (par h) else oblk b (chunk b c h) s

theorem credit_dstM (b : Bool) (c : Dev nD) (s : Fin 4) (h : ℕ) : (dstM b c s h).view.dmaCredit = NB := by
  unfold dstM; split; exacts [credit_rslot _ _ _, credit_oblk _ _ _]

/-- Hop `h` started: the rows and the place given up, the right to wait for the rows gained, the landing paid for. -/
theorem wp_start (c : Dev nD) (b : Bool) (s : Fin 4) (h n : ℕ) (he : evs[n]? = some (.start h s b)) (hh : h < 6)
    {dev : Dev nD} {src dst : Memref sig .tc .vmem S128x2048 .f32} {sS sD : SemLoc sig}
    (hdev : dev = tgt b c) (hsrc : src = oblk b (chunk b c h) s) (hdst : dst = dstM b c s h)
    (hsS : sS = csem (.send b s (par h))) (hsD : sD = csem (.recv b s (par h)))
    {hsc : (dst : Memref sig (Dev.tc dev : Thread nD τ).2.kind .vmem S128x2048 .f32).view.ref.isScScratch = false}
    {h₁ : src.view.WordExact} {h₂ : (dst : Memref sig (Dev.tc dev : Thread nD τ).2.kind .vmem S128x2048 .f32).view.WordExact}
    {h₃ : DmaTarget.Typed .vmem sD (.remote (Dev.tc dev : Thread nD τ) dst sS hsc)}
    {α : Type} {k : PUnit → Prog (TpuEff nD τ sig (Elt F) Λ₀ .tc) α} {Q : α → sProp 𝕄} :
    iprop(recs D K Ks ∗ own c (oblk b (chunk b c h) s) (sent D b s h c) ∗ place (F := F) (tgt b c) b s h
        ∗ tStart c b s h ∗ sentAt c b s h ∗ owesE c n)
      ⊢ iprop(((tStart c b s (h + 1) ∗ sentAt c b s h ∗ cred (tallyAt (cell c (.send b s (par h))) 0 NB) ∗ owesE c (n + 1))
            -∗ WP c (k ⟨⟩) Q)
          -∗ WP c (.op (.enqueueDma src (.remote (Dev.tc dev : Thread nD τ) dst sS hsc) sD h₁ h₂ h₃) k) Q) := by
  subst hdev hsrc hdst hsS hsD
  have hr : h / 2 < 3 := by omega
  have hpay₂ : ∀ fd fs, (oblk b (chunk b c h) s).view.read (Elt F) fs = sent D b s h c →
      ((dstM b c s h).view.loc (tgt b c : Thread nD τ) ↦[(dstM b c s h).view.set]{fullShare}
        ((dstM b c s h).view.write (Elt F) fd ((oblk b (chunk b c h) s).view.read (Elt F) fs) Finset.univ) : sProp 𝕄)
      ⊢ recvPay D (tgt b c) b s h := by
    intro fd fs hfs
    rw [hfs]
    unfold recvPay
    rw [frm_tgt, chunk_tgt]
    have key : ∀ M : Memref sig .tc .vmem S128x2048 .f32, ∀ fd,
        (M.view.loc (tgt b c : Thread nD τ) ↦[M.view.set]{fullShare} (M.view.write (Elt F) fd (sent D b s h c) Finset.univ) : sProp 𝕄)
        ⊢ own (tgt b c) M (sent D b s h c) := by
      intro M fd
      unfold own owns
      iintro H; iexists (M.view.write (Elt F) fd (sent D b s h c) Finset.univ)
      isplitr; · ipureintro; exact View.read_write_univ _ _
      iexact H
    by_cases h3 : h < 3
    · have : dstM b c s h = rslot b s (par h) := if_pos h3
      rw [if_pos h3]
      revert fd; rw [this]; exact fun fd => key _ fd
    · have : dstM b c s h = oblk b (chunk b c h) s := if_neg h3
      rw [if_neg h3]
      revert fd; rw [this]; exact fun fd => key _ fd
  have hplace : place (F := F) (tgt b c) b s h ⊢ iprop((∃ fd, (dstM b c s h).view.loc (tgt b c : Thread nD τ) ↦[(dstM b c s h).view.set]{fullShare} fd)
      ∗ reached ER (cell (tgt b c) (.recv b s (par h))) (h / 2)) := by
    unfold place own owns
    rw [chunk_tgt]
    by_cases h3 : h < 3
    · have : dstM b c s h = rslot b s (par h) := if_pos h3
      rw [if_pos h3, this]
      iintro ⟨⟨%X, %f, %hf, H⟩, R⟩
      isplitl [H]; · iexists f; iexact H
      iexact R
    · have : dstM b c s h = oblk b (chunk b c h) s := if_neg h3
      rw [if_neg h3, this]
      iintro ⟨⟨%X, %f, %hf, H⟩, R⟩
      isplitl [H]; · iexists f; iexact H
      iexact R
  unfold tStart owesE
  unfold own owns
  rw [bigSep_Ico_succ_bot hh]
  iintro ⟨#Hr, ⟨%fs, %hfs, Hs⟩, Hp, ⟨⟨Ht1, Ht2⟩, Hts⟩, Hat, ⟨%W, Ho⟩⟩ Hk
  ihave Hp := hplace $$ Hp
  icases Hp with ⟨⟨%fd, Hd⟩, #HrD⟩
  ihave HI1 := (recs_cell D K Ks c (.send b s (par h))) $$ Hr
  ihave HI2 := (recs_cell D K Ks (tgt b c) (.recv b s (par h))) $$ Hr
  ihave Hat := (sentAt_reached c b s h) $$ Hat
  icases Hat with ⟨Hat, #HrS⟩
  iapply (Rounds.wp_send_pointsTo 𝒱₀ ER (Rd D) (c : Thread nD τ) none (κ₁ := K (c, .send b s (par h))) (κ₂ := K (tgt b c, .recv b s (par h)))
      (c' := (tgt b c : Thread nD τ)) (sS := csem (.send b s (par h))) (sem := csem (.recv b s (par h))) (O₀ := Ow c n)
      (dst := dstM b c s h) (src := oblk b (chunk b c h) s) (r₁ := h / 2) (r₂ := h / 2) (d₁ := 0) (d₂ := 0) (fs := fs) (fd := fd)
      (by rw [duties_send D c b s _ hr]; exact Finset.mem_singleton_self _) (by rw [duties_recv D _ b s _ hr]; exact Finset.mem_singleton_self _)
      (lev (.start h s b)) 0 NB (credit_dstM b c s h) (amount_cell D c _ _ _) (amount_cell D _ _ _ _) (Ow c (n + 1)) (Ow_step c he) (W := W)
      (by
        rw [payload_send, par_val]; unfold sendPay own owns
        iintro H; iexists fs
        isplitr; · ipureintro; exact hfs
        iexact H)
      (by rw [payload_recv, par_val]; exact hpay₂ fd fs hfs)) $$ [Hs Hd Ho Ht1 Ht2]
  · isplitr; · iexact HI1
    isplitr; · iexact HI2
    isplitl [Hs]; · iexact Hs
    isplitl [Hd]; · iexact Hd
    isplitl [Ho]; · iexact Ho
    isplitl [Ht1]; · iexact Ht1
    isplitr; · iexact HrS
    isplitl [Ht2]; · iexact Ht2
    iexact HrD
  iintro ⟨Hc, Ho⟩
  iapply Hk
  isplitl [Hts]; · iexact Hts
  isplitl [Hat]; · iexact Hat
  isplitl [Hc]; · iexact Hc
  iexists W; iexact Ho

/-! ## Waits -/

/-- A wait for the rest of a round, at any level the device has paid past. -/
theorem wp_rest (c : Dev nD) (x : Cell) {R m k' u n : ℕ} {T : Finset ℕ} {w : TpuEff nD τ sig (Elt F) Λ₀ .tc PUnit}
    (hw : ∀ P : PUnit → sProp 𝕄, wpE (defs₀ (F := F)) 𝒱₀ (c : Thread nD τ) none Set.univ w P = waitSpec (c : Thread nD τ) Set.univ (csem x) k' P)
    (hk : m + k' = (Rd D).expect (cell c x) R) (hu : u ≤ n) (hn : n ≤ 82)
    {α : Type} {k : PUnit → Prog (TpuEff nD τ sig (Elt F) Λ₀ .tc) α} {Q : α → sProp 𝕄} :
    iprop(recs D K Ks ∗ cred (tallyAt (cell c x) u k') ∗ owesE c n ∗ atPos ER (cell c x) R T m)
      ⊢ iprop(((owesE c n ∗ at' c x (R + 1) ∗ bigSep ((Rd D).duties (cell c x) R \ T) fun d => (Rd D).payload (cell c x) R d)
            -∗ WP c (k ⟨⟩) Q)
          -∗ WP c (.op w k) Q) := by
  unfold owesE
  iintro ⟨#Hr, Hc, ⟨%W, Ho⟩, Hat⟩ Hk
  ihave HI := (recs_cell D K Ks c x) $$ Hr
  iapply (Rounds.wp_wait_rest_token 𝒱₀ ER (Rd D) (c : Thread nD τ) none (κ := K (c, x)) hw (Set.mem_univ _) u
      (O := Ow c n) (W := W) hk) $$ [Hc Ho Hat]
  · isplitl [HI]; · iexact HI
    isplitl [Hc]; · iexact Hc
    isplitl [Ho]; · iexact Ho
    isplitr; · iapply (recs_mayWait D K Ks c (csem x) hu hn); iexact Hr
    iexact Hat
  iintro ⟨Ho, Hat, #Hrd, Hp⟩
  iapply Hk
  isplitl [Ho]; · iexists _; iexact Ho
  isplitl [Hat]
  · unfold at'
    isplitl [Hat]; · iexact Hat
    iexact Hrd
  iexact Hp

/-- The wait for a transfer's source: its rows come back. -/
theorem wp_sent (c : Dev nD) (b : Bool) (s : Fin 4) (h n : ℕ) (hh : h < 6) (hn : n ≤ 82)
    {sem : DmaSem sig} {sp sp' : Space} {sh sh' : Shape} {e e' : EltTy} {src : Memref sig .tc sp' sh' e'} {dst : Memref sig .tc sp sh e}
    (hsem : SemLoc.dma sem = csem (.send b s (par h))) (hcr : dst.view.dmaCredit = NB)
    {h₁ : src.view.WordExact} {h₂ : dst.view.WordExact}
    {α : Type} {k : PUnit → Prog (TpuEff nD τ sig (Elt F) Λ₀ .tc) α} {Q : α → sProp 𝕄} :
    iprop(recs D K Ks ∗ sentAt c b s h ∗ cred (tallyAt (cell c (.send b s (par h))) 0 NB) ∗ owesE c n)
      ⊢ iprop(((sentAt c b s (h + 1) ∗ sendPay D c b s h ∗ owesE c n) -∗ WP c (k ⟨⟩) Q)
          -∗ WP c (.op (.waitDma2 sem src dst h₁ h₂) k) Q) := by
  iintro ⟨#Hr, Hs, Hc, Ho⟩ Hk
  ihave Hs := (sentAt_step c b s h) $$ Hs
  unfold at'
  icases Hs with ⟨⟨Hat, -⟩, Hback⟩
  iapply (wp_rest D K Ks c (.send b s (par h)) (R := h / 2) (m := 0) (k' := NB) (u := 0) (n := n) (T := ∅)
      (fun P => by rw [← hsem, ← hcr]; exact wpE_waitDma2_eq _ _ _ _ P) (by rw [expect_send D c b s _ (by omega), Nat.zero_add])
      (Nat.zero_le _) hn) $$ [Hc Ho Hat]
  · isplitr; · iexact Hr
    isplitl [Hc]; · iexact Hc
    isplitl [Ho] <;> iassumption
  rw [Finset.sdiff_empty, duties_send D c b s _ (show h / 2 < 3 by omega), bigSep_singleton, payload_send, par_val]
  unfold at'
  iintro ⟨Ho, Hat, Hp⟩
  iapply Hk
  isplitl [Hback Hat]; · iapply Hback; iexact Hat
  isplitl [Hp] <;> iassumption

/-- The wait for a landing: what the neighbour sent. -/
theorem wp_land (c : Dev nD) (b : Bool) (s : Fin 4) (h n : ℕ) (hh : h < 6) (hl : lev (.start h s b) ≤ n) (hn : n ≤ 82)
    {sem : DmaSem sig} {sp sp' : Space} {sh sh' : Shape} {e e' : EltTy} {src : Memref sig .tc sp' sh' e'} {dst : Memref sig .tc sp sh e}
    (hsem : SemLoc.dma sem = csem (.recv b s (par h))) (hcr : dst.view.dmaCredit = NB)
    {h₁ : src.view.WordExact} {h₂ : dst.view.WordExact}
    {α : Type} {k : PUnit → Prog (TpuEff nD τ sig (Elt F) Λ₀ .tc) α} {Q : α → sProp 𝕄} :
    iprop(recs D K Ks ∗ landAt c b s h ∗ tLand c b s h ∗ owesE c n)
      ⊢ iprop(((landAt c b s (h + 1) ∗ tLand c b s (h + 1) ∗ recvPay D c b s h ∗ owesE c n) -∗ WP c (k ⟨⟩) Q)
          -∗ WP c (.op (.waitDma2 sem src dst h₁ h₂) k) Q) := by
  unfold tLand
  rw [bigSep_Ico_succ_bot hh]
  iintro ⟨#Hr, Hs, ⟨Hc, Hcs⟩, Ho⟩ Hk
  ihave Hs := (landAt_step c b s h) $$ Hs
  unfold at'
  icases Hs with ⟨⟨Hat, -⟩, Hback⟩
  iapply (wp_rest D K Ks c (.recv b s (par h)) (R := h / 2) (m := 0) (k' := NB) (u := lev (.start h s b)) (n := n) (T := ∅)
      (fun P => by rw [← hsem, ← hcr]; exact wpE_waitDma2_eq _ _ _ _ P) (by rw [expect_recv D c b s _ (by omega), Nat.zero_add])
      hl hn) $$ [Hc Ho Hat]
  · isplitr; · iexact Hr
    isplitl [Hc]; · iexact Hc
    isplitl [Ho] <;> iassumption
  rw [Finset.sdiff_empty, duties_recv D c b s _ (show h / 2 < 3 by omega), bigSep_singleton, payload_recv, par_val]
  unfold at'
  iintro ⟨Ho, Hat, Hp⟩
  iapply Hk
  isplitl [Hback Hat]; · iapply Hback; iexact Hat
  isplitl [Hcs]; · iexact Hcs
  isplitl [Hp] <;> iassumption

/-! ## Credits -/

omit [FloatOps F] in
/-- Nobody holds a place twice. -/
theorem slotRes_excl (k : Key) : iprop(slotRes (F := F) k ∗ slotRes (F := F) k) ⊢ (False : sProp 𝕄) := by
  have key : ∀ M : Memref sig .tc .vmem S128x2048 .f32,
      iprop((∃ X, own k.1 M X) ∗ (∃ X, own k.1 M X)) ⊢ (False : sProp 𝕄) := by
    intro M
    unfold own owns
    iintro ⟨⟨%X, %f, %hf, H⟩, ⟨%X', %f', %hf', H'⟩⟩
    have i : S128x2048.Idx := fun a => ⟨0, by revert a; decide⟩
    iapply (pointsTo_full_full_false (ℓ := M.view.loc (k.1 : Thread nD τ)) (I := M.view.set) (J := M.view.set) (f := f) (g := f') (i := M.view.emb i) (View.emb_mem_set M.view i) (View.emb_mem_set M.view i))
    isplitl [H] <;> iassumption
  unfold slotRes place
  by_cases h : k.2.2.2 + 2 < 3
  · rw [if_pos h]
    iintro ⟨⟨H, -⟩, ⟨H', -⟩⟩
    iapply (key _); isplitl [H] <;> iassumption
  · rw [if_neg h]
    iintro ⟨⟨H, -⟩, ⟨H', -⟩⟩
    iapply (key _); isplitl [H] <;> iassumption

theorem mem_keys {c : Dev nD} {b : Bool} {s : Fin 4} {j : ℕ} (h : j < 4) : ((c, b, s, j) : Key) ∈ keys := by
  unfold keys; simp only [Finset.mem_product, Finset.mem_univ, Finset.mem_range, true_and]; exact h

omit [FloatOps F] in
instance credPay_persistent (c : Dev nD) (b : Bool) (s : Fin 4) (j : ℕ) : BI.Persistent (credPay (F := F) c b s j) := by
  unfold credPay; infer_instance

/-- What device `c` has told of its places: those of the credits below `ng` have been freed. -/
def told (c : Dev nD) (b : Bool) (s : Fin 4) (ng : ℕ) : sProp 𝕄 :=
  bigSep (Finset.range ng) fun i => released ES ((c, b, s, i) : Key) 1

omit [FloatOps F] in
instance told_persistent (c : Dev nD) (b : Bool) (s : Fin 4) (ng : ℕ) : BI.Persistent (told (F := F) c b s ng) := by
  unfold told; infer_instance

/-- Credit `j` given: the place of hop `j + 2` is freed and the neighbour told. -/
theorem wp_give (c : Dev nD) (b : Bool) (s : Fin 4) (j n : ℕ) (he : evs[n]? = some (.cred j s b)) (hj : j < 4)
    {dev : Dev nD} {sem : Sem sig} {k' : ℕ} (hdev : dev = frm b c) (hsem : SemLoc.reg sem = csem (.cred b s)) (hk' : k' = 1)
    {α : Type} {k : PUnit → Prog (TpuEff nD τ sig (Elt F) Λ₀ .tc) α} {Q : α → sProp 𝕄} :
    iprop(recs D K Ks ∗ tGive c b s j ∗ told c b s j ∗ slotRes (F := F) (c, b, s, j) ∗ owesE c n)
      ⊢ iprop(((tGive c b s (j + 1) ∗ told c b s (j + 1) ∗ owesE c (n + 1)) -∗ WP c (k ⟨⟩) Q)
          -∗ WP c (.op (.semSignal (Dev.tc dev : Thread nD τ) sem k') k) Q) := by
  subst hdev hk'
  unfold tGive owesE
  rw [bigSep_Ico_succ_bot hj]
  iintro ⟨#Hr, ⟨⟨Ht, Hrd⟩, Hts⟩, #Hold, Hslot, ⟨%W, Ho⟩⟩ Hk
  ihave Hre := (recs_reached D K Ks (frm b c) (.cred b s)) $$ Hr
  ihave HI := (recs_cell D K Ks (frm b c) (.cred b s)) $$ Hr
  ihave HS := (recs_slot D K Ks (mem_keys (c := c) (b := b) (s := s) hj)) $$ Hr
  imod (slot_release ES (Set.mem_univ (Ks (c, b, s, j))) (slotRes_excl (F := F) (c, b, s, j)) 0) $$ [HS Hrd Hslot] with ⟨-, #Hw⟩
  · isplitl [HS]; · iexact HS
    isplitl [Hrd] <;> iassumption
  have htold : iprop(released ES ((c, b, s, j) : Key) 1 ∗ told (F := F) c b s j) ⊢ told (F := F) c b s (j + 1) := by
    unfold told; rw [bigSep_range_succ]
  ihave Hnew := htold $$ []
  · isplitr; · iexact Hw
    iexact Hold
  icases Hnew with #Hnew
  have hc : ((Dev.tc (frm b c) : Thread nD τ), SemLoc.reg sem) = cell (frm b c) (.cred b s) := by rw [hsem]
  iapply (Rounds.wp_signal 𝒱₀ ER (Rd D) (c : Thread nD τ) none (dst := (frm b c : Thread nD τ)) (κ := K (frm b c, .cred b s)) (r := 0)
      (d := j) (by rw [hc, duties_cred]; exact Finset.mem_range.mpr hj) (by rw [hc, amount_cell]; rfl) (lev (.cred j s b)) (O₀ := Ow c n) (Ow c (n + 1))
      (by rw [hc]; exact Ow_step c he) (W := W)) $$ [HI Ho Ht]
  · rw [hc, payload_cred]
    isplitl [HI]; · iexact HI
    isplitl [Ho]; · iexact Ho
    isplitl [Ht]; · iexact Ht
    isplitr
    · unfold credPay told; rw [tgt_frm]; iexact Hnew
    iexact Hre
  iintro Ho
  iapply Hk
  isplitl [Hts]; · iexact Hts
  isplitl []; · iexact Hnew
  iexists W; iexact Ho

/-- Credit `j` taken: the place of hop `j + 2` on the device it is sent to. -/
theorem wp_take (c : Dev nD) (b : Bool) (s : Fin 4) (j n : ℕ) (hj : j < 4) (hl : lev (.cred j s b) ≤ n) (hn : n ≤ 82)
    {sem : Sem sig} {k' : ℕ} (hsem : SemLoc.reg sem = csem (.cred b s)) (hk' : k' = 1)
    {α : Type} {k : PUnit → Prog (TpuEff nD τ sig (Elt F) Λ₀ .tc) α} {Q : α → sProp 𝕄} :
    iprop(recs D K Ks ∗ tTake c b s j ∗ credAt c b s j ∗ owesE c n)
      ⊢ iprop(((tTake c b s (j + 1) ∗ credAt c b s (j + 1) ∗ place (F := F) (tgt b c) b s (j + 2) ∗ owesE c n) -∗ WP c (k ⟨⟩) Q)
          -∗ WP c (.op (.semWait sem k') k) Q) := by
  subst hk'
  have hw : ∀ P : PUnit → sProp 𝕄, wpE (defs₀ (F := F)) 𝒱₀ (c : Thread nD τ) none Set.univ (.semWait sem 1) P
      = waitSpec (c : Thread nD τ) Set.univ (csem (.cred b s)) 1 P := fun P => by rw [← hsem]; exact wpE_semWait_eq _ _ _ _ P
  -- a credit heard at or past `j` tells of the place
  have htell : ∀ i, j ≤ i → credPay (F := F) c b s i ⊢ released ES ((tgt b c, b, s, j) : Key) 1 := by
    intro i hi
    unfold credPay
    rw [bigSep_take (Finset.mem_range.mpr (Nat.lt_succ_of_le hi))]
    iintro ⟨H, -⟩; iexact H
  unfold tTake
  rw [bigSep_Ico_succ_bot hj]
  iintro ⟨#Hr, ⟨⟨Hc, Hwt⟩, Hts⟩, Hat, Ho⟩ Hk
  ihave HS := (recs_slot D K Ks (mem_keys (c := tgt b c) (b := b) (s := s) hj)) $$ Hr
  have hsl : slotRes (F := F) (tgt b c, b, s, j) ⊢ place (F := F) (tgt b c) b s (j + 2) := Entails.of_eq rfl
  have hat : (credAt c b s j : sProp 𝕄) ⊢ iprop(∃ T : Finset ℕ, ⌜T ⊆ Finset.range 4⌝ ∗ atPos ER (cell c (.cred b s)) 0 T j
      ∗ bigSep T fun i => credPay (F := F) c b s i) := by unfold credAt; rw [if_pos hj]
  ihave Hat := hat $$ Hat
  icases Hat with ⟨%T, %hT, Hat, #Hheard⟩
  rcases Nat.lt_or_ge (j + 1) 4 with hj' | hj'
  · have hback : iprop(∃ T : Finset ℕ, ⌜T ⊆ Finset.range 4⌝ ∗ atPos ER (cell c (.cred b s)) 0 T (j + 1)
        ∗ bigSep T fun i => credPay (F := F) c b s i) ⊢ (credAt c b s (j + 1) : sProp 𝕄) := by unfold credAt; rw [if_pos hj']
    unfold owesE
    icases Ho with ⟨%W, Ho⟩
    ihave HI := (recs_cell D K Ks c (.cred b s)) $$ Hr
    iapply (Rounds.wp_wait 𝒱₀ ER (Rd D) (c : Thread nD τ) none (κ := K (c, .cred b s)) hw (Set.mem_univ _)
        (cr := Finsupp.single (lev (.cred j s b)) 1) {(csem (.cred b s), lev (.cred j s b))} (O := Ow c n) (W := W) (R := 0) (m := j) (T := T)
        (Util.total_single _ _) (image_single_subset _ _ _)) $$ [HI Hc Ho Hat]
    · isplitl [HI]; · iexact HI
      isplitl [Hc]; · iexact Hc
      isplitl [Ho]; · iexact Ho
      isplitr; · iapply (recs_mayWait D K Ks c (csem (.cred b s)) hl hn); iexact Hr
      iexact Hat
    iintro %S ⟨%hS, Ho, Hat, Hnew⟩
    rw [duties_cred, expect_cred] at hS
    obtain ⟨hTS, hS4, hcard⟩ := hS
    -- at least `j + 1` credits heard: one of them is `j` or a later one
    have hcS : j + 1 ≤ S.card := by
      have := Finset.card_sdiff_of_subset hS4
      rw [Finset.card_range] at this
      have h4 := Finset.card_le_card hS4
      rw [Finset.card_range] at h4
      omega
    obtain ⟨i, hiS, hij⟩ : ∃ i ∈ S, j ≤ i := by
      by_contra hno
      have hsub : S ⊆ Finset.range j := fun i hi => Finset.mem_range.mpr (by
        by_contra hge; exact hno ⟨i, hi, by omega⟩)
      have := Finset.card_le_card hsub
      rw [Finset.card_range] at this; omega
    have hall : iprop((bigSep T fun i => credPay (F := F) c b s i) ∗ bigSep (S \ T) fun d => (Rd D).payload (cell c (.cred b s)) 0 d)
        ⊢ (bigSep S fun i => credPay (F := F) c b s i : sProp 𝕄) := by
      simp only [payload_cred]
      rw [show S = T ∪ (S \ T) from (Finset.union_sdiff_of_subset hTS).symm]
      rw [show (T ∪ S \ T) \ T = S \ T by rw [Finset.union_sdiff_of_subset hTS]]
      exact Entails.of_eq (bigSep_union Finset.disjoint_sdiff).symm
    ihave Hall := hall $$ [Hnew]
    · isplitl []; · iexact Hheard
      iexact Hnew
    icases Hall with #Hall
    have hone : (bigSep S fun i => credPay (F := F) c b s i) ⊢ released ES ((tgt b c, b, s, j) : Key) 1 := by
      rw [bigSep_take hiS]
      iintro ⟨H, -⟩
      iapply (htell i hij); iexact H
    ihave Hrel := hone $$ Hall
    imod (slot_take ES (Set.mem_univ (Ks (tgt b c, b, s, j))) 1) $$ [HS Hrel Hwt] with Hslot
    · isplitl [HS]; · iexact HS
      isplitl [Hrel] <;> iassumption
    iapply Hk
    isplitl [Hts]; · iexact Hts
    isplitl [Hat]
    · iapply hback
      iexists S
      isplitr; · ipureintro; exact hS4
      isplitl [Hat]; · iexact Hat
      iexact Hall
    isplitl [Hslot]; · iapply hsl; iexact Hslot
    iexists _; iexact Ho
  · have hback : atPos ER (cell c (.cred b s)) 1 ∅ 0 ⊢ (credAt c b s (j + 1) : sProp 𝕄) := by
      unfold credAt; rw [if_neg (by omega)]
    have hj3 : j = 3 := by omega
    iapply (wp_rest D K Ks c (.cred b s) (R := 0) (m := j) (k' := 1) (u := lev (.cred j s b)) (n := n) (T := T)
        hw (by rw [expect_cred, hj3]) hl hn) $$ [Hc Ho Hat]
    · isplitr; · iexact Hr
      isplitl [Hc]; · iexact Hc
      isplitl [Ho] <;> iassumption
    unfold at'
    iintro ⟨Ho, ⟨Hat, -⟩, Hnew⟩
    have hall : iprop((bigSep T fun i => credPay (F := F) c b s i) ∗ bigSep ((Rd D).duties (cell c (.cred b s)) 0 \ T) fun d => (Rd D).payload (cell c (.cred b s)) 0 d)
        ⊢ (bigSep (Finset.range 4) fun i => credPay (F := F) c b s i : sProp 𝕄) := by
      simp only [payload_cred]
      rw [duties_cred]
      nth_rewrite 2 [show Finset.range 4 = T ∪ (Finset.range 4 \ T) from (Finset.union_sdiff_of_subset hT).symm]
      exact Entails.of_eq (bigSep_union Finset.disjoint_sdiff).symm
    ihave Hall := hall $$ [Hnew]
    · isplitl []; · iexact Hheard
      iexact Hnew
    have hone : (bigSep (Finset.range 4) fun i => credPay (F := F) c b s i) ⊢ released ES ((tgt b c, b, s, j) : Key) 1 := by
      rw [bigSep_take (Finset.mem_range.mpr hj)]
      iintro ⟨H, -⟩
      iapply (htell j le_rfl); iexact H
    ihave Hrel := hone $$ Hall
    imod (slot_take ES (Set.mem_univ (Ks (tgt b c, b, s, j))) 1) $$ [HS Hrel Hwt] with Hslot
    · isplitl [HS]; · iexact HS
      isplitl [Hrel] <;> iassumption
    iapply Hk
    isplitl [Hts]; · iexact Hts
    isplitl [Hat]; · iapply hback; iexact Hat
    isplitl [Hslot]; · iapply hsl; iexact Hslot
    iexact Ho

end Cert.RingProof

end
-- ==== Proof.Lane.lean ====
/-
# A lane's state, and what each step of the program makes of it

A lane holds its protocol's tokens and the memory it may touch: the rows it sends, the rest of its rows and slots. Its
state goes round hop by hop: idle, ready (the place to write is in hand), in flight, source read, landed, summed, and
idle again once the credit for the freed place is given.
-/
module

public import proofs.«01_k».proof.Proof.Steps
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Dev nD × Cell → ℕ) (Ks : Key → ℕ)

/-! ## The states -/

section States
variable (c : Dev nD) (b : Bool) (s : Fin 4)

/-- The protocol's tokens of a lane, by counts. -/
def toks (ns nw nr ng nt : ℕ) : sProp 𝕄 :=
  iprop(tStart c b s ns ∗ sentAt c b s nw ∗ tLand c b s nr ∗ landAt c b s nr ∗ tGive c b s ng ∗ told c b s ng
    ∗ tTake c b s nt ∗ credAt c b s nt)

/-- Chunk `k` of the lane's rows holds `X`, -/
abbrev blk (k : ℕ) (X : Vec F S128x2048 .f32) : sProp 𝕄 := own c (oblk b (chunk b c k) s) X
/-- something, -/
def blkU (k : ℕ) : sProp 𝕄 := iprop(∃ X, own c (oblk b (chunk b c k) s) X)
/-- or the device's own product. -/
abbrev blkP (k : ℕ) : sProp 𝕄 := blk c b s k (D.P c b (chunk b c k) s)
/-- A landing slot holds something. -/
def slotU (q : Fin 2) : sProp 𝕄 := iprop(∃ X, own (F := F) c (rslot b s q) X)

/-- The memory of the lane that hop `h` does not touch before it lands. -/
def rest : ℕ → sProp 𝕄
  | 0 => iprop(blkP D c b s 1 ∗ blkP D c b s 2 ∗ blkP D c b s 3 ∗ place (F := F) (tgt b c) b s 1)
  | 1 => iprop(blkU (F := F) c b s 0 ∗ blkP D c b s 2 ∗ blkP D c b s 3)
  | 2 => iprop(blkU (F := F) c b s 1 ∗ blkP D c b s 3 ∗ slotU (F := F) c b s 1)
  | 3 => iprop(blkU (F := F) c b s 2 ∗ slotU (F := F) c b s 1 ∗ slotU (F := F) c b s 0)
  | 4 => iprop(blk c b s 3 (sent D b s 3 c) ∗ slotU (F := F) c b s 1 ∗ slotU (F := F) c b s 0)
  | _ => iprop(blk c b s 3 (sent D b s 3 c) ∗ blk c b s 4 (sent D b s 4 c) ∗ slotU (F := F) c b s 1 ∗ slotU (F := F) c b s 0)

/-- Before hop `h`: the rows to send are there. -/
def idle (h : ℕ) : sProp 𝕄 :=
  iprop(toks c b s h h h (min h 4) (h - 2) ∗ blk c b s h (sent D b s h c) ∗ rest D c b s h)
/-- The place hop `h` writes is in hand too. -/
def ready (R : sProp 𝕄) (h : ℕ) : sProp 𝕄 :=
  iprop(toks c b s h h h (min h 4) (h - 1) ∗ blk c b s h (sent D b s h c) ∗ place (F := F) (tgt b c) b s h ∗ R)
/-- Hop `h` is in flight, -/
def fly (R : sProp 𝕄) (h : ℕ) : sProp 𝕄 :=
  iprop(toks c b s (h + 1) h h (min h 4) (h - 1) ∗ cred (tallyAt (cell c (.send b s (par h))) 0 NB) ∗ R)
/-- its source has been read, -/
def gone (R : sProp 𝕄) (h : ℕ) : sProp 𝕄 :=
  iprop(toks c b s (h + 1) (h + 1) h (min h 4) (h - 1) ∗ blk c b s h (sent D b s h c) ∗ R)
/-- the neighbour's has landed here, -/
def landed (R : sProp 𝕄) (h : ℕ) : sProp 𝕄 :=
  iprop(toks c b s (h + 1) (h + 1) (h + 1) (min h 4) (h - 1) ∗ blk c b s h (sent D b s h c) ∗ recvPay D c b s h ∗ R)
/-- and the next hop's rows are there, credit `h`'s place free. -/
def summed (h : ℕ) : sProp 𝕄 :=
  iprop(toks c b s (h + 1) (h + 1) (h + 1) h (h - 1) ∗ slotRes (F := F) (c, b, s, h) ∗ blk c b s (h + 1) (sent D b s (h + 1) c)
    ∗ rest D c b s (h + 1) ∗ (if h = 0 then place (F := F) (tgt b c) b s 1 else iprop(⌜True⌝)))
/-- After the last hop. -/
def done : sProp 𝕄 :=
  iprop(toks c b s 6 6 6 4 4 ∗ blk c b s 3 (sent D b s 3 c) ∗ blk c b s 4 (sent D b s 4 c) ∗ blk c b s 5 (sent D b s 5 c)
    ∗ blk c b s 6 (sent D b s 6 c) ∗ slotU (F := F) c b s 1 ∗ slotU (F := F) c b s 0)

end States

/-! ## Steps -/

section Events
variable (c : Dev nD) (b : Bool) (s : Fin 4)

/-- A credit taken. -/
theorem ev_take (h n : ℕ) (h2 : 2 ≤ h) (h6 : h < 6) (hl : lev (.cred (h - 2) s b) ≤ n) (hn : n ≤ 82)
    {sem : Sem sig} {k' : ℕ} (hsem : SemLoc.reg sem = csem (.cred b s)) (hk' : k' = 1)
    {α : Type} {k : PUnit → Prog (TpuEff nD τ sig (Elt F) Λ₀ .tc) α} {Q : α → sProp 𝕄} :
    iprop(recs D K Ks ∗ idle D c b s h ∗ owesE c n)
      ⊢ iprop(((ready D c b s (rest D c b s h) h ∗ owesE c n) -∗ WP c (k ⟨⟩) Q) -∗ WP c (.op (.semWait sem k') k) Q) := by
  unfold idle ready toks
  iintro ⟨#Hr, ⟨⟨T1, T2, T3, T4, T5, T6, T7, T8⟩, B, R⟩, Ho⟩ Hk
  iapply (wp_take D K Ks c b s (h - 2) n (by omega) hl hn hsem hk') $$ [T7 T8 Ho]
  · isplitr; · iexact Hr
    isplitl [T7]; · iexact T7
    isplitl [T8] <;> iassumption
  rw [show h - 2 + 1 = h - 1 by omega, show h - 2 + 2 = h by omega]
  iintro ⟨T7, T8, Hp, Ho⟩
  iapply Hk
  iframe

/-- A transfer started. -/
theorem ev_start (R : sProp 𝕄) (h n : ℕ) (he : evs[n]? = some (.start h s b)) (hh : h < 6)
    {dev : Dev nD} {src dst : Memref sig .tc .vmem S128x2048 .f32} {sS sD : SemLoc sig}
    (hdev : dev = tgt b c) (hsrc : src = oblk b (chunk b c h) s) (hdst : dst = dstM b c s h)
    (hsS : sS = csem (.send b s (par h))) (hsD : sD = csem (.recv b s (par h)))
    {hsc : (dst : Memref sig (Dev.tc dev : Thread nD τ).2.kind .vmem S128x2048 .f32).view.ref.isScScratch = false}
    {h₁ : src.view.WordExact} {h₂ : (dst : Memref sig (Dev.tc dev : Thread nD τ).2.kind .vmem S128x2048 .f32).view.WordExact}
    {h₃ : DmaTarget.Typed .vmem sD (.remote (Dev.tc dev : Thread nD τ) dst sS hsc)}
    {α : Type} {k : PUnit → Prog (TpuEff nD τ sig (Elt F) Λ₀ .tc) α} {Q : α → sProp 𝕄} :
    iprop(recs D K Ks ∗ ready D c b s R h ∗ owesE c n)
      ⊢ iprop(((fly c b s R h ∗ owesE c (n + 1)) -∗ WP c (k ⟨⟩) Q)
          -∗ WP c (.op (.enqueueDma src (.remote (Dev.tc dev : Thread nD τ) dst sS hsc) sD h₁ h₂ h₃) k) Q) := by
  unfold ready fly toks
  iintro ⟨#Hr, ⟨⟨T1, T2, T3, T4, T5, T6, T7, T8⟩, B, Hp, R⟩, Ho⟩ Hk
  iapply (wp_start D K Ks c b s h n he hh hdev hsrc hdst hsS hsD) $$ [B Hp T1 T2 Ho]
  · isplitr; · iexact Hr
    isplitl [B]; · iexact B
    isplitl [Hp]; · iexact Hp
    isplitl [T1]; · iexact T1
    isplitl [T2] <;> iassumption
  iintro ⟨T1, T2, C, Ho⟩
  iapply Hk
  iframe

/-- A source read. -/
theorem ev_sent (R : sProp 𝕄) (h n : ℕ) (hh : h < 6) (hn : n ≤ 82)
    {sem : DmaSem sig} {sp sp' : Space} {sh sh' : Shape} {e e' : EltTy} {src : Memref sig .tc sp' sh' e'} {dst : Memref sig .tc sp sh e}
    (hsem : SemLoc.dma sem = csem (.send b s (par h))) (hcr : dst.view.dmaCredit = NB)
    {h₁ : src.view.WordExact} {h₂ : dst.view.WordExact}
    {α : Type} {k : PUnit → Prog (TpuEff nD τ sig (Elt F) Λ₀ .tc) α} {Q : α → sProp 𝕄} :
    iprop(recs D K Ks ∗ fly c b s R h ∗ owesE c n)
      ⊢ iprop(((gone D c b s R h ∗ owesE c n) -∗ WP c (k ⟨⟩) Q) -∗ WP c (.op (.waitDma2 sem src dst h₁ h₂) k) Q) := by
  unfold fly gone toks
  iintro ⟨#Hr, ⟨⟨T1, T2, T3, T4, T5, T6, T7, T8⟩, C, R⟩, Ho⟩ Hk
  iapply (wp_sent D K Ks c b s h n hh hn hsem hcr) $$ [T2 C Ho]
  · isplitr; · iexact Hr
    isplitl [T2]; · iexact T2
    isplitl [C] <;> iassumption
  unfold sendPay
  iintro ⟨T2, B, Ho⟩
  iapply Hk
  iframe

/-- A landing. -/
theorem ev_land (R : sProp 𝕄) (h n : ℕ) (hh : h < 6) (hl : lev (.start h s b) ≤ n) (hn : n ≤ 82)
    {sem : DmaSem sig} {sp sp' : Space} {sh sh' : Shape} {e e' : EltTy} {src : Memref sig .tc sp' sh' e'} {dst : Memref sig .tc sp sh e}
    (hsem : SemLoc.dma sem = csem (.recv b s (par h))) (hcr : dst.view.dmaCredit = NB)
    {h₁ : src.view.WordExact} {h₂ : dst.view.WordExact}
    {α : Type} {k : PUnit → Prog (TpuEff nD τ sig (Elt F) Λ₀ .tc) α} {Q : α → sProp 𝕄} :
    iprop(recs D K Ks ∗ gone D c b s R h ∗ owesE c n)
      ⊢ iprop(((landed D c b s R h ∗ owesE c n) -∗ WP c (k ⟨⟩) Q) -∗ WP c (.op (.waitDma2 sem src dst h₁ h₂) k) Q) := by
  unfold gone landed toks
  iintro ⟨#Hr, ⟨⟨T1, T2, T3, T4, T5, T6, T7, T8⟩, B, R⟩, Ho⟩ Hk
  iapply (wp_land D K Ks c b s h n hh hl hn hsem hcr) $$ [T3 T4 Ho]
  · isplitr; · iexact Hr
    isplitl [T4]; · iexact T4
    isplitl [T3] <;> iassumption
  iintro ⟨T4, T3, Hp, Ho⟩
  iapply Hk
  iframe

/-- Credit 0 given. -/
theorem ev_give0 (n : ℕ) (he : evs[n]? = some (.cred 0 s b))
    {dev : Dev nD} {sem : Sem sig} {k' : ℕ} (hdev : dev = frm b c) (hsem : SemLoc.reg sem = csem (.cred b s)) (hk' : k' = 1)
    {α : Type} {k : PUnit → Prog (TpuEff nD τ sig (Elt F) Λ₀ .tc) α} {Q : α → sProp 𝕄} :
    iprop(recs D K Ks ∗ summed D c b s 0 ∗ owesE c n)
      ⊢ iprop(((ready D c b s (rest D c b s 1) 1 ∗ owesE c (n + 1)) -∗ WP c (k ⟨⟩) Q)
          -∗ WP c (.op (.semSignal (Dev.tc dev : Thread nD τ) sem k') k) Q) := by
  unfold summed ready toks
  rw [if_pos rfl, show min 1 4 = 0 + 1 from rfl]
  iintro ⟨#Hr, ⟨⟨T1, T2, T3, T4, T5, T6, T7, T8⟩, S, B, R, Hp⟩, Ho⟩ Hk
  iapply (wp_give D K Ks c b s 0 n he (by decide) hdev hsem hk') $$ [T5 T6 S Ho]
  · isplitr; · iexact Hr
    isplitl [T5]; · iexact T5
    isplitl [T6]; · iexact T6
    isplitl [S] <;> iassumption
  iintro ⟨T5, T6, Ho⟩
  iapply Hk
  iframe

/-- A later credit given. -/
theorem ev_give (h n : ℕ) (h1 : 1 ≤ h) (h4 : h < 4) (he : evs[n]? = some (.cred h s b))
    {dev : Dev nD} {sem : Sem sig} {k' : ℕ} (hdev : dev = frm b c) (hsem : SemLoc.reg sem = csem (.cred b s)) (hk' : k' = 1)
    {α : Type} {k : PUnit → Prog (TpuEff nD τ sig (Elt F) Λ₀ .tc) α} {Q : α → sProp 𝕄} :
    iprop(recs D K Ks ∗ summed D c b s h ∗ owesE c n)
      ⊢ iprop(((idle D c b s (h + 1) ∗ owesE c (n + 1)) -∗ WP c (k ⟨⟩) Q)
          -∗ WP c (.op (.semSignal (Dev.tc dev : Thread nD τ) sem k') k) Q) := by
  unfold summed idle toks
  rw [if_neg (by omega : ¬ h = 0), show min (h + 1) 4 = h + 1 by omega, show h + 1 - 2 = h - 1 by omega]
  iintro ⟨#Hr, ⟨⟨T1, T2, T3, T4, T5, T6, T7, T8⟩, S, B, R, -⟩, Ho⟩ Hk
  iapply (wp_give D K Ks c b s h n he h4 hdev hsem hk') $$ [T5 T6 S Ho]
  · isplitr; · iexact Hr
    isplitl [T5]; · iexact T5
    isplitl [T6]; · iexact T6
    isplitl [S] <;> iassumption
  iintro ⟨T5, T6, Ho⟩
  iapply Hk
  iframe

/-! ## Sums -/

/-- A slot's contents as the vector a load of the slot reads. -/
def unsq (X : Vec F S128x2048 .f32) : Vec F S1x128x2048 .f32 := shapeCast S1x128x2048 X (by decide)

theorem pay_unsq (A X : Vec F S128x2048 .f32) : k0_pay1 A (unsq X) = addf A X := by
  unfold k0_pay1 unsq
  simp only [shapeCast_self, shapeCast_shapeCast]

/-- A load of the rows the landed sum is to be added to, -/
theorem ld_rows {M : Memref sig .tc .vmem S128x2048 .f32} {X : Vec F S128x2048 .f32} {off : Fin 2 → ℕ}
    {inb : ∀ a, off a + S128x2048.size a ≤ S4096x2048.size a}
    {hl : oM.view.LoadsAt (Rect.unit (s := S4096x2048) off S128x2048.size inb).toLoadRect}
    {α : Type} {kk : Vec F S128x2048 .f32 → Prog (TpuEff nD τ sig (Elt F) Λ₀ .tc) α} {Q : α → sProp 𝕄}
    (hM : oM.slice (Rect.unit (s := S4096x2048) off S128x2048.size inb) (fun _ => rfl) = M) :
    own c M X
      ⊢ iprop((own c M X -∗ WP c (kk X) Q)
          -∗ WP c (.op (.load oM (Rect.unit (s := S4096x2048) off S128x2048.size inb).toLoadRect hl) kk) Q) := by
  subst hM
  unfold own owns
  iintro ⟨%f, %hf, H⟩ Hk
  iapply (wp_load_rect 𝒱₀ (c : Thread nD τ) none Set.univ (m := oM) (r := Rect.unit (s := S4096x2048) off S128x2048.size inb) (f := f) (q := fullShare)
    (S := (oM.slice (Rect.unit (s := S4096x2048) off S128x2048.size inb) (fun _ => rfl)).view.set) (fun _ h => h)) $$ [H]
  · iexact H
  iintro H
  have e : (oM.access (Rect.unit (s := S4096x2048) off S128x2048.size inb)).read (Elt F) f = X := hf
  rw [e]
  iapply Hk
  iexists f
  isplitr; · ipureintro; exact hf
  iexact H

/-- of the slot, -/
theorem ld_slot {m : Memref sig .tc .vmem S2x128x2048 .f32} {M : Memref sig .tc .vmem S128x2048 .f32} {X : Vec F S128x2048 .f32} {off : Fin 3 → ℕ}
    {inb : ∀ a, off a + S1x128x2048.size a ≤ S2x128x2048.size a}
    {hl : m.view.LoadsAt (Rect.unit (s := S2x128x2048) off S1x128x2048.size inb).toLoadRect}
    {α : Type} {kk : Vec F S1x128x2048 .f32 → Prog (TpuEff nD τ sig (Elt F) Λ₀ .tc) α} {Q : α → sProp 𝕄}
    (hM : (m.slice (Rect.unit (s := S2x128x2048) off S1x128x2048.size inb) (fun _ => rfl)).squeeze S128x2048 squeezes_S1x128x2048_S128x2048 = M) :
    own c M X
      ⊢ iprop((own c M X -∗ WP c (kk (unsq X)) Q)
          -∗ WP c (.op (.load m (Rect.unit (s := S2x128x2048) off S1x128x2048.size inb).toLoadRect hl) kk) Q) := by
  subst hM
  unfold own owns
  iintro ⟨%f, %hf, H⟩ Hk
  iapply (wp_load 𝒱₀ (c : Thread nD τ) none Set.univ (m := m) (r := (Rect.unit (s := S2x128x2048) off S1x128x2048.size inb).toLoadRect) (f := f) (q := fullShare)
    (S := ((m.slice (Rect.unit (s := S2x128x2048) off S1x128x2048.size inb) (fun _ => rfl)).squeeze S128x2048 squeezes_S1x128x2048_S128x2048).view.set)
    (by
      have e : ((m.slice (Rect.unit (s := S2x128x2048) off S1x128x2048.size inb) (fun _ => rfl)).squeeze S128x2048 squeezes_S1x128x2048_S128x2048).view.set
          = m.view.setOn (Rect.unit (s := S2x128x2048) off S1x128x2048.size inb).set := (View.set_reshape _ _).trans (View.set_slice _ _)
      rw [e])) $$ [H]
  · iexact H
  iintro H
  have e : m.view.readAt (Elt F) (Rect.unit (s := S2x128x2048) off S1x128x2048.size inb).toLoadRect f = unsq X := by
    unfold unsq
    rw [← hf]
    exact (shapeCast_shapeCast (t := S128x2048) (s := S1x128x2048) (m.view.readAt (Elt F) (Rect.unit (s := S2x128x2048) off S1x128x2048.size inb).toLoadRect f) (by decide) (by decide)).symm
  rw [e]
  iapply Hk
  iexists f
  isplitr; · ipureintro; exact hf
  iexact H

/-- and the store of the sum. -/
theorem st_rows {M : Memref sig .tc .vmem S128x2048 .f32} {X Y : Vec F S128x2048 .f32} {off : Fin 2 → ℕ}
    {inb : ∀ a, off a + S128x2048.size a ≤ S4096x2048.size a}
    {hx : (oM.access (Rect.unit (s := S4096x2048) off S128x2048.size inb)).Stores Finset.univ}
    {hm : (Finset.univ : Finset (Rect.unit (s := S4096x2048) off S128x2048.size inb).shape.Idx) = Finset.univ ∨ ∀ a, (Rect.unit (s := S4096x2048) off S128x2048.size inb).stride a = 1}
    (hM : oM.slice (Rect.unit (s := S4096x2048) off S128x2048.size inb) (fun _ => rfl) = M)
    {α : Type} {k : PUnit → Prog (TpuEff nD τ sig (Elt F) Λ₀ .tc) α} {Q : α → sProp 𝕄} :
    own c M X
      ⊢ iprop((own c M Y -∗ WP c (k ⟨⟩) Q)
          -∗ WP c (.op (.store oM (Rect.unit (s := S4096x2048) off S128x2048.size inb) Y Finset.univ hx hm) k) Q) := by
  subst hM
  unfold own owns
  iintro ⟨%f, %hf, H⟩ Hk
  iapply (wp_store 𝒱₀ (c : Thread nD τ) none Set.univ (m := oM) (r := Rect.unit (s := S4096x2048) off S128x2048.size inb) (f := f) (w := Y)
    (Mk := Finset.univ) (hx := hx) (hm := hm)
    (S := (oM.slice (Rect.unit (s := S4096x2048) off S128x2048.size inb) (fun _ => rfl)).view.set)
    (by rw [View.setOn_univ])) $$ [H]
  · iexact H
  iintro H
  iapply Hk
  iexists ((oM.access (Rect.unit (s := S4096x2048) off S128x2048.size inb)).write (Elt F) f Y Finset.univ)
  isplitr; · ipureintro; exact View.read_write_univ _ _
  iexact H

end Events

end Cert.RingProof

end
-- ==== Proof.Handshake.lean ====
/-
# The handshake, the operand copies, and a hop's sums

The signal by which each device tells the one that sends to it that its landing slots may be written, the wait for the
two neighbours' signals, the two copies of the operands, and what a landed hop turns into.
-/
module

public import proofs.«01_k».proof.Proof.Lane

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Dev nD × Cell → ℕ) (Ks : Key → ℕ)

/-! ## The handshake -/

/-- A signal of the handshake given. -/
theorem ev_bar (c : Dev nD) (b : Bool) (n : ℕ) (he : evs[n]? = some (.bar b))
    {dev : Dev nD} {sem : Sem sig} {k' : ℕ} (hdev : dev = frm b c) (hsem : SemLoc.reg sem = csem .bar) (hk' : k' = 1)
    {α : Type} {k : PUnit → Prog (TpuEff nD τ sig (Elt F) Λ₀ .tc) α} {Q : α → sProp 𝕄} :
    iprop(recs D K Ks ∗ dutyTok ER (cell (frm b c) .bar) 0 (if b then 1 else 0) ∗ barPay (F := F) (frm b c) b ∗ owesE c n)
      ⊢ iprop((owesE c (n + 1) -∗ WP c (k ⟨⟩) Q)
          -∗ WP c (.op (.semSignal (Dev.tc dev : Thread nD τ) sem k') k) Q) := by
  subst hdev hk'
  unfold owesE
  iintro ⟨#Hr, Ht, Hp, ⟨%W, Ho⟩⟩ Hk
  ihave Hre := (recs_reached D K Ks (frm b c) .bar) $$ Hr
  ihave HI := (recs_cell D K Ks (frm b c) .bar) $$ Hr
  have hc : ((Dev.tc (frm b c) : Thread nD τ), SemLoc.reg sem) = cell (frm b c) .bar := by rw [hsem]
  iapply (Rounds.wp_signal 𝒱₀ ER (Rd D) (c : Thread nD τ) none (dst := (frm b c : Thread nD τ)) (κ := K (frm b c, .bar)) (r := 0)
      (d := if b then 1 else 0) (by rw [hc, duties_bar]; cases b <;> decide) (by rw [hc, amount_cell]; rfl) (lev (.bar b)) (O₀ := Ow c n) (Ow c (n + 1))
      (by rw [hc]; exact Ow_step c he) (W := W)) $$ [HI Ho Ht Hp]
  · rw [hc, payload_bar, show decide ((if b then 1 else 0) = 1) = b by cases b <;> rfl]
    isplitl [HI]; · iexact HI
    isplitl [Ho]; · iexact Ho
    isplitl [Ht]; · iexact Ht
    isplitl [Hp]; · iexact Hp
    iexact Hre
  iintro Ho
  iapply Hk
  iexists W; iexact Ho

/-- Both neighbours' signals awaited. -/
theorem ev_barWait (c : Dev nD) {sem : Sem sig} {k' : ℕ} (hsem : SemLoc.reg sem = csem .bar) (hk' : k' = 2)
    {α : Type} {k : PUnit → Prog (TpuEff nD τ sig (Elt F) Λ₀ .tc) α} {Q : α → sProp 𝕄} :
    iprop(recs D K Ks ∗ cred (tallyAt (cell c .bar) 1 1) ∗ cred (tallyAt (cell c .bar) 2 1) ∗ owesE c 2 ∗ atPos ER (cell c .bar) 0 ∅ 0)
      ⊢ iprop(((owesE c 2 ∗ atPos ER (cell c .bar) 1 ∅ 0 ∗ barPay (F := F) c false ∗ barPay (F := F) c true) -∗ WP c (k ⟨⟩) Q)
          -∗ WP c (.op (.semWait sem k') k) Q) := by
  subst hk'
  have hw : ∀ P : PUnit → sProp 𝕄, wpE (defs₀ (F := F)) 𝒱₀ (c : Thread nD τ) none Set.univ (.semWait sem 2) P
      = waitSpec (c : Thread nD τ) Set.univ (csem .bar) 2 P := fun P => by rw [← hsem]; exact wpE_semWait_eq _ _ _ _ P
  have hcr : iprop(cred (tallyAt (cell c .bar) 1 1) ∗ cred (tallyAt (cell c .bar) 2 1))
      ⊢ (cred (tallyOn (cell c .bar) (Finsupp.single 1 1 + Finsupp.single 2 1)) : sProp 𝕄) := by
    rw [show (tallyOn (cell c .bar) (Finsupp.single 1 1 + Finsupp.single 2 1) : CellTallies nD τ sig ℕ)
        = tallyAt (cell c .bar) 1 1 + tallyAt (cell c .bar) 2 1 from Pi.single_add _ _ _]
    exact (cred_add _ _).2
  unfold owesE
  iintro ⟨#Hr, C1, C2, ⟨%W, Ho⟩, Hat⟩ Hk
  ihave HI := (recs_cell D K Ks c .bar) $$ Hr
  ihave C := hcr $$ [C1 C2]
  · isplitl [C1] <;> iassumption
  iapply (Rounds.wp_wait_rest 𝒱₀ ER (Rd D) (c : Thread nD τ) none (κ := K (c, .bar)) hw (Set.mem_univ _)
      (cr := Finsupp.single 1 1 + Finsupp.single 2 1) (O := Ow c 2) (W := W) {(csem .bar, 1), (csem .bar, 2)} (R := 0) (m := 0) (T := ∅)
      (by rw [expect_bar]) (by rw [Util.total_add, Util.total_single, Util.total_single])
      (by
        intro p hp
        obtain ⟨u, hu, rfl⟩ := Finset.mem_image.mp hp
        have : u = 1 ∨ u = 2 := by
          by_contra hne
          rw [not_or] at hne
          rw [Finsupp.mem_support_iff, Finsupp.add_apply, Finsupp.single_apply, Finsupp.single_apply, if_neg (fun h => hne.1 h.symm), if_neg (fun h => hne.2 h.symm)] at hu
          exact hu rfl
        rcases this with rfl | rfl <;> simp)) $$ [HI C Ho Hat]
  · isplitl [HI]; · iexact HI
    isplitl [C]; · iexact C
    isplitl [Ho]; · iexact Ho
    isplitr
    · iapply (MayOwe.of_cut (L := L) (lev := lv) 2
        (fun p hp => by
          have : p.1 = csem .bar ∧ (p.2 = 1 ∨ p.2 = 2) := by
            rcases Finset.mem_insert.mp hp with rfl | hp
            · exact ⟨rfl, .inl rfl⟩
            · rw [Finset.mem_singleton.mp hp]; exact ⟨rfl, .inr rfl⟩
          rw [L_tc]; exact Finset.mem_range.mpr (by omega))
        (fun g w hg => by
          obtain ⟨h1, h2, h3⟩ := Ow_pos hg
          unfold L; rw [if_pos h3]; exact Finset.mem_range.mpr (by omega))
        (fun p hp => by
          have : p.2 = 1 ∨ p.2 = 2 := by
            rcases Finset.mem_insert.mp hp with rfl | hp
            · exact .inl rfl
            · rw [Finset.mem_singleton.mp hp]; exact .inr rfl
          show p.2 ≤ 2; omega)
        (fun g w hg => (Ow_pos hg).1))
      iapply (recs_lev D K Ks); iexact Hr
    iexact Hat
  rw [Finset.sdiff_empty, duties_bar, bigSep_take (a := 0) (by decide), show ({0, 1} : Finset ℕ).erase 0 = {1} by decide, bigSep_singleton,
    payload_bar, payload_bar]
  iintro ⟨Ho, Hat, -, Hp0, Hp1⟩
  iapply Hk
  isplitl [Ho]; · iexists _; iexact Ho
  isplitl [Hat]; · iexact Hat
  isplitl [Hp0]; · iexact Hp0
  iexact Hp1

/-! ## The operands -/

/-- What a landed local copy leaves: both ends hold the words sent. -/
theorem owned_both (c : Dev nD) {sh : Shape} (src : Memref sig .tc .hbm sh .i8) (dst : Memref sig .tc .vmem sh .i8) (X : sh.Idx → Elt F .i8)
    (f : src.view.ty.Contents (Elt F)) (g : dst.view.ty.Contents (Elt F)) (hf : src.view.read (Elt F) f = X) :
    iprop((dst.view.loc (c : Thread nD τ) ↦[dst.view.set]{fullShare} dst.view.write (Elt F) g (src.view.read (Elt F) f) Finset.univ)
        ∗ (src.view.loc (c : Thread nD τ) ↦[src.view.set]{fullShare} f))
      ⊢ (iprop(own c dst X ∗ own c src X) : sProp 𝕄) := by
  unfold own owns
  iintro ⟨Hd, Hs⟩
  isplitl [Hd]
  · iexists (dst.view.write (Elt F) g (src.view.read (Elt F) f) Finset.univ)
    isplitr; · ipureintro; rw [View.read_write_univ, hf]
    iexact Hd
  · iexists f
    isplitr; · ipureintro; exact hf
    iexact Hs

/-- The copy of an operand started. -/
theorem ev_copy (c : Dev nD) (i : Fin 2) {sh : Shape} {N : ℕ} {src : Memref sig .tc .hbm sh .i8} {dst : Memref sig .tc .vmem sh .i8} {sem : SemLoc sig}
    (hsem : sem = csem (.cp i)) (X : sh.Idx → Elt F .i8) (hN : dst.view.dmaCredit = N) (hN' : amountOf (some (.cp i)) = N)
    (hpay : iprop(own c dst X ∗ own c src X) ⊢ cpPay D c i)
    {h₁ : src.view.WordExact} {h₂ : dst.view.WordExact} {h₃ : DmaTarget.Typed .hbm sem (.here dst : DmaTarget nD τ sig (.tc : Proc τ) .vmem sh .i8)}
    {α : Type} {k : PUnit → Prog (TpuEff nD τ sig (Elt F) Λ₀ .tc) α} {Q : α → sProp 𝕄} :
    iprop(recs D K Ks ∗ own c src X ∗ (∃ Y, own (F := F) c dst Y) ∗ dutyTok ER (cell c (.cp i)) 0 0)
      ⊢ iprop((cred (tallyAt (cell c (.cp i)) 0 N) -∗ WP c (k ⟨⟩) Q)
          -∗ WP c (.op (.enqueueDma src (.here dst) sem h₁ h₂ h₃) k) Q) := by
  subst hsem
  unfold own owns
  iintro ⟨#Hr, ⟨%f, %hf, Hs⟩, ⟨%Y, %g, %hg, Hd⟩, Ht⟩ Hk
  ihave Hre := (recs_reached D K Ks c (.cp i)) $$ Hr
  ihave HI := (recs_cell D K Ks c (.cp i)) $$ Hr
  iapply (Rounds.wp_copy_pointsTo 𝒱₀ ER (Rd D) (c : Thread nD τ) none (κ := K (c, .cp i)) (src := src) (dst := dst) (sem := csem (.cp i))
      (fs := f) (fd := g) (q := fullShare) (r := 0) (d := 0)
      (by rw [duties_cp]; exact Finset.mem_singleton_self _) 0 N hN ((amount_cell D c _ _ _).trans hN')
      (by
        rw [payload_cp]
        refine BI.Entails.trans ?_ hpay
        exact owned_both c src dst X f g hf)) $$ [Hs Hd Ht]
  · isplitl [HI]; · iexact HI
    isplitl [Hs]; · iexact Hs
    isplitl [Hd]; · iexact Hd
    isplitl [Ht]; · iexact Ht
    iexact Hre
  iintro C
  iapply Hk; iexact C

/-- Its end awaited. -/
theorem ev_copied (c : Dev nD) (i : Fin 2) (n : ℕ) (hn : n ≤ 82) {N : ℕ} (hN' : amountOf (some (.cp i)) = N)
    {sem : DmaSem sig} {sp sp' : Space} {sh sh' : Shape} {e e' : EltTy} {src : Memref sig .tc sp' sh' e'} {dst : Memref sig .tc sp sh e}
    (hsem : SemLoc.dma sem = csem (.cp i)) (hcr : dst.view.dmaCredit = N)
    {h₁ : src.view.WordExact} {h₂ : dst.view.WordExact}
    {α : Type} {k : PUnit → Prog (TpuEff nD τ sig (Elt F) Λ₀ .tc) α} {Q : α → sProp 𝕄} :
    iprop(recs D K Ks ∗ atPos ER (cell c (.cp i)) 0 ∅ 0 ∗ cred (tallyAt (cell c (.cp i)) 0 N) ∗ owesE c n)
      ⊢ iprop(((atPos ER (cell c (.cp i)) 1 ∅ 0 ∗ cpPay D c i ∗ owesE c n) -∗ WP c (k ⟨⟩) Q)
          -∗ WP c (.op (.waitDma2 sem src dst h₁ h₂) k) Q) := by
  iintro ⟨#Hr, Hat, Hc, Ho⟩ Hk
  iapply (wp_rest D K Ks c (.cp i) (R := 0) (m := 0) (k' := N) (u := 0) (n := n) (T := ∅)
      (fun P => by rw [← hsem, ← hcr]; exact wpE_waitDma2_eq _ _ _ _ P) (by rw [expect_cp, Nat.zero_add, hN'])
      (Nat.zero_le _) hn) $$ [Hc Ho Hat]
  · isplitr; · iexact Hr
    isplitl [Hc]; · iexact Hc
    isplitl [Ho] <;> iassumption
  rw [Finset.sdiff_empty, duties_cp, bigSep_singleton, payload_cp]
  unfold at'
  iintro ⟨Ho, ⟨Hat, -⟩, Hp⟩
  iapply Hk
  isplitl [Hat]; · iexact Hat
  isplitl [Hp] <;> iassumption

/-! ## What a landed hop turns into -/

section Turn
variable (c : Dev nD) (b : Bool) (s : Fin 4)

/-- What the sum after hop `h` leaves alone. -/
def still : ℕ → sProp 𝕄
  | 0 => iprop(blkP D c b s 2 ∗ blkP D c b s 3 ∗ place (F := F) (tgt b c) b s 1)
  | 1 => iprop(blkU (F := F) c b s 0 ∗ blkP D c b s 3)
  | _ => iprop(blkU (F := F) c b s 1 ∗ slotU (F := F) c b s 1)

theorem rest_0 : rest D c b s 0 = iprop(blkP D c b s 1 ∗ blkP D c b s 2 ∗ blkP D c b s 3 ∗ place (F := F) (tgt b c) b s 1) := rfl
theorem rest_1 : rest D c b s 1 = iprop(blkU (F := F) c b s 0 ∗ blkP D c b s 2 ∗ blkP D c b s 3) := rfl
theorem rest_2 : rest D c b s 2 = iprop(blkU (F := F) c b s 1 ∗ blkP D c b s 3 ∗ slotU (F := F) c b s 1) := rfl
theorem rest_3 : rest D c b s 3 = iprop(blkU (F := F) c b s 2 ∗ slotU (F := F) c b s 1 ∗ slotU (F := F) c b s 0) := rfl
theorem rest_4 : rest D c b s 4 = iprop(blk c b s 3 (sent D b s 3 c) ∗ slotU (F := F) c b s 1 ∗ slotU (F := F) c b s 0) := rfl
theorem rest_5 : rest D c b s 5
    = iprop(blk c b s 3 (sent D b s 3 c) ∗ blk c b s 4 (sent D b s 4 c) ∗ slotU (F := F) c b s 1 ∗ slotU (F := F) c b s 0) := rfl
theorem still_0 : still D c b s 0 = iprop(blkP D c b s 2 ∗ blkP D c b s 3 ∗ place (F := F) (tgt b c) b s 1) := rfl
theorem still_1 : still D c b s 1 = iprop(blkU (F := F) c b s 0 ∗ blkP D c b s 3) := rfl
theorem still_2 : still D c b s 2 = iprop(blkU (F := F) c b s 1 ∗ slotU (F := F) c b s 1) := rfl

/-- Hop `h` has landed in a slot, and the rows to add to are there. -/
def piled (h : ℕ) : sProp 𝕄 :=
  iprop(toks c b s (h + 1) (h + 1) (h + 1) (min h 4) (h - 1) ∗ blk c b s h (sent D b s h c) ∗ blkP D c b s (h + 1)
    ∗ own c (rslot b s (par h)) (sent D b s h (frm b c)) ∗ still D c b s h)

theorem piled_of (h : ℕ) (hh : h < 3) : landed D c b s (rest D c b s h) h ⊢ piled D c b s h := by
  unfold landed piled recvPay
  rw [if_pos hh]
  rcases (by omega : h = 0 ∨ h = 1 ∨ h = 2) with rfl | rfl | rfl
  · rw [rest_0, still_0]
    iintro ⟨T, B, S, B1, B2, B3, P⟩
    iframe
  · rw [rest_1, still_1]
    iintro ⟨T, B, S, B1, B2, B3⟩
    iframe
  · rw [rest_2, still_2]
    iintro ⟨T, B, S, B1, B2, B3⟩
    iframe

/-- The landing cell that credit `h` speaks of has reached its round. -/
theorem toks_place (ns nw nr ng nt : ℕ) : (toks (F := F) c b s ns nw nr ng nt)
    ⊢ iprop(toks c b s ns nw nr ng nt ∗ reached ER (cell c (.recv b s (par (nr + 1)))) ((nr + 1) / 2)) := by
  unfold toks
  iintro ⟨T1, T2, T3, T4, T5⟩
  ihave T4 := (landAt_reached c b s nr) $$ T4
  icases T4 with ⟨T4, -, R⟩
  iframe

theorem sent_succ (D : Data F) (b : Bool) (s : Fin 4) (h : ℕ) (hh : h < 3) (c : Dev nD) :
    sent D b s (h + 1) c = addf (D.P c b (chunk b c (h + 1)) s) (sent D b s h (frm b c)) := if_pos hh
theorem sent_pass (D : Data F) (b : Bool) (s : Fin 4) (h : ℕ) (hh : 3 ≤ h) (c : Dev nD) :
    sent D b s (h + 1) c = sent D b s h (frm b c) := if_neg (by omega)

/-- After the sum the slot (at hop 0), or the rows sent a hop before, are free. -/
theorem summed_of (h : ℕ) (hh : h < 3) :
    iprop(toks c b s (h + 1) (h + 1) (h + 1) (min h 4) (h - 1) ∗ blk c b s h (sent D b s h c) ∗ blk c b s (h + 1) (sent D b s (h + 1) c)
      ∗ own c (rslot b s (par h)) (sent D b s h (frm b c)) ∗ still D c b s h) ⊢ summed D c b s h := by
  unfold summed
  rcases (by omega : h = 0 ∨ h = 1 ∨ h = 2) with rfl | rfl | rfl
  · have hsl : iprop((∃ X, own (F := F) c (rslot b s (par 0)) X) ∗ reached ER (cell c (.recv b s (par 2))) (2 / 2))
        ⊢ slotRes (F := F) (c, b, s, 0) := by
      exact (Entails.of_eq rfl : iprop((∃ X, own (F := F) c (rslot b s (par 2)) X) ∗ reached ER (cell c (.recv b s (par 2))) (2 / 2))
        ⊢ slotRes (F := F) (c, b, s, 0))
    rw [if_pos rfl, still_0, show 0 + 1 = 1 from rfl, rest_1]
    unfold blkU
    iintro ⟨T, B, B', S, ⟨B2, B3, P⟩⟩
    ihave T := (by exact toks_place c b s 1 1 1 0 0 : toks (F := F) c b s 1 1 1 (min 0 4) (0 - 1)
      ⊢ iprop(toks c b s 1 1 1 (min 0 4) (0 - 1) ∗ reached ER (cell c (.recv b s (par 2))) (2 / 2))) $$ T
    icases T with ⟨T, #Re⟩
    isplitl [T]; · iexact T
    isplitl [S]
    · iapply hsl
      isplitl [S]; · iexists _; iexact S
      iexact Re
    isplitl [B']; · iexact B'
    isplitl [B B2 B3]
    · isplitl [B]; · iexists _; iexact B
      isplitl [B2] <;> iassumption
    iexact P
  · have hsl : iprop((∃ X, own (F := F) c (oblk b (chunk b c 4) s) X) ∗ reached ER (cell c (.recv b s (par 3))) (3 / 2))
        ⊢ slotRes (F := F) (c, b, s, 1) := Entails.of_eq rfl
    rw [show chunk b c 4 = chunk b c 0 from chunk_add_four b c 0] at hsl
    rw [if_neg (by decide), still_1, show 1 + 1 = 2 from rfl, rest_2]
    unfold blkU slotU
    iintro ⟨T, B, B', S, ⟨U, B3⟩⟩
    ihave T := (by exact toks_place c b s 2 2 2 1 0 : toks (F := F) c b s 2 2 2 (min 1 4) (1 - 1)
      ⊢ iprop(toks c b s 2 2 2 (min 1 4) (1 - 1) ∗ reached ER (cell c (.recv b s (par 3))) (3 / 2))) $$ T
    icases T with ⟨T, #Re⟩
    isplitl [T]; · iexact T
    isplitl [U]
    · iapply hsl
      isplitl [U]; · iexact U
      iexact Re
    isplitl [B']; · iexact B'
    isplitl [B B3 S]
    · isplitl [B]; · iexists _; iexact B
      isplitl [B3]; · iexact B3
      iexists _; iexact S
    ipureintro; trivial
  · have hsl : iprop((∃ X, own (F := F) c (oblk b (chunk b c 5) s) X) ∗ reached ER (cell c (.recv b s (par 4))) (4 / 2))
        ⊢ slotRes (F := F) (c, b, s, 2) := Entails.of_eq rfl
    rw [show chunk b c 5 = chunk b c 1 from chunk_add_four b c 1] at hsl
    rw [if_neg (by decide), still_2, show 2 + 1 = 3 from rfl, rest_3]
    unfold blkU slotU
    iintro ⟨T, B, B', S, ⟨U, S1⟩⟩
    ihave T := (by exact toks_place c b s 3 3 3 2 1 : toks (F := F) c b s 3 3 3 (min 2 4) (2 - 1)
      ⊢ iprop(toks c b s 3 3 3 (min 2 4) (2 - 1) ∗ reached ER (cell c (.recv b s (par 4))) (4 / 2))) $$ T
    icases T with ⟨T, #Re⟩
    isplitl [T]; · iexact T
    isplitl [U]
    · iapply hsl
      isplitl [U]; · iexact U
      iexact Re
    isplitl [B']; · iexact B'
    isplitl [B S S1]
    · isplitl [B]; · iexists _; iexact B
      isplitl [S1]; · iexact S1
      iexists _; iexact S
    ipureintro; trivial

/-- Hop 3 lands where the sum belongs: nothing to add. -/
theorem passed_three : landed D c b s (rest D c b s 3) 3 ⊢ summed D c b s 3 := by
  have hsl : iprop((∃ X, own (F := F) c (oblk b (chunk b c 6) s) X) ∗ reached ER (cell c (.recv b s (par 5))) (5 / 2))
      ⊢ slotRes (F := F) (c, b, s, 3) := Entails.of_eq rfl
  rw [show chunk b c 6 = chunk b c 2 from chunk_add_four b c 2] at hsl
  unfold landed summed recvPay
  rw [if_neg (by decide), if_neg (by decide), show min 3 4 = 3 from rfl, sent_pass D b s 3 (by decide) c, show 3 + 1 = 4 from rfl, rest_3, rest_4]
  unfold blkU
  iintro ⟨T, B, P, ⟨U, S⟩⟩
  ihave T := (toks_place c b s 4 4 4 3 2) $$ T
  icases T with ⟨T, #Re⟩
  isplitl [T]; · iexact T
  isplitl [U]
  · iapply hsl
    isplitl [U]; · iexact U
    iexact Re
  isplitl [P]; · iexact P
  isplitl [B S]; · isplitl [B] <;> iassumption
  ipureintro; trivial

theorem passed_four : landed D c b s (rest D c b s 4) 4 ⊢ idle D c b s 5 := by
  unfold landed idle recvPay
  rw [if_neg (by decide), sent_pass D b s 4 (by decide) c]
  rw [rest_4, rest_5]
  iintro ⟨T, B, P, R⟩
  isplitl [T]; · iexact T
  isplitl [P]; · iexact P
  icases R with ⟨B3, S⟩
  isplitl [B3]; · iexact B3
  isplitl [B] <;> iassumption

theorem passed_five : landed D c b s (rest D c b s 5) 5 ⊢ done D c b s := by
  unfold landed done recvPay
  rw [if_neg (by decide), sent_pass D b s 5 (by decide) c]
  rw [rest_5]
  iintro ⟨T, B, P, R⟩
  isplitl [T]; · iexact T
  icases R with ⟨B3, B4, S⟩
  isplitl [B3]; · iexact B3
  isplitl [B4]; · iexact B4
  isplitl [B]; · iexact B
  isplitl [P] <;> iassumption

end Turn

end Cert.RingProof

end
-- ==== Proof.Walk.lean ====
/-
# Steps of a walk through the body

The body is cut into parts that take the same buffers and semaphores. This module fixes those, restates the steps of
a lane one hypothesis at a time, and gives the equalities by which an access is recognised as a lane's rows or slot.
-/
module

public import proofs.«01_k».proof.Proof.Handshake

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The two scales' staging buffers. -/
abbrev aM : Memref sig .tc .smem S1 .f32 := Memref.whole cc0_stg0_0
abbrev bM : Memref sig .tc .smem S1 .f32 := Memref.whole cc0_stg1_0

/-- A part of the body at the buffers and semaphores of the launch. -/
abbrev pt {β : Sort _} (f : (arg0 : Memref sig .tc .hbm S4096x1024 .i8) → (harg0 : arg0.IsWhole) → (arg1 : Memref sig .tc .hbm S1024x2048 .i8) → (harg1 : arg1.IsWhole) → (arg2 : Memref sig .tc .smem S1 .f32) → (harg2 : arg2.IsWhole) → (arg3 : Memref sig .tc .smem S1 .f32) → (harg3 : arg3.IsWhole) → (arg4 : Memref sig .tc .vmem S4096x2048 .f32) → (harg4 : arg4.IsWhole) → (arg5 : Memref sig .tc .vmem S2x128x2048 .f32) → (harg5 : arg5.IsWhole) → (arg6 : Memref sig .tc .vmem S2x128x2048 .f32) → (harg6 : arg6.IsWhole) → (arg7 : Memref sig .tc .vmem S2x128x2048 .f32) → (harg7 : arg7.IsWhole) → (arg8 : Memref sig .tc .vmem S2x128x2048 .f32) → (harg8 : arg8.IsWhole) → (arg9 : Memref sig .tc .vmem S2x128x2048 .f32) → (harg9 : arg9.IsWhole) → (arg10 : Memref sig .tc .vmem S2x128x2048 .f32) → (harg10 : arg10.IsWhole) → (arg11 : Memref sig .tc .vmem S2x128x2048 .f32) → (harg11 : arg11.IsWhole) → (arg12 : Memref sig .tc .vmem S2x128x2048 .f32) → (harg12 : arg12.IsWhole) → (arg13 : DmaSems sig S2) → (arg14 : DmaSems sig S2) → (arg15 : DmaSems sig S2) → (arg16 : DmaSems sig S2) → (arg17 : DmaSems sig S2) → (arg18 : DmaSems sig S2) → (arg19 : DmaSems sig S2) → (arg20 : DmaSems sig S2) → (arg21 : DmaSems sig S2) → (arg22 : DmaSems sig S2) → (arg23 : DmaSems sig S2) → (arg24 : DmaSems sig S2) → (arg25 : DmaSems sig S2) → (arg26 : DmaSems sig S2) → (arg27 : DmaSems sig S2) → (arg28 : DmaSems sig S2) → (arg29 : Sems sig S_) → (arg30 : Sems sig S_) → (arg31 : Sems sig S_) → (arg32 : Sems sig S_) → (arg33 : Sems sig S_) → (arg34 : Sems sig S_) → (arg35 : Sems sig S_) → (arg36 : Sems sig S_) → (arg37 : Memref sig .tc .vmem S4096x1024 .i8) → (harg37 : arg37.IsWhole) → (arg38 : Memref sig .tc .vmem S1024x2048 .i8) → (harg38 : arg38.IsWhole) → (arg39 : DmaSems sig S2) → β) : β :=
  f xA (Memref.isWhole_whole _) wA (Memref.isWhole_whole _) aM (Memref.isWhole_whole _) bM (Memref.isWhole_whole _) oM (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 cc0_scratch27 cc0_scratch28 cc0_scratch29 cc0_scratch30 cc0_scratch31 xM (Memref.isWhole_whole _) wM (Memref.isWhole_whole _) cc0_scratch34

/-! ## Hypothesis by hypothesis -/

section Curry
variable {M : Type _} [URA M]

theorem step2 {A B C W V : sProp M} (h : iprop(A ∗ B) ⊢ iprop((C -∗ W) -∗ V)) : A ⊢ iprop(B -∗ (C -∗ W) -∗ V) := by
  iintro HA HB; iapply h; iframe
theorem step3 {A B C D E W V : sProp M} (h : iprop(A ∗ B ∗ C) ⊢ iprop(((D ∗ E) -∗ W) -∗ V)) :
    A ⊢ iprop(B -∗ C -∗ (D -∗ E -∗ W) -∗ V) := by
  iintro HA HB HC Hk
  iapply h $$ [HA HB HC]
  · iframe
  iintro ⟨HD, HE⟩
  iapply Hk $$ HD HE

end Curry

/-- A part ended. -/
theorem ended (c : Dev nD) {α : Type} (a : α) (Q : α → sProp 𝕄) : Q a ⊢ WP c (Prog.ret a) Q := by
  unfold WP; rw [wp_ret]; iintro H; imodintro; iexact H

/-! ## Accesses -/

theorem at_rows {off : Fin 2 → ℕ} {inb : ∀ a, off a + S128x2048.size a ≤ S4096x2048.size a} (b : Bool) (k s : Fin 4) (e : off = ![row b k s, 0]) :
    oM.slice (Rect.unit (s := S4096x2048) off S128x2048.size inb) (fun _ => rfl) = oblk b k s := by subst e; rfl

theorem at_slot {m : Memref sig .tc .vmem S2x128x2048 .f32} {off : Fin 3 → ℕ} {inb : ∀ a, off a + S1x128x2048.size a ≤ S2x128x2048.size a}
    (b : Bool) (s : Fin 4) (q : Fin 2) (hm : m = rM b s) (e : off = ![q.val, 0, 0]) :
    (m.slice (Rect.unit (s := S2x128x2048) off S1x128x2048.size inb) (fun _ => rfl)).squeeze S128x2048 squeezes_S1x128x2048_S128x2048
      = rslot b s q := by subst hm; subst e; rfl

theorem dst_slot (b : Bool) (c : Dev nD) (s : Fin 4) (h : ℕ) (hh : h < 3) : rslot b s (par h) = dstM b c s h := (if_pos hh).symm
theorem dst_rows (b : Bool) (c : Dev nD) (s : Fin 4) (h : ℕ) (hh : 3 ≤ h) : oblk b (chunk b c h) s = dstM b c s h :=
  (if_neg (by omega)).symm

/-! ## The steps -/

section Steps
variable {D : Data F} {K : Dev nD × Cell → ℕ} {Ks : Key → ℕ} {c : Dev nD}

/-- A transfer's source read. -/
theorem doSent (b : Bool) (s : Fin 4) (R : sProp 𝕄) (h n : ℕ) (hh : h < 6) (hn : n ≤ 82)
    {sem : DmaSem sig} {sp sp' : Space} {sh sh' : Shape} {e e' : EltTy} {src : Memref sig .tc sp' sh' e'} {dst : Memref sig .tc sp sh e}
    (hsem : SemLoc.dma sem = csem (.send b s (par h))) (hcr : dst.view.dmaCredit = NB)
    {h₁ : src.view.WordExact} {h₂ : dst.view.WordExact}
    {α : Type} {k : PUnit → Prog (TpuEff nD τ sig (Elt F) Λ₀ .tc) α} {Q : α → sProp 𝕄} :
    recs D K Ks ⊢ iprop(fly c b s R h -∗ owesE c n
      -∗ (gone D c b s R h -∗ owesE c n -∗ WP c (k ⟨⟩) Q) -∗ WP c (.op (.waitDma2 sem src dst h₁ h₂) k) Q) :=
  step3 (ev_sent D K Ks c b s R h n hh hn hsem hcr)

/-- A landing. -/
theorem doLand (b : Bool) (s : Fin 4) (R : sProp 𝕄) (h n : ℕ) (hh : h < 6) (hl : lev (.start h s b) ≤ n) (hn : n ≤ 82)
    {sem : DmaSem sig} {sp sp' : Space} {sh sh' : Shape} {e e' : EltTy} {src : Memref sig .tc sp' sh' e'} {dst : Memref sig .tc sp sh e}
    (hsem : SemLoc.dma sem = csem (.recv b s (par h))) (hcr : dst.view.dmaCredit = NB)
    {h₁ : src.view.WordExact} {h₂ : dst.view.WordExact}
    {α : Type} {k : PUnit → Prog (TpuEff nD τ sig (Elt F) Λ₀ .tc) α} {Q : α → sProp 𝕄} :
    recs D K Ks ⊢ iprop(gone D c b s R h -∗ owesE c n
      -∗ (landed D c b s R h -∗ owesE c n -∗ WP c (k ⟨⟩) Q) -∗ WP c (.op (.waitDma2 sem src dst h₁ h₂) k) Q) :=
  step3 (ev_land D K Ks c b s R h n hh hl hn hsem hcr)

/-- A lane at the top of hop `h`: the place of hop 1 is in hand from the start, those of the later hops are waited for. -/
def before (D : Data F) (c : Dev nD) (b : Bool) (s : Fin 4) (h : ℕ) : sProp 𝕄 :=
  if h = 1 then ready D c b s (rest D c b s 1) 1 else idle D c b s h

theorem before_one (b : Bool) (s : Fin 4) : before D c b s 1 ⊢ ready D c b s (rest D c b s 1) 1 := by
  unfold before; rw [if_pos rfl]

/-- A credit given. -/
theorem doGive (b : Bool) (s : Fin 4) (h n : ℕ) (h4 : h < 4) (he : evs[n]? = some (.cred h s b))
    {dev : Dev nD} {sem : Sem sig} {k' : ℕ} (hdev : dev = frm b c) (hsem : SemLoc.reg sem = csem (.cred b s)) (hk' : k' = 1)
    {α : Type} {k : PUnit → Prog (TpuEff nD τ sig (Elt F) Λ₀ .tc) α} {Q : α → sProp 𝕄} :
    recs D K Ks ⊢ iprop(summed D c b s h -∗ owesE c n
      -∗ (before D c b s (h + 1) -∗ owesE c (n + 1) -∗ WP c (k ⟨⟩) Q)
      -∗ WP c (.op (.semSignal (Dev.tc dev : Thread nD τ) sem k') k) Q) := by
  unfold before
  by_cases h0 : h = 0
  · subst h0; rw [if_pos rfl]; exact step3 (ev_give0 D K Ks c b s n he hdev hsem hk')
  · rw [if_neg (by omega)]; exact step3 (ev_give D K Ks c b s h n (by omega) h4 he hdev hsem hk')

/-- A credit taken. -/
theorem doTake (b : Bool) (s : Fin 4) (h n : ℕ) (h2 : 2 ≤ h) (h6 : h < 6) (hl : lev (.cred (h - 2) s b) ≤ n) (hn : n ≤ 82)
    {sem : Sem sig} {k' : ℕ} (hsem : SemLoc.reg sem = csem (.cred b s)) (hk' : k' = 1)
    {α : Type} {k : PUnit → Prog (TpuEff nD τ sig (Elt F) Λ₀ .tc) α} {Q : α → sProp 𝕄} :
    recs D K Ks ⊢ iprop(before D c b s h -∗ owesE c n
      -∗ (ready D c b s (rest D c b s h) h -∗ owesE c n -∗ WP c (k ⟨⟩) Q) -∗ WP c (.op (.semWait sem k') k) Q) := by
  unfold before; rw [if_neg (by omega)]
  exact step3 (ev_take D K Ks c b s h n h2 h6 hl hn hsem hk')

/-- A transfer started. -/
theorem doStart (b : Bool) (s : Fin 4) (R : sProp 𝕄) (h n : ℕ) (he : evs[n]? = some (.start h s b)) (hh : h < 6)
    {dev : Dev nD} {src dst : Memref sig .tc .vmem S128x2048 .f32} {sS sD : SemLoc sig}
    (hdev : dev = tgt b c) (hsrc : src = oblk b (chunk b c h) s) (hdst : dst = dstM b c s h)
    (hsS : sS = csem (.send b s (par h))) (hsD : sD = csem (.recv b s (par h)))
    {hsc : (dst : Memref sig (Dev.tc dev : Thread nD τ).2.kind .vmem S128x2048 .f32).view.ref.isScScratch = false}
    {h₁ : src.view.WordExact} {h₂ : (dst : Memref sig (Dev.tc dev : Thread nD τ).2.kind .vmem S128x2048 .f32).view.WordExact}
    {h₃ : DmaTarget.Typed .vmem sD (.remote (Dev.tc dev : Thread nD τ) dst sS hsc)}
    {α : Type} {k : PUnit → Prog (TpuEff nD τ sig (Elt F) Λ₀ .tc) α} {Q : α → sProp 𝕄} :
    recs D K Ks ⊢ iprop(ready D c b s R h -∗ owesE c n
      -∗ (fly c b s R h -∗ owesE c (n + 1) -∗ WP c (k ⟨⟩) Q)
      -∗ WP c (.op (.enqueueDma src (.remote (Dev.tc dev : Thread nD τ) dst sS hsc) sD h₁ h₂ h₃) k) Q) :=
  step3 (ev_start D K Ks c b s R h n he hh hdev hsrc hdst hsS hsD)

/-- The rows to add to read, -/
theorem doRows (b : Bool) (s : Fin 4) (h : ℕ) {off : Fin 2 → ℕ} {inb : ∀ a, off a + S128x2048.size a ≤ S4096x2048.size a}
    {hl : oM.view.LoadsAt (Rect.unit (s := S4096x2048) off S128x2048.size inb).toLoadRect}
    {α : Type} {kk : Vec F S128x2048 .f32 → Prog (TpuEff nD τ sig (Elt F) Λ₀ .tc) α} {Q : α → sProp 𝕄}
    (hM : oM.slice (Rect.unit (s := S4096x2048) off S128x2048.size inb) (fun _ => rfl) = oblk b (chunk b c (h + 1)) s) :
    piled D c b s h ⊢ iprop((piled D c b s h -∗ WP c (kk (D.P c b (chunk b c (h + 1)) s)) Q)
      -∗ WP c (.op (.load oM (Rect.unit (s := S4096x2048) off S128x2048.size inb).toLoadRect hl) kk) Q) := by
  unfold piled
  iintro ⟨T, B, P, S, U⟩ Hk
  iapply (ld_rows c hM) $$ P
  iintro P
  iapply Hk
  iframe

/-- the landed rows read, -/
theorem doSlot (b : Bool) (s : Fin 4) (h : ℕ) {m : Memref sig .tc .vmem S2x128x2048 .f32} {off : Fin 3 → ℕ}
    {inb : ∀ a, off a + S1x128x2048.size a ≤ S2x128x2048.size a}
    {hl : m.view.LoadsAt (Rect.unit (s := S2x128x2048) off S1x128x2048.size inb).toLoadRect}
    {α : Type} {kk : Vec F S1x128x2048 .f32 → Prog (TpuEff nD τ sig (Elt F) Λ₀ .tc) α} {Q : α → sProp 𝕄}
    (hM : (m.slice (Rect.unit (s := S2x128x2048) off S1x128x2048.size inb) (fun _ => rfl)).squeeze S128x2048 squeezes_S1x128x2048_S128x2048
      = rslot b s (par h)) :
    piled D c b s h ⊢ iprop((piled D c b s h -∗ WP c (kk (unsq (sent D b s h (frm b c)))) Q)
      -∗ WP c (.op (.load m (Rect.unit (s := S2x128x2048) off S1x128x2048.size inb).toLoadRect hl) kk) Q) := by
  unfold piled
  iintro ⟨T, B, P, S, U⟩ Hk
  iapply (ld_slot c hM) $$ S
  iintro S
  iapply Hk
  iframe

/-- and the sum written. -/
theorem doSum (b : Bool) (s : Fin 4) (h : ℕ) (hh : h < 3) {Y : Vec F S128x2048 .f32}
    {off : Fin 2 → ℕ} {inb : ∀ a, off a + S128x2048.size a ≤ S4096x2048.size a}
    (hY : Y = addf (D.P c b (chunk b c (h + 1)) s) (sent D b s h (frm b c)))
    {hx : (oM.access (Rect.unit (s := S4096x2048) off S128x2048.size inb)).Stores Finset.univ}
    {hm : (Finset.univ : Finset (Rect.unit (s := S4096x2048) off S128x2048.size inb).shape.Idx) = Finset.univ ∨ ∀ a, (Rect.unit (s := S4096x2048) off S128x2048.size inb).stride a = 1}
    (hM : oM.slice (Rect.unit (s := S4096x2048) off S128x2048.size inb) (fun _ => rfl) = oblk b (chunk b c (h + 1)) s)
    {α : Type} {k : PUnit → Prog (TpuEff nD τ sig (Elt F) Λ₀ .tc) α} {Q : α → sProp 𝕄} :
    piled D c b s h ⊢ iprop((summed D c b s h -∗ WP c (k ⟨⟩) Q)
      -∗ WP c (.op (.store oM (Rect.unit (s := S4096x2048) off S128x2048.size inb) Y Finset.univ hx hm) k) Q) := by
  subst hY
  unfold piled
  iintro ⟨T, B, P, S, U⟩ Hk
  iapply (st_rows c hM) $$ P
  iintro P
  iapply Hk
  iapply (summed_of D c b s h hh)
  rw [sent_succ D b s h hh c]
  iframe

/-- A landing in a slot, seen as the sum's beginning. -/
theorem doPile (b : Bool) (s : Fin 4) (h n : ℕ) (hh : h < 3) (hl : lev (.start h s b) ≤ n) (hn : n ≤ 82)
    {sem : DmaSem sig} {sp sp' : Space} {sh sh' : Shape} {e e' : EltTy} {src : Memref sig .tc sp' sh' e'} {dst : Memref sig .tc sp sh e}
    (hsem : SemLoc.dma sem = csem (.recv b s (par h))) (hcr : dst.view.dmaCredit = NB)
    {h₁ : src.view.WordExact} {h₂ : dst.view.WordExact}
    {α : Type} {k : PUnit → Prog (TpuEff nD τ sig (Elt F) Λ₀ .tc) α} {Q : α → sProp 𝕄} :
    recs D K Ks ⊢ iprop(gone D c b s (rest D c b s h) h -∗ owesE c n
      -∗ (piled D c b s h -∗ owesE c n -∗ WP c (k ⟨⟩) Q) -∗ WP c (.op (.waitDma2 sem src dst h₁ h₂) k) Q) := by
  iintro Hr A Ho Hk
  iapply (doLand (D := D) (K := K) (Ks := Ks) b s (rest D c b s h) h n (by omega) hl hn hsem hcr) $$ Hr A Ho
  iintro A Ho
  ihave A := (piled_of D c b s h hh) $$ A
  iapply Hk $$ A Ho

end Steps

end Cert.RingProof

end
-- ==== Proof.Blocks.lean ====
/-
# Rows of the output

The output is eight blocks of 512 rows, four per direction, and a block is four lanes of 128 rows.  A block stored whole
is handed out as its lanes, and all lanes together are the output again.
-/
module

public import proofs.«01_k».proof.Proof.Walk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The first row of block `k` of a direction. -/
def brow (b : Bool) (k : Fin 4) : ℕ := (if b then 2048 else 0) + 512 * k.val

theorem brow_lt (b : Bool) (k : Fin 4) : brow b k + 512 ≤ 4096 := by
  unfold brow; cases b <;> simp only [Bool.false_eq_true, if_false, if_true] <;> omega

theorem brow_inb (b : Bool) (k : Fin 4) : ∀ a, (![brow b k, 0] : Fin 2 → ℕ) a + S512x2048.size a ≤ S4096x2048.size a := by
  intro a; have := brow_lt b k
  match a with
  | ⟨0, _⟩ => exact this
  | ⟨1, _⟩ => exact Nat.le_refl _

theorem brow_inbX (b : Bool) (k : Fin 4) : ∀ a, (![brow b k, 0] : Fin 2 → ℕ) a + S512x1024.size a ≤ S4096x1024.size a := by
  intro a; have := brow_lt b k
  match a with
  | ⟨0, _⟩ => exact this
  | ⟨1, _⟩ => exact Nat.le_refl _

theorem lane_inb (s : Fin 4) : ∀ a, (![128 * s.val, 0] : Fin 2 → ℕ) a + S128x2048.size a ≤ S512x2048.size a := by
  intro a
  match a with
  | ⟨0, _⟩ => show 128 * s.val + 128 ≤ 512; omega
  | ⟨1, _⟩ => exact Nat.le_refl _

/-- The rows of a block, of a lane, and of a lane inside its block. -/
abbrev blkRect (b : Bool) (k : Fin 4) : Rect S4096x2048 := Rect.unit (s := S4096x2048) ![brow b k, 0] S512x2048.size (brow_inb b k)
abbrev laneRect (b : Bool) (k s : Fin 4) : Rect S4096x2048 := Rect.unit (s := S4096x2048) ![row b k s, 0] S128x2048.size (row_inb b k s)
abbrev inRect (s : Fin 4) : Rect S512x2048 := Rect.unit (s := S512x2048) ![128 * s.val, 0] S128x2048.size (lane_inb s)

/-- A block of the output's rows. -/
abbrev bblk (b : Bool) (k : Fin 4) : Memref sig .tc .vmem S512x2048 .f32 := oM.slice (blkRect b k) (fun _ => rfl)

/-- A lane of a block's contents. -/
def lane (s : Fin 4) (Z : Vec F S512x2048 .f32) : Vec F S128x2048 .f32 := fun j => Z ((inRect s).emb j)

/-- The rows of the first factor that give block `k`. -/
def xrows (X : Vec F S4096x1024 .i8) (b : Bool) (k : Fin 4) : Vec F S512x1024 .i8 :=
  fun j => X ((Rect.unit (s := S4096x1024) ![brow b k, 0] S512x1024.size (brow_inbX b k)).emb j)

theorem mem_blk (b : Bool) (k : Fin 4) (i : S4096x2048.Idx) : i ∈ (blkRect b k).set ↔ (i 0).val / 512 = (if b then 4 else 0) + k.val := by
  rw [Rect.mem_set_unit]
  constructor
  · intro h
    have h0 : brow b k ≤ (i 0).val ∧ (i 0).val < brow b k + 512 := h 0
    unfold brow at h0
    cases b <;> simp only [Bool.false_eq_true, if_false, if_true] at h0 ⊢ <;> omega
  · intro h a
    match a with
    | ⟨0, _⟩ =>
      show brow b k ≤ (i 0).val ∧ (i 0).val < brow b k + 512
      unfold brow
      cases b <;> simp only [Bool.false_eq_true, if_false, if_true] at h ⊢ <;> omega
    | ⟨1, _⟩ => exact ⟨Nat.zero_le _, by show (i 1).val < 0 + 2048; have h : (i 1).val < 2048 := (i 1).isLt; omega⟩

theorem mem_lane (b : Bool) (k s : Fin 4) (i : S4096x2048.Idx) :
    i ∈ (laneRect b k s).set ↔ (i 0).val / 128 = (if b then 16 else 0) + 4 * k.val + s.val := by
  rw [Rect.mem_set_unit]
  constructor
  · intro h
    have h0 : row b k s ≤ (i 0).val ∧ (i 0).val < row b k s + 128 := h 0
    unfold row at h0
    cases b <;> simp only [Bool.false_eq_true, if_false, if_true] at h0 ⊢ <;> omega
  · intro h a
    match a with
    | ⟨0, _⟩ =>
      show row b k s ≤ (i 0).val ∧ (i 0).val < row b k s + 128
      unfold row
      cases b <;> simp only [Bool.false_eq_true, if_false, if_true] at h ⊢ <;> omega
    | ⟨1, _⟩ => exact ⟨Nat.zero_le _, by show (i 1).val < 0 + 2048; have h : (i 1).val < 2048 := (i 1).isLt; omega⟩

theorem row_bound (i : S4096x2048.Idx) : (i 0).val < 4096 := (i 0).isLt

/-! ## The order of the products -/

/-- Product `i` is a block of direction `i % 2`, chunk `i / 2` on from the device's own. -/
def bi (i : ℕ) : Bool := decide (i % 2 = 1)
def ki (c : Dev nD) (i : ℕ) : Fin 4 := ⟨(c.val + i / 2) % 4, Nat.mod_lt _ (by decide)⟩

theorem place_of (c : Dev nD) : ∀ q : Fin 8, ∃ t : Fin 8, q.val = (if bi t.val then 4 else 0) + (ki c t.val).val := by
  revert c; decide
theorem place_inj (c : Dev nD) : ∀ t t' : Fin 8, (if bi t.val then 4 else 0) + (ki c t.val).val = (if bi t'.val then 4 else 0) + (ki c t'.val).val → t = t' := by
  revert c; decide

theorem blk_cover (c : Dev nD) : (Finset.univ : Finset (Fin 8)).biUnion (fun t => (blkRect (bi t.val) (ki c t.val)).set) = Finset.univ := by
  ext i
  simp only [Finset.mem_biUnion, Finset.mem_univ, true_and, iff_true]
  have hi := row_bound i
  obtain ⟨t, ht⟩ := place_of c ⟨(i 0).val / 512, by omega⟩
  exact ⟨t, (mem_blk _ _ i).mpr ht⟩

theorem blk_disj (c : Dev nD) (t t' : Fin 8) (h : t ≠ t') :
    Disjoint (blkRect (bi t.val) (ki c t.val)).set (blkRect (bi t'.val) (ki c t'.val)).set := by
  rw [Finset.disjoint_left]
  intro i hi hi'
  exact h (place_inj c t t' (((mem_blk _ _ i).mp hi).symm.trans ((mem_blk _ _ i).mp hi')))

theorem lane_cover : (Finset.univ : Finset (Bool × Fin 4 × Fin 4)).biUnion (fun t => (laneRect t.1 t.2.1 t.2.2).set) = Finset.univ := by
  ext i
  simp only [Finset.mem_biUnion, Finset.mem_univ, true_and, iff_true]
  have hi := row_bound i
  refine ⟨(decide ((i 0).val / 2048 = 1), ⟨(i 0).val / 512 % 4, Nat.mod_lt _ (by decide)⟩, ⟨(i 0).val / 128 % 4, Nat.mod_lt _ (by decide)⟩), ?_⟩
  rw [mem_lane]
  by_cases h : (i 0).val / 2048 = 1
  · simp only [h, decide_true, if_true]; omega
  · simp only [h, decide_false, Bool.false_eq_true, if_false]; omega

theorem lane_disj (t t' : Bool × Fin 4 × Fin 4) (h : t ≠ t') : Disjoint (laneRect t.1 t.2.1 t.2.2).set (laneRect t'.1 t'.2.1 t'.2.2).set := by
  rw [Finset.disjoint_left]
  intro i hi hi'
  have e := ((mem_lane _ _ _ i).mp hi).symm.trans ((mem_lane _ _ _ i).mp hi')
  obtain ⟨b, k, s⟩ := t
  obtain ⟨b', k', s'⟩ := t'
  apply h
  revert e
  have hk := k.isLt; have hs := s.isLt; have hk' := k'.isLt; have hs' := s'.isLt
  cases b <;> cases b' <;> simp only [Bool.false_eq_true, if_false, if_true] <;> intro e <;>
    first
    | (exfalso; omega)
    | (have e1 : k = k' := Fin.ext (by omega)
       have e2 : s = s' := Fin.ext (by omega)
       subst e1; subst e2; rfl)

/-! ## Splitting -/

/-- The output split into its blocks, in the order of the products. -/
theorem out_blocks (c : Dev nD) (X : Vec F S4096x2048 .f32) :
    own c oM X ⊢ bigSep Finset.univ fun t : Fin 8 => (iprop(∃ Y, own c (bblk (bi t.val) (ki c t.val)) Y) : sProp 𝕄) := by
  refine BI.Entails.trans (owns_rects (c : Thread nD τ) oM fullShare (fun t : Fin 8 => blkRect (bi t.val) (ki c t.val)) (fun _ _ => rfl)
    (blk_disj c) (blk_cover c) X) (bigSep_mono fun t _ => ?_)
  show (own c (bblk (bi t.val) (ki c t.val)) (fun j => X ((blkRect (bi t.val) (ki c t.val)).emb j)) : sProp 𝕄)
    ⊢ iprop(∃ Y, own c (bblk (bi t.val) (ki c t.val)) Y)
  iintro H
  iexists _
  iexact H

theorem lanes_set (b : Bool) (k : Fin 4) :
    (bblk b k).view.set = (Finset.univ : Finset (Fin 4)).biUnion fun s => (oblk b k s).view.set := by
  have e : (blkRect b k).set = (Finset.univ : Finset (Fin 4)).biUnion fun s => (laneRect b k s).set := by
    ext i
    simp only [Finset.mem_biUnion, Finset.mem_univ, true_and, mem_blk, mem_lane]
    have hk := k.isLt
    constructor
    · intro h
      refine ⟨⟨(i 0).val / 128 % 4, Nat.mod_lt _ (by decide)⟩, ?_⟩
      cases b <;> simp only [Bool.false_eq_true, if_false, if_true] at h ⊢ <;> omega
    · rintro ⟨s, h⟩
      have hs := s.isLt
      cases b <;> simp only [Bool.false_eq_true, if_false, if_true] at h ⊢ <;> omega
  have e1 : (bblk b k).view.set = oM.view.setOn (blkRect b k).set := View.set_slice _ _
  have e2 : ∀ s, (oblk b k s).view.set = oM.view.setOn (laneRect b k s).set := fun s => View.set_slice _ _
  rw [e1, e]
  simp only [e2]
  unfold View.setOn
  ext x
  simp only [Finset.mem_map, Finset.mem_biUnion, Finset.mem_univ, true_and]
  constructor
  · rintro ⟨a, ⟨s, ha⟩, rfl⟩; exact ⟨s, a, ha, rfl⟩
  · rintro ⟨s, a, ha, rfl⟩; exact ⟨a, ⟨s, ha⟩, rfl⟩

theorem lane_emb (b : Bool) (k s : Fin 4) (j : S128x2048.Idx) : (laneRect b k s).emb j = (blkRect b k).emb ((inRect s).emb j) := by
  funext a
  refine Fin.ext ?_
  match a with
  | ⟨0, _⟩ =>
    show row b k s + 1 * (j 0).val = brow b k + 1 * (128 * s.val + 1 * (j 0).val)
    unfold row brow; omega
  | ⟨1, _⟩ => show 0 + 1 * (j 1).val = 0 + 1 * (0 + 1 * (j 1).val); omega

/-- A block split into its lanes. -/
theorem blk_lanes (c : Dev nD) (b : Bool) (k : Fin 4) (Z : Vec F S512x2048 .f32) :
    own c (bblk b k) Z ⊢ (bigSep Finset.univ fun s : Fin 4 => own c (oblk b k s) (lane s Z) : sProp 𝕄) := by
  have hd : ∀ s ∈ (Finset.univ : Finset (Fin 4)), ∀ s' ∈ (Finset.univ : Finset (Fin 4)), s ≠ s' → Disjoint (oblk b k s).view.set (oblk b k s').view.set := by
    intro s _ s' _ h
    have e2 : ∀ s, (oblk b k s).view.set = oM.view.setOn (laneRect b k s).set := fun s => View.set_slice _ _
    rw [e2, e2]
    exact (Finset.disjoint_map _).mpr (lane_disj (b, k, s) (b, k, s') (fun e => h (by injection e with _ e; injection e)))
  have h1 : (own c (bblk b k) Z : sProp 𝕄) ⊢ iprop(∃ g, ⌜(bblk b k).view.read (Elt F) g = Z⌝ ∗ (bblk b k).view.loc (c : Thread nD τ) ↦[(bblk b k).view.set]{fullShare} g) := .rfl
  have h2 : ∀ g, (bblk b k).view.read (Elt F) g = Z → ((bblk b k).view.loc (c : Thread nD τ) ↦[(bblk b k).view.set]{fullShare} g : sProp 𝕄)
      ⊢ (bigSep Finset.univ fun s : Fin 4 => own c (oblk b k s) (lane s Z) : sProp 𝕄) := by
    intro g hg
    rw [lanes_set b k]
    refine BI.Entails.trans (Entails.of_eq (pointsTo_biUnion _ _ hd)) (bigSep_mono fun s _ => ?_)
    have e4 := owns_slice_read (Ix := ℕ) (Val := Elt F) (Name := ℕ) (U := UU) (Lvl := ℕ) (c : Thread nD τ) oM fullShare (laneRect b k s) (fun _ => rfl) g
    have e5 : (fun j => oM.view.read (Elt F) g ((laneRect b k s).emb j)) = lane s Z := by
      funext j
      unfold lane
      rw [← hg, lane_emb]
      rfl
    rw [e5] at e4
    exact Entails.of_eq e4.symm
  iintro H
  ihave H := h1 $$ H
  icases H with ⟨%g, %hg, H⟩
  iapply (h2 g hg) $$ H

/-- The lanes of the output joined. -/
theorem lanes_out (c : Dev nD) (Y : Vec F S4096x2048 .f32) :
    bigSep Finset.univ (fun t : Bool × Fin 4 × Fin 4 => own c (oblk t.1 t.2.1 t.2.2) (fun j => Y ((laneRect t.1 t.2.1 t.2.2).emb j)))
      ⊢ (own c oM Y : sProp 𝕄) :=
  owns_of_rects (c : Thread nD τ) oM fullShare (fun t : Bool × Fin 4 × Fin 4 => laneRect t.1 t.2.1 t.2.2) (fun _ _ => rfl) lane_disj lane_cover Y

end Cert.RingProof

end
-- ==== Proof.Hops.lean ====
/-
# The loop of hops 1 and 2

A trip starts hop `k + 1` of each lane, waits for the previous hop of lane 3 and for this hop of the others, adds
what landed, and gives the credits.
-/
module

public import proofs.«01_k».proof.Proof.Walk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Tools
variable {D : Data F} {K : Dev nD × Cell → ℕ} {Ks : Key → ℕ} {c : Dev nD}

/-- A part run, then what follows it. -/
theorem next {A : sProp 𝕄} {α β : Type} {p : Prog (TpuEff nD τ sig (Elt F) Λ₀ .tc) α} {P : α → sProp 𝕄} (h : A ⊢ WP c p P)
    {kk : α → Prog (TpuEff nD τ sig (Elt F) Λ₀ .tc) β} {Q : β → sProp 𝕄} :
    A ⊢ iprop((∀ a, P a -∗ WP c (kk a) Q) -∗ WP c (p >>= kk) Q) := by
  unfold WP at h ⊢
  rw [wp_bind]
  iintro HA HK
  iapply (wp_wand_r frame (wpE (defs₀ (F := F)) 𝒱₀ (c : Thread nD τ) none) Set.univ)
  isplitl [HA]
  · iapply h $$ HA
  · iexact HK

/-- Both directions' credits of a lane taken where the hop needs them. -/
theorem doTakeIf (s : Fin 4) (h n : ℕ) (h1 : 1 ≤ h) (h6 : h < 6) (hl : 2 ≤ h → lev (.cred (h - 2) s false) ≤ n ∧ lev (.cred (h - 2) s true) ≤ n)
    (hn : n ≤ 82) {P : Prop} [Decidable P] (hP : P ↔ 2 ≤ h)
    {s₁ s₂ : Sem sig} {k₁ k₂ : ℕ} (hs₁ : SemLoc.reg s₁ = csem (.cred false s)) (hs₂ : SemLoc.reg s₂ = csem (.cred true s))
    (hk₁ : k₁ = 1) (hk₂ : k₂ = 1)
    {α : Type} {q : Prog (TpuEff nD τ sig (Elt F) Λ₀ .tc) α} {Q : α → sProp 𝕄} :
    recs D K Ks ⊢ iprop(before D c false s h -∗ before D c true s h -∗ owesE c n
      -∗ (ready D c false s (rest D c false s h) h -∗ ready D c true s (rest D c true s h) h -∗ owesE c n -∗ WP c q Q)
      -∗ WP c (if _ : P then .op (.semWait s₁ k₁) fun _ => .op (.semWait s₂ k₂) fun _ => q else q) Q) := by
  iintro #Hr f t Ho Hk
  by_cases hp : P
  · rw [dif_pos hp]
    iapply (doTake (D := D) (K := K) (Ks := Ks) false s h n (hP.1 hp) h6 (hl (hP.1 hp)).1 hn hs₁ hk₁) $$ Hr f Ho
    iintro f Ho
    iapply (doTake (D := D) (K := K) (Ks := Ks) true s h n (hP.1 hp) h6 (hl (hP.1 hp)).2 hn hs₂ hk₂) $$ Hr t Ho
    iintro t Ho
    iapply Hk $$ f t Ho
  · rw [dif_neg hp]
    obtain rfl : h = 1 := by
      have := mt hP.2 hp
      omega
    ihave f := (before_one (D := D) (c := c) false s) $$ f
    ihave t := (before_one (D := D) (c := c) true s) $$ t
    iapply Hk $$ f t Ho

end Tools

section
variable (D : Data F) (K : Dev nD × Cell → ℕ) (Ks : Key → ℕ) (c : Dev nD)

/-- Lane 0's credits. -/
theorem part7 (k : Fin k0_t3_loop.trips) (v6 : BitVec 32) :
    iprop(recs D K Ks ∗ before D c false 0 (k.val + 1) ∗ before D c true 0 (k.val + 1) ∗ owesE c ((16 * (k.val + 1))))
      ⊢ WP c (pt (k0_part7 (F := F)) v6 1#32 1#32 k) fun r =>
        iprop(⌜r.1 = (Scf.iv 1#32 1#32 k)⌝ ∗ ready D c false 0 (rest D c false 0 ((k.val + 1))) (k.val + 1) ∗ ready D c true 0 (rest D c true 0 ((k.val + 1))) (k.val + 1) ∗ owesE c ((16 * (k.val + 1)))) := by
  rw [k0_part7_eq_skeleton]
  unfold pt k0_part7_skel
  simp only [semSignalWord, semWaitWord, Prog.lift, Prog.bind_op, Prog.bind_ret, Prog.pure_eq_ret, Prog.bind_assoc]
  iintro ⟨#Hr, f0, t0, Ho⟩
  iapply (doTakeIf 0 ((k.val + 1)) ((16 * (k.val + 1))) (by revert k; decide +kernel) (by revert k; decide +kernel) (by revert k; decide +kernel) (by revert k; decide +kernel) (by revert k; decide +kernel) (by rfl) (by rfl) (by rfl) (by rfl)) $$ Hr f0 t0 Ho
  iintro f0 t0 Ho
  iapply ended
  isplitr; · ipureintro; rfl
  iframe

/-- Lane 0 started. -/
theorem part8 (k : Fin k0_t3_loop.trips) (v6 v18 v29 v40 v1047 v1048 : BitVec 32) (v1049 v1052 : BitVec 1) :
    iprop(recs D K Ks ∗ ready D c false 0 (rest D c false 0 ((k.val + 1))) (k.val + 1) ∗ ready D c true 0 (rest D c true 0 ((k.val + 1))) (k.val + 1) ∗ owesE c ((16 * (k.val + 1))))
      ⊢ WP c (pt (k0_part8 (F := F)) c v6 v18 v29 k v40 v1047 v1048 v1049 v1052) fun _ =>
        iprop(fly c false 0 (rest D c false 0 ((k.val + 1))) (k.val + 1) ∗ fly c true 0 (rest D c true 0 ((k.val + 1))) (k.val + 1) ∗ owesE c (((16 * (k.val + 1)) + 2))) := by
  rw [k0_part8_eq_skeleton]
  unfold pt k0_part8_skel
  simp only [semSignalWord, semWaitWord, Prog.lift, Prog.bind_op, Prog.bind_ret, Prog.pure_eq_ret, Prog.bind_assoc]
  iintro ⟨#Hr, f0, t0, Ho⟩
  iapply (doStart false 0 (rest D c false 0 ((k.val + 1))) ((k.val + 1)) ((16 * (k.val + 1))) (by revert k; decide +kernel) (by revert k; decide +kernel) (by revert c k; decide +kernel) (at_rows false (chunk false c ((k.val + 1))) 0 (by revert c k; decide +kernel)) ((at_slot false 0 (par ((k.val + 1))) (by rfl) (by revert k; decide +kernel)).trans (dst_slot false c 0 ((k.val + 1)) (by revert k; decide +kernel))) (by revert k; decide +kernel) (by revert k; decide +kernel)) $$ Hr f0 Ho
  iintro f0 Ho
  iapply (doStart true 0 (rest D c true 0 ((k.val + 1))) ((k.val + 1)) (((16 * (k.val + 1)) + 1)) (by revert k; decide +kernel) (by revert k; decide +kernel) (by revert c k; decide +kernel) (at_rows true (chunk true c ((k.val + 1))) 0 (by revert c k; decide +kernel)) ((at_slot true 0 (par ((k.val + 1))) (by rfl) (by revert k; decide +kernel)).trans (dst_slot true c 0 ((k.val + 1)) (by revert k; decide +kernel))) (by revert k; decide +kernel) (by revert k; decide +kernel)) $$ Hr t0 Ho
  iintro t0 Ho
  iapply ended
  iframe

/-- The previous hop of lane 3 to the right read, -/
theorem part9 (k : Fin k0_t3_loop.trips) (v6 v29 v1077 v1089 : BitVec 32) :
    iprop(recs D K Ks ∗ fly c false 3 (rest D c false 3 (k.val)) k.val ∗ owesE c (((16 * (k.val + 1)) + 2)))
      ⊢ WP c (pt (k0_part9 (F := F)) c v6 v29 k v1077 v1089) fun _ =>
        iprop(gone D c false 3 (rest D c false 3 (k.val)) k.val ∗ owesE c (((16 * (k.val + 1)) + 2))) := by
  rw [k0_part9_eq_skeleton]
  unfold pt k0_part9_skel
  simp only [semSignalWord, semWaitWord, Prog.lift, Prog.bind_op, Prog.bind_ret, Prog.pure_eq_ret, Prog.bind_assoc]
  iintro ⟨#Hr, f3, Ho⟩
  iapply (doSent false 3 (rest D c false 3 (k.val)) k.val ((16 * (k.val + 1)) + 2) (by revert k; decide +kernel) (by revert k; decide +kernel) (by revert k; decide +kernel) (by rfl)) $$ Hr f3 Ho
  iintro f3 Ho
  iapply ended
  iframe

/-- landed and summed, and its credits given. -/
theorem part10 (k : Fin k0_t3_loop.trips) (v6 v18 v29 v1077 : BitVec 32) :
    iprop(recs D K Ks ∗ gone D c false 3 (rest D c false 3 (k.val)) k.val ∗ fly c true 3 (rest D c true 3 (k.val)) k.val ∗ owesE c (((16 * (k.val + 1)) + 2)))
      ⊢ WP c (pt (k0_part10 (F := F)) c v6 v18 v29 k (Scf.iv 1#32 1#32 k) v1077) fun r =>
        iprop(⌜r = (Scalar.extui (Scalar.cmpi .sge (Scf.iv 1#32 1#32 k) 2#32))⌝ ∗ before D c false 3 (k.val + 1) ∗ before D c true 3 (k.val + 1) ∗ owesE c (((16 * (k.val + 1)) + 4))) := by
  have e2 : k0_cond2 k = 1#1 := by revert k; decide +kernel
  have e3 : k0_cond3 k = 1#1 := by revert k; decide +kernel
  rw [k0_part10_eq_skeleton]
  unfold pt k0_part10_skel
  rw [k0_part3_eq_skeleton]
  unfold k0_part3_skel
  simp only [semSignalWord, semWaitWord, Prog.lift, Prog.bind_op, Prog.bind_ret, Prog.pure_eq_ret, Prog.bind_assoc, dif_pos e2, dif_pos e3]
  iintro ⟨#Hr, f3, t3, Ho⟩
  iapply (doPile false 3 k.val ((16 * (k.val + 1)) + 2) (by revert k; decide +kernel) (by revert k; decide +kernel) (by revert k; decide +kernel) (by revert k; decide +kernel) (by rfl)) $$ Hr f3 Ho
  iintro f3 Ho
  iapply (doSent true 3 (rest D c true 3 (k.val)) k.val ((16 * (k.val + 1)) + 2) (by revert k; decide +kernel) (by revert k; decide +kernel) (by revert k; decide +kernel) (by rfl)) $$ Hr t3 Ho
  iintro t3 Ho
  iapply (doPile true 3 k.val ((16 * (k.val + 1)) + 2) (by revert k; decide +kernel) (by revert k; decide +kernel) (by revert k; decide +kernel) (by revert k; decide +kernel) (by rfl)) $$ Hr t3 Ho
  iintro t3 Ho
  iapply (doRows false 3 k.val (at_rows false (chunk false c (k.val + 1)) 3 (by revert c k; decide +kernel))) $$ f3
  iintro f3
  iapply (doSlot false 3 (k.val) (at_slot false 3 (par (k.val)) (by rfl) (by revert k; decide +kernel))) $$ f3
  iintro f3
  iapply (doRows false 3 k.val (at_rows false (chunk false c (k.val + 1)) 3 (by revert c k; decide +kernel))) $$ f3
  iintro f3
  iapply (doSum false 3 (k.val) (by revert k; decide +kernel) (by exact pay_unsq _ _) (at_rows false (chunk false c (k.val + 1)) 3 (by revert c k; decide +kernel))) $$ f3
  iintro f3
  iapply (doRows true 3 k.val (at_rows true (chunk true c (k.val + 1)) 3 (by revert c k; decide +kernel))) $$ t3
  iintro t3
  iapply (doSlot true 3 (k.val) (at_slot true 3 (par (k.val)) (by rfl) (by revert k; decide +kernel))) $$ t3
  iintro t3
  iapply (doRows true 3 k.val (at_rows true (chunk true c (k.val + 1)) 3 (by revert c k; decide +kernel))) $$ t3
  iintro t3
  iapply (doSum true 3 (k.val) (by revert k; decide +kernel) (by exact pay_unsq _ _) (at_rows true (chunk true c (k.val + 1)) 3 (by revert c k; decide +kernel))) $$ t3
  iintro t3
  iapply (doGive false 3 (k.val) (((16 * (k.val + 1)) + 2)) (by revert k; decide +kernel) (by revert k; decide +kernel) (by revert c k; decide +kernel) (by rfl) (by rfl)) $$ Hr f3 Ho
  iintro f3 Ho
  iapply (doGive true 3 (k.val) (((16 * (k.val + 1)) + 3)) (by revert k; decide +kernel) (by revert k; decide +kernel) (by revert c k; decide +kernel) (by rfl) (by rfl)) $$ Hr t3 Ho
  iintro t3 Ho
  iapply ended
  isplitr; · ipureintro; rfl
  iframe

/-- Lane 1's credits. -/
theorem part11 (k : Fin k0_t3_loop.trips) (v6 : BitVec 32) :
    iprop(recs D K Ks ∗ before D c false 1 (k.val + 1) ∗ before D c true 1 (k.val + 1) ∗ owesE c (((16 * (k.val + 1)) + 4)))
      ⊢ WP c (pt (k0_part11 (F := F)) v6 (Scf.iv 1#32 1#32 k) (Scalar.extui (Scalar.cmpi .sge (Scf.iv 1#32 1#32 k) 2#32))) fun _ =>
        iprop(ready D c false 1 (rest D c false 1 ((k.val + 1))) (k.val + 1) ∗ ready D c true 1 (rest D c true 1 ((k.val + 1))) (k.val + 1) ∗ owesE c (((16 * (k.val + 1)) + 4))) := by
  rw [k0_part11_eq_skeleton]
  unfold pt k0_part11_skel
  simp only [semSignalWord, semWaitWord, Prog.lift, Prog.bind_op, Prog.bind_ret, Prog.pure_eq_ret, Prog.bind_assoc]
  iintro ⟨#Hr, f1, t1, Ho⟩
  iapply (doTakeIf 1 ((k.val + 1)) (((16 * (k.val + 1)) + 4)) (by revert k; decide +kernel) (by revert k; decide +kernel) (by revert k; decide +kernel) (by revert k; decide +kernel) (by revert k; decide +kernel) (by rfl) (by rfl) (by rfl) (by rfl)) $$ Hr f1 t1 Ho
  iintro f1 t1 Ho
  iapply ended
  iframe

/-- Lane 1 started. -/
theorem part12 (k : Fin k0_t3_loop.trips) (v6 v18 v29 v40 v1193 w : BitVec 32) :
    iprop(recs D K Ks ∗ ready D c false 1 (rest D c false 1 ((k.val + 1))) (k.val + 1) ∗ ready D c true 1 (rest D c true 1 ((k.val + 1))) (k.val + 1) ∗ owesE c (((16 * (k.val + 1)) + 4)))
      ⊢ WP c (pt (k0_part12 (F := F)) c v6 v18 v29 k v40 v1193 w) fun _ =>
        iprop(fly c false 1 (rest D c false 1 ((k.val + 1))) (k.val + 1) ∗ fly c true 1 (rest D c true 1 ((k.val + 1))) (k.val + 1) ∗ owesE c (((16 * (k.val + 1)) + 6))) := by
  rw [k0_part12_eq_skeleton]
  unfold pt k0_part12_skel
  simp only [semSignalWord, semWaitWord, Prog.lift, Prog.bind_op, Prog.bind_ret, Prog.pure_eq_ret, Prog.bind_assoc]
  iintro ⟨#Hr, f1, t1, Ho⟩
  iapply (doStart false 1 (rest D c false 1 ((k.val + 1))) ((k.val + 1)) (((16 * (k.val + 1)) + 4)) (by revert k; decide +kernel) (by revert k; decide +kernel) (by revert c k; decide +kernel) (at_rows false (chunk false c ((k.val + 1))) 1 (by revert c k; decide +kernel)) ((at_slot false 1 (par ((k.val + 1))) (by rfl) (by revert k; decide +kernel)).trans (dst_slot false c 1 ((k.val + 1)) (by revert k; decide +kernel))) (by revert k; decide +kernel) (by revert k; decide +kernel)) $$ Hr f1 Ho
  iintro f1 Ho
  iapply (doStart true 1 (rest D c true 1 ((k.val + 1))) ((k.val + 1)) (((16 * (k.val + 1)) + 5)) (by revert k; decide +kernel) (by revert k; decide +kernel) (by revert c k; decide +kernel) (at_rows true (chunk true c ((k.val + 1))) 1 (by revert c k; decide +kernel)) ((at_slot true 1 (par ((k.val + 1))) (by rfl) (by revert k; decide +kernel)).trans (dst_slot true c 1 ((k.val + 1)) (by revert k; decide +kernel))) (by revert k; decide +kernel) (by revert k; decide +kernel)) $$ Hr t1 Ho
  iintro t1 Ho
  iapply ended
  iframe

/-- Lane 0 landed from the left, -/
theorem part13 (k : Fin k0_t3_loop.trips) (v6 v29 v40 v1228 v1229 : BitVec 32) :
    iprop(recs D K Ks ∗ fly c false 0 (rest D c false 0 ((k.val + 1))) (k.val + 1) ∗ owesE c (((16 * (k.val + 1)) + 6)))
      ⊢ WP c (pt (k0_part13 (F := F)) c v6 v29 k v40 v1228 v1229) fun _ =>
        iprop(piled D c false 0 (k.val + 1) ∗ owesE c (((16 * (k.val + 1)) + 6))) := by
  rw [k0_part13_eq_skeleton]
  unfold pt k0_part13_skel
  simp only [semSignalWord, semWaitWord, Prog.lift, Prog.bind_op, Prog.bind_ret, Prog.pure_eq_ret, Prog.bind_assoc]
  iintro ⟨#Hr, f0, Ho⟩
  iapply (doSent false 0 (rest D c false 0 ((k.val + 1))) (k.val + 1) ((16 * (k.val + 1)) + 6) (by revert k; decide +kernel) (by revert k; decide +kernel) (by revert k; decide +kernel) (by rfl)) $$ Hr f0 Ho
  iintro f0 Ho
  iapply (doPile false 0 (k.val + 1) ((16 * (k.val + 1)) + 6) (by revert k; decide +kernel) (by revert k; decide +kernel) (by revert k; decide +kernel) (by revert k; decide +kernel) (by rfl)) $$ Hr f0 Ho
  iintro f0 Ho
  iapply ended
  iframe

/-- and from the right, summed, its credits given, and lane 2's taken. -/
theorem part14 (k : Fin k0_t3_loop.trips) (v6 v18 v29 : BitVec 32) :
    iprop(recs D K Ks ∗ piled D c false 0 (k.val + 1) ∗ fly c true 0 (rest D c true 0 ((k.val + 1))) (k.val + 1) ∗ before D c false 2 (k.val + 1) ∗ before D c true 2 (k.val + 1) ∗ owesE c (((16 * (k.val + 1)) + 6)))
      ⊢ WP c (pt (k0_part14 (F := F)) c v6 v18 v29 k (Scf.iv 1#32 1#32 k)) fun _ =>
        iprop(before D c false 0 (k.val + 1 + 1) ∗ before D c true 0 (k.val + 1 + 1) ∗ ready D c false 2 (rest D c false 2 ((k.val + 1))) (k.val + 1) ∗ ready D c true 2 (rest D c true 2 ((k.val + 1))) (k.val + 1) ∗ owesE c (((16 * (k.val + 1)) + 8))) := by
  have e5 : k0_cond5 k = 1#1 := by revert k; decide +kernel
  have e6 : k0_cond6 k = 1#1 := by revert k; decide +kernel
  rw [k0_part14_eq_skeleton]
  unfold pt k0_part14_skel
  rw [k0_part4_eq_skeleton]
  unfold k0_part4_skel
  simp only [semSignalWord, semWaitWord, Prog.lift, Prog.bind_op, Prog.bind_ret, Prog.pure_eq_ret, Prog.bind_assoc, dif_pos e5, dif_pos e6]
  iintro ⟨#Hr, f0, t0, f2, t2, Ho⟩
  iapply (doSent true 0 (rest D c true 0 ((k.val + 1))) (k.val + 1) ((16 * (k.val + 1)) + 6) (by revert k; decide +kernel) (by revert k; decide +kernel) (by revert k; decide +kernel) (by rfl)) $$ Hr t0 Ho
  iintro t0 Ho
  iapply (doPile true 0 (k.val + 1) ((16 * (k.val + 1)) + 6) (by revert k; decide +kernel) (by revert k; decide +kernel) (by revert k; decide +kernel) (by revert k; decide +kernel) (by rfl)) $$ Hr t0 Ho
  iintro t0 Ho
  iapply (doRows false 0 (k.val + 1) (at_rows false (chunk false c ((k.val + 1) + 1)) 0 (by revert c k; decide +kernel))) $$ f0
  iintro f0
  iapply (doSlot false 0 ((k.val + 1)) (at_slot false 0 (par ((k.val + 1))) (by rfl) (by revert k; decide +kernel))) $$ f0
  iintro f0
  iapply (doRows false 0 (k.val + 1) (at_rows false (chunk false c ((k.val + 1) + 1)) 0 (by revert c k; decide +kernel))) $$ f0
  iintro f0
  iapply (doSum false 0 ((k.val + 1)) (by revert k; decide +kernel) (by exact pay_unsq _ _) (at_rows false (chunk false c ((k.val + 1) + 1)) 0 (by revert c k; decide +kernel))) $$ f0
  iintro f0
  iapply (doRows true 0 (k.val + 1) (at_rows true (chunk true c ((k.val + 1) + 1)) 0 (by revert c k; decide +kernel))) $$ t0
  iintro t0
  iapply (doSlot true 0 ((k.val + 1)) (at_slot true 0 (par ((k.val + 1))) (by rfl) (by revert k; decide +kernel))) $$ t0
  iintro t0
  iapply (doRows true 0 (k.val + 1) (at_rows true (chunk true c ((k.val + 1) + 1)) 0 (by revert c k; decide +kernel))) $$ t0
  iintro t0
  iapply (doSum true 0 ((k.val + 1)) (by revert k; decide +kernel) (by exact pay_unsq _ _) (at_rows true (chunk true c ((k.val + 1) + 1)) 0 (by revert c k; decide +kernel))) $$ t0
  iintro t0
  iapply (doGive false 0 ((k.val + 1)) (((16 * (k.val + 1)) + 6)) (by revert k; decide +kernel) (by revert k; decide +kernel) (by revert c k; decide +kernel) (by rfl) (by rfl)) $$ Hr f0 Ho
  iintro f0 Ho
  iapply (doGive true 0 ((k.val + 1)) (((16 * (k.val + 1)) + 7)) (by revert k; decide +kernel) (by revert k; decide +kernel) (by revert c k; decide +kernel) (by rfl) (by rfl)) $$ Hr t0 Ho
  iintro t0 Ho
  iapply (doTakeIf 2 ((k.val + 1)) (((16 * (k.val + 1)) + 8)) (by revert k; decide +kernel) (by revert k; decide +kernel) (by revert k; decide +kernel) (by revert k; decide +kernel) (by revert k; decide +kernel) (by rfl) (by rfl) (by rfl) (by rfl)) $$ Hr f2 t2 Ho
  iintro f2 t2 Ho
  iapply ended
  iframe

/-- Lane 2 started. -/
theorem part16 (k : Fin k0_t3_loop.trips) (v6 v18 v29 v40 w : BitVec 32) :
    iprop(recs D K Ks ∗ ready D c false 2 (rest D c false 2 ((k.val + 1))) (k.val + 1) ∗ ready D c true 2 (rest D c true 2 ((k.val + 1))) (k.val + 1) ∗ owesE c (((16 * (k.val + 1)) + 8)))
      ⊢ WP c (pt (k0_part16 (F := F)) c v6 v18 v29 k v40 w) fun _ =>
        iprop(fly c false 2 (rest D c false 2 ((k.val + 1))) (k.val + 1) ∗ fly c true 2 (rest D c true 2 ((k.val + 1))) (k.val + 1) ∗ owesE c (((16 * (k.val + 1)) + 10))) := by
  rw [k0_part16_eq_skeleton]
  unfold pt k0_part16_skel
  simp only [semSignalWord, semWaitWord, Prog.lift, Prog.bind_op, Prog.bind_ret, Prog.pure_eq_ret, Prog.bind_assoc]
  iintro ⟨#Hr, f2, t2, Ho⟩
  iapply (doStart false 2 (rest D c false 2 ((k.val + 1))) ((k.val + 1)) (((16 * (k.val + 1)) + 8)) (by revert k; decide +kernel) (by revert k; decide +kernel) (by revert c k; decide +kernel) (at_rows false (chunk false c ((k.val + 1))) 2 (by revert c k; decide +kernel)) ((at_slot false 2 (par ((k.val + 1))) (by rfl) (by revert k; decide +kernel)).trans (dst_slot false c 2 ((k.val + 1)) (by revert k; decide +kernel))) (by revert k; decide +kernel) (by revert k; decide +kernel)) $$ Hr f2 Ho
  iintro f2 Ho
  iapply (doStart true 2 (rest D c true 2 ((k.val + 1))) ((k.val + 1)) (((16 * (k.val + 1)) + 9)) (by revert k; decide +kernel) (by revert k; decide +kernel) (by revert c k; decide +kernel) (at_rows true (chunk true c ((k.val + 1))) 2 (by revert c k; decide +kernel)) ((at_slot true 2 (par ((k.val + 1))) (by rfl) (by revert k; decide +kernel)).trans (dst_slot true c 2 ((k.val + 1)) (by revert k; decide +kernel))) (by revert k; decide +kernel) (by revert k; decide +kernel)) $$ Hr t2 Ho
  iintro t2 Ho
  iapply ended
  iframe

/-- Lane 1 landed from the left, -/
theorem part17 (k : Fin k0_t3_loop.trips) (v6 v29 v40 v1365 v1366 : BitVec 32) (v1367 v1368 v1369 : BitVec 1) :
    iprop(recs D K Ks ∗ fly c false 1 (rest D c false 1 ((k.val + 1))) (k.val + 1) ∗ owesE c (((16 * (k.val + 1)) + 10)))
      ⊢ WP c (pt (k0_part17 (F := F)) c v6 v29 k v40 v1365 v1366 v1367 v1368 v1369) fun _ =>
        iprop(piled D c false 1 (k.val + 1) ∗ owesE c (((16 * (k.val + 1)) + 10))) := by
  rw [k0_part17_eq_skeleton]
  unfold pt k0_part17_skel
  simp only [semSignalWord, semWaitWord, Prog.lift, Prog.bind_op, Prog.bind_ret, Prog.pure_eq_ret, Prog.bind_assoc]
  iintro ⟨#Hr, f1, Ho⟩
  iapply (doSent false 1 (rest D c false 1 ((k.val + 1))) (k.val + 1) ((16 * (k.val + 1)) + 10) (by revert k; decide +kernel) (by revert k; decide +kernel) (by revert k; decide +kernel) (by rfl)) $$ Hr f1 Ho
  iintro f1 Ho
  iapply (doPile false 1 (k.val + 1) ((16 * (k.val + 1)) + 10) (by revert k; decide +kernel) (by revert k; decide +kernel) (by revert k; decide +kernel) (by revert k; decide +kernel) (by rfl)) $$ Hr f1 Ho
  iintro f1 Ho
  iapply ended
  iframe

/-- and from the right, summed, its credits given, and lane 3's taken. -/
theorem part18 (k : Fin k0_t3_loop.trips) (v6 v18 v29 : BitVec 32) :
    iprop(recs D K Ks ∗ piled D c false 1 (k.val + 1) ∗ fly c true 1 (rest D c true 1 ((k.val + 1))) (k.val + 1) ∗ before D c false 3 (k.val + 1) ∗ before D c true 3 (k.val + 1) ∗ owesE c (((16 * (k.val + 1)) + 10)))
      ⊢ WP c (pt (k0_part18 (F := F)) c v6 v18 v29 k (Scf.iv 1#32 1#32 k)) fun _ =>
        iprop(before D c false 1 (k.val + 1 + 1) ∗ before D c true 1 (k.val + 1 + 1) ∗ ready D c false 3 (rest D c false 3 ((k.val + 1))) (k.val + 1) ∗ ready D c true 3 (rest D c true 3 ((k.val + 1))) (k.val + 1) ∗ owesE c (((16 * (k.val + 1)) + 12))) := by
  have e8 : k0_cond8 k = 1#1 := by revert k; decide +kernel
  have e9 : k0_cond9 k = 1#1 := by revert k; decide +kernel
  rw [k0_part18_eq_skeleton]
  unfold pt k0_part18_skel
  rw [k0_part5_eq_skeleton]
  unfold k0_part5_skel
  simp only [semSignalWord, semWaitWord, Prog.lift, Prog.bind_op, Prog.bind_ret, Prog.pure_eq_ret, Prog.bind_assoc, dif_pos e8, dif_pos e9]
  iintro ⟨#Hr, f1, t1, f3, t3, Ho⟩
  iapply (doSent true 1 (rest D c true 1 ((k.val + 1))) (k.val + 1) ((16 * (k.val + 1)) + 10) (by revert k; decide +kernel) (by revert k; decide +kernel) (by revert k; decide +kernel) (by rfl)) $$ Hr t1 Ho
  iintro t1 Ho
  iapply (doPile true 1 (k.val + 1) ((16 * (k.val + 1)) + 10) (by revert k; decide +kernel) (by revert k; decide +kernel) (by revert k; decide +kernel) (by revert k; decide +kernel) (by rfl)) $$ Hr t1 Ho
  iintro t1 Ho
  iapply (doRows false 1 (k.val + 1) (at_rows false (chunk false c ((k.val + 1) + 1)) 1 (by revert c k; decide +kernel))) $$ f1
  iintro f1
  iapply (doSlot false 1 ((k.val + 1)) (at_slot false 1 (par ((k.val + 1))) (by rfl) (by revert k; decide +kernel))) $$ f1
  iintro f1
  iapply (doRows false 1 (k.val + 1) (at_rows false (chunk false c ((k.val + 1) + 1)) 1 (by revert c k; decide +kernel))) $$ f1
  iintro f1
  iapply (doSum false 1 ((k.val + 1)) (by revert k; decide +kernel) (by exact pay_unsq _ _) (at_rows false (chunk false c ((k.val + 1) + 1)) 1 (by revert c k; decide +kernel))) $$ f1
  iintro f1
  iapply (doRows true 1 (k.val + 1) (at_rows true (chunk true c ((k.val + 1) + 1)) 1 (by revert c k; decide +kernel))) $$ t1
  iintro t1
  iapply (doSlot true 1 ((k.val + 1)) (at_slot true 1 (par ((k.val + 1))) (by rfl) (by revert k; decide +kernel))) $$ t1
  iintro t1
  iapply (doRows true 1 (k.val + 1) (at_rows true (chunk true c ((k.val + 1) + 1)) 1 (by revert c k; decide +kernel))) $$ t1
  iintro t1
  iapply (doSum true 1 ((k.val + 1)) (by revert k; decide +kernel) (by exact pay_unsq _ _) (at_rows true (chunk true c ((k.val + 1) + 1)) 1 (by revert c k; decide +kernel))) $$ t1
  iintro t1
  iapply (doGive false 1 ((k.val + 1)) (((16 * (k.val + 1)) + 10)) (by revert k; decide +kernel) (by revert k; decide +kernel) (by revert c k; decide +kernel) (by rfl) (by rfl)) $$ Hr f1 Ho
  iintro f1 Ho
  iapply (doGive true 1 ((k.val + 1)) (((16 * (k.val + 1)) + 11)) (by revert k; decide +kernel) (by revert k; decide +kernel) (by revert c k; decide +kernel) (by rfl) (by rfl)) $$ Hr t1 Ho
  iintro t1 Ho
  iapply (doTakeIf 3 ((k.val + 1)) (((16 * (k.val + 1)) + 12)) (by revert k; decide +kernel) (by revert k; decide +kernel) (by revert k; decide +kernel) (by revert k; decide +kernel) (by revert k; decide +kernel) (by rfl) (by rfl) (by rfl) (by rfl)) $$ Hr f3 t3 Ho
  iintro f3 t3 Ho
  iapply ended
  iframe

/-- Lane 3 started. -/
theorem part20 (k : Fin k0_t3_loop.trips) (v6 v18 v40 : BitVec 32) :
    iprop(recs D K Ks ∗ ready D c false 3 (rest D c false 3 ((k.val + 1))) (k.val + 1) ∗ ready D c true 3 (rest D c true 3 ((k.val + 1))) (k.val + 1) ∗ owesE c (((16 * (k.val + 1)) + 12)))
      ⊢ WP c (pt (k0_part20 (F := F)) c v6 v18 k v40) fun _ =>
        iprop(fly c false 3 (rest D c false 3 ((k.val + 1))) (k.val + 1) ∗ fly c true 3 (rest D c true 3 ((k.val + 1))) (k.val + 1) ∗ owesE c (((16 * (k.val + 1)) + 14))) := by
  rw [k0_part20_eq_skeleton]
  unfold pt k0_part20_skel
  simp only [semSignalWord, semWaitWord, Prog.lift, Prog.bind_op, Prog.bind_ret, Prog.pure_eq_ret, Prog.bind_assoc]
  iintro ⟨#Hr, f3, t3, Ho⟩
  iapply (doStart false 3 (rest D c false 3 ((k.val + 1))) ((k.val + 1)) (((16 * (k.val + 1)) + 12)) (by revert k; decide +kernel) (by revert k; decide +kernel) (by revert c k; decide +kernel) (at_rows false (chunk false c ((k.val + 1))) 3 (by revert c k; decide +kernel)) ((at_slot false 3 (par ((k.val + 1))) (by rfl) (by revert k; decide +kernel)).trans (dst_slot false c 3 ((k.val + 1)) (by revert k; decide +kernel))) (by revert k; decide +kernel) (by revert k; decide +kernel)) $$ Hr f3 Ho
  iintro f3 Ho
  iapply (doStart true 3 (rest D c true 3 ((k.val + 1))) ((k.val + 1)) (((16 * (k.val + 1)) + 13)) (by revert k; decide +kernel) (by revert k; decide +kernel) (by revert c k; decide +kernel) (at_rows true (chunk true c ((k.val + 1))) 3 (by revert c k; decide +kernel)) ((at_slot true 3 (par ((k.val + 1))) (by rfl) (by revert k; decide +kernel)).trans (dst_slot true c 3 ((k.val + 1)) (by revert k; decide +kernel))) (by revert k; decide +kernel) (by revert k; decide +kernel)) $$ Hr t3 Ho
  iintro t3 Ho
  iapply ended
  iframe

/-- Lane 2 landed from the left. -/
theorem part21 (k : Fin k0_t3_loop.trips) (v6 v18 v29 v40 v1511 : BitVec 32) :
    iprop(recs D K Ks ∗ fly c false 2 (rest D c false 2 ((k.val + 1))) (k.val + 1) ∗ fly c true 2 (rest D c true 2 ((k.val + 1))) (k.val + 1) ∗ owesE c (((16 * (k.val + 1)) + 14)))
      ⊢ WP c (pt (k0_part21 (F := F)) c v6 v18 v29 k v40 v1511) fun _ =>
        iprop(piled D c false 2 (k.val + 1) ∗ gone D c true 2 (rest D c true 2 ((k.val + 1))) (k.val + 1) ∗ owesE c (((16 * (k.val + 1)) + 14))) := by
  rw [k0_part21_eq_skeleton]
  unfold pt k0_part21_skel
  simp only [semSignalWord, semWaitWord, Prog.lift, Prog.bind_op, Prog.bind_ret, Prog.pure_eq_ret, Prog.bind_assoc]
  iintro ⟨#Hr, f2, t2, Ho⟩
  iapply (doSent false 2 (rest D c false 2 ((k.val + 1))) (k.val + 1) ((16 * (k.val + 1)) + 14) (by revert k; decide +kernel) (by revert k; decide +kernel) (by revert k; decide +kernel) (by rfl)) $$ Hr f2 Ho
  iintro f2 Ho
  iapply (doPile false 2 (k.val + 1) ((16 * (k.val + 1)) + 14) (by revert k; decide +kernel) (by revert k; decide +kernel) (by revert k; decide +kernel) (by revert k; decide +kernel) (by rfl)) $$ Hr f2 Ho
  iintro f2 Ho
  iapply (doSent true 2 (rest D c true 2 ((k.val + 1))) (k.val + 1) ((16 * (k.val + 1)) + 14) (by revert k; decide +kernel) (by revert k; decide +kernel) (by revert k; decide +kernel) (by rfl)) $$ Hr t2 Ho
  iintro t2 Ho
  iapply ended
  iframe

/-- What a trip of the loop of hops starts with: lane 3 one hop behind the others. -/
def before3 (k : ℕ) : sProp 𝕄 :=
  iprop(before D c false 0 (k + 1) ∗ before D c true 0 (k + 1) ∗ before D c false 1 (k + 1) ∗ before D c true 1 (k + 1)
    ∗ before D c false 2 (k + 1) ∗ before D c true 2 (k + 1) ∗ fly c false 3 (rest D c false 3 k) k ∗ fly c true 3 (rest D c true 3 k) k
    ∗ owesE c (16 * (k + 1)))

/-- One trip of the loop of hops 1 and 2. -/
theorem trip3 (k : Fin k0_t3_loop.trips) (u : Unit) (v6 v18 v29 v532 : BitVec 32) :
    iprop(recs D K Ks ∗ before3 D c k.val)
      ⊢ WP c (pt (k0_t3_body (F := F)) c v6 v18 v29 v532 k u) fun _ => before3 D c (k.val + 1) := by
  have e11 : k0_cond11 k = 1#1 := by revert k; decide +kernel
  have e12 : k0_cond12 k = 1#1 := by revert k; decide +kernel
  unfold before3 pt k0_t3_body
  rw [k0_part6_eq_skeleton]
  unfold k0_part6_skel
  simp only [semSignalWord, semWaitWord, Prog.lift, Prog.bind_op, Prog.bind_ret, Prog.pure_eq_ret, Prog.bind_assoc, dif_pos e11, dif_pos e12]
  iintro ⟨#Hr, f0, t0, f1, t1, f2, t2, f3, t3, Ho⟩
  iapply (next (part7 D K Ks c k v6)) $$ [Hr f0 t0 Ho]
  · iframe; try iexact Hr
  iintro %r ⟨%hr, f0, t0, Ho⟩
  obtain ⟨a, _, _, _, _⟩ := r
  obtain rfl : a = Scf.iv 1#32 1#32 k := hr
  try dsimp only
  iapply (next (part8 D K Ks c k v6 v18 v29 _ _ _ _ _)) $$ [Hr f0 t0 Ho]
  · iframe; try iexact Hr
  iintro %r ⟨f0, t0, Ho⟩
  obtain ⟨_, _⟩ := r
  try dsimp only
  iapply (next (part9 D K Ks c k v6 v29 _ _)) $$ [Hr f3 Ho]
  · iframe; try iexact Hr
  iintro %r ⟨f3, Ho⟩
  try dsimp only
  iapply (next (part10 D K Ks c k v6 v18 v29 _)) $$ [Hr f3 t3 Ho]
  · iframe; try iexact Hr
  iintro %r ⟨%hr, f3, t3, Ho⟩
  subst hr
  try dsimp only
  iapply (next (part11 D K Ks c k v6)) $$ [Hr f1 t1 Ho]
  · iframe; try iexact Hr
  iintro %r ⟨f1, t1, Ho⟩
  obtain ⟨_, _⟩ := r
  try dsimp only
  iapply (next (part12 D K Ks c k v6 v18 v29 _ _ _)) $$ [Hr f1 t1 Ho]
  · iframe; try iexact Hr
  iintro %r ⟨f1, t1, Ho⟩
  obtain ⟨_, _⟩ := r
  try dsimp only
  iapply (next (part13 D K Ks c k v6 v29 _ _ _)) $$ [Hr f0 Ho]
  · iframe; try iexact Hr
  iintro %r ⟨f0, Ho⟩
  try dsimp only
  iapply (next (part14 D K Ks c k v6 v18 v29)) $$ [Hr f0 t0 f2 t2 Ho]
  · iframe; try iexact Hr
  iintro %r ⟨f0, t0, f2, t2, Ho⟩
  obtain ⟨_, _⟩ := r
  try dsimp only
  rw [k0_part15_eq_skeleton]; unfold k0_part15_skel; simp only [Prog.bind_ret, Prog.pure_eq_ret]
  iapply (next (part16 D K Ks c k v6 v18 v29 _ _)) $$ [Hr f2 t2 Ho]
  · iframe; try iexact Hr
  iintro %r ⟨f2, t2, Ho⟩
  obtain ⟨_, _, _, _, _⟩ := r
  try dsimp only
  iapply (next (part17 D K Ks c k v6 v29 _ _ _ _ _ _)) $$ [Hr f1 Ho]
  · iframe; try iexact Hr
  iintro %r ⟨f1, Ho⟩
  try dsimp only
  iapply (next (part18 D K Ks c k v6 v18 v29)) $$ [Hr f1 t1 f3 t3 Ho]
  · iframe; try iexact Hr
  iintro %r ⟨f1, t1, f3, t3, Ho⟩
  obtain ⟨_, _, _, _⟩ := r
  try dsimp only
  rw [k0_part19_eq_skeleton]; unfold k0_part19_skel; simp only [Prog.bind_ret, Prog.pure_eq_ret]
  iapply (next (part20 D K Ks c k v6 v18 _)) $$ [Hr f3 t3 Ho]
  · iframe; try iexact Hr
  iintro %r ⟨f3, t3, Ho⟩
  try dsimp only
  iapply (next (part21 D K Ks c k v6 v18 v29 _ _)) $$ [Hr f2 t2 Ho]
  · iframe; try iexact Hr
  iintro %r ⟨f2, t2, Ho⟩
  try dsimp only
  iapply (doPile true 2 (k.val + 1) ((16 * (k.val + 1)) + 14) (by revert k; decide +kernel) (by revert k; decide +kernel) (by revert k; decide +kernel) (by revert k; decide +kernel) (by rfl)) $$ Hr t2 Ho
  iintro t2 Ho
  iapply (doRows false 2 (k.val + 1) (at_rows false (chunk false c ((k.val + 1) + 1)) 2 (by revert c k; decide +kernel))) $$ f2
  iintro f2
  iapply (doSlot false 2 ((k.val + 1)) (at_slot false 2 (par ((k.val + 1))) (by rfl) (by revert k; decide +kernel))) $$ f2
  iintro f2
  iapply (doRows false 2 (k.val + 1) (at_rows false (chunk false c ((k.val + 1) + 1)) 2 (by revert c k; decide +kernel))) $$ f2
  iintro f2
  iapply (doSum false 2 ((k.val + 1)) (by revert k; decide +kernel) (by exact pay_unsq _ _) (at_rows false (chunk false c ((k.val + 1) + 1)) 2 (by revert c k; decide +kernel))) $$ f2
  iintro f2
  iapply (doRows true 2 (k.val + 1) (at_rows true (chunk true c ((k.val + 1) + 1)) 2 (by revert c k; decide +kernel))) $$ t2
  iintro t2
  iapply (doSlot true 2 ((k.val + 1)) (at_slot true 2 (par ((k.val + 1))) (by rfl) (by revert k; decide +kernel))) $$ t2
  iintro t2
  iapply (doRows true 2 (k.val + 1) (at_rows true (chunk true c ((k.val + 1) + 1)) 2 (by revert c k; decide +kernel))) $$ t2
  iintro t2
  iapply (doSum true 2 ((k.val + 1)) (by revert k; decide +kernel) (by exact pay_unsq _ _) (at_rows true (chunk true c ((k.val + 1) + 1)) 2 (by revert c k; decide +kernel))) $$ t2
  iintro t2
  iapply (doGive false 2 ((k.val + 1)) (((16 * (k.val + 1)) + 14)) (by revert k; decide +kernel) (by revert k; decide +kernel) (by revert c k; decide +kernel) (by rfl) (by rfl)) $$ Hr f2 Ho
  iintro f2 Ho
  iapply (doGive true 2 ((k.val + 1)) (((16 * (k.val + 1)) + 15)) (by revert k; decide +kernel) (by revert k; decide +kernel) (by revert c k; decide +kernel) (by rfl) (by rfl)) $$ Hr t2 Ho
  iintro t2 Ho
  iapply ended
  iframe

/-- The loop. -/
theorem loop3 (v6 v18 v29 v532 : BitVec 32) {β : Type} {kk : Unit → Prog (TpuEff nD τ sig (Elt F) Λ₀ .tc) β} {Q : β → sProp 𝕄} :
    iprop(recs D K Ks ∗ before3 D c 0)
      ⊢ iprop((before3 D c 2 -∗ WP c (kk ()) Q)
        -∗ WP c (Scf.Loop.for k0_t3_loop k0_t3_ok ⟨⟩ (pt (k0_t3_body (F := F)) c v6 v18 v29 v532) >>= kk) Q) := by
  iintro ⟨#Hr, H⟩ Hk
  iapply (Scf.wp_for_bind frame (wpE (defs₀ (F := F)) 𝒱₀ (c : Thread nD τ) none) Set.univ _ _ _ k0_t3_ok ()
    (pt (k0_t3_body (F := F)) c v6 v18 v29 v532) (fun k _ => iprop(recs D K Ks ∗ before3 D c k)) (fun k u => by
      iintro ⟨#Hr, H⟩
      iapply (wp_wand_r frame (wpE (defs₀ (F := F)) 𝒱₀ (c : Thread nD τ) none) Set.univ)
      isplitl [H]
      · iapply (trip3 D K Ks c k u v6 v18 v29 v532); isplitr; · iexact Hr
        iexact H
      · iintro %_ H; isplitr; · iexact Hr
        iexact H)) $$ [H]
  · isplitr; · iexact Hr
    iexact H
  rw [show Scf.trips k0_t3_loop.lb k0_t3_loop.ub k0_t3_loop.st = 2 by decide +kernel]
  iintro %_ ⟨_, H⟩
  iapply Hk $$ H

end

end Cert.RingProof

end
-- ==== Proof.Gemm.lean ====
/-
# The products

The local product, block by block: a trip of either loop loads the block's rows of the first factor and the whole second
factor, and stores the scaled product in the block's rows of the output.  The loops' blocks are handed out as lanes.
-/
module

public import proofs.«01_k».proof.Proof.Blocks
public import proofs.«01_k».proof.Proof.Hops

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (D : Data F) (K : Dev nD × Cell → ℕ) (Ks : Key → ℕ) (c : Dev nD)

/-- The scaled product of a block. -/
def prod (X : Vec F S4096x1024 .i8) (W : Vec F S1024x2048 .i8) (sc : F .f32) (b : Bool) (k : Fin 4) : Vec F S512x2048 .f32 :=
  k0_pay18 sc (xrows X b k) W

/-! ## Accesses -/

section Accesses
variable {c}

/-- A load of a block's rows of the first factor, -/
theorem ld_x {X : Vec F S4096x1024 .i8} {off : Fin 2 → ℕ} (b : Bool) (k : Fin 4) (e : off = ![brow b k, 0])
    {inb : ∀ a, off a + S512x1024.size a ≤ S4096x1024.size a}
    {hl : xM.view.LoadsAt (Rect.unit (s := S4096x1024) off S512x1024.size inb).toLoadRect}
    {α : Type} {kk : Vec F S512x1024 .i8 → Prog (TpuEff nD τ sig (Elt F) Λ₀ .tc) α} {Q : α → sProp 𝕄} :
    own c xM X
      ⊢ iprop((own c xM X -∗ WP c (kk (xrows X b k)) Q)
          -∗ WP c (.op (.load xM (Rect.unit (s := S4096x1024) off S512x1024.size inb).toLoadRect hl) kk) Q) := by
  subst e
  unfold own owns
  iintro ⟨%f, %hf, H⟩ Hk
  iapply (wp_load_rect 𝒱₀ (c : Thread nD τ) none Set.univ (m := xM) (r := Rect.unit (s := S4096x1024) ![brow b k, 0] S512x1024.size inb) (f := f) (q := fullShare)
    (S := xM.view.set) (View.set_slice_subset _ _)) $$ [H]
  · iexact H
  iintro H
  have e : (xM.access (Rect.unit (s := S4096x1024) ![brow b k, 0] S512x1024.size inb)).read (Elt F) f = xrows X b k := by
    subst hf; rfl
  rw [e]
  iapply Hk
  iexists f
  isplitr; · ipureintro; exact hf
  iexact H

/-- of the second factor, -/
theorem ld_w {W : Vec F S1024x2048 .i8} {inb : ∀ a, (![0, 0] : Fin 2 → ℕ) a + S1024x2048.size a ≤ S1024x2048.size a}
    {hl : wM.view.LoadsAt (Rect.unit (s := S1024x2048) ![0, 0] S1024x2048.size inb).toLoadRect}
    {α : Type} {kk : Vec F S1024x2048 .i8 → Prog (TpuEff nD τ sig (Elt F) Λ₀ .tc) α} {Q : α → sProp 𝕄} :
    own c wM W
      ⊢ iprop((own c wM W -∗ WP c (kk W) Q)
          -∗ WP c (.op (.load wM (Rect.unit (s := S1024x2048) ![0, 0] S1024x2048.size inb).toLoadRect hl) kk) Q) := by
  unfold own owns
  iintro ⟨%f, %hf, H⟩ Hk
  iapply (wp_load_rect 𝒱₀ (c : Thread nD τ) none Set.univ (m := wM) (r := Rect.unit (s := S1024x2048) ![0, 0] S1024x2048.size inb) (f := f) (q := fullShare)
    (S := wM.view.set) (View.set_slice_subset _ _)) $$ [H]
  · iexact H
  iintro H
  have e : (wM.access (Rect.unit (s := S1024x2048) ![0, 0] S1024x2048.size inb)).read (Elt F) f = W := by
    subst hf
    funext j
    show wM.view.read (Elt F) f ((Rect.unit (s := S1024x2048) ![0, 0] S1024x2048.size inb).emb j) = wM.view.read (Elt F) f j
    congr 1
    funext a
    refine Fin.ext ?_
    match a with
    | ⟨0, _⟩ => show 0 + 1 * (j 0).val = (j 0).val; omega
    | ⟨1, _⟩ => show 0 + 1 * (j 1).val = (j 1).val; omega
  rw [e]
  iapply Hk
  iexists f
  isplitr; · ipureintro; exact hf
  iexact H

/-- of a block's rows of the output, -/
theorem ld_blk {X : Vec F S512x2048 .f32} {off : Fin 2 → ℕ} (b : Bool) (k : Fin 4) (e : off = ![brow b k, 0])
    {inb : ∀ a, off a + S512x2048.size a ≤ S4096x2048.size a}
    {hl : oM.view.LoadsAt (Rect.unit (s := S4096x2048) off S512x2048.size inb).toLoadRect}
    {α : Type} {kk : Vec F S512x2048 .f32 → Prog (TpuEff nD τ sig (Elt F) Λ₀ .tc) α} {Q : α → sProp 𝕄} :
    own c (bblk b k) X
      ⊢ iprop((own c (bblk b k) X -∗ WP c (kk X) Q)
          -∗ WP c (.op (.load oM (Rect.unit (s := S4096x2048) off S512x2048.size inb).toLoadRect hl) kk) Q) := by
  subst e
  unfold own owns
  iintro ⟨%f, %hf, H⟩ Hk
  iapply (wp_load_rect 𝒱₀ (c : Thread nD τ) none Set.univ (m := oM) (r := blkRect b k) (f := f) (q := fullShare)
    (S := (bblk b k).view.set) (fun _ h => h)) $$ [H]
  · iexact H
  iintro H
  have e : (oM.access (blkRect b k)).read (Elt F) f = X := hf
  rw [e]
  iapply Hk
  iexists f
  isplitr; · ipureintro; exact hf
  iexact H

/-- the store of the block's product, -/
theorem st_blk {X Y : Vec F S512x2048 .f32} {off : Fin 2 → ℕ} (b : Bool) (k : Fin 4) (e : off = ![brow b k, 0])
    {inb : ∀ a, off a + S512x2048.size a ≤ S4096x2048.size a}
    {hx : (oM.access (Rect.unit (s := S4096x2048) off S512x2048.size inb)).Stores Finset.univ}
    {hm : (Finset.univ : Finset (Rect.unit (s := S4096x2048) off S512x2048.size inb).shape.Idx) = Finset.univ ∨ ∀ a, (Rect.unit (s := S4096x2048) off S512x2048.size inb).stride a = 1}
    {α : Type} {kk : PUnit → Prog (TpuEff nD τ sig (Elt F) Λ₀ .tc) α} {Q : α → sProp 𝕄} :
    own c (bblk b k) X
      ⊢ iprop((own c (bblk b k) Y -∗ WP c (kk ⟨⟩) Q)
          -∗ WP c (.op (.store oM (Rect.unit (s := S4096x2048) off S512x2048.size inb) Y Finset.univ hx hm) kk) Q) := by
  subst e
  unfold own owns
  iintro ⟨%f, %hf, H⟩ Hk
  iapply (wp_store 𝒱₀ (c : Thread nD τ) none Set.univ (m := oM) (r := blkRect b k) (f := f) (w := Y)
    (Mk := Finset.univ) (hx := hx) (hm := hm) (S := (bblk b k).view.set) (by rw [View.setOn_univ])) $$ [H]
  · iexact H
  iintro H
  iapply Hk
  iexists ((oM.access (blkRect b k)).write (Elt F) f Y Finset.univ)
  isplitr; · ipureintro; exact View.read_write_univ _ _
  iexact H

/-- The index of a scale. -/
def one : S1.Idx := fun a => match a with | ⟨0, _⟩ => (⟨0, by decide⟩ : Fin 1)

/-- and a scale's load. -/
theorem ld_scale {m : Memref sig .tc .smem S1 .f32} {A : Vec F S1 .f32} {h1 : (Rect.unit (s := S1) ![0] S1.size inb_S1_S1_0).shape.numel = 1}
    {hp : (EltTy.packing .f32) = 1}
    {α : Type} {kk : F .f32 → Prog (TpuEff nD τ sig (Elt F) Λ₀ .tc) α} {Q : α → sProp 𝕄} :
    own c m A
      ⊢ iprop((own c m A -∗ WP c (kk (A one)) Q)
          -∗ WP c ((smemLoad m (Rect.unit (s := S1) ![0] S1.size inb_S1_S1_0) h1 hp : Prog (TpuEff nD τ sig (Elt F) Λ₀ .tc) (Elt F .f32)) >>= kk) Q) := by
  unfold own owns smemLoad smemLoadElt
  rw [Prog.bind_op]
  iintro ⟨%f, %hf, H⟩ Hk
  iapply (wp_load_rect 𝒱₀ (c : Thread nD τ) none Set.univ (m := m) (r := Rect.unit (s := S1) ![0] S1.size inb_S1_S1_0) (f := f) (q := fullShare)
    (S := m.view.set) (View.set_slice_subset _ _)) $$ [H]
  · iexact H
  iintro H
  have e : ∀ x, (m.access (Rect.unit (s := S1) ![0] S1.size inb_S1_S1_0)).read (Elt F) f x = A one := by
    intro x
    subst hf
    show m.view.read (Elt F) f ((Rect.unit (s := S1) ![0] S1.size inb_S1_S1_0).emb x) = m.view.read (Elt F) f one
    congr 1
    funext a
    match a with
    | ⟨0, _⟩ =>
      refine Fin.ext ?_
      have h : ((Rect.unit (s := S1) ![0] S1.size inb_S1_S1_0).emb x 0).val < 1 := ((Rect.unit (s := S1) ![0] S1.size inb_S1_S1_0).emb x 0).isLt
      exact Nat.lt_one_iff.mp h
  rw [Prog.bind_ret, e]
  iapply Hk
  iexists f
  isplitr; · ipureintro; exact hf
  iexact H

end Accesses

/-! ## The loops -/

section Loops
variable (X : Vec F S4096x1024 .i8) (W : Vec F S1024x2048 .i8) (sc : F .f32)

/-- The blocks of the products of `S`, those before `n` computed. -/
def blocks (S : Finset ℕ) (n : ℕ) : sProp 𝕄 :=
  bigSep S fun i => if i < n then own c (bblk (bi i) (ki c i)) (prod X W sc (bi i) (ki c i)) else iprop(∃ Y, own c (bblk (bi i) (ki c i)) Y)

/-- The next block taken out, and put back computed. -/
theorem blocks_next (S : Finset ℕ) (n : ℕ) (hn : n ∈ S) :
    blocks c X W sc S n ⊢ iprop((∃ Y, own c (bblk (bi n) (ki c n)) Y)
      ∗ (own c (bblk (bi n) (ki c n)) (prod X W sc (bi n) (ki c n)) -∗ blocks c X W sc S (n + 1))) := by
  unfold blocks
  rw [bigSep_take hn, bigSep_take hn (Φ := fun i => if i < n + 1 then _ else _)]
  rw [if_neg (Nat.lt_irrefl n), if_pos (Nat.lt_succ_self n)]
  rw [bigSep_congr (s := S.erase n) (Ψ := fun i => if i < n + 1 then own c (bblk (bi i) (ki c i)) (prod X W sc (bi i) (ki c i)) else iprop(∃ Y, own c (bblk (bi i) (ki c i)) Y))
    (fun i hi => by
      have hne := Finset.ne_of_mem_erase hi
      by_cases h : i < n
      · rw [if_pos h, if_pos (by omega)]
      · rw [if_neg h, if_neg (by omega)])]
  iintro ⟨H, R⟩
  isplitl [H]; · iexact H
  iintro H
  isplitl [H] <;> iassumption

/-- What the loops keep: the factors and the blocks. -/
def gemm (S : Finset ℕ) (n : ℕ) : sProp 𝕄 := iprop(own c xM X ∗ own c wM W ∗ blocks c X W sc S n)

/-- A trip of the first loop, which computes chunk 0 of each direction, -/
theorem trip1 (k : Fin k0_t1_loop.trips) (u : Unit) (v6 v29 : BitVec 32) (v30 : Sems sig S_) (v35 v36 : F .f32) :
    gemm c X W (k0_pay16 v35 v36) (Finset.range 2) (k.val)
      ⊢ WP c (pt (k0_t1_body (F := F)) c v6 v29 v30 v35 v36 k u) (fun _ => gemm c X W (k0_pay16 v35 v36) (Finset.range 2) (k.val + 1)) := by
  unfold k0_t1_body
  rw [k0_part1_eq_skeleton]
  unfold k0_part1_skel gemm
  simp only [Prog.lift, Prog.bind_op, Prog.bind_ret, Prog.pure_eq_ret, Prog.bind_assoc]
  iintro ⟨Hx, Hw, Hb⟩
  ihave Hb := (blocks_next c X W (k0_pay16 v35 v36) (Finset.range 2) k.val (by revert k; decide +kernel)) $$ Hb
  icases Hb with ⟨⟨%Y, Hb⟩, Hk⟩
  iapply (ld_x (bi k.val) (ki c k.val) (by revert c k; decide +kernel)) $$ Hx
  iintro Hx
  iapply ld_w $$ Hw
  iintro Hw
  iapply (ld_blk (bi k.val) (ki c k.val) (by revert c k; decide +kernel)) $$ Hb
  iintro Hb
  iapply (st_blk (bi k.val) (ki c k.val) (by revert c k; decide +kernel)) $$ Hb
  iintro Hb
  ispecialize Hk $$ [Hb]
  · iexact Hb
  iapply (ended (c := c))
  iframe

/-- and of the second, which computes the others. -/
theorem trip2 (k : Fin k0_t2_loop.trips) (u : Unit) (v6 : BitVec 32) :
    gemm c X W sc (Finset.Ico 2 8) (k.val + 2)
      ⊢ WP c (pt (k0_t2_body (F := F)) c v6 sc k u) (fun _ => gemm c X W sc (Finset.Ico 2 8) (k.val + 2 + 1)) := by
  unfold k0_t2_body
  rw [k0_part2_eq_skeleton]
  unfold k0_part2_skel gemm
  simp only [Prog.lift, Prog.bind_op, Prog.bind_ret, Prog.pure_eq_ret, Prog.bind_assoc]
  iintro ⟨Hx, Hw, Hb⟩
  ihave Hb := (blocks_next c X W sc (Finset.Ico 2 8) (k.val + 2) (by revert k; decide +kernel)) $$ Hb
  icases Hb with ⟨⟨%Y, Hb⟩, Hk⟩
  iapply (ld_x (bi (k.val + 2)) (ki c (k.val + 2)) (by revert c k; decide +kernel)) $$ Hx
  iintro Hx
  iapply ld_w $$ Hw
  iintro Hw
  iapply (ld_blk (bi (k.val + 2)) (ki c (k.val + 2)) (by revert c k; decide +kernel)) $$ Hb
  iintro Hb
  iapply (st_blk (bi (k.val + 2)) (ki c (k.val + 2)) (by revert c k; decide +kernel)) $$ Hb
  iintro Hb
  ispecialize Hk $$ [Hb]
  · iexact Hb
  iapply (ended (c := c))
  iframe

/-- The first loop, -/
theorem loop1 (v6 v29 : BitVec 32) (v30 : Sems sig S_) (v35 v36 : F .f32) {β : Type} {kk : Unit → Prog (TpuEff nD τ sig (Elt F) Λ₀ .tc) β} {Q : β → sProp 𝕄} :
    gemm c X W (k0_pay16 v35 v36) (Finset.range 2) 0
      ⊢ iprop((gemm c X W (k0_pay16 v35 v36) (Finset.range 2) 2 -∗ WP c (kk ()) Q)
        -∗ WP c (Scf.Loop.for k0_t1_loop k0_t1_ok ⟨⟩ (pt (k0_t1_body (F := F)) c v6 v29 v30 v35 v36) >>= kk) Q) := by
  iintro H Hk
  iapply (Scf.wp_for_bind frame (wpE (defs₀ (F := F)) 𝒱₀ (c : Thread nD τ) none) Set.univ _ _ _ k0_t1_ok ()
    (pt (k0_t1_body (F := F)) c v6 v29 v30 v35 v36) (fun k _ => gemm c X W (k0_pay16 v35 v36) (Finset.range 2) (k)) (fun k u => by
      rw [show k.val + 1 = k.val + 1 by omega]
      exact trip1 c X W k u v6 v29 v30 v35 v36)) $$ [H]
  · iexact H
  rw [show Scf.trips k0_t1_loop.lb k0_t1_loop.ub k0_t1_loop.st = 2 by decide +kernel]
  iintro %_ H
  iapply Hk $$ H

/-- and the second. -/
theorem loop2 (v6 : BitVec 32) {β : Type} {kk : Unit → Prog (TpuEff nD τ sig (Elt F) Λ₀ .tc) β} {Q : β → sProp 𝕄} :
    gemm c X W sc (Finset.Ico 2 8) 2
      ⊢ iprop((gemm c X W sc (Finset.Ico 2 8) 8 -∗ WP c (kk ()) Q)
        -∗ WP c (Scf.Loop.for k0_t2_loop k0_t2_ok ⟨⟩ (pt (k0_t2_body (F := F)) c v6 sc) >>= kk) Q) := by
  iintro H Hk
  iapply (Scf.wp_for_bind frame (wpE (defs₀ (F := F)) 𝒱₀ (c : Thread nD τ) none) Set.univ _ _ _ k0_t2_ok ()
    (pt (k0_t2_body (F := F)) c v6 sc) (fun k _ => gemm c X W sc (Finset.Ico 2 8) (k + 2)) (fun k u => by
      rw [show k.val + 1 + 2 = k.val + 2 + 1 by omega]
      exact trip2 c X W sc k u v6)) $$ [H]
  · iexact H
  rw [show Scf.trips k0_t2_loop.lb k0_t2_loop.ub k0_t2_loop.st = 6 by decide +kernel]
  iintro %_ H
  iapply Hk $$ H

end Loops

end Cert.RingProof

end
-- ==== Proof.Start.lean ====
/-
# The start of the body

The two factors are brought in, the neighbours told that the landing places are free, chunk 0 of each direction computed,
and, once hop 0 is on its way, the other chunks.
-/
module

public import proofs.«01_k».proof.Proof.Gemm
public import proofs.«01_k».proof.Proof.Handshake

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Four lanes, six and eight blocks -/

section Sums
variable {M : Type _} [URA M]

theorem four (Φ : Fin 4 → sProp M) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide), bigSep_singleton]; rfl

theorem eight (Φ : Fin 8 → sProp M) : bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, bigSep_insert (by decide), bigSep_insert (by decide), bigSep_insert (by decide),
    bigSep_insert (by decide), bigSep_insert (by decide), bigSep_insert (by decide), bigSep_insert (by decide), bigSep_singleton]; rfl

theorem zip (s : Finset (Fin 4)) (Φ Ψ : Fin 4 → sProp M) : iprop(bigSep s Φ ∗ bigSep s Ψ) = bigSep s fun i => iprop(Φ i ∗ Ψ i) :=
  (bigSep_sep s Φ Ψ).symm
theorem same {P Q : sProp M} (h : P = Q) : P ⊢ Q := Entails.of_eq h
theorem via {P Q R : sProp M} (h : P ⊢ Q) (h' : Q ⊢ R) : P ⊢ R := BI.Entails.trans h h'

theorem firstTwo (Φ : ℕ → sProp M) : bigSep (Finset.range 2) Φ = iprop(Φ 0 ∗ Φ 1) := by
  rw [show Finset.range 2 = {0, 1} by decide, bigSep_insert (by decide), bigSep_singleton]; rfl

theorem lastSix (Φ : ℕ → sProp M) : bigSep (Finset.Ico 2 8) Φ = iprop(Φ 2 ∗ Φ 3 ∗ Φ 4 ∗ Φ 5 ∗ Φ 6 ∗ Φ 7) := by
  rw [show Finset.Ico 2 8 = {2, 3, 4, 5, 6, 7} by decide, bigSep_insert (by decide), bigSep_insert (by decide), bigSep_insert (by decide),
    bigSep_insert (by decide), bigSep_insert (by decide), bigSep_singleton]; rfl

end Sums

section
variable (D : Data F) (K : Dev nD × Cell → ℕ) (Ks : Key → ℕ) (c : Dev nD)

/-- The data's own products are the lanes of the computed blocks. -/
def Products (sc : F .f32) : Prop := ∀ b k s, D.P c b k s = lane s (prod (D.X c) (D.W c) sc b k)

/-- A computed block of chunk `h`, handed out as lanes. -/
theorem chunk_lanes {sc : F .f32} (hP : Products D c sc) (b : Bool) (h i : ℕ) (hb : bi i = b) (hk : ki c i = chunk b c h) :
    own c (bblk (bi i) (ki c i)) (prod (D.X c) (D.W c) sc (bi i) (ki c i)) ⊢ (bigSep Finset.univ fun s : Fin 4 => blkP D c b s h : sProp 𝕄) := by
  refine via (blk_lanes c _ _ _) (bigSep_mono fun s _ => ?_)
  rw [← hP, hb, hk]; exact same rfl

/-- The output split for the loops. -/
theorem out_split (sc : F .f32) (Z : Vec F S4096x2048 .f32) :
    (own c oM Z : sProp 𝕄) ⊢ iprop(blocks c (D.X c) (D.W c) sc (Finset.range 2) 0 ∗ blocks c (D.X c) (D.W c) sc (Finset.Ico 2 8) 2) := by
  refine via (out_blocks c Z) ?_
  unfold blocks
  rw [eight, firstTwo, lastSix]
  simp only [show ¬ (0 < 0) by decide, show ¬ (1 < 0) by decide, show ¬ (2 < 2) by decide, show ¬ (3 < 2) by decide, show ¬ (4 < 2) by decide,
    show ¬ (5 < 2) by decide, show ¬ (6 < 2) by decide, show ¬ (7 < 2) by decide, if_false]
  iintro ⟨H0, H1, H2, H3, H4, H5, H6, H7⟩
  isplitl [H0 H1]
  · isplitl [H0]; · iexact H0
    iexact H1
  isplitl [H2]; · iexact H2
  isplitl [H3]; · iexact H3
  isplitl [H4]; · iexact H4
  isplitl [H5]; · iexact H5
  isplitl [H6]; · iexact H6
  iexact H7

theorem ki_zero : bi 0 = false ∧ ki c 0 = chunk false c 0 ∧ bi 1 = true ∧ ki c 1 = chunk true c 0 := by revert c; decide +kernel
theorem ki_up : ki c 2 = chunk false c 3 ∧ ki c 4 = chunk false c 2 ∧ ki c 6 = chunk false c 1 := by revert c; decide +kernel
theorem ki_down : ki c 3 = chunk true c 1 ∧ ki c 5 = chunk true c 2 ∧ ki c 7 = chunk true c 3 := by revert c; decide +kernel

/-- The first loop's blocks as lanes, -/
theorem chunk_zero {sc : F .f32} (hP : Products D c sc) :
    gemm c (D.X c) (D.W c) sc (Finset.range 2) 2 ⊢ (iprop(own c xM (D.X c) ∗ own c wM (D.W c)
      ∗ (bigSep Finset.univ fun s : Fin 4 => blkP D c false s 0) ∗ (bigSep Finset.univ fun s : Fin 4 => blkP D c true s 0)) : sProp 𝕄) := by
  unfold gemm blocks
  rw [firstTwo, if_pos (by decide), if_pos (by decide)]
  obtain ⟨h0, h1, h2, h3⟩ := ki_zero c
  iintro ⟨Hx, Hw, H0, H1⟩
  isplitl [Hx]; · iexact Hx
  isplitl [Hw]; · iexact Hw
  isplitl [H0]
  · iapply (chunk_lanes D c hP false 0 0 h0 h1) $$ H0
  · iapply (chunk_lanes D c hP true 0 1 h2 h3) $$ H1

/-- and the second's. -/
theorem chunk_others {sc : F .f32} (hP : Products D c sc) :
    gemm c (D.X c) (D.W c) sc (Finset.Ico 2 8) 8 ⊢ (iprop(own c xM (D.X c) ∗ own c wM (D.W c)
      ∗ (bigSep Finset.univ fun s : Fin 4 => blkP D c false s 1) ∗ (bigSep Finset.univ fun s : Fin 4 => blkP D c false s 2)
      ∗ (bigSep Finset.univ fun s : Fin 4 => blkP D c false s 3)
      ∗ (bigSep Finset.univ fun s : Fin 4 => blkP D c true s 1) ∗ (bigSep Finset.univ fun s : Fin 4 => blkP D c true s 2)
      ∗ (bigSep Finset.univ fun s : Fin 4 => blkP D c true s 3)) : sProp 𝕄) := by
  unfold gemm blocks
  rw [lastSix, if_pos (by decide), if_pos (by decide), if_pos (by decide), if_pos (by decide), if_pos (by decide), if_pos (by decide)]
  obtain ⟨u3, u2, u1⟩ := ki_up c
  obtain ⟨d1, d2, d3⟩ := ki_down c
  iintro ⟨Hx, Hw, H2, H3, H4, H5, H6, H7⟩
  isplitl [Hx]; · iexact Hx
  isplitl [Hw]; · iexact Hw
  isplitl [H6]; · iapply (chunk_lanes D c hP false 1 6 rfl u1) $$ H6
  isplitl [H4]; · iapply (chunk_lanes D c hP false 2 4 rfl u2) $$ H4
  isplitl [H2]; · iapply (chunk_lanes D c hP false 3 2 rfl u3) $$ H2
  isplitl [H3]; · iapply (chunk_lanes D c hP true 1 3 rfl d1) $$ H3
  isplitl [H5]; · iapply (chunk_lanes D c hP true 2 5 rfl d2) $$ H5
  iapply (chunk_lanes D c hP true 3 7 rfl d3) $$ H7

/-- The lanes of a direction before hop 0: the neighbour's places are free and chunk 0 is computed. -/
theorem lanes_ready (b : Bool) :
    iprop((bigSep Finset.univ fun s : Fin 4 => toks c b s 0 0 0 0 0) ∗ (bigSep Finset.univ fun s : Fin 4 => blkP D c b s 0) ∗ barPay (F := F) c b)
      ⊢ (bigSep Finset.univ fun s : Fin 4 => ready D c b s (place (F := F) (tgt b c) b s 1) 0 : sProp 𝕄) := by
  unfold barPay
  rw [zip, zip]
  refine bigSep_mono fun s _ => ?_
  unfold ready
  exact same rfl

theorem fly_keep (b : Bool) (s : Fin 4) (A R : sProp 𝕄) (h : ℕ) : iprop(fly c b s R h ∗ A) ⊢ fly c b s (iprop(A ∗ R)) h := by
  unfold fly
  iintro ⟨⟨T, C, R⟩, A⟩
  iframe

/-- The lanes of a direction in hop 0, the other chunks computed too. -/
theorem lanes_fly (b : Bool) :
    iprop((bigSep Finset.univ fun s : Fin 4 => fly c b s (place (F := F) (tgt b c) b s 1) 0)
        ∗ (bigSep Finset.univ fun s : Fin 4 => blkP D c b s 1) ∗ (bigSep Finset.univ fun s : Fin 4 => blkP D c b s 2)
        ∗ (bigSep Finset.univ fun s : Fin 4 => blkP D c b s 3))
      ⊢ (bigSep Finset.univ fun s : Fin 4 => fly c b s (rest D c b s 0) 0 : sProp 𝕄) := by
  rw [zip, zip, zip]
  refine bigSep_mono fun s _ => ?_
  show iprop(fly c b s (place (F := F) (tgt b c) b s 1) 0 ∗ blkP D c b s 1 ∗ blkP D c b s 2 ∗ blkP D c b s 3) ⊢ fly c b s (rest D c b s 0) 0
  rw [rest_0]
  unfold fly
  iintro ⟨⟨T, C, R⟩, B1, B2, B3⟩
  iframe

/-! ## The parts -/

/-- A device reads its own index. -/
theorem device_id {α : Type} {k : Dev nD → Prog (TpuEff nD τ sig (Elt F) Λ₀ .tc) α} {Q : α → sProp 𝕄} :
    WP c (k c) Q ⊢ WP c (.op .deviceId k) Q := by
  unfold WP
  rw [wp_deviceId]

theorem dev1_eq (c : Dev nD) : (⟨k0_dev1 c, k0_dev1_lt c⟩ : Dev nD) = frm false c := by revert c; decide +kernel
theorem dev2_eq (c : Dev nD) : (⟨k0_dev2 c, k0_dev2_lt c⟩ : Dev nD) = frm true c := by revert c; decide +kernel
theorem dev10_eq (c : Dev nD) : (⟨k0_dev10 c, k0_dev10_lt c⟩ : Dev nD) = tgt true c := by revert c; decide +kernel
theorem off4_eq (c : Dev nD) : k0_off4 c 0#32 384#32 = ![row true (chunk true c 0) 3, 0] := by revert c; decide +kernel

/-- The factors' copies started and the left neighbour told. -/
theorem part41 :
    iprop(recs D K Ks ∗ own c xA (D.X c) ∗ own c wA (D.W c) ∗ (∃ Y, own (F := F) c xM Y) ∗ (∃ Y, own (F := F) c wM Y)
        ∗ dutyTok ER (cell c (.cp 0)) 0 0 ∗ dutyTok ER (cell c (.cp 1)) 0 0
        ∗ dutyTok ER (cell (frm false c) .bar) 0 0 ∗ barPay (F := F) (frm false c) false ∗ owesE c 0)
      ⊢ WP c (pt (k0_part41 (F := F))) fun r =>
        iprop(⌜r.1 = c ∧ r.2.2.2.2 = SemArray.scalar (sig.barrier 0 rfl)⌝ ∗ cred (tallyAt (cell c (.cp 0)) 0 NX) ∗ cred (tallyAt (cell c (.cp 1)) 0 NW) ∗ owesE c 1) := by
  rw [k0_part41_eq_skeleton]
  unfold pt k0_part41_skel
  simp only [semSignalWord, semWaitWord, Prog.lift, Prog.bind_op, Prog.bind_ret, Prog.pure_eq_ret, Prog.bind_assoc, wp_deviceId]
  iintro ⟨#Hr, Hx, Hw, Hxm, Hwm, T0, T1, Tb, Hb, Ho⟩
  iapply (ev_copy D K Ks c 0 (src := xA) (dst := xM) (by rfl) (D.X c) (N := NX) (by rfl) (by rfl) (by exact .rfl)) $$ [Hx Hxm T0]
  · iframe
    iexact Hr
  iintro C0
  iapply (ev_copy D K Ks c 1 (src := wA) (dst := wM) (by rfl) (D.W c) (N := NW) (by rfl) (by rfl) (by exact .rfl)) $$ [Hw Hwm T1]
  · iframe
    iexact Hr
  iintro C1
  iapply (device_id c)
  iapply (ev_bar D K Ks c false 0 (by decide) (dev1_eq c) (by rfl) (by rfl)) $$ [Tb Hb Ho]
  · isplitr; · iexact Hr
    isplitl [Tb]; · iexact Tb
    isplitl [Hb] <;> iassumption
  iintro Ho
  iapply (ended (c := c))
  isplitr; · ipureintro; exact ⟨rfl, rfl⟩
  iframe

/-- The right neighbour told, both neighbours' word and the factors waited for, and chunk 0 of each direction computed. -/
theorem part42 (A B : Vec F S1 .f32) (Z : Vec F S4096x2048 .f32) (hP : Products D c (k0_pay16 (A one) (B one))) (v6 v29 : BitVec 32) :
    iprop(recs D K Ks ∗ dutyTok ER (cell (frm true c) .bar) 0 1 ∗ barPay (F := F) (frm true c) true ∗ owesE c 1
        ∗ cred (tallyAt (cell c .bar) 1 1) ∗ cred (tallyAt (cell c .bar) 2 1) ∗ atPos ER (cell c .bar) 0 ∅ 0
        ∗ cred (tallyAt (cell c (.cp 0)) 0 NX) ∗ cred (tallyAt (cell c (.cp 1)) 0 NW)
        ∗ atPos ER (cell c (.cp 0)) 0 ∅ 0 ∗ atPos ER (cell c (.cp 1)) 0 ∅ 0
        ∗ own c aM A ∗ own c bM B ∗ own c oM Z
        ∗ (bigSep Finset.univ fun s : Fin 4 => toks c false s 0 0 0 0 0) ∗ (bigSep Finset.univ fun s : Fin 4 => toks c true s 0 0 0 0 0))
      ⊢ WP c (pt (k0_part42 (F := F)) c v6 v29 (SemArray.scalar (sig.barrier 0 rfl))) fun r =>
        iprop(⌜r.1 = k0_pay16 (A one) (B one)⌝ ∗ atPos ER (cell c .bar) 1 ∅ 0 ∗ atPos ER (cell c (.cp 0)) 1 ∅ 0 ∗ atPos ER (cell c (.cp 1)) 1 ∅ 0
          ∗ own c xA (D.X c) ∗ own c wA (D.W c) ∗ own c aM A ∗ own c bM B
          ∗ gemm c (D.X c) (D.W c) (k0_pay16 (A one) (B one)) (Finset.Ico 2 8) 2
          ∗ (bigSep Finset.univ fun s : Fin 4 => ready D c false s (place (F := F) (tgt false c) false s 1) 0)
          ∗ (bigSep Finset.univ fun s : Fin 4 => ready D c true s (place (F := F) (tgt true c) true s 1) 0) ∗ owesE c 2) := by
  rw [k0_part42_eq_skeleton]
  unfold pt k0_part42_skel
  simp only [semSignalWord, semWaitWord, Prog.lift, Prog.bind_op, Prog.bind_ret, Prog.pure_eq_ret, Prog.bind_assoc, wp_deviceId]
  iintro ⟨#Hr, Tb, Hb, Ho, C1, C2, Pb, X0, X1, P0, P1, Ha, Hs, Hz, Tf, Tt⟩
  iapply (ev_bar D K Ks c true 1 (by decide) (dev2_eq c) (by rfl) (by rfl)) $$ [Tb Hb Ho]
  · isplitr; · iexact Hr
    isplitl [Tb]; · iexact Tb
    isplitl [Hb] <;> iassumption
  iintro Ho
  iapply (ev_barWait D K Ks c (by rfl) (by rfl)) $$ [C1 C2 Ho Pb]
  · isplitr; · iexact Hr
    isplitl [C1]; · iexact C1
    isplitl [C2]; · iexact C2
    isplitl [Ho] <;> iassumption
  iintro ⟨Ho, Pb, Bf, Bt⟩
  iapply (ld_scale (m := aM)) $$ Ha
  iintro Ha
  iapply (ld_scale (m := bM)) $$ Hs
  iintro Hs
  iapply (ev_copied D K Ks c 0 2 (by decide) (N := NX) (by rfl) (by rfl) (by rfl)) $$ [P0 X0 Ho]
  · isplitr; · iexact Hr
    isplitl [P0]; · iexact P0
    isplitl [X0] <;> iassumption
  iintro ⟨P0, H0, Ho⟩
  iapply (ev_copied D K Ks c 1 2 (by decide) (N := NW) (by rfl) (by rfl) (by rfl)) $$ [P1 X1 Ho]
  · isplitr; · iexact Hr
    isplitl [P1]; · iexact P1
    isplitl [X1] <;> iassumption
  iintro ⟨P1, H1, Ho⟩
  ihave H0 := (by exact .rfl : cpPay D c 0 ⊢ iprop(own c xM (D.X c) ∗ own c xA (D.X c))) $$ H0
  icases H0 with ⟨Hx, Hxa⟩
  ihave H1 := (by exact .rfl : cpPay D c 1 ⊢ iprop(own c wM (D.W c) ∗ own c wA (D.W c))) $$ H1
  icases H1 with ⟨Hw, Hwa⟩
  ihave Hz := (out_split D c (k0_pay16 (A one) (B one)) Z) $$ Hz
  icases Hz with ⟨Hz, Hz'⟩
  iapply (loop1 c (D.X c) (D.W c) v6 v29 (SemArray.scalar (sig.barrier 0 rfl)) (A one) (B one)) $$ [Hx Hw Hz]
  · unfold gemm; iframe
  iintro Hg
  ihave Hg := (chunk_zero D c hP) $$ Hg
  icases Hg with ⟨Hx, Hw, Zf, Zt⟩
  ihave Rf := (lanes_ready D c false) $$ [Tf Zf Bf]
  · isplitl [Tf]; · iexact Tf
    isplitl [Zf] <;> iassumption
  ihave Rt := (lanes_ready D c true) $$ [Tt Zt Bt]
  · isplitl [Tt]; · iexact Tt
    isplitl [Zt] <;> iassumption
  iapply (ended (c := c))
  isplitr; · ipureintro; rfl
  iframe
  unfold gemm
  iframe

/-- The last start of hop 0, and the other chunks computed. -/
theorem part48 {sc : F .f32} (hP : Products D c sc) (v6 : BitVec 32) :
    iprop(recs D K Ks ∗ gemm c (D.X c) (D.W c) sc (Finset.Ico 2 8) 2
        ∗ fly c false 0 (place (F := F) (tgt false c) false 0 1) 0 ∗ fly c true 0 (place (F := F) (tgt true c) true 0 1) 0 ∗ fly c false 1 (place (F := F) (tgt false c) false 1 1) 0 ∗ fly c true 1 (place (F := F) (tgt true c) true 1 1) 0 ∗ fly c false 2 (place (F := F) (tgt false c) false 2 1) 0 ∗ fly c true 2 (place (F := F) (tgt true c) true 2 1) 0 ∗ fly c false 3 (place (F := F) (tgt false c) false 3 1) 0
        ∗ ready D c true 3 (place (F := F) (tgt true c) true 3 1) 0 ∗ owesE c 9)
      ⊢ WP c (pt (k0_part48 (F := F)) c v6 sc) fun _ =>
        iprop(own c xM (D.X c) ∗ own c wM (D.W c) ∗ fly c false 0 (rest D c false 0 0) 0 ∗ fly c true 0 (rest D c true 0 0) 0 ∗ fly c false 1 (rest D c false 1 0) 0 ∗ fly c true 1 (rest D c true 1 0) 0 ∗ fly c false 2 (rest D c false 2 0) 0 ∗ fly c true 2 (rest D c true 2 0) 0 ∗ fly c false 3 (rest D c false 3 0) 0 ∗ fly c true 3 (rest D c true 3 0) 0 ∗ owesE c 10) := by
  rw [k0_part48_eq_skeleton]
  unfold pt k0_part48_skel
  simp only [semSignalWord, semWaitWord, Prog.lift, Prog.bind_op, Prog.bind_ret, Prog.pure_eq_ret, Prog.bind_assoc, wp_deviceId]
  iintro ⟨#Hr, Hg, f0, t0, f1, t1, f2, t2, f3, t3, Ho⟩
  iapply (doStart true 3 (place (F := F) (tgt true c) true 3 1) 0 9 (by decide) (by decide) (dev10_eq c) (at_rows true (chunk true c 0) 3 (off4_eq c)) (by rfl) (by rfl) (by rfl)) $$ Hr t3 Ho
  iintro t3 Ho
  ihave Hg := (by exact .rfl : gemm c (D.X c) (D.W c) sc (Finset.Ico 2 8) 2 ⊢ gemm c (D.X c) (D.W c) sc (Finset.Ico 2 8) 2) $$ Hg
  iapply (loop2 c (D.X c) (D.W c) sc v6) $$ Hg
  iintro Hg
  ihave Hg := (chunk_others D c hP) $$ Hg
  icases Hg with ⟨Hx, Hw, F1, F2, F3, T1, T2, T3⟩
  ihave Rf := (lanes_fly D c false) $$ [f0 f1 f2 f3 F1 F2 F3]
  · isplitl [f0 f1 f2 f3]
    · rw [four]; iframe
    isplitl [F1]; · iexact F1
    isplitl [F2] <;> iassumption
  ihave Rt := (lanes_fly D c true) $$ [t0 t1 t2 t3 T1 T2 T3]
  · isplitl [t0 t1 t2 t3]
    · rw [four]; iframe
    isplitl [T1]; · iexact T1
    isplitl [T2] <;> iassumption
  ihave Rf := (Entails.of_eq (four _)) $$ Rf
  ihave Rt := (Entails.of_eq (four _)) $$ Rt
  icases Rf with ⟨f0, f1, f2, f3⟩
  icases Rt with ⟨t0, t1, t2, t3⟩
  iapply (ended (c := c))
  iframe

end

end Cert.RingProof

end
-- ==== Proof.Tail.lean ====
/-
# The loop of hops 4 and 5

A trip starts hop `k + 4` of each lane, waits for the previous hop of lane 3 and for this hop of the others. What lands
is already summed; the first trip still gives lane 3's last credits.
-/
module

public import proofs.«01_k».proof.Proof.Hops

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section Tools
variable {D : Data F} {K : Dev nD × Cell → ℕ} {Ks : Key → ℕ} {c : Dev nD}

/-- A lane at the top of hop `h`, or past the last one. -/
def upto (D : Data F) (c : Dev nD) (b : Bool) (s : Fin 4) (h : ℕ) : sProp 𝕄 := if h < 6 then before D c b s h else done D c b s

theorem upto_before (b : Bool) (s : Fin 4) (h : ℕ) (hh : h < 6) : upto D c b s h ⊢ before D c b s h := by
  unfold upto; rw [if_pos hh]

theorem before_upto (b : Bool) (s : Fin 4) (h : ℕ) (hh : h < 6) : before D c b s h ⊢ upto D c b s h := by
  unfold upto; rw [if_pos hh]

/-- A lane whose hop landed, past the sums. -/
theorem landed_upto (b : Bool) (s : Fin 4) (k : ℕ) (hk : k < 2) :
    landed D c b s (rest D c b s (k + 4)) (k + 4) ⊢ upto D c b s (k + 4 + 1) := by
  obtain rfl | rfl : k = 0 ∨ k = 1 := by omega
  · exact passed_four D c b s
  · exact passed_five D c b s

/-- A lane whose hop 4 landed. -/
theorem landed_before_five (b : Bool) (s : Fin 4) : landed D c b s (rest D c b s 4) 4 ⊢ before D c b s 5 := by
  unfold before; rw [if_neg (by decide)]; exact passed_four D c b s

/-- Lane 3's landings of hop `k + 3`: those of hop 3 are answered by a credit. -/
theorem doGiveIf (k : ℕ) (hk : k < 2) {P : Prop} [Decidable P] (hP : P ↔ k = 0)
    {d₁ d₂ : P → Dev nD} {s₁ s₂ : Sem sig} {k₁ k₂ : ℕ} (hd₁ : ∀ h, d₁ h = frm false c) (hd₂ : ∀ h, d₂ h = frm true c)
    (hs₁ : SemLoc.reg s₁ = csem (.cred false 3)) (hs₂ : SemLoc.reg s₂ = csem (.cred true 3)) (hk₁ : k₁ = 1) (hk₂ : k₂ = 1)
    {α : Type} {q : Prog (TpuEff nD τ sig (Elt F) Λ₀ .tc) α} {Q : α → sProp 𝕄} :
    recs D K Ks ⊢ iprop(landed D c false 3 (rest D c false 3 (k + 3)) (k + 3) -∗ landed D c true 3 (rest D c true 3 (k + 3)) (k + 3)
      -∗ owesE c (66 + 10 * k)
      -∗ (before D c false 3 (k + 4) -∗ before D c true 3 (k + 4) -∗ owesE c (68 + 8 * k) -∗ WP c q Q)
      -∗ WP c (if h : P then .op (.semSignal (Dev.tc (d₁ h) : Thread nD τ) s₁ k₁) fun _ =>
          .op (.semSignal (Dev.tc (d₂ h) : Thread nD τ) s₂ k₂) fun _ => q else q) Q) := by
  iintro #Hr f t Ho Hk
  obtain rfl | rfl : k = 0 ∨ k = 1 := by omega
  · rw [dif_pos (hP.2 rfl)]
    ihave f := (passed_three D c false 3) $$ f
    ihave t := (passed_three D c true 3) $$ t
    iapply (doGive (D := D) (K := K) (Ks := Ks) false 3 3 66 (by decide) (by decide) (hd₁ _) hs₁ hk₁) $$ Hr f Ho
    iintro f Ho
    iapply (doGive (D := D) (K := K) (Ks := Ks) true 3 3 67 (by decide) (by decide) (hd₂ _) hs₂ hk₂) $$ Hr t Ho
    iintro t Ho
    iapply Hk $$ f t Ho
  · rw [dif_neg (mt hP.1 (by decide))]
    ihave f := (landed_before_five (D := D) (c := c) false 3) $$ f
    ihave t := (landed_before_five (D := D) (c := c) true 3) $$ t
    iapply Hk $$ f t Ho

end Tools

section
variable (D : Data F) (K : Dev nD × Cell → ℕ) (Ks : Key → ℕ) (c : Dev nD)

/-- Lane 0's credits. -/
theorem part26 (k : Fin k0_t4_loop.trips) (v6 : BitVec 32) :
    iprop(recs D K Ks ∗ upto D c false 0 (k.val + 4) ∗ upto D c true 0 (k.val + 4) ∗ owesE c (64 + 10 * k.val))
      ⊢ WP c (pt (k0_part26 (F := F)) v6 4#32 1#32 k) fun r =>
        iprop(⌜r.1 = (Scf.iv 4#32 1#32 k)⌝ ∗ ready D c false 0 (rest D c false 0 (k.val + 4)) (k.val + 4) ∗ ready D c true 0 (rest D c true 0 (k.val + 4)) (k.val + 4) ∗ owesE c (64 + 10 * k.val)) := by
  have hk : k.val < 2 := by revert k; decide +kernel
  rw [k0_part26_eq_skeleton]
  unfold pt k0_part26_skel
  simp only [semSignalWord, semWaitWord, Prog.lift, Prog.bind_op, Prog.bind_ret, Prog.pure_eq_ret, Prog.bind_assoc]
  iintro ⟨#Hr, f0, t0, Ho⟩
  ihave f0 := (upto_before (D := D) (c := c) false 0 (k.val + 4) (by omega)) $$ f0
  ihave t0 := (upto_before (D := D) (c := c) true 0 (k.val + 4) (by omega)) $$ t0
  iapply (doTakeIf 0 ((k.val + 4)) ((64 + 10 * k.val)) (by revert k; decide +kernel) (by revert k; decide +kernel) (by revert k; decide +kernel) (by revert k; decide +kernel) (by revert k; decide +kernel) (by rfl) (by rfl) (by rfl) (by rfl)) $$ Hr f0 t0 Ho
  iintro f0 t0 Ho
  iapply ended
  isplitr; · ipureintro; rfl
  iframe

/-- Lane 0 started. -/
theorem part27 (k : Fin k0_t4_loop.trips) (v6 v18 v29 v40 v1047 v1048 : BitVec 32) (v1049 v1052 : BitVec 1) :
    iprop(recs D K Ks ∗ ready D c false 0 (rest D c false 0 (k.val + 4)) (k.val + 4) ∗ ready D c true 0 (rest D c true 0 (k.val + 4)) (k.val + 4) ∗ owesE c (64 + 10 * k.val))
      ⊢ WP c (pt (k0_part27 (F := F)) c v6 v18 v29 k v40 v1047 v1048 v1049 v1052) fun _ =>
        iprop(fly c false 0 (rest D c false 0 (k.val + 4)) (k.val + 4) ∗ fly c true 0 (rest D c true 0 (k.val + 4)) (k.val + 4) ∗ owesE c (66 + 10 * k.val)) := by
  have hk : k.val < 2 := by revert k; decide +kernel
  rw [k0_part27_eq_skeleton]
  unfold pt k0_part27_skel
  simp only [semSignalWord, semWaitWord, Prog.lift, Prog.bind_op, Prog.bind_ret, Prog.pure_eq_ret, Prog.bind_assoc]
  iintro ⟨#Hr, f0, t0, Ho⟩
  iapply (doStart false 0 (rest D c false 0 (k.val + 4)) ((k.val + 4)) ((64 + 10 * k.val)) (by revert k; decide +kernel) (by revert k; decide +kernel) (by revert c k; decide +kernel) (at_rows false (chunk false c ((k.val + 4))) 0 (by revert c k; decide +kernel)) ((at_rows false (chunk false c ((k.val + 4))) 0 (by revert c k; decide +kernel)).trans (dst_rows false c 0 ((k.val + 4)) (by revert k; decide +kernel))) (by revert k; decide +kernel) (by revert k; decide +kernel)) $$ Hr f0 Ho
  iintro f0 Ho
  iapply (doStart true 0 (rest D c true 0 (k.val + 4)) ((k.val + 4)) (((64 + 10 * k.val) + 1)) (by revert k; decide +kernel) (by revert k; decide +kernel) (by revert c k; decide +kernel) (at_rows true (chunk true c ((k.val + 4))) 0 (by revert c k; decide +kernel)) ((at_rows true (chunk true c ((k.val + 4))) 0 (by revert c k; decide +kernel)).trans (dst_rows true c 0 ((k.val + 4)) (by revert k; decide +kernel))) (by revert k; decide +kernel) (by revert k; decide +kernel)) $$ Hr t0 Ho
  iintro t0 Ho
  rw [show (64 + 10 * k.val) + 1 + 1 = (66 + 10 * k.val) by omega]
  iapply ended
  iframe

/-- The previous hop of lane 3 landed from the left, -/
theorem part28 (k : Fin k0_t4_loop.trips) (v6 v29 v1075 v1087 w : BitVec 32) (v1088 : BitVec 1) (x : BitVec 32) :
    iprop(recs D K Ks ∗ fly c false 3 (rest D c false 3 (k.val + 3)) (k.val + 3) ∗ owesE c (66 + 10 * k.val))
      ⊢ WP c (pt (k0_part28 (F := F)) c v6 v29 k v1075 v1087 w v1088 x) fun _ =>
        iprop(landed D c false 3 (rest D c false 3 (k.val + 3)) (k.val + 3) ∗ owesE c (66 + 10 * k.val)) := by
  have hk : k.val < 2 := by revert k; decide +kernel
  rw [k0_part28_eq_skeleton]
  unfold pt k0_part28_skel
  simp only [semSignalWord, semWaitWord, Prog.lift, Prog.bind_op, Prog.bind_ret, Prog.pure_eq_ret, Prog.bind_assoc]
  iintro ⟨#Hr, f3, Ho⟩
  iapply (doSent false 3 (rest D c false 3 (k.val + 3)) (k.val + 3) (66 + 10 * k.val) (by revert k; decide +kernel) (by revert k; decide +kernel) (by revert k; decide +kernel) (by rfl)) $$ Hr f3 Ho
  iintro f3 Ho
  iapply (doLand false 3 (rest D c false 3 (k.val + 3)) (k.val + 3) (66 + 10 * k.val) (by revert k; decide +kernel) (by revert k; decide +kernel) (by revert k; decide +kernel) (by revert k; decide +kernel) (by rfl)) $$ Hr f3 Ho
  iintro f3 Ho
  iapply ended
  iframe

/-- and from the right; the credits given; lane 1's taken. -/
theorem part29 (k : Fin k0_t4_loop.trips) (v6 v18 v29 v1075 : BitVec 32) :
    iprop(recs D K Ks ∗ landed D c false 3 (rest D c false 3 (k.val + 3)) (k.val + 3) ∗ fly c true 3 (rest D c true 3 (k.val + 3)) (k.val + 3) ∗ upto D c false 1 (k.val + 4) ∗ upto D c true 1 (k.val + 4) ∗ owesE c (66 + 10 * k.val))
      ⊢ WP c (pt (k0_part29 (F := F)) c v6 v18 v29 k (Scf.iv 4#32 1#32 k) v1075) fun _ =>
        iprop(before D c false 3 (k.val + 4) ∗ before D c true 3 (k.val + 4) ∗ ready D c false 1 (rest D c false 1 (k.val + 4)) (k.val + 4) ∗ ready D c true 1 (rest D c true 1 (k.val + 4)) (k.val + 4) ∗ owesE c (68 + 8 * k.val)) := by
  have hk : k.val < 2 := by revert k; decide +kernel
  have e14 : ¬ k0_cond14 k = 1#1 := by revert k; decide +kernel
  rw [k0_part29_eq_skeleton]
  unfold pt k0_part29_skel
  simp only [semSignalWord, semWaitWord, Prog.lift, Prog.bind_op, Prog.bind_ret, Prog.pure_eq_ret, Prog.bind_assoc, dif_neg e14]
  iintro ⟨#Hr, f3, t3, f1, t1, Ho⟩
  iapply (doSent true 3 (rest D c true 3 (k.val + 3)) (k.val + 3) (66 + 10 * k.val) (by revert k; decide +kernel) (by revert k; decide +kernel) (by revert k; decide +kernel) (by rfl)) $$ Hr t3 Ho
  iintro t3 Ho
  iapply (doLand true 3 (rest D c true 3 (k.val + 3)) (k.val + 3) (66 + 10 * k.val) (by revert k; decide +kernel) (by revert k; decide +kernel) (by revert k; decide +kernel) (by revert k; decide +kernel) (by rfl)) $$ Hr t3 Ho
  iintro t3 Ho
  iapply (doGiveIf k.val hk (by revert k; decide +kernel) (by revert c k; decide +kernel) (by revert c k; decide +kernel) (by rfl) (by rfl) (by rfl) (by rfl)) $$ Hr f3 t3 Ho
  iintro f3 t3 Ho
  ihave f1 := (upto_before (D := D) (c := c) false 1 (k.val + 4) (by omega)) $$ f1
  ihave t1 := (upto_before (D := D) (c := c) true 1 (k.val + 4) (by omega)) $$ t1
  iapply (doTakeIf 1 ((k.val + 4)) ((68 + 8 * k.val)) (by revert k; decide +kernel) (by revert k; decide +kernel) (by revert k; decide +kernel) (by revert k; decide +kernel) (by revert k; decide +kernel) (by rfl) (by rfl) (by rfl) (by rfl)) $$ Hr f1 t1 Ho
  iintro f1 t1 Ho
  iapply ended
  iframe

/-- Lane 1 started. -/
theorem part31 (k : Fin k0_t4_loop.trips) (v6 v18 v40 : BitVec 32) :
    iprop(recs D K Ks ∗ ready D c false 1 (rest D c false 1 (k.val + 4)) (k.val + 4) ∗ ready D c true 1 (rest D c true 1 (k.val + 4)) (k.val + 4) ∗ owesE c (68 + 8 * k.val))
      ⊢ WP c (pt (k0_part31 (F := F)) c v6 v18 k v40) fun _ =>
        iprop(fly c false 1 (rest D c false 1 (k.val + 4)) (k.val + 4) ∗ fly c true 1 (rest D c true 1 (k.val + 4)) (k.val + 4) ∗ owesE c (70 + 8 * k.val)) := by
  have hk : k.val < 2 := by revert k; decide +kernel
  rw [k0_part31_eq_skeleton]
  unfold pt k0_part31_skel
  simp only [semSignalWord, semWaitWord, Prog.lift, Prog.bind_op, Prog.bind_ret, Prog.pure_eq_ret, Prog.bind_assoc]
  iintro ⟨#Hr, f1, t1, Ho⟩
  iapply (doStart false 1 (rest D c false 1 (k.val + 4)) ((k.val + 4)) ((68 + 8 * k.val)) (by revert k; decide +kernel) (by revert k; decide +kernel) (by revert c k; decide +kernel) (at_rows false (chunk false c ((k.val + 4))) 1 (by revert c k; decide +kernel)) ((at_rows false (chunk false c ((k.val + 4))) 1 (by revert c k; decide +kernel)).trans (dst_rows false c 1 ((k.val + 4)) (by revert k; decide +kernel))) (by revert k; decide +kernel) (by revert k; decide +kernel)) $$ Hr f1 Ho
  iintro f1 Ho
  iapply (doStart true 1 (rest D c true 1 (k.val + 4)) ((k.val + 4)) (((68 + 8 * k.val) + 1)) (by revert k; decide +kernel) (by revert k; decide +kernel) (by revert c k; decide +kernel) (at_rows true (chunk true c ((k.val + 4))) 1 (by revert c k; decide +kernel)) ((at_rows true (chunk true c ((k.val + 4))) 1 (by revert c k; decide +kernel)).trans (dst_rows true c 1 ((k.val + 4)) (by revert k; decide +kernel))) (by revert k; decide +kernel) (by revert k; decide +kernel)) $$ Hr t1 Ho
  iintro t1 Ho
  rw [show (68 + 8 * k.val) + 1 + 1 = (70 + 8 * k.val) by omega]
  iapply ended
  iframe

/-- Lane 0 landed. -/
theorem part32 (k : Fin k0_t4_loop.trips) (v18 v29 v1231 w : BitVec 32) :
    iprop(recs D K Ks ∗ fly c false 0 (rest D c false 0 (k.val + 4)) (k.val + 4) ∗ fly c true 0 (rest D c true 0 (k.val + 4)) (k.val + 4) ∗ owesE c (70 + 8 * k.val))
      ⊢ WP c (pt (k0_part32 (F := F)) c v18 v29 k v1231 w) fun _ =>
        iprop(upto D c false 0 (k.val + 4 + 1) ∗ upto D c true 0 (k.val + 4 + 1) ∗ owesE c (70 + 8 * k.val)) := by
  have hk : k.val < 2 := by revert k; decide +kernel
  rw [k0_part32_eq_skeleton]
  unfold pt k0_part32_skel
  simp only [semSignalWord, semWaitWord, Prog.lift, Prog.bind_op, Prog.bind_ret, Prog.pure_eq_ret, Prog.bind_assoc]
  iintro ⟨#Hr, f0, t0, Ho⟩
  iapply (doSent false 0 (rest D c false 0 (k.val + 4)) (k.val + 4) (70 + 8 * k.val) (by revert k; decide +kernel) (by revert k; decide +kernel) (by revert k; decide +kernel) (by rfl)) $$ Hr f0 Ho
  iintro f0 Ho
  iapply (doLand false 0 (rest D c false 0 (k.val + 4)) (k.val + 4) (70 + 8 * k.val) (by revert k; decide +kernel) (by revert k; decide +kernel) (by revert k; decide +kernel) (by revert k; decide +kernel) (by rfl)) $$ Hr f0 Ho
  iintro f0 Ho
  ihave f0 := (landed_upto (D := D) (c := c) false 0 k.val hk) $$ f0
  iapply (doSent true 0 (rest D c true 0 (k.val + 4)) (k.val + 4) (70 + 8 * k.val) (by revert k; decide +kernel) (by revert k; decide +kernel) (by revert k; decide +kernel) (by rfl)) $$ Hr t0 Ho
  iintro t0 Ho
  iapply (doLand true 0 (rest D c true 0 (k.val + 4)) (k.val + 4) (70 + 8 * k.val) (by revert k; decide +kernel) (by revert k; decide +kernel) (by revert k; decide +kernel) (by revert k; decide +kernel) (by rfl)) $$ Hr t0 Ho
  iintro t0 Ho
  ihave t0 := (landed_upto (D := D) (c := c) true 0 k.val hk) $$ t0
  iapply ended
  iframe

/-- Lane 2's credits. -/
theorem part33 (k : Fin k0_t4_loop.trips) (v6 v18 v29 w : BitVec 32) :
    iprop(recs D K Ks ∗ upto D c false 2 (k.val + 4) ∗ upto D c true 2 (k.val + 4) ∗ owesE c (70 + 8 * k.val))
      ⊢ WP c (pt (k0_part33 (F := F)) c v6 v18 v29 k (Scf.iv 4#32 1#32 k) w) fun _ =>
        iprop(ready D c false 2 (rest D c false 2 (k.val + 4)) (k.val + 4) ∗ ready D c true 2 (rest D c true 2 (k.val + 4)) (k.val + 4) ∗ owesE c (70 + 8 * k.val)) := by
  have hk : k.val < 2 := by revert k; decide +kernel
  have e17 : ¬ k0_cond17 k = 1#1 := by revert k; decide +kernel
  have e18 : ¬ k0_cond18 k = 1#1 := by revert k; decide +kernel
  rw [k0_part33_eq_skeleton]
  unfold pt k0_part33_skel
  simp only [semSignalWord, semWaitWord, Prog.lift, Prog.bind_op, Prog.bind_ret, Prog.pure_eq_ret, Prog.bind_assoc, dif_neg e17, dif_neg e18]
  iintro ⟨#Hr, f2, t2, Ho⟩
  ihave f2 := (upto_before (D := D) (c := c) false 2 (k.val + 4) (by omega)) $$ f2
  ihave t2 := (upto_before (D := D) (c := c) true 2 (k.val + 4) (by omega)) $$ t2
  iapply (doTakeIf 2 ((k.val + 4)) ((70 + 8 * k.val)) (by revert k; decide +kernel) (by revert k; decide +kernel) (by revert k; decide +kernel) (by revert k; decide +kernel) (by revert k; decide +kernel) (by rfl) (by rfl) (by rfl) (by rfl)) $$ Hr f2 t2 Ho
  iintro f2 t2 Ho
  iapply ended
  iframe

/-- Lane 2 started to the right. -/
theorem part34 (k : Fin k0_t4_loop.trips) (v6 v18 v29 v40 v1297 v1298 : BitVec 32) (v1299 : BitVec 1) :
    iprop(recs D K Ks ∗ ready D c false 2 (rest D c false 2 (k.val + 4)) (k.val + 4) ∗ owesE c (70 + 8 * k.val))
      ⊢ WP c (pt (k0_part34 (F := F)) c v6 v18 v29 k v40 v1297 v1298 v1299) fun _ =>
        iprop(fly c false 2 (rest D c false 2 (k.val + 4)) (k.val + 4) ∗ owesE c (71 + 8 * k.val)) := by
  have hk : k.val < 2 := by revert k; decide +kernel
  rw [k0_part34_eq_skeleton]
  unfold pt k0_part34_skel
  simp only [semSignalWord, semWaitWord, Prog.lift, Prog.bind_op, Prog.bind_ret, Prog.pure_eq_ret, Prog.bind_assoc]
  iintro ⟨#Hr, f2, Ho⟩
  iapply (doStart false 2 (rest D c false 2 (k.val + 4)) ((k.val + 4)) ((70 + 8 * k.val)) (by revert k; decide +kernel) (by revert k; decide +kernel) (by revert c k; decide +kernel) (at_rows false (chunk false c ((k.val + 4))) 2 (by revert c k; decide +kernel)) ((at_rows false (chunk false c ((k.val + 4))) 2 (by revert c k; decide +kernel)).trans (dst_rows false c 2 ((k.val + 4)) (by revert k; decide +kernel))) (by revert k; decide +kernel) (by revert k; decide +kernel)) $$ Hr f2 Ho
  iintro f2 Ho
  rw [show (70 + 8 * k.val) + 1 = (71 + 8 * k.val) by omega]
  iapply ended
  iframe

/-- Lane 2 started to the left. -/
theorem part35 (k : Fin k0_t4_loop.trips) (v6 v40 : BitVec 32) :
    iprop(recs D K Ks ∗ ready D c true 2 (rest D c true 2 (k.val + 4)) (k.val + 4) ∗ owesE c (71 + 8 * k.val))
      ⊢ WP c (pt (k0_part35 (F := F)) c v6 k v40) fun _ =>
        iprop(fly c true 2 (rest D c true 2 (k.val + 4)) (k.val + 4) ∗ owesE c (72 + 8 * k.val)) := by
  have hk : k.val < 2 := by revert k; decide +kernel
  rw [k0_part35_eq_skeleton]
  unfold pt k0_part35_skel
  simp only [semSignalWord, semWaitWord, Prog.lift, Prog.bind_op, Prog.bind_ret, Prog.pure_eq_ret, Prog.bind_assoc]
  iintro ⟨#Hr, t2, Ho⟩
  iapply (doStart true 2 (rest D c true 2 (k.val + 4)) ((k.val + 4)) ((71 + 8 * k.val)) (by revert k; decide +kernel) (by revert k; decide +kernel) (by revert c k; decide +kernel) (at_rows true (chunk true c ((k.val + 4))) 2 (by revert c k; decide +kernel)) ((at_rows true (chunk true c ((k.val + 4))) 2 (by revert c k; decide +kernel)).trans (dst_rows true c 2 ((k.val + 4)) (by revert k; decide +kernel))) (by revert k; decide +kernel) (by revert k; decide +kernel)) $$ Hr t2 Ho
  iintro t2 Ho
  rw [show (71 + 8 * k.val) + 1 = (72 + 8 * k.val) by omega]
  iapply ended
  iframe

/-- Lane 1 landed. -/
theorem part36 (k : Fin k0_t4_loop.trips) (v18 v29 v40 v1373 w : BitVec 32) :
    iprop(recs D K Ks ∗ fly c false 1 (rest D c false 1 (k.val + 4)) (k.val + 4) ∗ fly c true 1 (rest D c true 1 (k.val + 4)) (k.val + 4) ∗ owesE c (72 + 8 * k.val))
      ⊢ WP c (pt (k0_part36 (F := F)) c v18 v29 k v40 v1373 w) fun _ =>
        iprop(upto D c false 1 (k.val + 4 + 1) ∗ upto D c true 1 (k.val + 4 + 1) ∗ owesE c (72 + 8 * k.val)) := by
  have hk : k.val < 2 := by revert k; decide +kernel
  rw [k0_part36_eq_skeleton]
  unfold pt k0_part36_skel
  simp only [semSignalWord, semWaitWord, Prog.lift, Prog.bind_op, Prog.bind_ret, Prog.pure_eq_ret, Prog.bind_assoc]
  iintro ⟨#Hr, f1, t1, Ho⟩
  iapply (doSent false 1 (rest D c false 1 (k.val + 4)) (k.val + 4) (72 + 8 * k.val) (by revert k; decide +kernel) (by revert k; decide +kernel) (by revert k; decide +kernel) (by rfl)) $$ Hr f1 Ho
  iintro f1 Ho
  iapply (doLand false 1 (rest D c false 1 (k.val + 4)) (k.val + 4) (72 + 8 * k.val) (by revert k; decide +kernel) (by revert k; decide +kernel) (by revert k; decide +kernel) (by revert k; decide +kernel) (by rfl)) $$ Hr f1 Ho
  iintro f1 Ho
  ihave f1 := (landed_upto (D := D) (c := c) false 1 k.val hk) $$ f1
  iapply (doSent true 1 (rest D c true 1 (k.val + 4)) (k.val + 4) (72 + 8 * k.val) (by revert k; decide +kernel) (by revert k; decide +kernel) (by revert k; decide +kernel) (by rfl)) $$ Hr t1 Ho
  iintro t1 Ho
  iapply (doLand true 1 (rest D c true 1 (k.val + 4)) (k.val + 4) (72 + 8 * k.val) (by revert k; decide +kernel) (by revert k; decide +kernel) (by revert k; decide +kernel) (by revert k; decide +kernel) (by rfl)) $$ Hr t1 Ho
  iintro t1 Ho
  ihave t1 := (landed_upto (D := D) (c := c) true 1 k.val hk) $$ t1
  iapply ended
  iframe

/-- Lane 3's credits. -/
theorem part37 (k : Fin k0_t4_loop.trips) (v6 v18 v29 v1405 v1407 : BitVec 32) :
    iprop(recs D K Ks ∗ before D c false 3 (k.val + 4) ∗ before D c true 3 (k.val + 4) ∗ owesE c (72 + 8 * k.val))
      ⊢ WP c (pt (k0_part37 (F := F)) c v6 v18 v29 k (Scf.iv 4#32 1#32 k) v1405 v1407) fun _ =>
        iprop(ready D c false 3 (rest D c false 3 (k.val + 4)) (k.val + 4) ∗ ready D c true 3 (rest D c true 3 (k.val + 4)) (k.val + 4) ∗ owesE c (72 + 8 * k.val)) := by
  have hk : k.val < 2 := by revert k; decide +kernel
  have e20 : ¬ k0_cond20 k = 1#1 := by revert k; decide +kernel
  have e21 : ¬ k0_cond21 k = 1#1 := by revert k; decide +kernel
  rw [k0_part37_eq_skeleton]
  unfold pt k0_part37_skel
  simp only [semSignalWord, semWaitWord, Prog.lift, Prog.bind_op, Prog.bind_ret, Prog.pure_eq_ret, Prog.bind_assoc, dif_neg e20, dif_neg e21]
  iintro ⟨#Hr, f3, t3, Ho⟩
  iapply (doTakeIf 3 ((k.val + 4)) ((72 + 8 * k.val)) (by revert k; decide +kernel) (by revert k; decide +kernel) (by revert k; decide +kernel) (by revert k; decide +kernel) (by revert k; decide +kernel) (by rfl) (by rfl) (by rfl) (by rfl)) $$ Hr f3 t3 Ho
  iintro f3 t3 Ho
  iapply ended
  iframe

/-- Lane 3 started. -/
theorem part38 (k : Fin k0_t4_loop.trips) (v18 v29 v40 v1439 v1441 : BitVec 32) :
    iprop(recs D K Ks ∗ ready D c false 3 (rest D c false 3 (k.val + 4)) (k.val + 4) ∗ ready D c true 3 (rest D c true 3 (k.val + 4)) (k.val + 4) ∗ owesE c (72 + 8 * k.val))
      ⊢ WP c (pt (k0_part38 (F := F)) c v18 v29 k v40 v1439 v1441) fun _ =>
        iprop(fly c false 3 (rest D c false 3 (k.val + 4)) (k.val + 4) ∗ fly c true 3 (rest D c true 3 (k.val + 4)) (k.val + 4) ∗ owesE c (74 + 8 * k.val)) := by
  have hk : k.val < 2 := by revert k; decide +kernel
  rw [k0_part38_eq_skeleton]
  unfold pt k0_part38_skel
  simp only [semSignalWord, semWaitWord, Prog.lift, Prog.bind_op, Prog.bind_ret, Prog.pure_eq_ret, Prog.bind_assoc]
  iintro ⟨#Hr, f3, t3, Ho⟩
  iapply (doStart false 3 (rest D c false 3 (k.val + 4)) ((k.val + 4)) ((72 + 8 * k.val)) (by revert k; decide +kernel) (by revert k; decide +kernel) (by revert c k; decide +kernel) (at_rows false (chunk false c ((k.val + 4))) 3 (by revert c k; decide +kernel)) ((at_rows false (chunk false c ((k.val + 4))) 3 (by revert c k; decide +kernel)).trans (dst_rows false c 3 ((k.val + 4)) (by revert k; decide +kernel))) (by revert k; decide +kernel) (by revert k; decide +kernel)) $$ Hr f3 Ho
  iintro f3 Ho
  iapply (doStart true 3 (rest D c true 3 (k.val + 4)) ((k.val + 4)) (((72 + 8 * k.val) + 1)) (by revert k; decide +kernel) (by revert k; decide +kernel) (by revert c k; decide +kernel) (at_rows true (chunk true c ((k.val + 4))) 3 (by revert c k; decide +kernel)) ((at_rows true (chunk true c ((k.val + 4))) 3 (by revert c k; decide +kernel)).trans (dst_rows true c 3 ((k.val + 4)) (by revert k; decide +kernel))) (by revert k; decide +kernel) (by revert k; decide +kernel)) $$ Hr t3 Ho
  iintro t3 Ho
  rw [show (72 + 8 * k.val) + 1 + 1 = (74 + 8 * k.val) by omega]
  iapply ended
  iframe

/-- Lane 2 to the right read. -/
theorem part39 (k : Fin k0_t4_loop.trips) (v6 v29 v40 w : BitVec 32) :
    iprop(recs D K Ks ∗ fly c false 2 (rest D c false 2 (k.val + 4)) (k.val + 4) ∗ owesE c (74 + 8 * k.val))
      ⊢ WP c (pt (k0_part39 (F := F)) c v6 v29 k v40 w) fun _ =>
        iprop(gone D c false 2 (rest D c false 2 (k.val + 4)) (k.val + 4) ∗ owesE c (74 + 8 * k.val)) := by
  have hk : k.val < 2 := by revert k; decide +kernel
  rw [k0_part39_eq_skeleton]
  unfold pt k0_part39_skel
  simp only [semSignalWord, semWaitWord, Prog.lift, Prog.bind_op, Prog.bind_ret, Prog.pure_eq_ret, Prog.bind_assoc]
  iintro ⟨#Hr, f2, Ho⟩
  iapply (doSent false 2 (rest D c false 2 (k.val + 4)) (k.val + 4) (74 + 8 * k.val) (by revert k; decide +kernel) (by revert k; decide +kernel) (by revert k; decide +kernel) (by rfl)) $$ Hr f2 Ho
  iintro f2 Ho
  iapply ended
  iframe

/-- What a trip of the last loop starts with: lane 3 one hop behind the others. -/
def before4 (k : ℕ) : sProp 𝕄 :=
  iprop(upto D c false 0 (k + 4) ∗ upto D c true 0 (k + 4) ∗ upto D c false 1 (k + 4) ∗ upto D c true 1 (k + 4)
    ∗ upto D c false 2 (k + 4) ∗ upto D c true 2 (k + 4) ∗ fly c false 3 (rest D c false 3 (k + 3)) (k + 3)
    ∗ fly c true 3 (rest D c true 3 (k + 3)) (k + 3) ∗ owesE c (min (64 + 10 * k) 82))

/-- One trip of the loop of hops 4 and 5. -/
theorem part40 (k : Fin k0_t4_loop.trips) (v6 v18 v29 : BitVec 32) :
    iprop(recs D K Ks ∗ before4 D c k.val)
      ⊢ WP c (pt (k0_part40 (F := F)) c v6 v18 v29 4#32 1#32 k) fun _ => before4 D c (k.val + 1) := by
  have hk : k.val < 2 := by revert k; decide +kernel
  have e23 : ¬ k0_cond23 k = 1#1 := by revert k; decide +kernel
  rw [k0_part40_eq_skeleton]
  unfold before4 pt k0_part40_skel
  rw [show min (64 + 10 * k.val) 82 = 64 + 10 * k.val by omega]
  simp only [semSignalWord, semWaitWord, Prog.lift, Prog.bind_op, Prog.bind_ret, Prog.pure_eq_ret, Prog.bind_assoc, dif_neg e23]
  iintro ⟨#Hr, f0, t0, f1, t1, f2, t2, f3, t3, Ho⟩
  iapply (next (part26 D K Ks c k v6)) $$ [Hr f0 t0 Ho]
  · iframe; try iexact Hr
  iintro %r ⟨%hr, f0, t0, Ho⟩
  obtain ⟨a, _, _, _, _⟩ := r
  obtain rfl : a = Scf.iv 4#32 1#32 k := hr
  try dsimp only
  iapply (next (part27 D K Ks c k v6 v18 v29 _ _ _ _ _)) $$ [Hr f0 t0 Ho]
  · iframe; try iexact Hr
  iintro %r ⟨f0, t0, Ho⟩
  obtain ⟨_, _, _, _, _⟩ := r
  try dsimp only
  iapply (next (part28 D K Ks c k v6 v29 _ _ _ _ _)) $$ [Hr f3 Ho]
  · iframe; try iexact Hr
  iintro %r ⟨f3, Ho⟩
  try dsimp only
  iapply (next (part29 D K Ks c k v6 v18 v29 _)) $$ [Hr f3 t3 f1 t1 Ho]
  · iframe; try iexact Hr
  iintro %r ⟨f3, t3, f1, t1, Ho⟩
  obtain ⟨_, _, _, _⟩ := r
  try dsimp only
  rw [k0_part30_eq_skeleton]; unfold k0_part30_skel; simp only [Prog.bind_ret, Prog.pure_eq_ret]
  iapply (next (part31 D K Ks c k v6 v18 _)) $$ [Hr f1 t1 Ho]
  · iframe; try iexact Hr
  iintro %r ⟨f1, t1, Ho⟩
  obtain ⟨_, _⟩ := r
  try dsimp only
  iapply (next (part32 D K Ks c k v18 v29 _ _)) $$ [Hr f0 t0 Ho]
  · iframe; try iexact Hr
  iintro %r ⟨f0, t0, Ho⟩
  try dsimp only
  iapply (next (part33 D K Ks c k v6 v18 v29 _)) $$ [Hr f2 t2 Ho]
  · iframe; try iexact Hr
  iintro %r ⟨f2, t2, Ho⟩
  obtain ⟨_, _, _⟩ := r
  try dsimp only
  iapply (next (part34 D K Ks c k v6 v18 v29 _ _ _ _)) $$ [Hr f2 Ho]
  · iframe; try iexact Hr
  iintro %r ⟨f2, Ho⟩
  try dsimp only
  iapply (next (part35 D K Ks c k v6 _)) $$ [Hr t2 Ho]
  · iframe; try iexact Hr
  iintro %r ⟨t2, Ho⟩
  obtain ⟨_, _⟩ := r
  try dsimp only
  iapply (next (part36 D K Ks c k v18 v29 _ _ _)) $$ [Hr f1 t1 Ho]
  · iframe; try iexact Hr
  iintro %r ⟨f1, t1, Ho⟩
  obtain ⟨_, _⟩ := r
  try dsimp only
  iapply (next (part37 D K Ks c k v6 v18 v29 _ _)) $$ [Hr f3 t3 Ho]
  · iframe; try iexact Hr
  iintro %r ⟨f3, t3, Ho⟩
  obtain ⟨_, _⟩ := r
  try dsimp only
  iapply (next (part38 D K Ks c k v18 v29 _ _ _)) $$ [Hr f3 t3 Ho]
  · iframe; try iexact Hr
  iintro %r ⟨f3, t3, Ho⟩
  try dsimp only
  iapply (next (part39 D K Ks c k v6 v29 _ _)) $$ [Hr f2 Ho]
  · iframe; try iexact Hr
  iintro %r ⟨f2, Ho⟩
  try dsimp only
  iapply (doLand false 2 (rest D c false 2 (k.val + 4)) (k.val + 4) (74 + 8 * k.val) (by revert k; decide +kernel) (by revert k; decide +kernel) (by revert k; decide +kernel) (by revert k; decide +kernel) (by rfl)) $$ Hr f2 Ho
  iintro f2 Ho
  ihave f2 := (landed_upto (D := D) (c := c) false 2 k.val hk) $$ f2
  iapply (doSent true 2 (rest D c true 2 (k.val + 4)) (k.val + 4) (74 + 8 * k.val) (by revert k; decide +kernel) (by revert k; decide +kernel) (by revert k; decide +kernel) (by rfl)) $$ Hr t2 Ho
  iintro t2 Ho
  iapply (doLand true 2 (rest D c true 2 (k.val + 4)) (k.val + 4) (74 + 8 * k.val) (by revert k; decide +kernel) (by revert k; decide +kernel) (by revert k; decide +kernel) (by revert k; decide +kernel) (by rfl)) $$ Hr t2 Ho
  iintro t2 Ho
  ihave t2 := (landed_upto (D := D) (c := c) true 2 k.val hk) $$ t2
  rw [show k.val + 4 + 1 = k.val + 1 + 4 by omega, show min (64 + 10 * (k.val + 1)) 82 = 74 + 8 * k.val by omega]
  iapply ended
  iframe

theorem trip4 (k : Fin k0_t4_loop.trips) (u : Unit) (v6 v18 v29 v959 : BitVec 32) :
    iprop(recs D K Ks ∗ before4 D c k.val)
      ⊢ WP c (pt (k0_t4_body (F := F)) c v6 v18 v29 v959 k u) fun _ => before4 D c (k.val + 1) := by
  have e24 : ¬ k0_cond24 k = 1#1 := by revert k; decide +kernel
  unfold pt k0_t4_body
  simp only [semSignalWord, semWaitWord, Prog.lift, Prog.bind_op, Prog.bind_ret, Prog.pure_eq_ret, Prog.bind_assoc, dif_neg e24]
  iintro H
  iapply (next (part40 D K Ks c k v6 v18 v29)) $$ H
  iintro %r H
  iapply (ended (c := c)) $$ H

/-- The loop. -/
theorem loop4 (v6 v18 v29 v959 : BitVec 32) {β : Type} {kk : Unit → Prog (TpuEff nD τ sig (Elt F) Λ₀ .tc) β} {Q : β → sProp 𝕄} :
    iprop(recs D K Ks ∗ before4 D c 0)
      ⊢ iprop((before4 D c 2 -∗ WP c (kk ()) Q)
        -∗ WP c (Scf.Loop.for k0_t4_loop k0_t4_ok ⟨⟩ (pt (k0_t4_body (F := F)) c v6 v18 v29 v959) >>= kk) Q) := by
  iintro ⟨#Hr, H⟩ Hk
  iapply (Scf.wp_for_bind frame (wpE (defs₀ (F := F)) 𝒱₀ (c : Thread nD τ) none) Set.univ _ _ _ k0_t4_ok ()
    (pt (k0_t4_body (F := F)) c v6 v18 v29 v959) (fun k _ => iprop(recs D K Ks ∗ before4 D c k)) (fun k u => by
      iintro ⟨#Hr, H⟩
      iapply (wp_wand_r frame (wpE (defs₀ (F := F)) 𝒱₀ (c : Thread nD τ) none) Set.univ)
      isplitl [H]
      · iapply (trip4 D K Ks c k u v6 v18 v29 v959); isplitr; · iexact Hr
        iexact H
      · iintro %_ H; isplitr; · iexact Hr
        iexact H)) $$ [H]
  · isplitr; · iexact Hr
    iexact H
  rw [show Scf.trips k0_t4_loop.lb k0_t4_loop.ub k0_t4_loop.st = 2 by decide +kernel]
  iintro %_ ⟨_, H⟩
  iapply Hk $$ H

end

end Cert.RingProof

end
-- ==== Proof.First.lean ====
/-
# The body up to the first loop of hops

Part by part: the transfers of hop 0, what it lands summed, and its credits given. A part leaves the lanes it does not
name alone.
-/
module

public import proofs.«01_k».proof.Proof.Walk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section
variable (D : Data F) (K : Dev nD × Cell → ℕ) (Ks : Key → ℕ) (c : Dev nD)

/-- Hop 0 of lane 0 started. -/
theorem part43 (R S : sProp 𝕄) (v6 v18 v29 v59 v60 w : BitVec 32) :
    iprop(recs D K Ks ∗ ready D c false 0 R 0 ∗ ready D c true 0 S 0 ∗ owesE c (2))
      ⊢ WP c (pt (k0_part43 (F := F)) c v6 v18 v29 v59 v60 w) fun _ =>
        iprop(fly c false 0 R 0 ∗ fly c true 0 S 0 ∗ owesE c (4)) := by
  rw [k0_part43_eq_skeleton]
  unfold pt k0_part43_skel
  simp only [semSignalWord, semWaitWord, Prog.lift, Prog.bind_op, Prog.bind_ret, Prog.pure_eq_ret, Prog.bind_assoc]
  iintro ⟨#Hr, f0, t0, Ho⟩
  iapply (doStart false 0 R 0 2 (by decide) (by decide) (by revert c; decide +kernel) (at_rows false (chunk false c 0) 0 (by revert c; decide +kernel)) (by rfl) (by rfl) (by rfl)) $$ Hr f0 Ho
  iintro f0 Ho
  iapply (doStart true 0 S 0 3 (by decide) (by decide) (by revert c; decide +kernel) (at_rows true (chunk true c 0) 0 (by revert c; decide +kernel)) (by rfl) (by rfl) (by rfl)) $$ Hr t0 Ho
  iintro t0 Ho
  iapply ended
  iframe

/-- Hop 0 of lane 1 started to the right. -/
theorem part44 (R : sProp 𝕄) (v6 v29 v90 v92 : BitVec 32) :
    iprop(recs D K Ks ∗ ready D c false 1 R 0 ∗ owesE c (4))
      ⊢ WP c (pt (k0_part44 (F := F)) c v6 v29 v90 v92) fun _ =>
        iprop(fly c false 1 R 0 ∗ owesE c (5)) := by
  rw [k0_part44_eq_skeleton]
  unfold pt k0_part44_skel
  simp only [semSignalWord, semWaitWord, Prog.lift, Prog.bind_op, Prog.bind_ret, Prog.pure_eq_ret, Prog.bind_assoc]
  iintro ⟨#Hr, f1, Ho⟩
  iapply (doStart false 1 R 0 4 (by decide) (by decide) (by revert c; decide +kernel) (at_rows false (chunk false c 0) 1 (by revert c; decide +kernel)) (by rfl) (by rfl) (by rfl)) $$ Hr f1 Ho
  iintro f1 Ho
  iapply ended
  iframe

/-- Hop 0 of lane 1 started to the left. -/
theorem part45 (R : sProp 𝕄) (v6 v18 : BitVec 32) :
    iprop(recs D K Ks ∗ ready D c true 1 R 0 ∗ owesE c (5))
      ⊢ WP c (pt (k0_part45 (F := F)) c v6 v18) fun _ =>
        iprop(fly c true 1 R 0 ∗ owesE c (6)) := by
  rw [k0_part45_eq_skeleton]
  unfold pt k0_part45_skel
  simp only [semSignalWord, semWaitWord, Prog.lift, Prog.bind_op, Prog.bind_ret, Prog.pure_eq_ret, Prog.bind_assoc]
  iintro ⟨#Hr, t1, Ho⟩
  iapply (doStart true 1 R 0 5 (by decide) (by decide) (by revert c; decide +kernel) (at_rows true (chunk true c 0) 1 (by revert c; decide +kernel)) (by rfl) (by rfl) (by rfl)) $$ Hr t1 Ho
  iintro t1 Ho
  iapply ended
  iframe

/-- Hop 0 of lane 2 started. -/
theorem part46 (R S : sProp 𝕄) (v6 v18 v29 v160 w : BitVec 32) :
    iprop(recs D K Ks ∗ ready D c false 2 R 0 ∗ ready D c true 2 S 0 ∗ owesE c (6))
      ⊢ WP c (pt (k0_part46 (F := F)) c v6 v18 v29 v160 w) fun _ =>
        iprop(fly c false 2 R 0 ∗ fly c true 2 S 0 ∗ owesE c (8)) := by
  rw [k0_part46_eq_skeleton]
  unfold pt k0_part46_skel
  simp only [semSignalWord, semWaitWord, Prog.lift, Prog.bind_op, Prog.bind_ret, Prog.pure_eq_ret, Prog.bind_assoc]
  iintro ⟨#Hr, f2, t2, Ho⟩
  iapply (doStart false 2 R 0 6 (by decide) (by decide) (by revert c; decide +kernel) (at_rows false (chunk false c 0) 2 (by revert c; decide +kernel)) (by rfl) (by rfl) (by rfl)) $$ Hr f2 Ho
  iintro f2 Ho
  iapply (doStart true 2 S 0 7 (by decide) (by decide) (by revert c; decide +kernel) (at_rows true (chunk true c 0) 2 (by revert c; decide +kernel)) (by rfl) (by rfl) (by rfl)) $$ Hr t2 Ho
  iintro t2 Ho
  iapply ended
  iframe

/-- Hop 0 of lane 3 started to the right. -/
theorem part47 (R : sProp 𝕄) (v6 v18 v29 v192 w : BitVec 32) :
    iprop(recs D K Ks ∗ ready D c false 3 R 0 ∗ owesE c (8))
      ⊢ WP c (pt (k0_part47 (F := F)) c v6 v18 v29 v192 w) fun _ =>
        iprop(fly c false 3 R 0 ∗ owesE c (9)) := by
  rw [k0_part47_eq_skeleton]
  unfold pt k0_part47_skel
  simp only [semSignalWord, semWaitWord, Prog.lift, Prog.bind_op, Prog.bind_ret, Prog.pure_eq_ret, Prog.bind_assoc]
  iintro ⟨#Hr, f3, Ho⟩
  iapply (doStart false 3 R 0 8 (by decide) (by decide) (by revert c; decide +kernel) (at_rows false (chunk false c 0) 3 (by revert c; decide +kernel)) (by rfl) (by rfl) (by rfl)) $$ Hr f3 Ho
  iintro f3 Ho
  iapply ended
  iframe

/-- Lane 0 of hop 0 finished. -/
theorem part49 (v6 v18 v29 : BitVec 32) :
    iprop(recs D K Ks ∗ fly c false 0 (rest D c false 0 0) 0 ∗ fly c true 0 (rest D c true 0 0) 0 ∗ owesE c (10))
      ⊢ WP c (pt (k0_part49 (F := F)) c v6 v18 v29) fun _ =>
        iprop(piled D c false 0 0 ∗ piled D c true 0 0 ∗ owesE c (10)) := by
  rw [k0_part49_eq_skeleton]
  unfold pt k0_part49_skel
  simp only [semSignalWord, semWaitWord, Prog.lift, Prog.bind_op, Prog.bind_ret, Prog.pure_eq_ret, Prog.bind_assoc]
  iintro ⟨#Hr, f0, t0, Ho⟩
  iapply (doSent false 0 (rest D c false 0 0) 0 10 (by decide) (by decide) (by rfl) (by rfl)) $$ Hr f0 Ho
  iintro f0 Ho
  iapply (doPile false 0 0 10 (by decide) (by decide) (by decide) (by rfl) (by rfl)) $$ Hr f0 Ho
  iintro f0 Ho
  iapply (doSent true 0 (rest D c true 0 0) 0 10 (by decide) (by decide) (by rfl) (by rfl)) $$ Hr t0 Ho
  iintro t0 Ho
  iapply (doPile true 0 0 10 (by decide) (by decide) (by decide) (by rfl) (by rfl)) $$ Hr t0 Ho
  iintro t0 Ho
  iapply ended
  iframe

/-- Its sum to the right formed, -/
theorem part50 (v6 v281 w : BitVec 32) :
    iprop(recs D K Ks ∗ piled D c false 0 0 ∗ owesE c (10))
      ⊢ WP c (pt (k0_part50 (F := F)) c v6 v281 w) fun r =>
        iprop(⌜r.2 = addf (D.P c false (chunk false c (0 + 1)) 0) (sent D false 0 0 (frm false c))⌝ ∗ piled D c false 0 0 ∗ owesE c (10)) := by
  rw [k0_part50_eq_skeleton]
  unfold pt k0_part50_skel
  simp only [semSignalWord, semWaitWord, Prog.lift, Prog.bind_op, Prog.bind_ret, Prog.pure_eq_ret, Prog.bind_assoc]
  iintro ⟨#Hr, f0, Ho⟩
  iapply (doRows false 0 0 (at_rows false (chunk false c (0 + 1)) 0 (by revert c; decide +kernel))) $$ f0
  iintro f0
  iapply (doSlot false 0 (0) (by rfl)) $$ f0
  iintro f0
  iapply (doRows false 0 0 (at_rows false (chunk false c (0 + 1)) 0 (by revert c; decide +kernel))) $$ f0
  iintro f0
  iapply ended
  isplitr; · ipureintro; exact pay_unsq _ _
  iframe

/-- written, the left one too, and the credits given. -/
theorem part51 (v6 v18 v29 v309 : BitVec 32) (v : Vec F S128x2048 .f32)
    (hv : v = addf (D.P c false (chunk false c (0 + 1)) 0) (sent D false 0 0 (frm false c))) :
    iprop(recs D K Ks ∗ piled D c false 0 0 ∗ piled D c true 0 0 ∗ owesE c (10))
      ⊢ WP c (pt (k0_part51 (F := F)) c v6 v18 v29 v309 v) fun _ =>
        iprop(before D c false 0 (0 + 1) ∗ before D c true 0 (0 + 1) ∗ owesE c (12)) := by
  subst hv
  rw [k0_part51_eq_skeleton]
  unfold pt k0_part51_skel
  simp only [semSignalWord, semWaitWord, Prog.lift, Prog.bind_op, Prog.bind_ret, Prog.pure_eq_ret, Prog.bind_assoc]
  iintro ⟨#Hr, f0, t0, Ho⟩
  iapply (doSum false 0 (0) (by decide) rfl (at_rows false (chunk false c (0 + 1)) 0 (by revert c; decide +kernel))) $$ f0
  iintro f0
  iapply (doRows true 0 0 (at_rows true (chunk true c (0 + 1)) 0 (by revert c; decide +kernel))) $$ t0
  iintro t0
  iapply (doSlot true 0 (0) (by rfl)) $$ t0
  iintro t0
  iapply (doRows true 0 0 (at_rows true (chunk true c (0 + 1)) 0 (by revert c; decide +kernel))) $$ t0
  iintro t0
  iapply (doSum true 0 (0) (by decide) (by exact pay_unsq _ _) (at_rows true (chunk true c (0 + 1)) 0 (by revert c; decide +kernel))) $$ t0
  iintro t0
  iapply (doGive false 0 (0) (10) (by decide) (by decide) (by revert c; decide +kernel) (by rfl) (by rfl)) $$ Hr f0 Ho
  iintro f0 Ho
  iapply (doGive true 0 (0) (11) (by decide) (by decide) (by revert c; decide +kernel) (by rfl) (by rfl)) $$ Hr t0 Ho
  iintro t0 Ho
  iapply ended
  iframe

/-- Lane 1 of hop 0 landed from the left, -/
theorem part52 (v29 v346 v347 w : BitVec 32) :
    iprop(recs D K Ks ∗ fly c false 1 (rest D c false 1 0) 0 ∗ fly c true 1 (rest D c true 1 0) 0 ∗ owesE c (12))
      ⊢ WP c (pt (k0_part52 (F := F)) c v29 v346 v347 w) fun _ =>
        iprop(piled D c false 1 0 ∗ gone D c true 1 (rest D c true 1 0) 0 ∗ owesE c (12)) := by
  rw [k0_part52_eq_skeleton]
  unfold pt k0_part52_skel
  simp only [semSignalWord, semWaitWord, Prog.lift, Prog.bind_op, Prog.bind_ret, Prog.pure_eq_ret, Prog.bind_assoc]
  iintro ⟨#Hr, f1, t1, Ho⟩
  iapply (doSent false 1 (rest D c false 1 0) 0 12 (by decide) (by decide) (by rfl) (by rfl)) $$ Hr f1 Ho
  iintro f1 Ho
  iapply (doPile false 1 0 12 (by decide) (by decide) (by decide) (by rfl) (by rfl)) $$ Hr f1 Ho
  iintro f1 Ho
  iapply (doSent true 1 (rest D c true 1 0) 0 12 (by decide) (by decide) (by rfl) (by rfl)) $$ Hr t1 Ho
  iintro t1 Ho
  iapply ended
  iframe

/-- and from the right, -/
theorem part53 (v6 v18 : BitVec 32) :
    iprop(recs D K Ks ∗ gone D c true 1 (rest D c true 1 0) 0 ∗ owesE c (12))
      ⊢ WP c (pt (k0_part53 (F := F)) c v6 v18) fun _ =>
        iprop(piled D c true 1 0 ∗ owesE c (12)) := by
  rw [k0_part53_eq_skeleton]
  unfold pt k0_part53_skel
  simp only [semSignalWord, semWaitWord, Prog.lift, Prog.bind_op, Prog.bind_ret, Prog.pure_eq_ret, Prog.bind_assoc]
  iintro ⟨#Hr, t1, Ho⟩
  iapply (doPile true 1 0 12 (by decide) (by decide) (by decide) (by rfl) (by rfl)) $$ Hr t1 Ho
  iintro t1 Ho
  iapply ended
  iframe

/-- summed, and its credits given. -/
theorem part54 (v6 v18 v29 v396 v408 w : BitVec 32) :
    iprop(recs D K Ks ∗ piled D c false 1 0 ∗ piled D c true 1 0 ∗ owesE c (12))
      ⊢ WP c (pt (k0_part54 (F := F)) c v6 v18 v29 v396 v408 w) fun _ =>
        iprop(before D c false 1 (0 + 1) ∗ before D c true 1 (0 + 1) ∗ owesE c (14)) := by
  rw [k0_part54_eq_skeleton]
  unfold pt k0_part54_skel
  simp only [semSignalWord, semWaitWord, Prog.lift, Prog.bind_op, Prog.bind_ret, Prog.pure_eq_ret, Prog.bind_assoc]
  iintro ⟨#Hr, f1, t1, Ho⟩
  iapply (doRows false 1 0 (at_rows false (chunk false c (0 + 1)) 1 (by revert c; decide +kernel))) $$ f1
  iintro f1
  iapply (doSlot false 1 (0) (by rfl)) $$ f1
  iintro f1
  iapply (doRows false 1 0 (at_rows false (chunk false c (0 + 1)) 1 (by revert c; decide +kernel))) $$ f1
  iintro f1
  iapply (doSum false 1 (0) (by decide) (by exact pay_unsq _ _) (at_rows false (chunk false c (0 + 1)) 1 (by revert c; decide +kernel))) $$ f1
  iintro f1
  iapply (doRows true 1 0 (at_rows true (chunk true c (0 + 1)) 1 (by revert c; decide +kernel))) $$ t1
  iintro t1
  iapply (doSlot true 1 (0) (by rfl)) $$ t1
  iintro t1
  iapply (doRows true 1 0 (at_rows true (chunk true c (0 + 1)) 1 (by revert c; decide +kernel))) $$ t1
  iintro t1
  iapply (doSum true 1 (0) (by decide) (by exact pay_unsq _ _) (at_rows true (chunk true c (0 + 1)) 1 (by revert c; decide +kernel))) $$ t1
  iintro t1
  iapply (doGive false 1 (0) (12) (by decide) (by decide) (by revert c; decide +kernel) (by rfl) (by rfl)) $$ Hr f1 Ho
  iintro f1 Ho
  iapply (doGive true 1 (0) (13) (by decide) (by decide) (by revert c; decide +kernel) (by rfl) (by rfl)) $$ Hr t1 Ho
  iintro t1 Ho
  iapply ended
  iframe

/-- Lane 2 of hop 0 has been read, -/
theorem part55 (v6 v29 v435 v436 : BitVec 32) (v437 v438 : BitVec 1) (w : BitVec 32) :
    iprop(recs D K Ks ∗ fly c false 2 (rest D c false 2 0) 0 ∗ owesE c (14))
      ⊢ WP c (pt (k0_part55 (F := F)) c v6 v29 v435 v436 v437 v438 w) fun _ =>
        iprop(gone D c false 2 (rest D c false 2 0) 0 ∗ owesE c (14)) := by
  rw [k0_part55_eq_skeleton]
  unfold pt k0_part55_skel
  simp only [semSignalWord, semWaitWord, Prog.lift, Prog.bind_op, Prog.bind_ret, Prog.pure_eq_ret, Prog.bind_assoc]
  iintro ⟨#Hr, f2, Ho⟩
  iapply (doSent false 2 (rest D c false 2 0) 0 14 (by decide) (by decide) (by rfl) (by rfl)) $$ Hr f2 Ho
  iintro f2 Ho
  iapply ended
  iframe

/-- has landed, -/
theorem part56 (v6 v18 : BitVec 32) :
    iprop(recs D K Ks ∗ gone D c false 2 (rest D c false 2 0) 0 ∗ fly c true 2 (rest D c true 2 0) 0 ∗ owesE c (14))
      ⊢ WP c (pt (k0_part56 (F := F)) c v6 v18) fun _ =>
        iprop(piled D c false 2 0 ∗ piled D c true 2 0 ∗ owesE c (14)) := by
  rw [k0_part56_eq_skeleton]
  unfold pt k0_part56_skel
  simp only [semSignalWord, semWaitWord, Prog.lift, Prog.bind_op, Prog.bind_ret, Prog.pure_eq_ret, Prog.bind_assoc]
  iintro ⟨#Hr, f2, t2, Ho⟩
  iapply (doPile false 2 0 14 (by decide) (by decide) (by decide) (by rfl) (by rfl)) $$ Hr f2 Ho
  iintro f2 Ho
  iapply (doSent true 2 (rest D c true 2 0) 0 14 (by decide) (by decide) (by rfl) (by rfl)) $$ Hr t2 Ho
  iintro t2 Ho
  iapply (doPile true 2 0 14 (by decide) (by decide) (by decide) (by rfl) (by rfl)) $$ Hr t2 Ho
  iintro t2 Ho
  iapply ended
  iframe

/-- and been summed. -/
theorem part57 (v18 v29 v498 v499 w : BitVec 32) :
    iprop(recs D K Ks ∗ piled D c false 2 0 ∗ piled D c true 2 0 ∗ owesE c (14))
      ⊢ WP c (pt (k0_part57 (F := F)) c v18 v29 v498 v499 w) fun _ =>
        iprop(before D c false 2 (0 + 1) ∗ summed D c true 2 0 ∗ owesE c (15)) := by
  rw [k0_part57_eq_skeleton]
  unfold pt k0_part57_skel
  simp only [semSignalWord, semWaitWord, Prog.lift, Prog.bind_op, Prog.bind_ret, Prog.pure_eq_ret, Prog.bind_assoc]
  iintro ⟨#Hr, f2, t2, Ho⟩
  iapply (doRows false 2 0 (at_rows false (chunk false c (0 + 1)) 2 (by revert c; decide +kernel))) $$ f2
  iintro f2
  iapply (doSlot false 2 (0) (by rfl)) $$ f2
  iintro f2
  iapply (doRows false 2 0 (at_rows false (chunk false c (0 + 1)) 2 (by revert c; decide +kernel))) $$ f2
  iintro f2
  iapply (doSum false 2 (0) (by decide) (by exact pay_unsq _ _) (at_rows false (chunk false c (0 + 1)) 2 (by revert c; decide +kernel))) $$ f2
  iintro f2
  iapply (doRows true 2 0 (at_rows true (chunk true c (0 + 1)) 2 (by revert c; decide +kernel))) $$ t2
  iintro t2
  iapply (doSlot true 2 (0) (by rfl)) $$ t2
  iintro t2
  iapply (doRows true 2 0 (at_rows true (chunk true c (0 + 1)) 2 (by revert c; decide +kernel))) $$ t2
  iintro t2
  iapply (doSum true 2 (0) (by decide) (by exact pay_unsq _ _) (at_rows true (chunk true c (0 + 1)) 2 (by revert c; decide +kernel))) $$ t2
  iintro t2
  iapply (doGive false 2 (0) (14) (by decide) (by decide) (by revert c; decide +kernel) (by rfl) (by rfl)) $$ Hr f2 Ho
  iintro f2 Ho
  iapply ended
  iframe

end

end Cert.RingProof

end
-- ==== Proof.Middle.lean ====
/-
# The hops between the loops

The third hop of each lane finished, hop 3 of each lane run, and the last transfers waited for.
-/
module

public import proofs.«01_k».proof.Proof.Walk

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section
variable (D : Data F) (K : Dev nD × Cell → ℕ) (Ks : Key → ℕ) (c : Dev nD)

/-- Hop 3 of lane 0 started. -/
theorem part59 (v6 v18 v29 v560 w : BitVec 32) :
    iprop(recs D K Ks ∗ ready D c false 0 (rest D c false 0 3) 3 ∗ ready D c true 0 (rest D c true 0 3) 3 ∗ owesE c (48))
      ⊢ WP c (pt (k0_part59 (F := F)) c v6 v18 v29 v560 w) fun _ =>
        iprop(fly c false 0 (rest D c false 0 3) 3 ∗ fly c true 0 (rest D c true 0 3) 3 ∗ owesE c (50)) := by
  rw [k0_part59_eq_skeleton]
  unfold pt k0_part59_skel
  simp only [semSignalWord, semWaitWord, Prog.lift, Prog.bind_op, Prog.bind_ret, Prog.pure_eq_ret, Prog.bind_assoc]
  iintro ⟨#Hr, f0, t0, Ho⟩
  iapply (doStart false 0 (rest D c false 0 3) 3 48 (by decide) (by decide) (by revert c; decide +kernel) (at_rows false (chunk false c 3) 0 (by revert c; decide +kernel)) ((at_rows false (chunk false c 3) 0 (by revert c; decide +kernel)).trans (dst_rows false c 0 3 (by decide))) (by rfl) (by rfl)) $$ Hr f0 Ho
  iintro f0 Ho
  iapply (doStart true 0 (rest D c true 0 3) 3 49 (by decide) (by decide) (by revert c; decide +kernel) (at_rows true (chunk true c 3) 0 (by revert c; decide +kernel)) ((at_rows true (chunk true c 3) 0 (by revert c; decide +kernel)).trans (dst_rows true c 0 3 (by decide))) (by rfl) (by rfl)) $$ Hr t0 Ho
  iintro t0 Ho
  iapply ended
  iframe

/-- Hop 2 of lane 3 landed from the left, -/
theorem part60 (v29 v593 w : BitVec 32) :
    iprop(recs D K Ks ∗ fly c false 3 (rest D c false 3 2) 2 ∗ owesE c (50))
      ⊢ WP c (pt (k0_part60 (F := F)) c v29 v593 w) fun _ =>
        iprop(piled D c false 3 2 ∗ owesE c (50)) := by
  rw [k0_part60_eq_skeleton]
  unfold pt k0_part60_skel
  simp only [semSignalWord, semWaitWord, Prog.lift, Prog.bind_op, Prog.bind_ret, Prog.pure_eq_ret, Prog.bind_assoc]
  iintro ⟨#Hr, f3, Ho⟩
  iapply (doSent false 3 (rest D c false 3 2) 2 50 (by decide) (by decide) (by rfl) (by rfl)) $$ Hr f3 Ho
  iintro f3 Ho
  iapply (doPile false 3 2 50 (by decide) (by decide) (by decide) (by rfl) (by rfl)) $$ Hr f3 Ho
  iintro f3 Ho
  iapply ended
  iframe

/-- and from the right, -/
theorem part61 (v6 v18 : BitVec 32) :
    iprop(recs D K Ks ∗ fly c true 3 (rest D c true 3 2) 2 ∗ owesE c (50))
      ⊢ WP c (pt (k0_part61 (F := F)) c v6 v18) fun _ =>
        iprop(piled D c true 3 2 ∗ owesE c (50)) := by
  rw [k0_part61_eq_skeleton]
  unfold pt k0_part61_skel
  simp only [semSignalWord, semWaitWord, Prog.lift, Prog.bind_op, Prog.bind_ret, Prog.pure_eq_ret, Prog.bind_assoc]
  iintro ⟨#Hr, t3, Ho⟩
  iapply (doSent true 3 (rest D c true 3 2) 2 50 (by decide) (by decide) (by rfl) (by rfl)) $$ Hr t3 Ho
  iintro t3 Ho
  iapply (doPile true 3 2 50 (by decide) (by decide) (by decide) (by rfl) (by rfl)) $$ Hr t3 Ho
  iintro t3 Ho
  iapply ended
  iframe

/-- was summed, its credits given, and the next lane's taken. -/
theorem part62 (v6 v18 v29 v645 v649 v650 : BitVec 32) (v651 v652 : BitVec 1) (w : BitVec 32) :
    iprop(recs D K Ks ∗ piled D c false 3 2 ∗ piled D c true 3 2 ∗ before D c false 1 3 ∗ before D c true 1 3 ∗ owesE c (50))
      ⊢ WP c (pt (k0_part62 (F := F)) c v6 v18 v29 v645 v649 v650 v651 v652 w) fun _ =>
        iprop(before D c false 3 (2 + 1) ∗ before D c true 3 (2 + 1) ∗ ready D c false 1 (rest D c false 1 3) 3 ∗ ready D c true 1 (rest D c true 1 3) 3 ∗ owesE c (52)) := by
  rw [k0_part62_eq_skeleton]
  unfold pt k0_part62_skel
  simp only [semSignalWord, semWaitWord, Prog.lift, Prog.bind_op, Prog.bind_ret, Prog.pure_eq_ret, Prog.bind_assoc]
  iintro ⟨#Hr, f3, t3, f1, t1, Ho⟩
  iapply (doRows false 3 2 (at_rows false (chunk false c (2 + 1)) 3 (by revert c; decide +kernel))) $$ f3
  iintro f3
  iapply (doSlot false 3 (2) (by rfl)) $$ f3
  iintro f3
  iapply (doRows false 3 2 (at_rows false (chunk false c (2 + 1)) 3 (by revert c; decide +kernel))) $$ f3
  iintro f3
  iapply (doSum false 3 (2) (by decide) (by exact pay_unsq _ _) (at_rows false (chunk false c (2 + 1)) 3 (by revert c; decide +kernel))) $$ f3
  iintro f3
  iapply (doRows true 3 2 (at_rows true (chunk true c (2 + 1)) 3 (by revert c; decide +kernel))) $$ t3
  iintro t3
  iapply (doSlot true 3 (2) (by rfl)) $$ t3
  iintro t3
  iapply (doRows true 3 2 (at_rows true (chunk true c (2 + 1)) 3 (by revert c; decide +kernel))) $$ t3
  iintro t3
  iapply (doSum true 3 (2) (by decide) (by exact pay_unsq _ _) (at_rows true (chunk true c (2 + 1)) 3 (by revert c; decide +kernel))) $$ t3
  iintro t3
  iapply (doGive false 3 (2) (50) (by decide) (by decide) (by revert c; decide +kernel) (by rfl) (by rfl)) $$ Hr f3 Ho
  iintro f3 Ho
  iapply (doGive true 3 (2) (51) (by decide) (by decide) (by revert c; decide +kernel) (by rfl) (by rfl)) $$ Hr t3 Ho
  iintro t3 Ho
  iapply (doTake false 1 3 52 (by decide) (by decide) (by decide) (by decide) (by rfl) (by rfl)) $$ Hr f1 Ho
  iintro f1 Ho
  iapply (doTake true 1 3 52 (by decide) (by decide) (by decide) (by decide) (by rfl) (by rfl)) $$ Hr t1 Ho
  iintro t1 Ho
  iapply ended
  iframe

/-- Hop 3 of lane 1 started to the right, -/
theorem part63 (v6 v29 v681 w : BitVec 32) :
    iprop(recs D K Ks ∗ ready D c false 1 (rest D c false 1 3) 3 ∗ owesE c (52))
      ⊢ WP c (pt (k0_part63 (F := F)) c v6 v29 v681 w) fun _ =>
        iprop(fly c false 1 (rest D c false 1 3) 3 ∗ owesE c (53)) := by
  rw [k0_part63_eq_skeleton]
  unfold pt k0_part63_skel
  simp only [semSignalWord, semWaitWord, Prog.lift, Prog.bind_op, Prog.bind_ret, Prog.pure_eq_ret, Prog.bind_assoc]
  iintro ⟨#Hr, f1, Ho⟩
  iapply (doStart false 1 (rest D c false 1 3) 3 52 (by decide) (by decide) (by revert c; decide +kernel) (at_rows false (chunk false c 3) 1 (by revert c; decide +kernel)) ((at_rows false (chunk false c 3) 1 (by revert c; decide +kernel)).trans (dst_rows false c 1 3 (by decide))) (by rfl) (by rfl)) $$ Hr f1 Ho
  iintro f1 Ho
  iapply ended
  iframe

/-- and to the left. -/
theorem part64 (v6 v18 : BitVec 32) :
    iprop(recs D K Ks ∗ ready D c true 1 (rest D c true 1 3) 3 ∗ owesE c (53))
      ⊢ WP c (pt (k0_part64 (F := F)) c v6 v18) fun _ =>
        iprop(fly c true 1 (rest D c true 1 3) 3 ∗ owesE c (54)) := by
  rw [k0_part64_eq_skeleton]
  unfold pt k0_part64_skel
  simp only [semSignalWord, semWaitWord, Prog.lift, Prog.bind_op, Prog.bind_ret, Prog.pure_eq_ret, Prog.bind_assoc]
  iintro ⟨#Hr, t1, Ho⟩
  iapply (doStart true 1 (rest D c true 1 3) 3 53 (by decide) (by decide) (by revert c; decide +kernel) (at_rows true (chunk true c 3) 1 (by revert c; decide +kernel)) ((at_rows true (chunk true c 3) 1 (by revert c; decide +kernel)).trans (dst_rows true c 1 3 (by decide))) (by rfl) (by rfl)) $$ Hr t1 Ho
  iintro t1 Ho
  iapply ended
  iframe

/-- Hop 3 of lane 0 landed and a credit given, -/
theorem part65 (v18 v29 v750 w : BitVec 32) :
    iprop(recs D K Ks ∗ fly c false 0 (rest D c false 0 3) 3 ∗ fly c true 0 (rest D c true 0 3) 3 ∗ owesE c (54))
      ⊢ WP c (pt (k0_part65 (F := F)) c v18 v29 v750 w) fun _ =>
        iprop(before D c false 0 (3 + 1) ∗ summed D c true 0 3 ∗ owesE c (55)) := by
  rw [k0_part65_eq_skeleton]
  unfold pt k0_part65_skel
  simp only [semSignalWord, semWaitWord, Prog.lift, Prog.bind_op, Prog.bind_ret, Prog.pure_eq_ret, Prog.bind_assoc]
  iintro ⟨#Hr, f0, t0, Ho⟩
  iapply (doSent false 0 (rest D c false 0 3) 3 54 (by decide) (by decide) (by rfl) (by rfl)) $$ Hr f0 Ho
  iintro f0 Ho
  iapply (doLand false 0 (rest D c false 0 3) 3 54 (by decide) (by decide) (by decide) (by rfl) (by rfl)) $$ Hr f0 Ho
  iintro f0 Ho
  ihave f0 := (passed_three D c false 0) $$ f0
  iapply (doSent true 0 (rest D c true 0 3) 3 54 (by decide) (by decide) (by rfl) (by rfl)) $$ Hr t0 Ho
  iintro t0 Ho
  iapply (doLand true 0 (rest D c true 0 3) 3 54 (by decide) (by decide) (by decide) (by rfl) (by rfl)) $$ Hr t0 Ho
  iintro t0 Ho
  ihave t0 := (passed_three D c true 0) $$ t0
  iapply (doGive false 0 (3) (54) (by decide) (by decide) (by revert c; decide +kernel) (by rfl) (by rfl)) $$ Hr f0 Ho
  iintro f0 Ho
  iapply ended
  iframe

/-- the other given, and the next lane's taken. -/
theorem part66 (v6 v29 : BitVec 32) :
    iprop(recs D K Ks ∗ summed D c true 0 3 ∗ before D c false 2 3 ∗ before D c true 2 3 ∗ owesE c (55))
      ⊢ WP c (pt (k0_part66 (F := F)) c v6 v29) fun _ =>
        iprop(before D c true 0 (3 + 1) ∗ ready D c false 2 (rest D c false 2 3) 3 ∗ ready D c true 2 (rest D c true 2 3) 3 ∗ owesE c (56)) := by
  rw [k0_part66_eq_skeleton]
  unfold pt k0_part66_skel
  simp only [semSignalWord, semWaitWord, Prog.lift, Prog.bind_op, Prog.bind_ret, Prog.pure_eq_ret, Prog.bind_assoc]
  iintro ⟨#Hr, t0, f2, t2, Ho⟩
  iapply (doGive true 0 (3) (55) (by decide) (by decide) (by revert c; decide +kernel) (by rfl) (by rfl)) $$ Hr t0 Ho
  iintro t0 Ho
  iapply (doTake false 2 3 56 (by decide) (by decide) (by decide) (by decide) (by rfl) (by rfl)) $$ Hr f2 Ho
  iintro f2 Ho
  iapply (doTake true 2 3 56 (by decide) (by decide) (by decide) (by decide) (by rfl) (by rfl)) $$ Hr t2 Ho
  iintro t2 Ho
  iapply ended
  iframe

/-- Hop 3 of lane 2 started. -/
theorem part67 (v6 v18 v805 w : BitVec 32) :
    iprop(recs D K Ks ∗ ready D c false 2 (rest D c false 2 3) 3 ∗ ready D c true 2 (rest D c true 2 3) 3 ∗ owesE c (56))
      ⊢ WP c (pt (k0_part67 (F := F)) c v6 v18 v805 w) fun _ =>
        iprop(fly c false 2 (rest D c false 2 3) 3 ∗ fly c true 2 (rest D c true 2 3) 3 ∗ owesE c (58)) := by
  rw [k0_part67_eq_skeleton]
  unfold pt k0_part67_skel
  simp only [semSignalWord, semWaitWord, Prog.lift, Prog.bind_op, Prog.bind_ret, Prog.pure_eq_ret, Prog.bind_assoc]
  iintro ⟨#Hr, f2, t2, Ho⟩
  iapply (doStart false 2 (rest D c false 2 3) 3 56 (by decide) (by decide) (by revert c; decide +kernel) (at_rows false (chunk false c 3) 2 (by revert c; decide +kernel)) ((at_rows false (chunk false c 3) 2 (by revert c; decide +kernel)).trans (dst_rows false c 2 3 (by decide))) (by rfl) (by rfl)) $$ Hr f2 Ho
  iintro f2 Ho
  iapply (doStart true 2 (rest D c true 2 3) 3 57 (by decide) (by decide) (by revert c; decide +kernel) (at_rows true (chunk true c 3) 2 (by revert c; decide +kernel)) ((at_rows true (chunk true c 3) 2 (by revert c; decide +kernel)).trans (dst_rows true c 2 3 (by decide))) (by rfl) (by rfl)) $$ Hr t2 Ho
  iintro t2 Ho
  iapply ended
  iframe

/-- Hop 3 of lane 1 landed, -/
theorem part68 (v18 v29 v837 v838 : BitVec 32) (v839 : BitVec 1) (w : BitVec 32) :
    iprop(recs D K Ks ∗ fly c false 1 (rest D c false 1 3) 3 ∗ fly c true 1 (rest D c true 1 3) 3 ∗ owesE c (58))
      ⊢ WP c (pt (k0_part68 (F := F)) c v18 v29 v837 v838 v839 w) fun _ =>
        iprop(summed D c false 1 3 ∗ summed D c true 1 3 ∗ owesE c (58)) := by
  rw [k0_part68_eq_skeleton]
  unfold pt k0_part68_skel
  simp only [semSignalWord, semWaitWord, Prog.lift, Prog.bind_op, Prog.bind_ret, Prog.pure_eq_ret, Prog.bind_assoc]
  iintro ⟨#Hr, f1, t1, Ho⟩
  iapply (doSent false 1 (rest D c false 1 3) 3 58 (by decide) (by decide) (by rfl) (by rfl)) $$ Hr f1 Ho
  iintro f1 Ho
  iapply (doLand false 1 (rest D c false 1 3) 3 58 (by decide) (by decide) (by decide) (by rfl) (by rfl)) $$ Hr f1 Ho
  iintro f1 Ho
  ihave f1 := (passed_three D c false 1) $$ f1
  iapply (doSent true 1 (rest D c true 1 3) 3 58 (by decide) (by decide) (by rfl) (by rfl)) $$ Hr t1 Ho
  iintro t1 Ho
  iapply (doLand true 1 (rest D c true 1 3) 3 58 (by decide) (by decide) (by decide) (by rfl) (by rfl)) $$ Hr t1 Ho
  iintro t1 Ho
  ihave t1 := (passed_three D c true 1) $$ t1
  iapply ended
  iframe

/-- its credits given, and the next lane's taken. -/
theorem part69 (v6 v18 v29 : BitVec 32) :
    iprop(recs D K Ks ∗ summed D c false 1 3 ∗ summed D c true 1 3 ∗ before D c false 3 3 ∗ before D c true 3 3 ∗ owesE c (58))
      ⊢ WP c (pt (k0_part69 (F := F)) c v6 v18 v29) fun _ =>
        iprop(before D c false 1 (3 + 1) ∗ before D c true 1 (3 + 1) ∗ ready D c false 3 (rest D c false 3 3) 3 ∗ ready D c true 3 (rest D c true 3 3) 3 ∗ owesE c (60)) := by
  rw [k0_part69_eq_skeleton]
  unfold pt k0_part69_skel
  simp only [semSignalWord, semWaitWord, Prog.lift, Prog.bind_op, Prog.bind_ret, Prog.pure_eq_ret, Prog.bind_assoc]
  iintro ⟨#Hr, f1, t1, f3, t3, Ho⟩
  iapply (doGive false 1 (3) (58) (by decide) (by decide) (by revert c; decide +kernel) (by rfl) (by rfl)) $$ Hr f1 Ho
  iintro f1 Ho
  iapply (doGive true 1 (3) (59) (by decide) (by decide) (by revert c; decide +kernel) (by rfl) (by rfl)) $$ Hr t1 Ho
  iintro t1 Ho
  iapply (doTake false 3 3 60 (by decide) (by decide) (by decide) (by decide) (by rfl) (by rfl)) $$ Hr f3 Ho
  iintro f3 Ho
  iapply (doTake true 3 3 60 (by decide) (by decide) (by decide) (by decide) (by rfl) (by rfl)) $$ Hr t3 Ho
  iintro t3 Ho
  iapply ended
  iframe

/-- Hop 3 of lane 3 started. -/
theorem part70 (v6 v18 v29 v897 w : BitVec 32) :
    iprop(recs D K Ks ∗ ready D c false 3 (rest D c false 3 3) 3 ∗ ready D c true 3 (rest D c true 3 3) 3 ∗ owesE c (60))
      ⊢ WP c (pt (k0_part70 (F := F)) c v6 v18 v29 v897 w) fun _ =>
        iprop(fly c false 3 (rest D c false 3 3) 3 ∗ fly c true 3 (rest D c true 3 3) 3 ∗ owesE c (62)) := by
  rw [k0_part70_eq_skeleton]
  unfold pt k0_part70_skel
  simp only [semSignalWord, semWaitWord, Prog.lift, Prog.bind_op, Prog.bind_ret, Prog.pure_eq_ret, Prog.bind_assoc]
  iintro ⟨#Hr, f3, t3, Ho⟩
  iapply (doStart false 3 (rest D c false 3 3) 3 60 (by decide) (by decide) (by revert c; decide +kernel) (at_rows false (chunk false c 3) 3 (by revert c; decide +kernel)) ((at_rows false (chunk false c 3) 3 (by revert c; decide +kernel)).trans (dst_rows false c 3 3 (by decide))) (by rfl) (by rfl)) $$ Hr f3 Ho
  iintro f3 Ho
  iapply (doStart true 3 (rest D c true 3 3) 3 61 (by decide) (by decide) (by revert c; decide +kernel) (at_rows true (chunk true c 3) 3 (by revert c; decide +kernel)) ((at_rows true (chunk true c 3) 3 (by revert c; decide +kernel)).trans (dst_rows true c 3 3 (by decide))) (by rfl) (by rfl)) $$ Hr t3 Ho
  iintro t3 Ho
  iapply ended
  iframe

/-- Hop 3 of lane 2 landed from the left. -/
theorem part71 (v6 v18 v29 w : BitVec 32) :
    iprop(recs D K Ks ∗ fly c false 2 (rest D c false 2 3) 3 ∗ fly c true 2 (rest D c true 2 3) 3 ∗ owesE c (62))
      ⊢ WP c (pt (k0_part71 (F := F)) c v6 v18 v29 w) fun _ =>
        iprop(summed D c false 2 3 ∗ gone D c true 2 (rest D c true 2 3) 3 ∗ owesE c (62)) := by
  rw [k0_part71_eq_skeleton]
  unfold pt k0_part71_skel
  simp only [semSignalWord, semWaitWord, Prog.lift, Prog.bind_op, Prog.bind_ret, Prog.pure_eq_ret, Prog.bind_assoc]
  iintro ⟨#Hr, f2, t2, Ho⟩
  iapply (doSent false 2 (rest D c false 2 3) 3 62 (by decide) (by decide) (by rfl) (by rfl)) $$ Hr f2 Ho
  iintro f2 Ho
  iapply (doLand false 2 (rest D c false 2 3) 3 62 (by decide) (by decide) (by decide) (by rfl) (by rfl)) $$ Hr f2 Ho
  iintro f2 Ho
  ihave f2 := (passed_three D c false 2) $$ f2
  iapply (doSent true 2 (rest D c true 2 3) 3 62 (by decide) (by decide) (by rfl) (by rfl)) $$ Hr t2 Ho
  iintro t2 Ho
  iapply ended
  iframe

/-- The last hop of lane 3 landed from the left. -/
theorem part73 (v18 v29 v986 v987 w : BitVec 32) :
    iprop(recs D K Ks ∗ fly c false 3 (rest D c false 3 5) 5 ∗ fly c true 3 (rest D c true 3 5) 5 ∗ owesE c (82))
      ⊢ WP c (pt (k0_part73 (F := F)) c v18 v29 v986 v987 w) fun _ =>
        iprop(done D c false 3 ∗ gone D c true 3 (rest D c true 3 5) 5 ∗ owesE c (82)) := by
  rw [k0_part73_eq_skeleton]
  unfold pt k0_part73_skel
  simp only [semSignalWord, semWaitWord, Prog.lift, Prog.bind_op, Prog.bind_ret, Prog.pure_eq_ret, Prog.bind_assoc]
  iintro ⟨#Hr, f3, t3, Ho⟩
  iapply (doSent false 3 (rest D c false 3 5) 5 82 (by decide) (by decide) (by rfl) (by rfl)) $$ Hr f3 Ho
  iintro f3 Ho
  iapply (doLand false 3 (rest D c false 3 5) 5 82 (by decide) (by decide) (by decide) (by rfl) (by rfl)) $$ Hr f3 Ho
  iintro f3 Ho
  ihave f3 := (passed_five D c false 3) $$ f3
  iapply (doSent true 3 (rest D c true 3 5) 5 82 (by decide) (by decide) (by rfl) (by rfl)) $$ Hr t3 Ho
  iintro t3 Ho
  iapply ended
  iframe

end

end Cert.RingProof

end
-- ==== Proof.Bridge.lean ====
/-
# Around the two loops

The parts of the body that hold the loops of hops.
-/
module

public import proofs.«01_k».proof.Proof.Tail
public import proofs.«01_k».proof.Proof.First
public import proofs.«01_k».proof.Proof.Middle

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section
variable (D : Data F) (K : Dev nD × Cell → ℕ) (Ks : Key → ℕ) (c : Dev nD)

theorem upto_done (b : Bool) (s : Fin 4) : upto D c b s (2 + 4) ⊢ done D c b s := by
  unfold upto; rw [if_neg (by decide)]

/-- The last credit of hop 0 given, hops 1 and 2 run, and the next credit of lane 0 taken. -/
theorem part58 (v6 v18 v29 v532 : BitVec 32) :
    iprop(recs D K Ks ∗ before D c false 0 1 ∗ before D c true 0 1 ∗ before D c false 1 1 ∗ before D c true 1 1
        ∗ before D c false 2 1 ∗ summed D c true 2 0 ∗ fly c false 3 (rest D c false 3 0) 0 ∗ fly c true 3 (rest D c true 3 0) 0 ∗ owesE c 15)
      ⊢ WP c (pt (k0_part58 (F := F)) c v6 v18 v29 v532) fun _ =>
        iprop(ready D c false 0 (rest D c false 0 3) 3 ∗ ready D c true 0 (rest D c true 0 3) 3 ∗ before D c false 1 3 ∗ before D c true 1 3
          ∗ before D c false 2 3 ∗ before D c true 2 3 ∗ fly c false 3 (rest D c false 3 2) 2 ∗ fly c true 3 (rest D c true 3 2) 2 ∗ owesE c 48) := by
  rw [k0_part58_eq_skeleton]
  unfold pt k0_part58_skel
  simp only [semSignalWord, semWaitWord, Prog.lift, Prog.bind_op, Prog.bind_ret, Prog.pure_eq_ret, Prog.bind_assoc]
  iintro ⟨#Hr, f0, t0, f1, t1, f2, t2, f3, t3, Ho⟩
  iapply (doGive true 2 0 15 (by decide) (by decide) (by revert c; decide +kernel) (by rfl) (by rfl)) $$ Hr t2 Ho
  iintro t2 Ho
  iapply (loop3 D K Ks c v6 v18 v29 v532) $$ [f0 t0 f1 t1 f2 t2 f3 t3 Ho]
  · unfold before3; iframe; iexact Hr
  unfold before3
  iintro ⟨f0, t0, f1, t1, f2, t2, f3, t3, Ho⟩
  iapply (doTake false 0 (2 + 1) (16 * (2 + 1)) (by decide) (by decide) (by decide) (by decide) (by rfl) (by rfl)) $$ Hr f0 Ho
  iintro f0 Ho
  iapply (doTake true 0 (2 + 1) (16 * (2 + 1)) (by decide) (by decide) (by decide) (by decide) (by rfl) (by rfl)) $$ Hr t0 Ho
  iintro t0 Ho
  iapply ended
  iframe

/-- The last landing of hop 3 outside lane 3, its credits given, and hops 4 and 5 run. -/
theorem part72 (v6 v18 v29 v959 : BitVec 32) :
    iprop(recs D K Ks ∗ before D c false 0 4 ∗ before D c true 0 4 ∗ before D c false 1 4 ∗ before D c true 1 4
        ∗ summed D c false 2 3 ∗ gone D c true 2 (rest D c true 2 3) 3 ∗ fly c false 3 (rest D c false 3 3) 3
        ∗ fly c true 3 (rest D c true 3 3) 3 ∗ owesE c 62)
      ⊢ WP c (pt (k0_part72 (F := F)) c v6 v18 v29 v959) fun _ =>
        iprop(done D c false 0 ∗ done D c true 0 ∗ done D c false 1 ∗ done D c true 1 ∗ done D c false 2 ∗ done D c true 2
          ∗ fly c false 3 (rest D c false 3 5) 5 ∗ fly c true 3 (rest D c true 3 5) 5 ∗ owesE c 82) := by
  rw [k0_part72_eq_skeleton]
  unfold pt k0_part72_skel
  simp only [semSignalWord, semWaitWord, Prog.lift, Prog.bind_op, Prog.bind_ret, Prog.pure_eq_ret, Prog.bind_assoc]
  iintro ⟨#Hr, f0, t0, f1, t1, f2, t2, f3, t3, Ho⟩
  iapply (doLand true 2 (rest D c true 2 3) 3 62 (by decide) (by decide) (by decide) (by rfl) (by rfl)) $$ Hr t2 Ho
  iintro t2 Ho
  ihave t2 := (passed_three D c true 2) $$ t2
  iapply (doGive false 2 3 62 (by decide) (by decide) (by revert c; decide +kernel) (by rfl) (by rfl)) $$ Hr f2 Ho
  iintro f2 Ho
  iapply (doGive true 2 3 63 (by decide) (by decide) (by revert c; decide +kernel) (by rfl) (by rfl)) $$ Hr t2 Ho
  iintro t2 Ho
  iapply (loop4 D K Ks c v6 v18 v29 v959) $$ [f0 t0 f1 t1 f2 t2 f3 t3 Ho]
  · unfold before4
    isplitr; · iexact Hr
    isplitl [f0]; · iapply (before_upto (D := D) (c := c) false 0 4 (by decide)) $$ f0
    isplitl [t0]; · iapply (before_upto (D := D) (c := c) true 0 4 (by decide)) $$ t0
    isplitl [f1]; · iapply (before_upto (D := D) (c := c) false 1 4 (by decide)) $$ f1
    isplitl [t1]; · iapply (before_upto (D := D) (c := c) true 1 4 (by decide)) $$ t1
    isplitl [f2]; · iapply (before_upto (D := D) (c := c) false 2 4 (by decide)) $$ f2
    isplitl [t2]; · iapply (before_upto (D := D) (c := c) true 2 4 (by decide)) $$ t2
    isplitl [f3]; · iexact f3
    isplitl [t3]; · iexact t3
    iexact Ho
  unfold before4
  iintro ⟨f0, t0, f1, t1, f2, t2, f3, t3, Ho⟩
  iapply ended
  ihave f0 := (upto_done D c false 0) $$ f0
  ihave t0 := (upto_done D c true 0) $$ t0
  ihave f1 := (upto_done D c false 1) $$ f1
  ihave t1 := (upto_done D c true 1) $$ t1
  ihave f2 := (upto_done D c false 2) $$ f2
  ihave t2 := (upto_done D c true 2) $$ t2
  rw [show min (64 + 10 * 2) 82 = 82 by decide]
  iframe

end

end Cert.RingProof

end
-- ==== Proof.Whole.lean ====
/-
# The whole body

The parts one after another: from the factors in high-bandwidth memory and the free landing places to every lane done.
-/
module

public import proofs.«01_k».proof.Proof.Start
public import proofs.«01_k».proof.Proof.Bridge

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section
variable (D : Data F) (K : Dev nD × Cell → ℕ) (Ks : Key → ℕ) (c : Dev nD)

/-- What the body starts with. -/
def bodyPre (A B : Vec F S1 .f32) (Z : Vec F S4096x2048 .f32) : sProp 𝕄 :=
  iprop(own c xA (D.X c) ∗ own c wA (D.W c) ∗ (∃ Y, own (F := F) c xM Y) ∗ (∃ Y, own (F := F) c wM Y)
    ∗ dutyTok ER (cell c (.cp 0)) 0 0 ∗ dutyTok ER (cell c (.cp 1)) 0 0
    ∗ dutyTok ER (cell (frm false c) .bar) 0 0 ∗ barPay (F := F) (frm false c) false
    ∗ dutyTok ER (cell (frm true c) .bar) 0 1 ∗ barPay (F := F) (frm true c) true
    ∗ cred (tallyAt (cell c .bar) 1 1) ∗ cred (tallyAt (cell c .bar) 2 1) ∗ atPos ER (cell c .bar) 0 ∅ 0
    ∗ atPos ER (cell c (.cp 0)) 0 ∅ 0 ∗ atPos ER (cell c (.cp 1)) 0 ∅ 0
    ∗ own c aM A ∗ own c bM B ∗ own c oM Z
    ∗ (bigSep Finset.univ fun s : Fin 4 => toks c false s 0 0 0 0 0) ∗ (bigSep Finset.univ fun s : Fin 4 => toks c true s 0 0 0 0 0)
    ∗ owesE c 0)

/-- What it ends with. -/
def bodyPost (A B : Vec F S1 .f32) : sProp 𝕄 :=
  iprop(own c xA (D.X c) ∗ own c wA (D.W c) ∗ own c xM (D.X c) ∗ own c wM (D.W c)
    ∗ atPos ER (cell c .bar) 1 ∅ 0 ∗ atPos ER (cell c (.cp 0)) 1 ∅ 0 ∗ atPos ER (cell c (.cp 1)) 1 ∅ 0
    ∗ own c aM A ∗ own c bM B
    ∗ (bigSep Finset.univ fun s : Fin 4 => done D c false s) ∗ (bigSep Finset.univ fun s : Fin 4 => done D c true s)
    ∗ owesE c 82)

set_option maxHeartbeats 4000000 in
theorem body_run (A B : Vec F S1 .f32) (Z : Vec F S4096x2048 .f32) (hP : Products D c (k0_pay16 (A one) (B one))) :
    iprop(recs D K Ks ∗ bodyPre D c A B Z) ⊢ WP c (pt (cc0_body (F := F))) fun _ => bodyPost D c A B := by
  rw [cc0_body_eq_skeleton]
  unfold pt cc0_body_skel bodyPre
  iintro ⟨#Hr, Hx, Hw, Hxm, Hwm, D0, D1, Tf, Bf, Tt, Bt, C1, C2, Pb, P0, P1, Ha, Hb, Hz, Lf, Lt, Ho⟩
  iapply (next (part41 D K Ks c)) $$ [Hx Hw Hxm Hwm D0 D1 Tf Bf Ho]
  · isplitr; · iexact Hr
    iframe
  iintro %r ⟨%hr, X0, X1, Ho⟩
  obtain ⟨d4, v6, v18, v29, v30⟩ := r
  obtain ⟨h1, h2⟩ := hr
  have h1 := h1.symm
  have h2 := h2.symm
  subst h1
  subst h2
  try dsimp only
  iapply (next (part42 D K Ks c A B Z hP v6 v29)) $$ [Tt Bt Ho C1 C2 Pb X0 X1 P0 P1 Ha Hb Hz Lf Lt]
  · isplitr; · iexact Hr
    iframe
  iintro %r ⟨%hr, Pb, P0, P1, Hxa, Hwa, Ha, Hb, Hg, Lf, Lt, Ho⟩
  obtain ⟨v37, v59, v60, w42⟩ := r
  have hr := Eq.symm hr
  try dsimp only at hr
  subst hr
  try dsimp only
  ihave Lf := (Entails.of_eq (four _)) $$ Lf
  ihave Lt := (Entails.of_eq (four _)) $$ Lt
  icases Lf with ⟨f0, f1, f2, f3⟩
  icases Lt with ⟨t0, t1, t2, t3⟩
  iapply (next (part43 D K Ks c (place (F := F) (tgt false c) false 0 1) (place (F := F) (tgt true c) true 0 1) v6 v18 v29 v59 v60 w42)) $$ [f0 t0 Ho]
  · isplitr; · iexact Hr
    iframe
  iintro %r ⟨f0, t0, Ho⟩
  obtain ⟨v90, v92⟩ := r
  try dsimp only
  iapply (next (part44 D K Ks c (place (F := F) (tgt false c) false 1 1) v6 v29 v90 v92)) $$ [f1 Ho]
  · isplitr; · iexact Hr
    iframe
  iintro %r ⟨f1, Ho⟩
  try dsimp only
  iapply (next (part45 D K Ks c (place (F := F) (tgt true c) true 1 1) v6 v18)) $$ [t1 Ho]
  · isplitr; · iexact Hr
    iframe
  iintro %r ⟨t1, Ho⟩
  obtain ⟨v160, w45⟩ := r
  try dsimp only
  iapply (next (part46 D K Ks c (place (F := F) (tgt false c) false 2 1) (place (F := F) (tgt true c) true 2 1) v6 v18 v29 v160 w45)) $$ [f2 t2 Ho]
  · isplitr; · iexact Hr
    iframe
  iintro %r ⟨f2, t2, Ho⟩
  obtain ⟨v192, w46⟩ := r
  try dsimp only
  iapply (next (part47 D K Ks c (place (F := F) (tgt false c) false 3 1) v6 v18 v29 v192 w46)) $$ [f3 Ho]
  · isplitr; · iexact Hr
    iframe
  iintro %r ⟨f3, Ho⟩
  try dsimp only
  iapply (next (part48 D K Ks c hP v6)) $$ [Hg f0 t0 f1 t1 f2 t2 f3 t3 Ho]
  · isplitr; · iexact Hr
    iframe
  iintro %r ⟨Hxm, Hwm, f0, t0, f1, t1, f2, t2, f3, t3, Ho⟩
  try dsimp only
  iapply (next (part49 D K Ks c v6 v18 v29)) $$ [f0 t0 Ho]
  · isplitr; · iexact Hr
    iframe
  iintro %r ⟨f0, t0, Ho⟩
  obtain ⟨v281, w49⟩ := r
  try dsimp only
  iapply (next (part50 D K Ks c v6 v281 w49)) $$ [f0 Ho]
  · isplitr; · iexact Hr
    iframe
  iintro %r ⟨%hr, f0, Ho⟩
  obtain ⟨v309, v315⟩ := r
  try dsimp only at hr ⊢
  iapply (next (part51 D K Ks c v6 v18 v29 v309 v315 hr)) $$ [f0 t0 Ho]
  · isplitr; · iexact Hr
    iframe
  iintro %r ⟨f0, t0, Ho⟩
  obtain ⟨v346, v347, w51⟩ := r
  try dsimp only
  iapply (next (part52 D K Ks c v29 v346 v347 w51)) $$ [f1 t1 Ho]
  · isplitr; · iexact Hr
    iframe
  iintro %r ⟨f1, t1, Ho⟩
  try dsimp only
  iapply (next (part53 D K Ks c v6 v18)) $$ [t1 Ho]
  · isplitr; · iexact Hr
    iframe
  iintro %r ⟨t1, Ho⟩
  obtain ⟨v396, v408, w53⟩ := r
  try dsimp only
  iapply (next (part54 D K Ks c v6 v18 v29 v396 v408 w53)) $$ [f1 t1 Ho]
  · isplitr; · iexact Hr
    iframe
  iintro %r ⟨f1, t1, Ho⟩
  obtain ⟨v435, v436, v437, v438, w54⟩ := r
  try dsimp only
  iapply (next (part55 D K Ks c v6 v29 v435 v436 v437 v438 w54)) $$ [f2 Ho]
  · isplitr; · iexact Hr
    iframe
  iintro %r ⟨f2, Ho⟩
  try dsimp only
  iapply (next (part56 D K Ks c v6 v18)) $$ [f2 t2 Ho]
  · isplitr; · iexact Hr
    iframe
  iintro %r ⟨f2, t2, Ho⟩
  obtain ⟨v498, v499, w56⟩ := r
  try dsimp only
  iapply (next (part57 D K Ks c v18 v29 v498 v499 w56)) $$ [f2 t2 Ho]
  · isplitr; · iexact Hr
    iframe
  iintro %v532 ⟨f2, t2, Ho⟩
  try dsimp only
  iapply (next (part58 D K Ks c v6 v18 v29 v532)) $$ [f0 t0 f1 t1 f2 t2 f3 t3 Ho]
  · isplitr; · iexact Hr
    iframe
  iintro %r ⟨f0, t0, f1, t1, f2, t2, f3, t3, Ho⟩
  obtain ⟨v560, w58⟩ := r
  try dsimp only
  iapply (next (part59 D K Ks c v6 v18 v29 v560 w58)) $$ [f0 t0 Ho]
  · isplitr; · iexact Hr
    iframe
  iintro %r ⟨f0, t0, Ho⟩
  obtain ⟨v593, w59⟩ := r
  try dsimp only
  iapply (next (part60 D K Ks c v29 v593 w59)) $$ [f3 Ho]
  · isplitr; · iexact Hr
    iframe
  iintro %r ⟨f3, Ho⟩
  try dsimp only
  iapply (next (part61 D K Ks c v6 v18)) $$ [t3 Ho]
  · isplitr; · iexact Hr
    iframe
  iintro %r ⟨t3, Ho⟩
  obtain ⟨v645, v649, v650, v651, v652, w61⟩ := r
  try dsimp only
  iapply (next (part62 D K Ks c v6 v18 v29 v645 v649 v650 v651 v652 w61)) $$ [f3 t3 f1 t1 Ho]
  · isplitr; · iexact Hr
    iframe
  iintro %r ⟨f3, t3, f1, t1, Ho⟩
  obtain ⟨v681, w62⟩ := r
  try dsimp only
  iapply (next (part63 D K Ks c v6 v29 v681 w62)) $$ [f1 Ho]
  · isplitr; · iexact Hr
    iframe
  iintro %r ⟨f1, Ho⟩
  try dsimp only
  iapply (next (part64 D K Ks c v6 v18)) $$ [t1 Ho]
  · isplitr; · iexact Hr
    iframe
  iintro %r ⟨t1, Ho⟩
  obtain ⟨v750, w64⟩ := r
  try dsimp only
  iapply (next (part65 D K Ks c v18 v29 v750 w64)) $$ [f0 t0 Ho]
  · isplitr; · iexact Hr
    iframe
  iintro %r ⟨f0, t0, Ho⟩
  try dsimp only
  iapply (next (part66 D K Ks c v6 v29)) $$ [t0 f2 t2 Ho]
  · isplitr; · iexact Hr
    iframe
  iintro %r ⟨t0, f2, t2, Ho⟩
  obtain ⟨v805, w66⟩ := r
  try dsimp only
  iapply (next (part67 D K Ks c v6 v18 v805 w66)) $$ [f2 t2 Ho]
  · isplitr; · iexact Hr
    iframe
  iintro %r ⟨f2, t2, Ho⟩
  obtain ⟨v837, v838, v839, w67⟩ := r
  try dsimp only
  iapply (next (part68 D K Ks c v18 v29 v837 v838 v839 w67)) $$ [f1 t1 Ho]
  · isplitr; · iexact Hr
    iframe
  iintro %r ⟨f1, t1, Ho⟩
  try dsimp only
  iapply (next (part69 D K Ks c v6 v18 v29)) $$ [f1 t1 f3 t3 Ho]
  · isplitr; · iexact Hr
    iframe
  iintro %r ⟨f1, t1, f3, t3, Ho⟩
  obtain ⟨v897, w69⟩ := r
  try dsimp only
  iapply (next (part70 D K Ks c v6 v18 v29 v897 w69)) $$ [f3 t3 Ho]
  · isplitr; · iexact Hr
    iframe
  iintro %w70 ⟨f3, t3, Ho⟩
  try dsimp only
  iapply (next (part71 D K Ks c v6 v18 v29 w70)) $$ [f2 t2 Ho]
  · isplitr; · iexact Hr
    iframe
  iintro %v959 ⟨f2, t2, Ho⟩
  try dsimp only
  iapply (next (part72 D K Ks c v6 v18 v29 v959)) $$ [f0 t0 f1 t1 f2 t2 f3 t3 Ho]
  · isplitr; · iexact Hr
    iframe
  iintro %r ⟨f0, t0, f1, t1, f2, t2, f3, t3, Ho⟩
  obtain ⟨v986, v987, w72⟩ := r
  try dsimp only
  iapply (next (part73 D K Ks c v18 v29 v986 v987 w72)) $$ [f3 t3 Ho]
  · isplitr; · iexact Hr
    iframe
  iintro %r ⟨f3, t3, Ho⟩
  try dsimp only
  simp only [Prog.lift, Prog.bind_op, Prog.bind_ret, Prog.pure_eq_ret]
  iapply (doLand true 3 (rest D c true 3 5) 5 82 (by decide) (by decide) (by decide) (by rfl) (by rfl)) $$ Hr t3 Ho
  iintro t3 Ho
  ihave t3 := (passed_five D c true 3) $$ t3
  iapply (ended (c := c))
  unfold bodyPost
  iframe
  rw [four, four]
  iframe

end

end Cert.RingProof

end
-- ==== Proof.Finish.lean ====
/-
# The end of the body

Every cell closes with its counter at zero, the lanes of the output make up one array, the same on every device, and the
landing buffers are whole again.
-/
module

public import proofs.«01_k».proof.Proof.Whole

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Things indexed by lanes -/

section Sums
variable {M : Type _} [URA M]

/-- A sum regrouped by lanes: what belongs to none, then lane by lane of the two directions. -/
theorem byLane {I : Type} [DecidableEq I] (S : Finset I) (g : I → Option (Bool × Fin 4)) (Φ : I → sProp M) :
    bigSep S Φ = iprop(bigSep (S.filter fun i => g i = none) Φ
      ∗ (bigSep Finset.univ fun s : Fin 4 => bigSep (S.filter fun i => g i = some (false, s)) Φ)
      ∗ (bigSep Finset.univ fun s : Fin 4 => bigSep (S.filter fun i => g i = some (true, s)) Φ)) := by
  have hS : S = (Finset.univ : Finset (Option (Bool × Fin 4))).biUnion fun j => S.filter fun i => g i = j := by
    ext i
    simp only [Finset.mem_biUnion, Finset.mem_univ, true_and, Finset.mem_filter]
    exact ⟨fun h => ⟨_, h, rfl⟩, fun ⟨_, h, _⟩ => h⟩
  have h := bigSep_biUnion_eq (Finset.univ : Finset (Option (Bool × Fin 4))) (fun j => S.filter fun i => g i = j) Φ
    (fun j _ j' _ hne => Finset.disjoint_filter.mpr fun i _ hi hi' => hne (hi.symm.trans hi'))
  rw [← hS] at h
  have h9 (Ψ : Option (Bool × Fin 4) → sProp M) : bigSep Finset.univ Ψ = iprop(Ψ none ∗ Ψ (some (false, 0)) ∗ Ψ (some (false, 1))
      ∗ Ψ (some (false, 2)) ∗ Ψ (some (false, 3)) ∗ Ψ (some (true, 0)) ∗ Ψ (some (true, 1)) ∗ Ψ (some (true, 2)) ∗ Ψ (some (true, 3))) :=
    bigSep_univ_eq_bigSepL [none, some (false, (0 : Fin 4)), some (false, 1), some (false, 2), some (false, 3),
      some (true, 0), some (true, 1), some (true, 2), some (true, 3)] (by decide) (by decide) Ψ
  rw [h, h9, four, four]
  refine BI.Entails.antisymm (show _ ⊢ (_ : sProp M) from ?_) (show _ ⊢ (_ : sProp M) from ?_)
  · iintro ⟨N, A0, A1, A2, A3, B0, B1, B2, B3⟩
    iframe
  · iintro ⟨N, ⟨A0, A1, A2, A3⟩, B0, B1, B2, B3⟩
    iframe

/-- Sixteen things, lane by lane, counted chunk by chunk. -/
theorem lanesFirst (Φ : Fin 4 → Fin 4 → sProp M) :
    (bigSep Finset.univ fun s => bigSep Finset.univ fun k => Φ k s) = bigSep Finset.univ fun x : Fin 4 × Fin 4 => Φ x.1 x.2 := by
  rw [bigSep_univ_equiv (Equiv.prodComm (Fin 4) (Fin 4)) (fun x : Fin 4 × Fin 4 => Φ x.1 x.2), bigSep_univ_prod]
  rfl

/-- The lane a cell belongs to. -/
def laneOf : Cell → Option (Bool × Fin 4)
  | .send b s _ => some (b, s)
  | .recv b s _ => some (b, s)
  | .cred b s => some (b, s)
  | .bar => none
  | .cp _ => none

/-- Something of every cell of a lane. -/
def laneSum (Φ : Cell → sProp M) (b : Bool) (s : Fin 4) : sProp M :=
  iprop(Φ (.send b s 0) ∗ Φ (.send b s 1) ∗ Φ (.recv b s 0) ∗ Φ (.recv b s 1) ∗ Φ (.cred b s))

theorem noLane_cells : (Finset.univ.filter fun k : Cell => laneOf k = none) = ([.bar, .cp 0, .cp 1] : List Cell).toFinset := by decide
theorem lane_cells (b : Bool) (s : Fin 4) : (Finset.univ.filter fun k : Cell => laneOf k = some (b, s))
    = ([.send b s 0, .send b s 1, .recv b s 0, .recv b s 1, .cred b s] : List Cell).toFinset := by
  revert b s; decide
theorem lane_nodup (b : Bool) (s : Fin 4) : ([.send b s 0, .send b s 1, .recv b s 0, .recv b s 1, .cred b s] : List Cell).Nodup := by
  revert b s; decide

theorem laneSum_eq (Φ : Cell → sProp M) (b : Bool) (s : Fin 4) :
    bigSep (Finset.univ.filter fun k : Cell => laneOf k = some (b, s)) Φ = laneSum Φ b s :=
  bigSep_eq_bigSepL_of_eq _ (lane_cells b s) (lane_nodup b s) Φ

/-- A device's cells, lane by lane. -/
theorem cells_eq (Φ : Cell → sProp M) :
    bigSep Finset.univ Φ = iprop((Φ .bar ∗ Φ (.cp 0) ∗ Φ (.cp 1))
      ∗ (bigSep Finset.univ fun s : Fin 4 => laneSum Φ false s) ∗ (bigSep Finset.univ fun s : Fin 4 => laneSum Φ true s)) := by
  rw [byLane Finset.univ laneOf Φ]
  simp only [laneSum_eq]
  rw [bigSep_eq_bigSepL_of_eq ([.bar, .cp 0, .cp 1] : List Cell) noLane_cells (by decide)]
  rfl

end Sums

/-! ## The cells closed -/

/-- The round a cell ends at. -/
def ends : Cell → ℕ
  | .send _ _ _ => 3
  | .recv _ _ _ => 3
  | .cred _ _ => 1
  | .bar => 1
  | .cp _ => 1

section
variable (D : Data F) (K : Dev nD × Cell → ℕ) (Ks : Key → ℕ) (c : Dev nD)

theorem duties_ends (k : Cell) : ∀ r, ends k ≤ r → (Rd D).duties (cell c k) r = ∅ := by
  cases k with
  | send b s q => exact duties_later D c _
  | recv b s q => exact duties_later D c _
  | cred b s => exact duties_cred_later D c b s
  | bar => exact duties_bar_later D c
  | cp i => exact duties_cp_later D c i

/-- A cell past its last round closes, its counter at zero. -/
theorem close_cell (k : Cell) :
    iprop(recs D K Ks ∗ atPos ER (cell c k) (ends k) ∅ 0) ⊢ (iprop(|={Set.univ}=> semVal (cell c k) 0) : sProp 𝕄) := by
  iintro ⟨#Hr, Ha⟩
  iapply (Rounds.cell_close ER (Rd D) (Set.mem_univ (K (c, k))) (fun h => h) (R := ends k) (duties_ends D c k))
  isplitr
  · iapply (recs_cell D K Ks c k); iexact Hr
  iexact Ha

theorem close_all :
    iprop(recs D K Ks ∗ bigSep Finset.univ fun k : Cell => atPos ER (cell c k) (ends k) ∅ 0)
      ⊢ (iprop(|={Set.univ}=> bigSep Finset.univ fun k : Cell => semVal (cell c k) 0) : sProp 𝕄) :=
  via (bigSep_with_persistent (R := recs D K Ks) (Φ := fun k : Cell => (atPos ER (cell c k) (ends k) ∅ 0 : sProp 𝕄))
    (Ψ := fun k => iprop(|={Set.univ}=> semVal (cell c k) 0)) fun k _ => close_cell D K Ks c k) (bigSep_fupd _ _)

/-! ## The result -/

/-- The device that completes a chunk. -/
def owner (b : Bool) (k : Fin 4) : Dev nD := ⟨(k.val + if b then 1 else 3) % 4, Nat.mod_lt _ (by decide)⟩

theorem owner_chunk (b : Bool) : owner b (chunk b c 3) = c := by revert b c; decide +kernel

/-- The sum of a lane of a chunk. -/
def total (b : Bool) (k s : Fin 4) : Vec F S128x2048 .f32 := sent D b s 3 (owner b k)

/-- What is handed round from hop 3 on is the chunk's sum. -/
theorem sent_total (b : Bool) (s : Fin 4) (i : ℕ) : ∀ c, sent D b s (i + 3) c = total D b (chunk b c (i + 3)) s := by
  induction i with
  | zero => intro c; unfold total; rw [Nat.zero_add, owner_chunk]
  | succ i ih =>
    intro c
    rw [show i + 1 + 3 = (i + 3) + 1 by omega, sent_pass D b s (i + 3) (by omega) c, ih, chunk_frm]

theorem lastChunks (b : Bool) : (Finset.univ : Finset (Fin 4)) = [chunk b c 3, chunk b c 4, chunk b c 5, chunk b c 6].toFinset := by
  revert b c; decide +kernel
theorem lastChunks_nodup (b : Bool) : [chunk b c 3, chunk b c 4, chunk b c 5, chunk b c 6].Nodup := by
  revert b c; decide +kernel

/-- The four chunks of a lane, each at its sum. -/
theorem lane_total (b : Bool) (s : Fin 4) :
    iprop(blk c b s 3 (sent D b s 3 c) ∗ blk c b s 4 (sent D b s 4 c) ∗ blk c b s 5 (sent D b s 5 c) ∗ blk c b s 6 (sent D b s 6 c))
      ⊢ (bigSep Finset.univ fun k : Fin 4 => own c (oblk b k s) (total D b k s) : sProp 𝕄) := by
  rw [bigSep_eq_bigSepL_of_eq _ (lastChunks c b) (lastChunks_nodup c b), sent_total D b s 0 c, sent_total D b s 1 c, sent_total D b s 2 c, sent_total D b s 3 c]
  exact same rfl

theorem sentAt_end (b : Bool) (s : Fin 4) :
    (sentAt c b s 6 : sProp 𝕄) ⊢ iprop(atPos ER (cell c (.send b s 0)) 3 ∅ 0 ∗ atPos ER (cell c (.send b s 1)) 3 ∅ 0) := by
  unfold sentAt at'
  iintro ⟨⟨A, -⟩, B, -⟩
  isplitl [A]; · iexact A
  iexact B
theorem landAt_end (b : Bool) (s : Fin 4) :
    (landAt c b s 6 : sProp 𝕄) ⊢ iprop(atPos ER (cell c (.recv b s 0)) 3 ∅ 0 ∗ atPos ER (cell c (.recv b s 1)) 3 ∅ 0) := by
  unfold landAt at'
  iintro ⟨⟨A, -⟩, B, -⟩
  isplitl [A]; · iexact A
  iexact B
theorem credAt_end (b : Bool) (s : Fin 4) : (credAt c b s 4 : sProp 𝕄) ⊢ atPos ER (cell c (.cred b s)) 1 ∅ 0 := by
  unfold credAt
  rw [if_neg (by decide)]

/-- A lane done: its cells past their last rounds, its chunks summed, its landing slots free. -/
theorem done_parts (b : Bool) (s : Fin 4) :
    done D c b s ⊢ (iprop(laneSum (fun k => atPos ER (cell c k) (ends k) ∅ 0) b s
      ∗ (bigSep Finset.univ fun k : Fin 4 => own c (oblk b k s) (total D b k s))
      ∗ slotU (F := F) c b s 0 ∗ slotU (F := F) c b s 1) : sProp 𝕄) := by
  unfold done toks laneSum
  iintro ⟨⟨-, S, -, R, -, -, -, C⟩, B3, B4, B5, B6, U1, U0⟩
  ihave S := (sentAt_end c b s) $$ S
  icases S with ⟨S0, S1⟩
  ihave R := (landAt_end c b s) $$ R
  icases R with ⟨R0, R1⟩
  ihave C := (credAt_end c b s) $$ C
  ihave B := (lane_total D c b s) $$ [B3 B4 B5 B6]
  · iframe
  isplitl [S0 S1 R0 R1 C]
  · isplitl [S0]; · iexact S0
    isplitl [S1]; · iexact S1
    isplitl [R0]; · iexact R0
    isplitl [R1]; · iexact R1
    iexact C
  isplitl [B]; · iexact B
  isplitl [U0] <;> iassumption

/-! ## The output as one array -/

/-- The place of an element of the output in its lane. -/
def inLane (i : S4096x2048.Idx) : S128x2048.Idx := fun a => match a with
  | ⟨0, _⟩ => ⟨(i 0).val % 128, Nat.mod_lt _ (by decide)⟩
  | ⟨1, _⟩ => ⟨(i 1).val, (i 1).isLt⟩
/-- Its direction, chunk and lane. -/
def dirOf (i : S4096x2048.Idx) : Bool := decide ((i 0).val / 2048 = 1)
def chunkOf (i : S4096x2048.Idx) : Fin 4 := ⟨(i 0).val / 512 % 4, Nat.mod_lt _ (by decide)⟩
def laneIx (i : S4096x2048.Idx) : Fin 4 := ⟨(i 0).val / 128 % 4, Nat.mod_lt _ (by decide)⟩

/-- The array every device ends with. -/
def result : Vec F S4096x2048 .f32 := fun i => total D (dirOf i) (chunkOf i) (laneIx i) (inLane i)

theorem emb_row (b : Bool) (k s : Fin 4) (j : S128x2048.Idx) : ((laneRect b k s).emb j 0).val = row b k s + (j 0).val := by
  show row b k s + 1 * (j 0).val = _; omega
theorem emb_col (b : Bool) (k s : Fin 4) (j : S128x2048.Idx) : ((laneRect b k s).emb j 1).val = (j 1).val := by
  show 0 + 1 * (j 1).val = _; omega

theorem emb_parts (b : Bool) (k s : Fin 4) (j : S128x2048.Idx) :
    dirOf ((laneRect b k s).emb j) = b ∧ chunkOf ((laneRect b k s).emb j) = k ∧ laneIx ((laneRect b k s).emb j) = s ∧ inLane ((laneRect b k s).emb j) = j := by
  have h := emb_row b k s j
  have hj : (j 0).val < 128 := (j 0).isLt
  have hk := k.isLt
  have hs := s.isLt
  unfold row at h
  refine ⟨?_, Fin.ext ?_, Fin.ext ?_, funext fun a => Fin.ext ?_⟩
  · unfold dirOf
    cases b <;> simp only [Bool.false_eq_true, if_false, if_true] at h
    · exact decide_eq_false (by omega)
    · exact decide_eq_true (by omega)
  · show ((laneRect b k s).emb j 0).val / 512 % 4 = k.val
    cases b <;> simp only [Bool.false_eq_true, if_false, if_true] at h <;> omega
  · show ((laneRect b k s).emb j 0).val / 128 % 4 = s.val
    cases b <;> simp only [Bool.false_eq_true, if_false, if_true] at h <;> omega
  · match a with
    | ⟨0, _⟩ =>
      show ((laneRect b k s).emb j 0).val % 128 = (j 0).val
      cases b <;> simp only [Bool.false_eq_true, if_false, if_true] at h <;> omega
    | ⟨1, _⟩ => exact emb_col b k s j

theorem result_emb (b : Bool) (k s : Fin 4) : (fun j => result D ((laneRect b k s).emb j)) = total D b k s := by
  funext j
  obtain ⟨h1, h2, h3, h4⟩ := emb_parts b k s j
  unfold result
  rw [h1, h2, h3, h4]

/-- All lanes at their sums are the output at the result. -/
theorem out_join :
    iprop((bigSep Finset.univ fun s : Fin 4 => bigSep Finset.univ fun k : Fin 4 => own c (oblk false k s) (total D false k s))
        ∗ (bigSep Finset.univ fun s : Fin 4 => bigSep Finset.univ fun k : Fin 4 => own c (oblk true k s) (total D true k s)))
      ⊢ (own c oM (result D) : sProp 𝕄) := by
  refine via ?_ (lanes_out c (result D))
  have h2 (Ψ : Bool → sProp 𝕄) : bigSep Finset.univ Ψ = iprop(Ψ false ∗ Ψ true) := bigSep_univ_eq_bigSepL [false, true] (by decide) (by decide) Ψ
  rw [bigSep_univ_prod, h2]
  rw [lanesFirst fun k s => (own c (oblk false k s) (total D false k s) : sProp 𝕄), lanesFirst fun k s => (own c (oblk true k s) (total D true k s) : sProp 𝕄)]
  have e (b : Bool) : (bigSep Finset.univ fun x : Fin 4 × Fin 4 => own c (oblk b x.1 x.2) (total D b x.1 x.2) : sProp 𝕄)
      = bigSep Finset.univ fun x : Fin 4 × Fin 4 => own c (oblk b x.1 x.2) (fun j => result D ((laneRect b x.1 x.2).emb j)) :=
    bigSep_congr fun x _ => congrArg (own c (oblk b x.1 x.2)) (result_emb D b x.1 x.2).symm
  rw [e, e]

end

/-! ## The landing buffers -/

section
variable (c : Dev nD)

theorem anything {sp : Space} {sh : Shape} {e : EltTy} (m : Memref sig .tc sp sh e) :
    (iprop(∃ X, own (F := F) c m X) : sProp 𝕄) = iprop(∃ f : Buf (Elt F) (m.view.loc (c : Thread nD τ)), m.view.loc (c : Thread nD τ) ↦[m.view.set]{fullShare} f) := by
  unfold own owns
  refine BI.Entails.antisymm (show _ ⊢ (_ : sProp 𝕄) from ?_) (show _ ⊢ (_ : sProp 𝕄) from ?_)
  · iintro ⟨%X, %f, %h, H⟩
    iexists f; iexact H
  · iintro ⟨%f, H⟩
    iexists _, f
    isplitr; · ipureintro; rfl
    iexact H

abbrev slotRect (q : Fin 2) : Rect S2x128x2048 := Rect.unit (s := S2x128x2048) ![q.val, 0, 0] S1x128x2048.size (slot_inb q)

theorem mem_slot (q : Fin 2) (i : S2x128x2048.Idx) : i ∈ (slotRect q).set ↔ (i 0).val = q.val := by
  rw [Rect.mem_set_unit]
  constructor
  · intro h
    have h0 : q.val ≤ (i 0).val ∧ (i 0).val < q.val + 1 := h 0
    omega
  · intro h a
    match a with
    | ⟨0, _⟩ => show q.val ≤ (i 0).val ∧ (i 0).val < q.val + 1; omega
    | ⟨1, _⟩ => exact ⟨Nat.zero_le _, by show (i 1).val < 0 + 128; have h : (i 1).val < 128 := (i 1).isLt; omega⟩
    | ⟨2, _⟩ => exact ⟨Nat.zero_le _, by show (i 2).val < 0 + 2048; have h : (i 2).val < 2048 := (i 2).isLt; omega⟩

theorem slot_disj : Disjoint (slotRect 0).set (slotRect 1).set := by
  rw [Finset.disjoint_left]
  intro i h h'
  have h0 : (i 0).val = 0 := (mem_slot 0 i).mp h
  have h1 : (i 0).val = 1 := (mem_slot 1 i).mp h'
  omega
theorem slot_cover : (Finset.univ : Finset S2x128x2048.Idx) = (slotRect 0).set ∪ (slotRect 1).set := by
  ext i
  simp only [Finset.mem_univ, Finset.mem_union, true_iff]
  have h : (i 0).val < 2 := (i 0).isLt
  rw [mem_slot, mem_slot]
  show (i 0).val = 0 ∨ (i 0).val = 1
  omega

theorem rslot_set (b : Bool) (s : Fin 4) (q : Fin 2) : (rslot b s q).view.set = (rM b s).view.setOn (slotRect q).set :=
  (View.set_reshape _ _).trans (View.set_slice _ _)

theorem slots_set (b : Bool) (s : Fin 4) : (rM b s).view.set = (rslot b s 0).view.set ∪ (rslot b s 1).view.set := by
  rw [rslot_set, rslot_set]
  have h : (rM b s).view.set = (rM b s).view.setOn Finset.univ := rfl
  rw [h, slot_cover]
  exact Finset.map_union _ _
theorem slots_disj (b : Bool) (s : Fin 4) : Disjoint (rslot b s 0).view.set (rslot b s 1).view.set := by
  rw [rslot_set, rslot_set]
  exact (Finset.disjoint_map _).mpr slot_disj

/-- A landing buffer is its two slots. -/
theorem slots_split (b : Bool) (s : Fin 4) :
    (iprop(∃ X, own (F := F) c (rM b s) X) : sProp 𝕄) ⊢ iprop(slotU (F := F) c b s 0 ∗ slotU (F := F) c b s 1) := by
  unfold slotU
  rw [anything, anything, anything, slots_set]
  iintro ⟨%f, H⟩
  ihave H := (pointsTo_union (slots_disj b s)).1 $$ H
  icases H with ⟨H0, H1⟩
  isplitl [H0]
  · iexists f; iexact H0
  · iexists f; iexact H1
theorem slots_join (b : Bool) (s : Fin 4) :
    iprop(slotU (F := F) c b s 0 ∗ slotU (F := F) c b s 1) ⊢ (iprop(∃ X, own (F := F) c (rM b s) X) : sProp 𝕄) := by
  unfold slotU
  rw [anything, anything, anything, slots_set]
  iintro ⟨⟨%f, H0⟩, %g, H1⟩
  ihave H := (pointsTo_join (ℓ := (rM b s).view.loc (c : Thread nD τ)) (slots_disj b s)) $$ [H0 H1]
  · isplitl [H0] <;> iassumption
  iexists _
  iexact H

end

end Cert.RingProof

end
-- ==== Proof.Deal.lean ====
/-
# What the launch deals

The credits of the debts, the rights to pay and the rights to free and take the landing places, sorted lane by lane and
handed round the ring to the devices that use them.
-/
module

public import proofs.«01_k».proof.Proof.Finish

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Sums over products -/

section Sums
variable {M : Type _} [URA M]

theorem overProduct {A B : Type} [DecidableEq A] [DecidableEq B] (S : Finset A) (T : Finset B) (Φ : A × B → sProp M) :
    bigSep (S ×ˢ T) Φ = bigSep S fun a => bigSep T fun b => Φ (a, b) := by
  rw [Finset.product_eq_biUnion, bigSep_biUnion_eq S (fun a => T.image fun b => (a, b)) Φ]
  · exact bigSep_congr fun a _ => bigSep_image_of_injOn (fun x _ y _ h => congrArg Prod.snd h) Φ
  · intro a _ a' _ hne
    refine Finset.disjoint_left.mpr fun x hx hx' => hne ?_
    obtain ⟨b, _, rfl⟩ := Finset.mem_image.mp hx
    obtain ⟨b', _, h⟩ := Finset.mem_image.mp hx'
    exact (congrArg Prod.fst h).symm

theorem overBool (Φ : Bool → sProp M) : bigSep Finset.univ Φ = iprop(Φ false ∗ Φ true) :=
  bigSep_univ_eq_bigSepL [false, true] (by decide) (by decide) Φ

theorem six (Φ : ℕ → sProp M) : bigSep (Finset.Ico 0 6) Φ = iprop(Φ 0 ∗ Φ 1 ∗ Φ 2 ∗ Φ 3 ∗ Φ 4 ∗ Φ 5) :=
  bigSep_eq_bigSepL_of_eq [0, 1, 2, 3, 4, 5] (by decide) (by decide) Φ
theorem fourN (Φ : ℕ → sProp M) : bigSep (Finset.Ico 0 4) Φ = iprop(Φ 0 ∗ Φ 1 ∗ Φ 2 ∗ Φ 3) :=
  bigSep_eq_bigSepL_of_eq [0, 1, 2, 3] (by decide) (by decide) Φ
theorem two {I : Type} [DecidableEq I] (a b : I) (h : a ≠ b) (Φ : I → sProp M) : bigSep {a, b} Φ = iprop(Φ a ∗ Φ b) := by
  rw [bigSep_insert (by rw [Finset.mem_singleton]; exact h), bigSep_singleton]; rfl

/-- A family over the ring and the lanes, with each of five parts moved round the ring. -/
theorem moved (e₁ e₂ : Dev nD ≃ Dev nD) (A B C R W : Dev nD → Fin 4 → sProp M) :
    (bigSep Finset.univ fun c => bigSep Finset.univ fun s => iprop(A c s ∗ B c s ∗ C c s ∗ R c s ∗ W c s))
      = bigSep Finset.univ fun c => bigSep Finset.univ fun s => iprop(A c s ∗ B (e₁ c) s ∗ C (e₂ c) s ∗ R c s ∗ W (e₁ c) s) := by
  have split (A B C R W : Dev nD → Fin 4 → sProp M) :
      (bigSep Finset.univ fun c => bigSep Finset.univ fun s => iprop(A c s ∗ B c s ∗ C c s ∗ R c s ∗ W c s))
        = iprop((bigSep Finset.univ fun c => bigSep Finset.univ fun s => A c s)
          ∗ (bigSep Finset.univ fun c => bigSep Finset.univ fun s => B c s)
          ∗ (bigSep Finset.univ fun c => bigSep Finset.univ fun s => C c s)
          ∗ (bigSep Finset.univ fun c => bigSep Finset.univ fun s => R c s)
          ∗ (bigSep Finset.univ fun c => bigSep Finset.univ fun s => W c s)) := by
    simp only [bigSep_sep']
  rw [split, split (fun c s => A c s) (fun c s => B (e₁ c) s) (fun c s => C (e₂ c) s) (fun c s => R c s) (fun c s => W (e₁ c) s),
    bigSep_univ_equiv e₁ (fun c => bigSep Finset.univ fun s => B c s), bigSep_univ_equiv e₂ (fun c => bigSep Finset.univ fun s => C c s),
    bigSep_univ_equiv e₁ (fun c => bigSep Finset.univ fun s => W c s)]

end Sums

/-! ## The credits -/

/-- The payments. -/
def evSet : Finset Ev := evs.toFinset

/-- The lane a payment belongs to. -/
def evLane : Ev → Option (Bool × Fin 4)
  | .bar _ => none
  | .start _ s b => some (b, s)
  | .cred _ s b => some (b, s)

theorem noLane_evs : (evSet.filter fun e => evLane e = none) = {Ev.bar false, Ev.bar true} := by decide +kernel
theorem lane_evs (b : Bool) (s : Fin 4) : (evSet.filter fun e => evLane e = some (b, s))
    = ([.start 0 s b, .start 1 s b, .start 2 s b, .start 3 s b, .start 4 s b, .start 5 s b,
        .cred 0 s b, .cred 1 s b, .cred 2 s b, .cred 3 s b] : List Ev).toFinset := by
  revert b s; decide +kernel
theorem lane_evs_nodup (b : Bool) (s : Fin 4) : ([.start 0 s b, .start 1 s b, .start 2 s b, .start 3 s b, .start 4 s b, .start 5 s b,
        .cred 0 s b, .cred 1 s b, .cred 2 s b, .cred 3 s b] : List Ev).Nodup := by
  revert b s; decide

theorem Ow_sum (c : Dev nD) : Ow c 0 = ∑ e ∈ evSet, tal c e := by
  unfold Ow evSet
  rw [List.drop_zero, List.sum_toFinset _ evs_nodup]

section
variable (c : Dev nD)

omit [FloatOps F] in
/-- What a device is owed by a payment: the payment made to it. -/
theorem cred_ev (e : Ev) :
    (Pipeline.launchCred (fun d => tal d e) c : sProp 𝕄) ⊢ cred (tallyAt (cell c e.cell) (lev e) e.amt) := by
  cases e with
  | bar b => exact Pipeline.launchCred_tallyAt (csem .bar) (frm b) (tgt b) (frm_tgt b) (tgt_frm b) _ _ c
  | start h s b => exact Pipeline.launchCred_tallyAt (csem (.recv b s (par h))) (tgt b) (frm b) (tgt_frm b) (frm_tgt b) _ _ c
  | cred j s b => exact Pipeline.launchCred_tallyAt (csem (.cred b s)) (frm b) (tgt b) (frm_tgt b) (tgt_frm b) _ _ c

/-- A lane's credits, to be awaited: for the landings and for the neighbour's credits. -/
def owedLane (b : Bool) (s : Fin 4) : sProp 𝕄 :=
  iprop(tLand c b s 0 ∗ bigSep (Finset.Ico 0 4) fun j => cred (tallyAt (cell c (.cred b s)) (lev (.cred j s b)) 1))

/-- Every credit of a device. -/
def owedAll : sProp 𝕄 :=
  iprop((cred (tallyAt (cell c .bar) 1 1) ∗ cred (tallyAt (cell c .bar) 2 1))
    ∗ (bigSep Finset.univ fun s : Fin 4 => owedLane (F := F) c false s) ∗ (bigSep Finset.univ fun s : Fin 4 => owedLane (F := F) c true s))

omit [FloatOps F] in
theorem owedLane_eq (b : Bool) (s : Fin 4) :
    (bigSep (evSet.filter fun e => evLane e = some (b, s)) fun e => (cred (tallyAt (cell c e.cell) (lev e) e.amt) : sProp 𝕄))
      ⊢ owedLane c b s := by
  have h (Φ : Ev → sProp 𝕄) : bigSep (evSet.filter fun e => evLane e = some (b, s)) Φ
      = iprop(Φ (.start 0 s b) ∗ Φ (.start 1 s b) ∗ Φ (.start 2 s b) ∗ Φ (.start 3 s b) ∗ Φ (.start 4 s b) ∗ Φ (.start 5 s b)
        ∗ Φ (.cred 0 s b) ∗ Φ (.cred 1 s b) ∗ Φ (.cred 2 s b) ∗ Φ (.cred 3 s b)) :=
    bigSep_eq_bigSepL_of_eq _ (lane_evs b s) (lane_evs_nodup b s) Φ
  rw [h]
  unfold owedLane tLand
  rw [six, fourN]
  iintro ⟨H0, H1, H2, H3, H4, H5, C0, C1, C2, C3⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [C0]; · iexact C0
  isplitl [C1]; · iexact C1
  isplitl [C2]; · iexact C2
  iexact C3

omit [FloatOps F] in
/-- The launch hands a device the credits of every payment made to it. -/
theorem owed_all : (Pipeline.launchCred (fun d => Ow d 0) c : sProp 𝕄) ⊢ owedAll c := by
  rw [show (fun d => Ow d 0) = fun d => ∑ e ∈ evSet, tal d e from funext Ow_sum, Pipeline.launchCred_sum]
  refine (bigSep_mono fun e _ => cred_ev c e).trans ?_
  rw [byLane evSet evLane, noLane_evs, two _ _ (by decide)]
  have h1 : lev (.bar false) = 1 := by decide
  have h2 : lev (.bar true) = 2 := by decide
  rw [h1, h2]
  exact sep_mono (BI.Entails.refl _) (sep_mono (bigSep_mono fun s _ => owedLane_eq c false s) (bigSep_mono fun s _ => owedLane_eq c true s))

end

/-! ## The rights to pay -/

/-- The payments a cell expects: round and duty. -/
def toksOf : Cell → Finset (ℕ × ℕ)
  | .bar => {(0, 0), (0, 1)}
  | .send _ _ _ => {(0, 0), (1, 0), (2, 0)}
  | .recv _ _ _ => {(0, 0), (1, 0), (2, 0)}
  | .cred _ _ => {(0, 0), (0, 1), (0, 2), (0, 3)}
  | .cp _ => {(0, 0)}

def tokAt (x : Dev nD × Cell) : ℕ × ℕ ↪ GSem nD τ sig × ℕ × ℕ := ⟨fun p => (cell x.1 x.2, p), fun _ _ h => congrArg Prod.snd h⟩

def ringToks : Finset (GSem nD τ sig × ℕ × ℕ) := Finset.univ.biUnion fun x : Dev nD × Cell => (toksOf x.2).map (tokAt x)

theorem kcell_inj : Function.Injective fun x : Dev nD × Cell => cell x.1 x.2 := fun x y h =>
  Prod.ext (cell_inj h).1 (cell_inj h).2
def ringCells : Finset (GSem nD τ sig) := Finset.univ.map ⟨fun x : Dev nD × Cell => cell x.1 x.2, kcell_inj⟩

omit [FloatOps F] in
theorem over_cells (Φ : GSem nD τ sig → sProp 𝕄) :
    bigSep ringCells Φ = bigSep Finset.univ fun c : Dev nD => bigSep Finset.univ fun k : Cell => Φ (cell c k) := by
  unfold ringCells; rw [bigSep_map, bigSep_univ_prod]; rfl

/-- The rights to pay at a cell. -/
def cellToks (c : Dev nD) (k : Cell) : sProp 𝕄 := bigSep (toksOf k) fun p => dutyTok ER (cell c k) p.1 p.2

omit [FloatOps F] in
theorem over_toks :
    bigSep ringToks (fun x => (dutyTok ER x.1 x.2.1 x.2.2 : sProp 𝕄))
      = bigSep Finset.univ fun c : Dev nD => bigSep Finset.univ fun k : Cell => cellToks c k := by
  unfold ringToks
  rw [bigSep_biUnion_eq Finset.univ (fun x : Dev nD × Cell => (toksOf x.2).map (tokAt x))]
  · rw [bigSep_univ_prod]
    exact bigSep_congr fun c _ => bigSep_congr fun k _ => bigSep_map _
  · intro x _ y _ hne
    refine Finset.disjoint_left.mpr fun z hz hz' => hne ?_
    obtain ⟨p, _, rfl⟩ := Finset.mem_map.mp hz
    obtain ⟨q, _, h⟩ := Finset.mem_map.mp hz'
    exact (kcell_inj (congrArg Prod.fst h)).symm

section
variable (c : Dev nD) (b : Bool) (s : Fin 4)

/-- A lane's rights to report its transfers read, -/
def sendToks : sProp 𝕄 := bigSep (Finset.Ico 0 6) fun h => dutyTok ER (cell c (.send b s (par h))) (h / 2) 0
/-- landed, -/
def recvToks : sProp 𝕄 := bigSep (Finset.Ico 0 6) fun h => dutyTok ER (cell c (.recv b s (par h))) (h / 2) 0
/-- and to give it credits; -/
def credToks : sProp 𝕄 := bigSep (Finset.Ico 0 4) fun j => dutyTok ER (cell c (.cred b s)) 0 j
/-- its rights to free its places, -/
def freers : sProp 𝕄 := bigSep (Finset.Ico 0 4) fun j => readerAt ES ((c, b, s, j) : Key) 0
/-- and to take them. -/
def takers : sProp 𝕄 := bigSep (Finset.Ico 0 4) fun j => writeTok ES ((c, b, s, j) : Key) 1

omit [FloatOps F] in
theorem three (k : Cell) :
    (bigSep {(0, 0), (1, 0), (2, 0)} fun p : ℕ × ℕ => (dutyTok ER (cell c k) p.1 p.2 : sProp 𝕄))
      = iprop(dutyTok ER (cell c k) 0 0 ∗ dutyTok ER (cell c k) 1 0 ∗ dutyTok ER (cell c k) 2 0) :=
  bigSep_eq_bigSepL_of_eq [(0, 0), (1, 0), (2, 0)] (by decide) (by decide) _
omit [FloatOps F] in
theorem fourD (k : Cell) :
    (bigSep {(0, 0), (0, 1), (0, 2), (0, 3)} fun p : ℕ × ℕ => (dutyTok ER (cell c k) p.1 p.2 : sProp 𝕄))
      = iprop(dutyTok ER (cell c k) 0 0 ∗ dutyTok ER (cell c k) 0 1 ∗ dutyTok ER (cell c k) 0 2 ∗ dutyTok ER (cell c k) 0 3) :=
  bigSep_eq_bigSepL_of_eq [(0, 0), (0, 1), (0, 2), (0, 3)] (by decide) (by decide) _

omit [FloatOps F] in
theorem lane_toks : laneSum (cellToks (F := F) c) b s ⊢ iprop(sendToks c b s ∗ recvToks c b s ∗ credToks c b s) := by
  unfold laneSum cellToks toksOf sendToks recvToks credToks
  dsimp only
  rw [three, three, three, three, fourD, six, six, fourN]
  iintro ⟨⟨S0, S2, S4⟩, ⟨S1, S3, S5⟩, ⟨R0, R2, R4⟩, ⟨R1, R3, R5⟩, C0, C1, C2, C3⟩
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [R0 R1 R2 R3 R4 R5]
  · isplitl [R0]; · iexact R0
    isplitl [R1]; · iexact R1
    isplitl [R2]; · iexact R2
    isplitl [R3]; · iexact R3
    isplitl [R4]; · iexact R4
    iexact R5
  isplitl [C0]; · iexact C0
  isplitl [C1]; · iexact C1
  isplitl [C2]; · iexact C2
  iexact C3

/-- What a lane pays and takes with, once handed round. -/
def dealt : sProp 𝕄 := iprop(tStart c b s 0 ∗ tGive c b s 0 ∗ takers (F := F) (tgt b c) b s)

omit [FloatOps F] in
theorem dealt_intro :
    iprop(sendToks (F := F) c b s ∗ recvToks (tgt b c) b s ∗ credToks (frm b c) b s ∗ freers c b s ∗ takers (tgt b c) b s) ⊢ dealt c b s := by
  unfold dealt tStart tGive sendToks recvToks credToks freers
  rw [bigSep_sep', bigSep_sep']
  iintro ⟨H1, H2, H3, H4, H5⟩
  iframe

end

omit [FloatOps F] in
/-- The lanes' rights handed round the ring. -/
theorem around (b : Bool) :
    (bigSep Finset.univ fun c : Dev nD => bigSep Finset.univ fun s : Fin 4 =>
        iprop(sendToks (F := F) c b s ∗ recvToks c b s ∗ credToks c b s ∗ freers c b s ∗ takers c b s))
      ⊢ bigSep Finset.univ fun c : Dev nD => bigSep Finset.univ fun s : Fin 4 => dealt c b s := by
  rw [moved (tgtEquiv b) (frmEquiv b)]
  exact bigSep_mono fun c _ => bigSep_mono fun s _ => dealt_intro c b s

omit [FloatOps F] in
/-- The places' rights, device by device and lane by lane. -/
theorem over_keys (Φ : Key → sProp 𝕄) :
    bigSep keys Φ = bigSep Finset.univ fun c : Dev nD =>
      iprop((bigSep Finset.univ fun s : Fin 4 => bigSep (Finset.Ico 0 4) fun j => Φ (c, false, s, j))
        ∗ (bigSep Finset.univ fun s : Fin 4 => bigSep (Finset.Ico 0 4) fun j => Φ (c, true, s, j))) := by
  unfold keys
  rw [overProduct]
  refine bigSep_congr fun c _ => ?_
  rw [overProduct, overBool, overProduct, overProduct, Finset.range_eq_Ico]

end Cert.RingProof

end
-- ==== Proof.Entry.lean ====
/-
# From the launch to the body

What the launch hands each device, the invariants made for all devices at once, and how a device's share of it is what the
body starts with.
-/
module

public import proofs.«01_k».proof.Proof.Deal

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

section
variable (c : Dev nD)

/-- Every cell of a device at its start. -/
def positions : sProp 𝕄 := bigSep Finset.univ fun k : Cell => atPos ER (cell c k) 0 ∅ 0

/-- What a device alone holds: its cells' positions and what it pays and takes with. -/
def linear : sProp 𝕄 :=
  iprop(positions (F := F) c ∗ (dutyTok ER (cell c (.cp 0)) 0 0 ∗ dutyTok ER (cell c (.cp 1)) 0 0)
    ∗ (dutyTok ER (cell (frm false c) .bar) 0 0 ∗ dutyTok ER (cell (frm true c) .bar) 0 1)
    ∗ (bigSep Finset.univ fun s : Fin 4 => dealt (F := F) c false s) ∗ (bigSep Finset.univ fun s : Fin 4 => dealt (F := F) c true s))

/-- The landing buffers of a direction, whatever they hold. -/
def landing (b : Bool) : sProp 𝕄 := bigSep Finset.univ fun s : Fin 4 => iprop(∃ X, own (F := F) c (rM b s) X)

end

/-! ## Sorting what the launch deals -/

omit [FloatOps F] in
theorem lanes_dealt (b : Bool) :
    iprop((bigSep Finset.univ fun c : Dev nD => bigSep Finset.univ fun s : Fin 4 => laneSum (cellToks (F := F) c) b s)
        ∗ (bigSep Finset.univ fun c : Dev nD => bigSep Finset.univ fun s : Fin 4 => freers c b s)
        ∗ (bigSep Finset.univ fun c : Dev nD => bigSep Finset.univ fun s : Fin 4 => takers c b s))
      ⊢ bigSep Finset.univ fun c : Dev nD => bigSep Finset.univ fun s : Fin 4 => dealt (F := F) c b s := by
  refine BI.Entails.trans ?_ (around b)
  rw [← bigSep_sep', ← bigSep_sep']
  refine bigSep_mono fun c _ => ?_
  rw [← bigSep_sep', ← bigSep_sep']
  refine bigSep_mono fun s _ => (?_ : iprop(laneSum (cellToks (F := F) c) b s ∗ freers c b s ∗ takers c b s)
    ⊢ iprop(sendToks (F := F) c b s ∗ recvToks c b s ∗ credToks c b s ∗ freers c b s ∗ takers c b s))
  iintro ⟨H, Hf, Ht⟩
  ihave H := (lane_toks c b s) $$ H
  icases H with ⟨H1, H2, H3⟩
  iframe

omit [FloatOps F] in
theorem bar_toks (c : Dev nD) : (cellToks (F := F) c .bar : sProp 𝕄) = iprop(dutyTok ER (cell c .bar) 0 0 ∗ dutyTok ER (cell c .bar) 0 1) := by
  unfold cellToks toksOf
  exact two (0, 0) (0, 1) (by decide) _
omit [FloatOps F] in
theorem cp_toks (c : Dev nD) (i : Fin 2) : (cellToks (F := F) c (.cp i) : sProp 𝕄) = dutyTok ER (cell c (.cp i)) 0 0 := by
  unfold cellToks toksOf
  exact bigSep_singleton

omit [FloatOps F] in
/-- The rights to pay and the places' rights, handed to the devices that use them. -/
theorem deal_all :
    iprop((bigSep Finset.univ fun c : Dev nD => positions (F := F) c)
        ∗ (bigSep Finset.univ fun c : Dev nD => bigSep Finset.univ fun k : Cell => cellToks c k)
        ∗ (bigSep keys fun k => readerAt ES k 0) ∗ (bigSep keys fun k => writeTok ES k 1))
      ⊢ bigSep Finset.univ fun c : Dev nD => linear (F := F) c := by
  have hc : (bigSep Finset.univ fun c : Dev nD => bigSep Finset.univ fun k : Cell => cellToks (F := F) c k)
      = iprop(((bigSep Finset.univ fun c : Dev nD => dutyTok ER (cell c .bar) 0 0) ∗ (bigSep Finset.univ fun c : Dev nD => dutyTok ER (cell c .bar) 0 1))
        ∗ ((bigSep Finset.univ fun c : Dev nD => dutyTok ER (cell c (.cp 0)) 0 0) ∗ (bigSep Finset.univ fun c : Dev nD => dutyTok ER (cell c (.cp 1)) 0 0))
        ∗ (bigSep Finset.univ fun c : Dev nD => bigSep Finset.univ fun s : Fin 4 => laneSum (cellToks (F := F) c) false s)
        ∗ (bigSep Finset.univ fun c : Dev nD => bigSep Finset.univ fun s : Fin 4 => laneSum (cellToks (F := F) c) true s)) := by
    rw [bigSep_congr fun (c : Dev nD) _ => cells_eq (cellToks (F := F) c)]
    simp only [bar_toks, cp_toks, bigSep_sep']
    refine BI.Entails.antisymm (show _ ⊢ (_ : sProp 𝕄) from ?_) (show _ ⊢ (_ : sProp 𝕄) from ?_)
    · iintro ⟨⟨H1, H2, H3⟩, H4⟩; iframe
    · iintro ⟨H1, ⟨H2, H3⟩, H4⟩; iframe
  have hk (Φ : Key → sProp 𝕄) : bigSep keys Φ
      = iprop((bigSep Finset.univ fun c : Dev nD => bigSep Finset.univ fun s : Fin 4 => bigSep (Finset.Ico 0 4) fun j => Φ (c, false, s, j))
        ∗ (bigSep Finset.univ fun c : Dev nD => bigSep Finset.univ fun s : Fin 4 => bigSep (Finset.Ico 0 4) fun j => Φ (c, true, s, j))) := by
    rw [over_keys, bigSep_sep']
  rw [hc, hk, hk]
  unfold linear
  simp only [bigSep_sep']
  rw [bigSep_univ_equiv (frmEquiv false) (fun c : Dev nD => (dutyTok ER (cell c .bar) 0 0 : sProp 𝕄)),
    bigSep_univ_equiv (frmEquiv true) (fun c : Dev nD => (dutyTok ER (cell c .bar) 0 1 : sProp 𝕄))]
  iintro ⟨Hp, ⟨⟨B0, B1⟩, ⟨C0, C1⟩, Lf, Lt⟩, ⟨Rf, Rt⟩, Wf, Wt⟩
  ihave Lf := (lanes_dealt (F := F) false) $$ [Lf Rf Wf]
  · isplitl [Lf]; · iexact Lf
    isplitl [Rf]; · iexact Rf
    iexact Wf
  ihave Lt := (lanes_dealt (F := F) true) $$ [Lt Rt Wt]
  · isplitl [Lt]; · iexact Lt
    isplitl [Rt]; · iexact Rt
    iexact Wt
  isplitl [Hp]; · iexact Hp
  isplitl [C0 C1]
  · isplitl [C0]; · iexact C0
    iexact C1
  isplitl [B0 B1]
  · isplitl [B0]; · iexact B0
    iexact B1
  isplitl [Lf]; · iexact Lf
  iexact Lt

/-! ## What every device shares -/

/-- The places' invariants, at some names, and that every cell has reached its first round. -/
def shared : sProp 𝕄 :=
  iprop((∃ Ks : Key → ℕ, bigSep keys fun k => slotInv ES (Ks k) k (slotRes (F := F) k))
    ∗ bigSep Finset.univ fun x : Dev nD × Cell => reached ER (cell x.1 x.2) 0)

omit [FloatOps F] in
instance shared_persistent : BI.Persistent (shared (F := F)) := by unfold shared; infer_instance

section
variable (D : Data F)

/-- What the launch deals a device, -/
def G (c : Dev nD) : sProp 𝕄 :=
  iprop((bigSep Finset.univ fun k : Cell => roundState ER (Rd D) (cell c k) 0) ∗ shared (F := F) ∗ linear (F := F) c)
/-- and what is made of it with the semaphores at hand. -/
def G' (c : Dev nD) : sProp 𝕄 :=
  iprop((∃ K : Dev nD × Cell → ℕ, bigSep Finset.univ fun x : Dev nD × Cell => cellInv ER (Rd D) (K x) (cell x.1 x.2))
    ∗ shared (F := F) ∗ linear (F := F) c)

theorem fund_all :
    iprop(BI.own (ER (initOf ringCells ringToks)) ∗ BI.own (ES (initSlots keys 1))) ⊢ (|={Set.univ}=> bigSep Finset.univ (G D) : sProp 𝕄) := by
  have hw : (bigSep (keys ×ˢ Finset.range 1) fun x => writeTok ES x.1 (x.2 + 1) : sProp 𝕄) = bigSep keys fun k => writeTok ES k 1 := by
    rw [overProduct]
    exact bigSep_congr fun k _ => by rw [Finset.range_one, bigSep_singleton]
  have hr : (bigSep Finset.univ fun c : Dev nD => bigSep Finset.univ fun k : Cell => (reached ER (cell c k) 0 : sProp 𝕄))
      = bigSep Finset.univ fun x : Dev nD × Cell => reached ER (cell x.1 x.2) 0 := by
    rw [bigSep_univ_prod]
  iintro ⟨HR, HS⟩
  imod (Rounds.fund ER (Rd D) ringCells ringToks) $$ HR with ⟨Hst, Hr, Hat, Htok⟩
  imod (slots_init ES keys 1 (slotRes (F := F))) $$ HS with ⟨%Ks, %hKs, #Hsl, Hre, Hwr⟩
  imodintro
  ihave Hst := (Entails.of_eq (over_cells fun g => roundState ER (Rd D) g 0)) $$ Hst
  ihave Hat := (Entails.of_eq (over_cells fun g => (atPos ER g 0 ∅ 0 : sProp 𝕄))) $$ Hat
  ihave Hr := (Entails.of_eq ((over_cells fun g => (reached ER g 0 : sProp 𝕄)).trans hr)) $$ Hr
  icases Hr with #Hr
  ihave Htok := (Entails.of_eq (over_toks (F := F))) $$ Htok
  ihave Hwr := (Entails.of_eq hw) $$ Hwr
  ihave Hl := (deal_all (F := F)) $$ [Hat Htok Hre Hwr]
  · isplitl [Hat]; · unfold positions; iexact Hat
    isplitl [Htok]; · iexact Htok
    isplitl [Hre]; · iexact Hre
    iexact Hwr
  ihave H := (Entails.of_eq (bigSep_sep' Finset.univ (fun c : Dev nD => bigSep Finset.univ fun k : Cell => roundState ER (Rd D) (cell c k) 0) (fun c => linear (F := F) c)).symm) $$ [Hst Hl]
  · isplitl [Hst]; · iexact Hst
    iexact Hl
  iapply (bigSep_with_persistent (R := shared (F := F)) (Φ := fun c : Dev nD => iprop((bigSep Finset.univ fun k : Cell => roundState ER (Rd D) (cell c k) 0) ∗ linear (F := F) c))
    (Ψ := G D) fun c _ => by
      unfold G
      iintro ⟨H1, H2, H3⟩
      iframe)
  isplitr
  · unfold shared
    isplitr
    · iexists Ks; iexact Hsl
    iexact Hr
  iexact H

/-! ## The semaphores -/

/-- The kernel's own semaphores: all but the runtime's barrier. -/
abbrev OwnCell : Type := {k : Cell // k ≠ .bar}
abbrev osem : OwnCell → SemLoc sig := fun k => csem k.1

omit [FloatOps F] in
theorem sems_eq (c : Dev nD) :
    (iprop(Pipeline.ownSems0 (Ix := ℕ) (Name := ℕ) (U := UU) (Lvl := ℕ) (Val := Elt F) (τ := τ) osem c ∗ unscopedSems0 c) : sProp 𝕄)
      = bigSep Finset.univ fun k : Cell => semVal (cell c k) 0 := by
  have h1 : (unscopedSems0 c : sProp 𝕄) = semVal (cell c .bar) 0 := by
    unfold unscopedSems0; rw [bigSep_eq_bigSepL_of_eq [csem .bar] (by decide) (by decide)]; rfl
  have h2 : (Pipeline.ownSems0 (Ix := ℕ) (Name := ℕ) (U := UU) (Lvl := ℕ) (Val := Elt F) (τ := τ) osem c : sProp 𝕄)
      = bigSep (Finset.univ.filter fun k : Cell => k ≠ .bar) fun k => semVal (cell c k) 0 := by
    unfold Pipeline.ownSems0
    exact bigSep_subtype (fun k : Cell => k ≠ .bar) (fun k : Cell => (semVal (cell c k) 0 : sProp 𝕄))
  rw [h1, h2, bigSep_filter_split Finset.univ (fun k : Cell => k ≠ .bar),
    show (Finset.univ.filter fun k : Cell => ¬ k ≠ .bar) = {Cell.bar} by decide, bigSep_singleton]
  rfl

theorem core_alloc (c : Dev nD) :
    iprop(Pipeline.ownSems0 (Ix := ℕ) (Name := ℕ) (U := UU) (Lvl := ℕ) (Val := Elt F) (τ := τ) osem c ∗ unscopedSems0 c ∗ G D c)
      ⊢ |={Set.univ}=> iprop((bigSep Finset.univ fun k : Cell => iprop(∃ κ : ℕ, cellInv ER (Rd D) κ (cell c k))) ∗ shared (F := F) ∗ linear (F := F) c) := by
  unfold G
  iintro ⟨Ho, Hu, Hst, Hsh, Hl⟩
  ihave Hv := (Entails.of_eq (sems_eq (F := F) c)) $$ [Ho Hu]
  · isplitl [Ho] <;> iassumption
  imod (show iprop((bigSep Finset.univ fun k : Cell => semVal (cell c k) 0) ∗ bigSep Finset.univ fun k : Cell => roundState ER (Rd D) (cell c k) 0)
      ⊢ (|={Set.univ}=> bigSep Finset.univ fun k : Cell => iprop(∃ κ : ℕ, cellInv ER (Rd D) κ (cell c k)) : sProp 𝕄) from by
        rw [← bigSep_sep']
        exact (bigSep_mono fun k _ => (Rounds.body_intro ER (Rd D) (cell c k)).trans inv_alloc).trans (bigSep_fupd _ _)) $$ [Hv Hst] with Hinv
  · isplitl [Hv] <;> iassumption
  imodintro
  iframe

theorem glob_regroup :
    (bigSep Finset.univ fun c : Dev nD => iprop((bigSep Finset.univ fun k : Cell => iprop(∃ κ : ℕ, cellInv ER (Rd D) κ (cell c k))) ∗ shared (F := F) ∗ linear (F := F) c) : sProp 𝕄)
      ⊢ bigSep Finset.univ (G' D) := by
  rw [bigSep_sep', ← bigSep_univ_prod (fun x : Dev nD × Cell => iprop(∃ κ : ℕ, cellInv ER (Rd D) κ (cell x.1 x.2)))]
  iintro ⟨HI, H⟩
  ihave HK := (BI.bigSep_exists_pi Finset.univ (fun (x : Dev nD × Cell) (κ : ℕ) => (cellInv ER (Rd D) κ (cell x.1 x.2) : sProp 𝕄))) $$ HI
  icases HK with ⟨%K, #HI⟩
  iapply (bigSep_with_persistent (R := bigSep Finset.univ fun x : Dev nD × Cell => (cellInv ER (Rd D) (K x) (cell x.1 x.2) : sProp 𝕄))
    (Φ := fun c : Dev nD => iprop(shared (F := F) ∗ linear (F := F) c)) (Ψ := G' D) fun c _ => by
      unfold G'
      iintro ⟨#HI, Hs, Hl⟩
      isplitr
      · iexists K; iexact HI
      iframe)
  isplitr
  · iexact HI
  iexact H

/-- The invariants of all cells, made for all devices at once. -/
theorem glob :
    (bigSep Finset.univ fun c => iprop(Pipeline.ownSems0 (Ix := ℕ) (Name := ℕ) (U := UU) (Lvl := ℕ) (Val := Elt F) (τ := τ) osem c ∗ unscopedSems0 c ∗ G D c) : sProp 𝕄)
      ⊢ |={Set.univ}=> bigSep Finset.univ (G' D) :=
  ((bigSep_mono fun c _ => core_alloc D c).trans (bigSep_fupd _ _)).trans (BI.fupd_mono (glob_regroup D))

end

/-! ## The body's start -/

section
variable (D : Data F) (K : Dev nD × Cell → ℕ) (Ks : Key → ℕ) (c : Dev nD)

theorem lane_start (b : Bool) (s : Fin 4) :
    iprop(recs D K Ks ∗ laneSum (fun k => (atPos ER (cell c k) 0 ∅ 0 : sProp 𝕄)) b s ∗ dealt (F := F) c b s ∗ owedLane (F := F) c b s)
      ⊢ (toks c b s 0 0 0 0 0 : sProp 𝕄) := by
  unfold laneSum dealt owedLane toks takers
  iintro ⟨#Hr, ⟨S0, S1, R0, R1, C⟩, ⟨Hs, Hg, Hw⟩, Hl, Hc⟩
  isplitl [Hs]; · iexact Hs
  isplitl [S0 S1]
  · unfold sentAt at'
    isplitl [S0]
    · isplitl [S0]; · iexact S0
      iapply (recs_reached D K Ks c (.send b s 0)); iexact Hr
    isplitl [S1]; · iexact S1
    iapply (recs_reached D K Ks c (.send b s 1)); iexact Hr
  isplitl [Hl]; · iexact Hl
  isplitl [R0 R1]
  · unfold landAt at'
    isplitl [R0]
    · isplitl [R0]; · iexact R0
      iapply (recs_reached D K Ks c (.recv b s 0)); iexact Hr
    isplitl [R1]; · iexact R1
    iapply (recs_reached D K Ks c (.recv b s 1)); iexact Hr
  isplitl [Hg]; · iexact Hg
  isplitr
  · unfold told; rw [Finset.range_zero, bigSep_empty]; iempintro
  isplitl [Hw Hc]
  · unfold tTake
    rw [bigSep_sep']
    isplitl [Hc]; · iexact Hc
    iexact Hw
  unfold credAt
  rw [if_pos (by decide)]
  iexists (∅ : Finset ℕ)
  isplitr; · ipureintro; exact Finset.empty_subset _
  isplitl [C]; · iexact C
  rw [bigSep_empty]; iempintro

theorem lanes_start (b : Bool) :
    iprop(recs D K Ks ∗ (bigSep Finset.univ fun s : Fin 4 => laneSum (fun k => (atPos ER (cell c k) 0 ∅ 0 : sProp 𝕄)) b s)
        ∗ (bigSep Finset.univ fun s : Fin 4 => dealt (F := F) c b s) ∗ (bigSep Finset.univ fun s : Fin 4 => owedLane (F := F) c b s))
      ⊢ (bigSep Finset.univ fun s : Fin 4 => toks c b s 0 0 0 0 0 : sProp 𝕄) := by
  rw [← bigSep_sep', ← bigSep_sep']
  exact bigSep_with_persistent fun s _ => lane_start D K Ks c b s

theorem bar_start (b : Bool) : iprop(recs D K Ks ∗ landing (F := F) c b) ⊢ (barPay (F := F) (frm b c) b : sProp 𝕄) := by
  unfold landing barPay
  rw [tgt_frm]
  refine bigSep_with_persistent fun s _ => ?_
  iintro ⟨#Hr, H⟩
  ihave H := (slots_split c b s) $$ H
  unfold slotU place
  icases H with ⟨H0, H1⟩
  rw [if_pos (by decide), if_pos (by decide)]
  isplitl [H0]
  · isplitl [H0]; · iexact H0
    iapply (recs_reached D K Ks c (.recv b s 0)); iexact Hr
  isplitl [H1]; · iexact H1
  iapply (recs_reached D K Ks c (.recv b s 1)); iexact Hr

/-- What a device is handed is what the body starts with. -/
theorem enter (A B : Vec F S1 .f32) (Z : Vec F S4096x2048 .f32) :
    iprop(recs D K Ks ∗ linear (F := F) c ∗ owedAll (F := F) c ∗ own c xA (D.X c) ∗ own c wA (D.W c)
        ∗ (∃ Y, own (F := F) c xM Y) ∗ (∃ Y, own (F := F) c wM Y) ∗ landing (F := F) c false ∗ landing (F := F) c true
        ∗ own c aM A ∗ own c bM B ∗ own c oM Z ∗ owesE c 0)
      ⊢ bodyPre D c A B Z := by
  unfold linear owedAll positions bodyPre
  rw [cells_eq]
  iintro ⟨#Hr, ⟨⟨⟨Pb, P0, P1⟩, Lf, Lt⟩, ⟨D0, D1⟩, ⟨Tf, Tt⟩, Df, Dt⟩, ⟨⟨C1, C2⟩, Of, Ot⟩, Hx, Hw, Hxm, Hwm, Bf, Bt, Ha, Hb, Hz, Ho⟩
  ihave Bf := (bar_start D K Ks c false) $$ [Bf]
  · isplitr; · iexact Hr
    iexact Bf
  ihave Bt := (bar_start D K Ks c true) $$ [Bt]
  · isplitr; · iexact Hr
    iexact Bt
  ihave Lf := (lanes_start D K Ks c false) $$ [Lf Df Of]
  · isplitr; · iexact Hr
    iframe
  ihave Lt := (lanes_start D K Ks c true) $$ [Lt Dt Ot]
  · isplitr; · iexact Hr
    iframe
  iframe

end

end Cert.RingProof

end
-- ==== Proof.Launch.lean ====
/-
# The run

The pipeline of one point around the body, and the run of the whole program on the four devices: every execution ends, with
every device's result the ring's sum, the operands as they were and every semaphore at zero.
-/
module

public import proofs.«01_k».proof.Proof.Entry
public import Idealize.ShloMosaic.Lib.Pipeline.CollectiveSegs
public import proofs.«01_k».proof.Proof.Gen.KernelIdeal.Points

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## Contents -/

/-- The two scale factors as staged, -/
def stg0 (c : Dev nD) : Vec F S1 .f32 := (win0_0.blk t0_0).view.read (Elt F) (m ((c : Thread nD τ).loc main_arg2))
def stg1 (c : Dev nD) : Vec F S1 .f32 := (win0_1.blk t0_0).view.read (Elt F) (m ((c : Thread nD τ).loc main_arg3))

/-- and the ring's data: the operands in memory and each device's scaled product. -/
def data : Data F where
  X c := m ((c : Thread nD τ).loc main_arg0)
  W c := m ((c : Thread nD τ).loc main_arg1)
  P c b k s := lane s (prod (m ((c : Thread nD τ).loc main_arg0)) (m ((c : Thread nD τ).loc main_arg1)) (k0_pay16 (stg0 m c one) (stg1 m c one)) b k)

theorem products (c : Dev nD) : Products (data m) c (k0_pay16 (stg0 m c one) (stg1 m c one)) := fun _ _ _ => rfl

/-! ## The pipeline's proof data -/

/-- What a device is handed at its start, -/
def start (c : Dev nD) : sProp 𝕄 :=
  iprop((∃ (K : Dev nD × Cell → ℕ) (Ks : Key → ℕ), recs (data m) K Ks) ∗ linear (F := F) c ∗ owedAll (F := F) c
    ∗ own c xA ((data m).X c) ∗ own c wA ((data m).W c))
/-- its scratch, -/
def scratch (c : Dev nD) : sProp 𝕄 :=
  iprop((∃ Y, own (F := F) c xM Y) ∗ (∃ Y, own (F := F) c wM Y) ∗ landing (F := F) c false ∗ landing (F := F) c true)
/-- and what it holds at its end. -/
def finish (c : Dev nD) : sProp 𝕄 :=
  iprop(own c xA ((data m).X c) ∗ own c wA ((data m).W c) ∗ bigSep Finset.univ fun k : Cell => semVal (cell c k) 0)

def dats (_ : Fin 1) (c : Dev nD) : Pipeline.Dat τ (Elt F) ℕ ℕ UU ℕ cfg0 c where
  A w := m ((cfg0.win w).arr.view.loc (c : Thread nD τ))
  after w _ := match w with
    | ⟨0, _⟩ => stg0 m c
    | ⟨1, _⟩ => stg1 m c
    | ⟨2, _⟩ => result (data m)
  Φ t := match t with
    | ⟨0, _⟩ => iprop(start m c ∗ scratch (F := F) c)
    | ⟨_ + 1, _⟩ => iprop(finish m c ∗ scratch (F := F) c)
  q _ := fullShare
  owed t := match t with
    | ⟨0, _⟩ => Ow c 0
    | ⟨_ + 1, _⟩ => 0

/-! ## The body -/

/-- After the body: the cells closed, the result whole, the landing buffers free. -/
theorem leave (D : Data F) (K : Dev nD × Cell → ℕ) (Ks : Key → ℕ) (c : Dev nD) (A B : Vec F S1 .f32) :
    iprop(recs D K Ks ∗ bodyPost D c A B)
      ⊢ |={Set.univ}=> iprop(((own c xA (D.X c) ∗ own c wA (D.W c) ∗ bigSep Finset.univ fun k : Cell => semVal (cell c k) 0)
          ∗ scratch (F := F) c) ∗ owesE c 82 ∗ own c aM A ∗ own c bM B ∗ own c oM (result D)) := by
  have hd (b : Bool) : (bigSep Finset.univ fun s : Fin 4 => done D c b s)
      ⊢ iprop((bigSep Finset.univ fun s : Fin 4 => laneSum (fun k => (atPos ER (cell c k) (ends k) ∅ 0 : sProp 𝕄)) b s)
        ∗ (bigSep Finset.univ fun s : Fin 4 => bigSep Finset.univ fun k : Fin 4 => own c (oblk b k s) (total D b k s)) ∗ landing (F := F) c b) := by
    unfold landing
    rw [← bigSep_sep', ← bigSep_sep']
    exact bigSep_mono fun s _ => BI.Entails.trans (done_parts D c b s) (sep_mono_right (sep_mono_right (slots_join c b s)))
  unfold bodyPost
  iintro ⟨#Hr, Hx, Hw, Hxm, Hwm, Pb, P0, P1, Ha, Hb, Df, Dt, Ho⟩
  ihave Df := (hd false) $$ Df
  icases Df with ⟨Af, Of, Lf⟩
  ihave Dt := (hd true) $$ Dt
  icases Dt with ⟨At, Ot, Lt⟩
  imod (close_all D K Ks c) $$ [Pb P0 P1 Af At] with Hz
  · isplitr; · iexact Hr
    rw [cells_eq]
    isplitl [Pb P0 P1]
    · isplitl [Pb]; · iexact Pb
      isplitl [P0]; · iexact P0
      iexact P1
    iframe
  ihave Hres := (out_join D c) $$ [Of Ot]
  · isplitl [Of]; · iexact Of
    iexact Ot
  imodintro
  unfold scratch
  isplitl [Hx Hw Hz Hxm Hwm Lf Lt]
  · isplitl [Hx Hw Hz]
    · iframe
    isplitl [Hxm]; · iexists _; iexact Hxm
    isplitl [Hwm]; · iexists _; iexact Hwm
    iframe
  iframe

/-- The whole body on what a device is handed. -/
theorem body_sound (c : Dev nD) (Z : Vec F S4096x2048 .f32) :
    iprop((start m c ∗ scratch (F := F) c) ∗ owesE c 0 ∗ own c aM (stg0 m c) ∗ own c bM (stg1 m c) ∗ own c oM Z)
      ⊢ WP c (pt (cc0_body (F := F))) fun _ => iprop((finish m c ∗ scratch (F := F) c) ∗ owesE c 82
          ∗ own c aM (stg0 m c) ∗ own c bM (stg1 m c) ∗ own c oM (result (data m))) := by
  unfold start finish
  iintro ⟨⟨⟨⟨%K, %Ks, #Hr⟩, Hl, Hc, Hx, Hw⟩, Hs⟩, Ho, Ha, Hb, Hz⟩
  ihave Hs := (Entails.of_eq (show scratch (F := F) c = _ from by unfold scratch; rfl)) $$ Hs
  icases Hs with ⟨Hxm, Hwm, Lf, Lt⟩
  ihave Hp := (enter (data m) K Ks c (stg0 m c) (stg1 m c) Z) $$ [Hl Hc Hx Hw Hxm Hwm Lf Lt Ho Ha Hb Hz]
  · isplitr; · iexact Hr
    iframe
  unfold WP
  iapply (wp_fupd frame (wpE (defs₀ (F := F)) 𝒱₀ (c : Thread nD τ) none))
  iapply (wp_wand_r frame (wpE (defs₀ (F := F)) 𝒱₀ (c : Thread nD τ) none) Set.univ)
  isplitl [Hp]
  · iapply (body_run (data m) K Ks c (stg0 m c) (stg1 m c) Z (products m c))
    isplitr; · iexact Hr
    iexact Hp
  · iintro %r H
    iapply (leave (data m) K Ks c (stg0 m c) (stg1 m c))
    isplitr; · iexact Hr
    iexact H

theorem owes_in (c : Dev nD) : ((dats m 0 c).owesAt 0 t0_0.castSucc : sProp 𝕄) ⊢ owesE c 0 := by
  unfold Pipeline.Dat.owesAt Pipeline.owesWithin owesE
  iintro ⟨%W, -, H⟩
  iexists W; iexact H
theorem owes_out (c : Dev nD) : owesE c 82 ⊢ ((dats m 0 c).owesAt 0 t0_0.succ : sProp 𝕄) := by
  unfold Pipeline.Dat.owesAt Pipeline.owesWithin owesE
  rw [Ow_end]
  iintro ⟨%W, H⟩
  iexists W
  isplitr
  · ipureintro; exact fun _ _ => Or.inl trivial
  · iexact H

theorem before_0 (c : Dev nD) (d) : (dats m 0 c).before 0 t0_0 d = stg0 m c := by
  unfold Pipeline.Dat.before; rw [if_pos (fetch0_0 t0_0)]; rfl
theorem before_1 (c : Dev nD) (d) : (dats m 0 c).before 1 t0_0 d = stg1 m c := by
  unfold Pipeline.Dat.before; rw [if_pos (fetch0_1 t0_0)]; rfl

def bodyIn (c : Dev nD) : sProp 𝕄 :=
  iprop((dats m 0 c).Φ t0_0.castSucc ∗ (dats m 0 c).owesAt 0 t0_0.castSucc
    ∗ (∃ d, owns (c : Thread nD τ) (st0_0 t0_0) fullShare ((dats m 0 c).before 0 t0_0 d))
    ∗ (∃ d, owns (c : Thread nD τ) (st0_1 t0_0) fullShare ((dats m 0 c).before 1 t0_0 d))
    ∗ (∃ d, owns (c : Thread nD τ) (st0_2 t0_0) fullShare ((dats m 0 c).before 2 t0_0 d)))
def bodyOut (c : Dev nD) : sProp 𝕄 :=
  iprop((dats m 0 c).Φ t0_0.succ ∗ (dats m 0 c).owesAt 0 t0_0.succ
    ∗ owns (c : Thread nD τ) (st0_0 t0_0) fullShare ((dats m 0 c).after 0 t0_0)
    ∗ owns (c : Thread nD τ) (st0_1 t0_0) fullShare ((dats m 0 c).after 1 t0_0)
    ∗ owns (c : Thread nD τ) (st0_2 t0_0) fullShare ((dats m 0 c).after 2 t0_0))

theorem body_point (c : Dev nD) : bodyIn m c ⊢ WP c (pt (cc0_body (F := F))) fun _ => bodyOut m c := by
  unfold bodyIn
  iintro ⟨H, Ho, ⟨%d0, Ha⟩, ⟨%d1, Hb⟩, ⟨%d2, Hz⟩⟩
  ihave Ho := (owes_in m c) $$ Ho
  ihave H := (Entails.of_eq (show (dats m 0 c).Φ t0_0.castSucc = iprop(start m c ∗ scratch (F := F) c) from rfl)) $$ H
  unfold WP
  iapply (wp_wand_r frame (wpE (defs₀ (F := F)) 𝒱₀ (c : Thread nD τ) none) Set.univ)
  isplitl [H Ho Ha Hb Hz]
  · iapply (body_sound m c ((dats m 0 c).before 2 t0_0 d2))
    isplitl [H]; · iexact H
    isplitl [Ho]; · iexact Ho
    rw [before_0, before_1]
    isplitl [Ha]; · iexact Ha
    isplitl [Hb]; · iexact Hb
    iexact Hz
  · iintro %r ⟨H, Ho, Ha, Hb, Hz⟩
    ihave Ho := (owes_out m c) $$ Ho
    ihave H := (Entails.of_eq (show iprop(finish m c ∗ scratch (F := F) c) = (dats m 0 c).Φ t0_0.succ from rfl)) $$ H
    unfold bodyOut
    isplitl [H]; · iexact H
    isplitl [Ho]; · iexact Ho
    isplitl [Ha]; · iexact Ha
    isplitl [Hb]; · iexact Hb
    iexact Hz

set_option maxRecDepth 8000 in
/-- The one point's body meets what the pipeline asks of it. -/
theorem body_obligation (c : Dev nD) : Pipeline.BodyObligation (dats m 0 c) (defs₀ (F := F)) 𝒱₀ 0 Set.univ := fun t => by
  rw [fin_N0 t, bigSep_W0, bigSep_W0]
  exact body_point m c

/-! ## The launch -/

theorem ownSemFacts : Pipeline.OwnSemFacts cfg0.spec osem := ⟨by decide, fun a b h => Subtype.ext (csem_inj h), by decide⟩

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' (data m) c)
      ⊢ |={Set.univ}=> iprop(start m c ∗ emp) := by
  rw [Pipeline.unscopedRestP_none]
  have hx : own c xA ((data m).X c) = (((c : Thread nD τ).loc main_arg0) ↦{fullShare} m ((c : Thread nD τ).loc main_arg0)) := owns_whole _ _ _ _
  have hw : own c wA ((data m).W c) = (((c : Thread nD τ).loc main_arg1) ↦{fullShare} m ((c : Thread nD τ).loc main_arg1)) := owns_whole _ _ _ _
  unfold start G' shared recs
  rw [hx, hw]
  iintro ⟨Hu, Hlev, Hcr, -, ⟨%K, HI⟩, ⟨⟨%Ks, HS⟩, HR⟩, Hl⟩
  ihave Hc := (owed_all (F := F) c) $$ Hcr
  ihave Hu := (Entails.of_eq (unscopedRest0_eq c (fun b => m ((c : Thread nD τ).loc b)))) $$ Hu
  icases Hu with ⟨Hx, Hw⟩
  imodintro
  isplitl
  · isplitl [HI HS Hlev HR]
    · iexists K; iexists Ks
      isplitl [HI]; · iexact HI
      isplitl [HS]; · iexact HS
      isplitl [Hlev]; · iexact Hlev
      iexact HR
    isplitl [Hl]; · iexact Hl
    isplitl [Hc]; · iexact Hc
    isplitl [Hx]; · iexact Hx
    iexact Hw
  · iempintro

theorem scratch_eq (c : Dev nD) : (Pipeline.scopedRest cfg0.spec c : sProp 𝕄) = scratch (F := F) c := by
  rw [show (Pipeline.scopedRest cfg0.spec c : sProp 𝕄) = Pipeline.scopedRest spec0 c from rfl, scopedRest0_eq]
  unfold scratch landing
  rw [four, four]
  have e {sp : Space} {sh : Shape} {e : EltTy} (M : Memref sig .tc sp sh e) (h : M.IsWhole) :
      iprop(∃ X, own (F := F) c M X) = iprop(∃ f : Buf (Elt F) (M.view.loc (c : Thread nD τ)), (M.view.loc (c : Thread nD τ)) ↦{fullShare} f) :=
    h.exists_owns_eq fullShare
  rw [e xM (Memref.isWhole_whole _), e wM (Memref.isWhole_whole _),
    e (rM false 0) (Memref.isWhole_whole _), e (rM false 1) (Memref.isWhole_whole _), e (rM false 2) (Memref.isWhole_whole _), e (rM false 3) (Memref.isWhole_whole _),
    e (rM true 0) (Memref.isWhole_whole _), e (rM true 1) (Memref.isWhole_whole _), e (rM true 2) (Memref.isWhole_whole _), e (rM true 3) (Memref.isWhole_whole _)]
  refine BI.Entails.antisymm (show _ ⊢ (_ : sProp 𝕄) from ?_) (show _ ⊢ (_ : sProp 𝕄) from ?_)
  · iintro ⟨H0, H1, H2, H3, H4, H5, H6, H7, H8, H9⟩
    isplitl [H8]; · iexact H8
    isplitl [H9]; · iexact H9
    isplitl [H0 H1 H2 H3]
    · isplitl [H0]; · iexact H0
      isplitl [H1]; · iexact H1
      isplitl [H2]; · iexact H2
      iexact H3
    · isplitl [H4]; · iexact H4
      isplitl [H5]; · iexact H5
      isplitl [H6]; · iexact H6
      iexact H7
  · iintro ⟨H8, H9, ⟨H0, H1, H2, H3⟩, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch (F := F) c) from rfl, scratch_eq]
  iintro ⟨Hs, -, Hr⟩
  isplitl [Hs]; · iexact Hs
  iexact Hr

/-- What the program keeps: the unscoped semaphores at zero and the operands. -/
def kept (c : Dev nD) : sProp 𝕄 := iprop(unscopedSems0 c ∗ own c xA ((data m).X c) ∗ own c wA ((data m).W c))

theorem phi_out (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = iprop(finish m c ∗ scratch (F := F) c) from rfl, scratch_eq]
  unfold finish kept
  rw [← sems_eq]
  iintro ⟨⟨Hx, Hw, Ho, Hu⟩, Hr⟩
  isplitl [Hx Hw Hu]
  · isplitl [Hu]; · iexact Hu
    isplitl [Hx]; · iexact Hx
    iexact Hw
  isplitl [Ho]; · iexact Ho
  iexact Hr

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait c _ (u := 0) (n := 0) (le_refl 0) (by omega)
    · rw [show (dats m 0 c).owed ⟨_ + 1, ht⟩ = (0 : CellTallies nD τ sig ℕ) from rfl, MayWait_zero]
      iintro -; iempintro

/-- What is read of a device's operands and unscoped semaphores at the end. -/
def Kept (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)

theorem kept_read (c : Dev nD) (s' : Phys nD τ sig (Elt F)) :
    iprop(kept m c ∗ emp ∗ SI s') ⊢ |={Set.univ}=> iprop(⌜Kept m c s'.mem⌝ ∗ (SI s' : sProp 𝕄)) := by
  have hx : own c xA ((data m).X c) = (((c : Thread nD τ).loc main_arg0) ↦{fullShare} m ((c : Thread nD τ).loc main_arg0)) := owns_whole _ _ _ _
  have hw : own c wA ((data m).W c) = (((c : Thread nD τ).loc main_arg1) ↦{fullShare} m ((c : Thread nD τ).loc main_arg1)) := owns_whole _ _ _ _
  unfold kept
  rw [hx, hw]
  iintro ⟨⟨Hu, Hx, Hw⟩, -, HSI⟩
  imod (Pipeline.unscopedSems0_read (X := unscopedSems0 c) (c := c) fupd_intro s') $$ [Hu HSI] with ⟨%hu, HSI⟩
  · isplitl [Hu] <;> iassumption
  icombine HSI Hx gives %h0
  icombine HSI Hw gives %h1
  imodintro
  isplitr
  · ipureintro
    exact ⟨hu, Buf.eq_of_forall_mem_univ h0, Buf.eq_of_forall_mem_univ h1⟩
  · iexact HSI

/-! ## The arrays at the end -/

theorem arr_0 (c : Dev nD) : (dats m 0 c).arrAt 0 cfg0.N = m ((c : Thread nD τ).loc main_arg2) := (dats m 0 c).arrAt_in 0 rfl _
theorem arr_1 (c : Dev nD) : (dats m 0 c).arrAt 1 cfg0.N = m ((c : Thread nD τ).loc main_arg3) := (dats m 0 c).arrAt_in 1 rfl _

theorem in_block (i : S4096x2048.Idx) : i ∈ ((cfg0.win 2).blk t0_0).view.set := by
  show i ∈ ((View.whole main_v1).slice (win0_2.rect t0_0)).set
  rw [View.set_slice_whole, Rect.mem_set_unit]
  have e : win0_2.index t0_0 0 * win0_2.size 0 = 0 ∧ win0_2.xsize (grid0.coords t0_0) 0 = 4096
      ∧ win0_2.index t0_0 1 * win0_2.size 1 = 0 ∧ win0_2.xsize (grid0.coords t0_0) 1 = 2048 := by decide +kernel
  intro a
  match a with
  | ⟨0, _⟩ =>
    show win0_2.index t0_0 0 * win0_2.size 0 ≤ (i 0 : Nat) ∧ (i 0 : Nat) < win0_2.index t0_0 0 * win0_2.size 0 + win0_2.xsize (grid0.coords t0_0) 0
    rw [e.1, e.2.1]; have : (i 0 : Nat) < 4096 := (i 0).isLt; omega
  | ⟨1, _⟩ =>
    show win0_2.index t0_0 1 * win0_2.size 1 ≤ (i 1 : Nat) ∧ (i 1 : Nat) < win0_2.index t0_0 1 * win0_2.size 1 + win0_2.xsize (grid0.coords t0_0) 1
    rw [e.2.2.1, e.2.2.2]; have : (i 1 : Nat) < 2048 := (i 1).isLt; omega

/-- The one block of the result is the whole array. -/
theorem block_whole (R : Vec F S4096x2048 .f32) : win0_2.cut (grid0.coords t0_0) R = (win0_2.blk t0_0).view.read (Elt F) R := by
  funext j
  refine congrArg R (funext fun a => Fin.ext ?_)
  have e : ∀ a, win0_2.index t0_0 a * win0_2.size a = 0 := by decide +kernel
  show (j a).val = win0_2.index t0_0 a * win0_2.size a + 1 * (j a).val
  rw [e a]; omega

/-- The result array ends holding the ring's sum. -/
theorem arr_2 (c : Dev nD) : (dats m 0 c).arrAt 2 cfg0.N = (result (data m) : Vec F S4096x2048 .f32) :=
  (dats m 0 c).arrAt_eq_of_cover 2 (result (data m))
    (fun t _ => by
      obtain rfl := fin_N0 t
      exact block_whole (result (data m)))
    fun i => ⟨t0_0, flush0_2 _, in_block i⟩

/-! ## The run -/

/-- What holds at the end of every execution: on every device the operands as they were and the result the ring's sum. -/
def Post (s : MemSt nD τ sig (Elt F)) : Prop := ∀ c : Dev nD,
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_v1) = (result (data m) : Vec F S4096x2048 .f32)

def u₀ : UU := (initOf (Pipeline.cells cfgs cellOf_inj) (Pipeline.launchToks cfgs cellOf_inj), (initOf ringCells ringToks, initSlots keys 1))

set_option maxRecDepth 8000 in
/-- From any memory with every semaphore at zero, every weakly fair execution of the program on the four devices ends, with the
    operands as they were, each device's result the ring's sum and every semaphore at zero. -/
theorem run_main : θ_run (defs (F := F)) (onTc (τ := τ) (main (F := F))) ⟨m, fun _ => 0, ρ⟩ (fun r => Post m r.2 ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun c => Ow c 0) (howed₀ := fun _ => rfl) (howedN := fun _ => rfl)
    (L := L) (lv := lv) (hL := L_of_ne) (hwaits := waits m)
    (G := G (data m)) (G' := G' (data m)) (u₀ := u₀)
    (hu₀ := by
      unfold u₀
      iintro Hu
      ihave H := (ownU_pair _ _) $$ Hu
      icases H with ⟨HP, HX⟩
      ihave HX := (own_pair_emb embR _ _) $$ HX
      imod (fund_all (data m)) $$ HX with HG
      imodintro
      isplitl [HP] <;> iassumption)
    (hglob := glob (data m))
    (hA := fun _ _ => rfl) (hpf := fun _ k => k.elim0)
    (X := start m) (Y := kept m) (Z := fun _ => iprop(emp))
    (hX := start_intro m ρ) (hin := phi_in m) (hout := phi_out m)
    (QY := Kept m) (hY := kept_read m)
    (hQ := fun s h hs => ⟨fun c => ⟨(h c).2.2.2.1, (h c).2.2.2.2, ((h c).1 0).trans (arr_0 m c), ((h c).1 1).trans (arr_1 m c), ((h c).1 2).trans (arr_2 m c)⟩,
      sem_eq_zero hs fun c => (h c).2.2.1⟩)

end Cert.RingProof

end
-- ==== Proof.Range.lean ====
/-
# The precondition, read back

What `in_range` says of a device's arguments: the product of the scale factors is a real number, and either every row of the
left operand's block or every column of the right's holds something other than -128.
-/
module

public import Idealize.ShloMosaic.Lib.ReduceAll
public import Idealize.ShloMosaic.Lib.ValueIdxCore
public import Idealize.ShloMosaic.PureOps.Ideal.Laws
public import proofs.«01_k».proof.Proof.Gen.Pre_in_range_KernelIdeal

@[expose] public section

noncomputable section

namespace Cert.RingRange

open Cert.Pre_in_range_KernelIdeal
open Idealize.ShloMosaic Idealize.ShloMosaic.ValueIdx

/-- A left fold by `or` that comes out 1 from 0 met a 1. -/
theorem foldl_ori {ι : Type} (f : ι → BitVec 1) (l : List ι) :
    l.foldl (fun r i => IntOp.ori r (f i)) 0#1 = 1#1 → ∃ i ∈ l, f i = 1#1 := by
  induction l with
  | nil => intro h; exact absurd (show (0#1 : BitVec 1) = 1#1 from h) (by decide)
  | cons a l ih =>
    intro h
    rcases BitVec.eq_zero_or_eq_one (f a) with h0 | h1
    · rw [List.foldl_cons, h0, show IntOp.ori 0#1 0#1 = 0#1 from by decide] at h
      obtain ⟨i, hi, e⟩ := ih h
      exact ⟨i, List.mem_cons_of_mem _ hi, e⟩
    · exact ⟨a, List.mem_cons_self .., h1⟩

/-- A reduction by `or` from 0 that is 1 at an index had a 1 that reduces into it. -/
theorem reduce_ori {s t u : Shape} {axes : List (Fin s.rank)} (x : s.Idx → BitVec 1) (init : u.Idx → BitVec 1)
    (h : s.ReducesTo axes t) (hu : 0 < u.numel) (h0 : init (Shape.Idx.first hu) = 0#1) (j : t.Idx)
    (e : Host.reduce IntOp.ori x init h hu j = 1#1) : ∃ i, h.drop i = j ∧ x i = 1#1 := by
  rw [Host.reduce_eq_foldl, h0] at e
  obtain ⟨i, hi, e⟩ := foldl_ori x _ e
  rw [List.mem_filter] at hi
  exact ⟨i, of_decide_eq_true hi.2, e⟩

/-- A byte that, widened, differs from -128 is not -128. -/
theorem ne_min (v : BitVec 8) (e : IntOp.cmpi .ne (v.signExtend 32) 4294967168#32 = 1#1) : v ≠ 128#8 := by
  rintro rfl; exact absurd e (by decide)

/-- An extended real whose magnitude is below infinity is a real. -/
theorem real_of_abs_lt {z : EReal}
    (e : Ideal.cmp .olt (max z (-z)) (Ideal.ofBits .f32 0x7F800000#32) = 1#1) : ∃ r : ℝ, z = (r : EReal) := by
  rw [show Ideal.ofBits .f32 0x7F800000#32 = ⊤ by simp [Ideal.ofBits, Ideal.ieee]] at e
  have h : max z (-z) < ⊤ := by
    by_contra h
    simp [Ideal.cmp, h] at e
  induction z using EReal.rec with
  | bot => simp at h
  | coe r => exact ⟨r, rfl⟩
  | top => simp at h

variable {x : IVec S4096x1024 8} {w : IVec S1024x2048 8} {a b : FVec Ideal S1 .f32}

theorem scale_real (h : (fn (F := Ideal) x w a b).1 = fun _ => 1#1) (j : S1.Idx) : ∃ r : ℝ, (a j * b j : EReal) = (r : EReal) :=
  real_of_abs_lt (congrFun h j)

instance : Subsingleton S_.Idx := ⟨fun _ _ => funext fun k => k.elim0⟩

/-- Whether every row of the left block holds something other than -128, -/
def rows (x : IVec S4096x1024 8) : BitVec 1 :=
  Host.reduce IntOp.andi (Host.reduce IntOp.ori
    (cmpi .ne (extsi 32 x Gen.natLt_8_32) (broadcastInDim S4096x1024 ![] Gen.bcast_S_S4096x1024 (constantI S_ 32 4294967168#32)))
    (constantI S_ 1 0#1) Gen.reducesTo_S4096x1024_S4096_d1 Gen.h_S_) (constantI S_ 1 1#1) Gen.reducesTo_S4096_S_d0 Gen.h_S_
    (fun k => k.elim0)
/-- and whether every column of the right does. -/
def cols (w : IVec S1024x2048 8) : BitVec 1 :=
  Host.reduce IntOp.andi (Host.reduce IntOp.ori
    (cmpi .ne (extsi 32 w Gen.natLt_8_32) (broadcastInDim S1024x2048 ![] Gen.bcast_S_S1024x2048 (constantI S_ 32 4294967168#32)))
    (constantI S_ 1 0#1) Gen.reducesTo_S1024x2048_S2048_d0 Gen.h_S_) (constantI S_ 1 1#1) Gen.reducesTo_S2048_S_d0 Gen.h_S_
    (fun k => k.elim0)

theorem rows_some (h : rows x = 1#1) (r : Fin 4096) : ∃ k : Fin 1024, x (ix2 r k) ≠ 128#8 := by
  obtain ⟨i, hi, e⟩ := reduce_ori _ _ _ _ rfl _ (Host.reduce_andi_all _ _ _ _ _ h (ix1 r))
  have hr : (i 0).val = r.val :=
    (Shape.ReducesTo.drop_apply_val Gen.reducesTo_S4096x1024_S4096_d1 i 0).symm.trans (congrArg Fin.val (congrFun hi 0))
  have hi : i = ix2 r (i 1) := by
    funext a; match a with | ⟨0, _⟩ => exact Fin.ext hr | ⟨1, _⟩ => rfl
  exact ⟨i 1, fun hx => ne_min _ e ((congrArg x hi).trans hx)⟩

theorem cols_some (h : cols w = 1#1) (l : Fin 2048) : ∃ k : Fin 1024, w (ix2 k l) ≠ 128#8 := by
  obtain ⟨i, hi, e⟩ := reduce_ori _ _ _ _ rfl _ (Host.reduce_andi_all _ _ _ _ _ h (ix1 l))
  have hl : (i 1).val = l.val :=
    (Shape.ReducesTo.drop_apply_val Gen.reducesTo_S1024x2048_S2048_d0 i 0).symm.trans (congrArg Fin.val (congrFun hi 0))
  have hi : i = ix2 (i 0) l := by
    funext a; match a with | ⟨0, _⟩ => rfl | ⟨1, _⟩ => exact Fin.ext hl
  exact ⟨i 0, fun hw => ne_min _ e ((congrArg w hi).trans hw)⟩

/-- No row of the left block and column of the right are both -128 throughout. -/
theorem not_all_min (h : (fn (F := Ideal) x w a b).2 = fun _ => 1#1) (r : Fin 4096) (l : Fin 2048) :
    ∃ k : Fin 1024, x (ix2 r k) ≠ 128#8 ∨ w (ix2 k l) ≠ 128#8 := by
  have e : IntOp.ori (rows x) (cols w) = 1#1 := congrFun h (fun k => k.elim0)
  rcases BitVec.eq_zero_or_eq_one (rows x) with h0 | h1
  · rcases BitVec.eq_zero_or_eq_one (cols w) with g0 | g1
    · rw [h0, g0] at e; exact absurd e (by decide)
    · obtain ⟨k, hk⟩ := cols_some g1 l; exact ⟨k, .inr hk⟩
  · obtain ⟨k, hk⟩ := rows_some h1 r; exact ⟨k, .inl hk⟩

end Cert.RingRange

end
-- ==== Proof.Reference.lean ====
/-
# The reference's run

The reference is a straight line of nine array operations on one device. From any memory with every semaphore at zero it ends
with its result the operand product times the product of the two scale factors, and its operands as they were.
-/
module

public import Idealize.ShloMosaic.Lib.StableHlo.Run
public import proofs.«01_k».proof.Proof.Gen.ReferenceIdeal

@[expose] public section

noncomputable section

namespace Cert.RingRef

open Cert.ReferenceIdeal Cert.ReferenceIdeal.Gen
open Idealize.ShloMosaic Idealize.ShloMosaic.TcCoe Idealize.ShloMosaic.StableHlo Idealize.SL.Sem

variable {F : FTy → Type} [FloatOps F]

/-- The result as a function of the operands. -/
def out (x : S4096x4096.Idx → Elt F .i8) (w : S4096x2048.Idx → Elt F .i8) (a b : S1.Idx → Elt F .f32) : S4096x2048.Idx → Elt F .f32 :=
  mulf (Host.dotGeneral dot_S4096x4096_S4096x2048_S4096x2048_1_0_0_1_n_n none
      (sitofp .f32 (extsi 32 x natLt_8_32)) (sitofp .f32 (extsi 32 w natLt_8_32)))
    (broadcastInDim S4096x2048 ![0, 1] bcast_S1x1_S4096x2048_0_1 (broadcastInDim S1x1 ![1] bcast_S1_S1x1_1 (mulf a b)))

/-- The operations of the program, in order. -/
abbrev ops : List (HloOp τ sig (Elt F)) :=
  [ unary main_arg0 main_v0 ((extsi 32 · natLt_8_32) : (⟨S4096x4096, .i8⟩ : BufTy).Contents (Elt F) → (⟨S4096x4096, .i32⟩ : BufTy).Contents (Elt F)),
    unary main_v0 main_v1 (sitofp .f32 : (⟨S4096x4096, .i32⟩ : BufTy).Contents (Elt F) → (⟨S4096x4096, .f32⟩ : BufTy).Contents (Elt F)),
    unary main_arg1 main_v2 ((extsi 32 · natLt_8_32) : (⟨S4096x2048, .i8⟩ : BufTy).Contents (Elt F) → (⟨S4096x2048, .i32⟩ : BufTy).Contents (Elt F)),
    unary main_v2 main_v3 (sitofp .f32 : (⟨S4096x2048, .i32⟩ : BufTy).Contents (Elt F) → (⟨S4096x2048, .f32⟩ : BufTy).Contents (Elt F)),
    binary main_v1 main_v3 main_v4 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F)),
    binary main_arg2 main_arg3 main_v5 (mulf : (⟨S1, .f32⟩ : BufTy).Contents (Elt F) → (⟨S1, .f32⟩ : BufTy).Contents (Elt F) → (⟨S1, .f32⟩ : BufTy).Contents (Elt F)),
    unary main_v5 main_v6 (broadcastInDim S1x1 ![1] bcast_S1_S1x1_1 : (⟨S1, .f32⟩ : BufTy).Contents (Elt F) → (⟨S1x1, .f32⟩ : BufTy).Contents (Elt F)),
    unary main_v6 main_v7 (broadcastInDim S4096x2048 ![0, 1] bcast_S1x1_S4096x2048_0_1 : (⟨S1x1, .f32⟩ : BufTy).Contents (Elt F) → (⟨S4096x2048, .f32⟩ : BufTy).Contents (Elt F)),
    binary main_v4 main_v7 main_v8 (mulf : (⟨S4096x2048, .f32⟩ : BufTy).Contents (Elt F) → (⟨S4096x2048, .f32⟩ : BufTy).Contents (Elt F) → (⟨S4096x2048, .f32⟩ : BufTy).Contents (Elt F)) ]

theorem main_eq (c : Dev nD) : main (F := F) c = seq ops := rfl

theorem out_eq (V : Valuation τ sig (Elt F)) : after ops V (main_v8 : DevRef τ sig)
    = out (V (main_arg0 : DevRef τ sig)) (V (main_arg1 : DevRef τ sig)) (V (main_arg2 : DevRef τ sig)) (V (main_arg3 : DevRef τ sig)) := by
  after_results
  rfl
theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results
theorem arg3_eq (V : Valuation τ sig (Elt F)) : after ops V (main_arg3 : DevRef τ sig) = V (main_arg3 : DevRef τ sig) := by after_results

theorem no_scoped_refs : (Finset.univ.filter fun b : Ref sig .tc => b.isScoped) = ∅ := by decide
theorem no_scoped_sems : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., unary_bufs_sub .., binary_bufs_sub ..⟩

/-- Every execution of the reference ends with its result `out` of the operands, and the operands as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = out (m ((c.tc : Thread nD τ).loc main_arg0)) (m ((c.tc : Thread nD τ).loc main_arg1))
          (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono
    (fun _ h c => ⟨(h c main_v8).trans (out_eq _), (h c main_arg0).trans (arg0_eq _), (h c main_arg1).trans (arg1_eq _),
      (h c main_arg2).trans (arg2_eq _), (h c main_arg3).trans (arg3_eq _)⟩)
    (run_seq no_scoped_refs no_scoped_sems defs main (fun _ => ops) main_eq (fun _ => ops_sub) m ρ)

end Cert.RingRef

end
-- ==== Proof.Product.lean ====
/-
# A block's product at an index

Over the extended reals, a device's scaled product at an index is the exact integer dot product of a row and a column of its
operands' blocks, times the scale. The matrix unit's 32-bit word is that integer as long as the products' magnitudes total
less than 2²⁴, which 1024 products of bytes do unless all of them are -128 · -128.
-/
module

public import Idealize.ShloMosaic.Lib.IntMxu
public import Idealize.ShloMosaic.Lib.ValueIdxCore
public import Idealize.ShloMosaic.PureOps.Ideal.Laws
public import Idealize.ShloMosaic.Lib.MatmulPlain
public import proofs.«01_k».proof.Proof.Gemm

@[expose] public section

noncomputable section

namespace Cert.RingProof

open Cert.KernelIdeal Cert.KernelIdeal.Gen
open Idealize.ShloMosaic Idealize.ShloMosaic.ValueIdx
open scoped BigOperators

/-- A sum over a plain product's contraction, by its one coordinate. -/
theorem plain_sum {M : Type} [AddCommMonoid M] {m k n : ℕ} {α β : Type} (f : α → β → M) (x : (⟨2, ![m, k]⟩ : Shape).Idx → α)
    (w : (⟨2, ![k, n]⟩ : Shape).Idx → β) (r : Fin m) (l : Fin n) :
    ∑ q : (DotDims.plain m k n).contr.Idx, f (x ((DotDims.plain m k n).lhsIdx (ix2 r l) q)) (w ((DotDims.plain m k n).rhsIdx (ix2 r l) q))
      = ∑ q : Fin k, f (x (ix2 r q)) (w (ix2 q l)) := by
  rw [← Equiv.sum_comp (DotDims.plainContr m k n).symm]
  refine Finset.sum_congr rfl fun q _ => ?_
  have hq := contrEquiv1_symm_val _ k (DotDims.plain_contr_rank m k n) (DotDims.plain_contr_size m k n) q
  have hx : (DotDims.plain m k n).lhsIdx (ix2 r l) ((DotDims.plainContr m k n).symm q) = ix2 r q := by
    funext a; apply Fin.ext
    match a with
    | ⟨0, _⟩ => rfl
    | ⟨1, _⟩ => exact hq
  have hw : (DotDims.plain m k n).rhsIdx (ix2 r l) ((DotDims.plainContr m k n).symm q) = ix2 q l := by
    funext a; apply Fin.ext
    match a with
    | ⟨0, _⟩ => exact hq
    | ⟨1, _⟩ => rfl
  rw [hx, hw]

/-- A byte's magnitude is below 128 but for -128's. -/
theorem mag_lt {v : BitVec 8} (h : v ≠ 128#8) : v.toInt.natAbs < 128 := by
  revert v; decide +kernel

/-- A product of bytes one of which is not -128 is below 2¹⁴ in magnitude. -/
theorem mul_mag_lt {v u : BitVec 8} (h : v ≠ 128#8 ∨ u ≠ 128#8) : (v.toInt * u.toInt).natAbs < 2 ^ 14 := by
  rw [Int.natAbs_mul]
  have hv := natAbs_toInt_i8_le v
  have hu := natAbs_toInt_i8_le u
  rcases h with h | h
  · have := mag_lt h
    calc _ ≤ 127 * 128 := Nat.mul_le_mul (by omega) hu
      _ < 2 ^ 14 := by decide
  · have := mag_lt h
    calc _ ≤ 128 * 127 := Nat.mul_le_mul hv (by omega)
      _ < 2 ^ 14 := by decide

/-- Where one of the 1024 products is not -128 · -128, their magnitudes total less than 2²⁴. -/
theorem mags_lt (f g : Fin 1024 → BitVec 8) (h : ∃ k, f k ≠ 128#8 ∨ g k ≠ 128#8) :
    ∑ k, ((f k).toInt * (g k).toInt).natAbs ≤ 2 ^ 24 - 1 := by
  obtain ⟨k, hk⟩ := h
  have hlt : ∑ k, ((f k).toInt * (g k).toInt).natAbs < ∑ _k : Fin 1024, 2 ^ 14 :=
    Finset.sum_lt_sum (fun i _ => by
      rw [Int.natAbs_mul]
      exact (Nat.mul_le_mul (natAbs_toInt_i8_le _) (natAbs_toInt_i8_le _)).trans (by decide))
      ⟨k, Finset.mem_univ _, mul_mag_lt hk⟩
  have he : ∑ _k : Fin 1024, 2 ^ 14 = 2 ^ 24 := by
    rw [Finset.sum_const, Finset.card_univ, Fintype.card_fin]; decide
  omega

/-- The row and the column of an element of the result. -/
def rowOf (i : S4096x2048.Idx) : Fin 4096 := ⟨(i 0).val, (i 0).isLt⟩
def colOf (i : S4096x2048.Idx) : Fin 2048 := ⟨(i 1).val, (i 1).isLt⟩

/-- The dot product of a row of one block and a column of another. -/
def dotAt (X : S4096x1024.Idx → BitVec 8) (W : S1024x2048.Idx → BitVec 8) (r : Fin 4096) (l : Fin 2048) : ℤ :=
  ∑ k : Fin 1024, (X (ix2 r k)).toInt * (W (ix2 k l)).toInt

/-- No row and column are both -128 throughout. -/
def Fits (X : S4096x1024.Idx → BitVec 8) (W : S1024x2048.Idx → BitVec 8) : Prop :=
  ∀ (r : Fin 4096) (l : Fin 2048), ∃ k : Fin 1024, X (ix2 r k) ≠ 128#8 ∨ W (ix2 k l) ≠ 128#8

theorem xrows_apply (X : S4096x1024.Idx → BitVec 8) (b : Bool) (k : Fin 4) (r : Fin 512) (q : Fin 1024) (h : brow b k + r.val < 4096) :
    xrows (F := Ideal) X b k (ix2 r q) = X (ix2 ⟨brow b k + r.val, h⟩ q) := by
  refine congrArg X (funext fun a => Fin.ext ?_)
  match a with
  | ⟨0, _⟩ => show brow b k + 1 * r.val = brow b k + r.val; omega
  | ⟨1, _⟩ => show 0 + 1 * q.val = q.val; omega

/-- A block's scaled product at an index. -/
theorem prod_apply (X : S4096x1024.Idx → BitVec 8) (W : S1024x2048.Idx → BitVec 8) (hf : Fits X W) (sc : EReal) (b : Bool) (k : Fin 4)
    (r : Fin 512) (l : Fin 2048) (h : brow b k + r.val < 4096) :
    prod (F := Ideal) X W sc b k (ix2 r l) = (((dotAt X W ⟨brow b k + r.val, h⟩ l : ℤ) : ℝ) : EReal) * sc := by
  have hm : absDotI8 (DotDims.plain 512 1024 2048) (xrows (F := Ideal) X b k) W (ix2 r l) ≤ IntMxuNumerics.v7x.exactUpTo := by
    unfold absDotI8
    rw [plain_sum (fun u v : BitVec 8 => (u.toInt * v.toInt).natAbs)]
    refine mags_lt _ _ ?_
    obtain ⟨q, hq⟩ := hf ⟨brow b k + r.val, h⟩ l
    exact ⟨q, hq.imp (fun e => by rw [xrows_apply X b k r q h]; exact e) id⟩
  have hd : dotI8 (DotDims.plain 512 1024 2048) (xrows (F := Ideal) X b k) W (ix2 r l) = dotAt X W ⟨brow b k + r.val, h⟩ l := by
    unfold dotI8 dotAt
    rw [plain_sum (fun u v : BitVec 8 => u.toInt * v.toInt)]
    exact Finset.sum_congr rfl fun q _ => by rw [xrows_apply X b k r q h]
  have hw : (matmulI8 IntMxuNumerics.v7x (DotDims.plain 512 1024 2048) (xrows (F := Ideal) X b k) W (constantI S512x2048 32 0#32) (ix2 r l)).toInt
      = dotAt X W ⟨brow b k + r.val, h⟩ l :=
    (matmulI8_toInt IntMxuNumerics.v7x (DotDims.plain 512 1024 2048) _ _ _ _ rfl hm).trans hd
  exact congrArg (fun z : ℤ => ((z : ℝ) : EReal) * sc) hw

end Cert.RingProof

end
-- ==== Proof.Value.lean ====
/-
# The value

What the ring leaves on every device is what the reference computes of the whole arrays: a chunk's running sum passes the four
devices, in an order of the chunk's own, and their four dot products over 1024 positions are one over 4096.
-/
module

public import Idealize.ShloMosaic.Lib.Layout
public import proofs.«01_k».proof.Proof.Launch
public import proofs.«01_k».proof.Proof.Product
public import proofs.«01_k».proof.Proof.Reference

@[expose] public section

noncomputable section

namespace Cert.RingProof

open Cert.KernelIdeal Cert.KernelIdeal.Gen
open Idealize.ShloMosaic Idealize.ShloMosaic.TcCoe Idealize.ShloMosaic.ValueIdx
open scoped BigOperators

/-! ## Sums -/

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- The order in which a chunk's sum passes the devices does not matter. -/
theorem round_sum (f : Fin 4 → EReal) (b : Bool) (c : Dev nD) :
    f c + (f (frm b c) + (f (frm b (frm b c)) + f (frm b (frm b (frm b c))))) = ∑ d, f d := by
  have h : ([c, frm b c, frm b (frm b c), frm b (frm b (frm b c))] : List (Fin 4)).toFinset = Finset.univ
      ∧ ([c, frm b c, frm b (frm b c), frm b (frm b (frm b c))] : List (Fin 4)).Nodup := by
    revert b c; decide +kernel
  rw [← h.1, List.sum_toFinset _ h.2]
  simp only [List.map_cons, List.map_nil, List.sum_cons, List.sum_nil, add_zero]

/-- The sum over 4096 positions, block by block. -/
theorem sum_blocks {M : Type} [AddCommMonoid M] (f : Fin 4096 → M) :
    ∑ q, f q = ∑ d : Fin 4, ∑ k : Fin 1024, f ⟨d.val * 1024 + k.val, by omega⟩ := by
  rw [← Equiv.sum_comp (finProdFinEquiv (m := 4) (n := 1024)) f, Fintype.sum_prod_type]
  refine Finset.sum_congr rfl fun d _ => Finset.sum_congr rfl fun k _ => congrArg f (Fin.ext ?_)
  show k.val + 1024 * d.val = d.val * 1024 + k.val
  omega

/-! ## The ring's result -/

/-- A chunk's sum is the sum of the four devices' products of it. -/
theorem total_sum (D : Data Ideal) (b : Bool) (k s : Fin 4) (j : S128x2048.Idx) :
    total D b k s j = ∑ d : Fin 4, (D.P d b k s j : EReal) := by
  have h3 : chunk b (owner b k) 3 = k := by revert b k; decide +kernel
  rw [← round_sum (fun d => D.P d b k s j) b (owner b k)]
  unfold total
  simp only [sent, Nat.reduceLT, if_true, chunk_frm, Nat.reduceAdd, h3]
  rfl

variable (m : (ℓ : Loc nD τ sig) → Buf (Elt Ideal) ℓ)

/-- The scale a device multiplies by. -/
def scale (c : Dev nD) : EReal := k0_pay16 (stg0 m c one) (stg1 m c one)

/-- The element of the result a lane's row and column name. -/
theorem lane_prod (X : S4096x1024.Idx → BitVec 8) (W : S1024x2048.Idx → BitVec 8) (hf : Fits X W) (sc : EReal) (i : S4096x2048.Idx) :
    lane (F := Ideal) (laneIx i) (prod (F := Ideal) X W sc (dirOf i) (chunkOf i)) (inLane i)
      = (((dotAt X W (rowOf i) (colOf i) : ℤ) : ℝ) : EReal) * sc := by
  have hi : (i 0).val < 4096 := (i 0).isLt
  have hb : brow (dirOf i) (chunkOf i) = 512 * ((i 0).val / 512) := by
    unfold brow dirOf chunkOf
    simp only [decide_eq_true_eq]
    split <;> omega
  have hl : 128 * ((i 0).val / 128 % 4) + (i 0).val % 128 < 512 := by omega
  have hr : brow (dirOf i) (chunkOf i) + (128 * ((i 0).val / 128 % 4) + (i 0).val % 128) = (i 0).val := by omega
  have e : (inRect (laneIx i)).emb (inLane i) = ix2 (⟨128 * ((i 0).val / 128 % 4) + (i 0).val % 128, hl⟩ : Fin 512) (colOf i) := by
    funext a; apply Fin.ext
    match a with
    | ⟨0, _⟩ => show 128 * ((i 0).val / 128 % 4) + 1 * ((i 0).val % 128) = 128 * ((i 0).val / 128 % 4) + (i 0).val % 128; omega
    | ⟨1, _⟩ => show 0 + 1 * (i 1).val = (i 1).val; omega
  unfold lane
  rw [e, prod_apply X W hf sc _ _ _ _ (by rw [hr]; exact hi)]
  have h0 : (⟨brow (dirOf i) (chunkOf i) + (128 * ((i 0).val / 128 % 4) + (i 0).val % 128), by rw [hr]; exact hi⟩ : Fin 4096) = rowOf i :=
    Fin.ext hr
  exact congrArg (fun r => (((dotAt X W r (colOf i) : ℤ) : ℝ) : EReal) * sc) h0

/-- The ring's result at an index. -/
theorem result_apply (hf : ∀ c : Dev nD, Fits (m ((c : Thread nD τ).loc main_arg0)) (m ((c : Thread nD τ).loc main_arg1))) (i : S4096x2048.Idx) :
    result (data m) i = ∑ d : Fin 4, (((dotAt (m (((d : Dev nD) : Thread nD τ).loc main_arg0)) (m (((d : Dev nD) : Thread nD τ).loc main_arg1))
      (rowOf i) (colOf i) : ℤ) : ℝ) : EReal) * scale m d := by
  unfold result
  rw [total_sum]
  exact Finset.sum_congr rfl fun d _ => lane_prod _ _ (hf d) _ i

/-- The scale factors a device is given. -/
def fac0 (c : Dev nD) : S1.Idx → EReal := m ((c : Thread nD τ).loc main_arg2)
def fac1 (c : Dev nD) : S1.Idx → EReal := m ((c : Thread nD τ).loc main_arg3)

/-- The staged scale factors are the arguments. -/
theorem scale_eq (c : Dev nD) : scale m c = fac0 m c one * fac1 m c one := by
  have e0 : stg0 m c one = m ((c : Thread nD τ).loc main_arg2) one :=
    congrArg (m ((c : Thread nD τ).loc main_arg2)) (funext fun a => Fin.ext (by
      match a with
      | ⟨0, _⟩ => exact (by decide +kernel : win0_0.index t0_0 0 * win0_0.size 0 + 1 * 0 = 0)))
  have e1 : stg1 m c one = m ((c : Thread nD τ).loc main_arg3) one :=
    congrArg (m ((c : Thread nD τ).loc main_arg3)) (funext fun a => Fin.ext (by
      match a with
      | ⟨0, _⟩ => exact (by decide +kernel : win0_1.index t0_0 0 * win0_1.size 0 + 1 * 0 = 0)))
  unfold scale
  rw [e0, e1]
  rfl

/-! ## The reference's result -/

/-- The reference's result at an index. -/
theorem out_apply (x : Cert.ReferenceIdeal.S4096x4096.Idx → BitVec 8) (w : Cert.ReferenceIdeal.S4096x2048.Idx → BitVec 8)
    (a b : S1.Idx → EReal) (i : S4096x2048.Idx) :
    Cert.RingRef.out (F := Ideal) x w a b i
      = (((∑ q : Fin 4096, (x (ix2 (rowOf i) q)).toInt * (w (ix2 q (colOf i))).toInt : ℤ) : ℝ) : EReal) * (a one * b one) := by
  have hi : i = ix2 (rowOf i) (colOf i) := by
    funext a; match a with | ⟨0, _⟩ => rfl | ⟨1, _⟩ => rfl
  have hz (z : BitVec 8) : (z.signExtend 32).toInt = z.toInt := BitVec.toInt_signExtend_of_le (by decide)
  have hd : Host.dotGeneral (F := Ideal) (DotDims.plain 4096 4096 2048) none
      (sitofp .f32 (extsi 32 x Cert.ReferenceIdeal.Gen.natLt_8_32)) (sitofp .f32 (extsi 32 w Cert.ReferenceIdeal.Gen.natLt_8_32)) (ix2 (rowOf i) (colOf i))
      = (((∑ q : Fin 4096, (x (ix2 (rowOf i) q)).toInt * (w (ix2 q (colOf i))).toInt : ℤ) : ℝ) : EReal) := by
    unfold Host.dotGeneral
    rw [Ideal.dotGeneral_apply, plain_sum (fun u v : EReal => u * v), Int.cast_sum, coe_sum]
    refine Finset.sum_congr rfl fun q _ => ?_
    show (((x (ix2 (rowOf i) q)).signExtend 32).toInt : ℝ) * ((((w (ix2 q (colOf i))).signExtend 32).toInt : ℝ) : EReal) = _
    rw [hz, hz, Int.cast_mul, EReal.coe_mul]
  have hs : Subsingleton S1.Idx := ⟨fun j k => funext fun c => by
    match c with
    | ⟨0, _⟩ => exact Subsingleton.elim (α := Fin 1) _ _⟩
  have e (j : S1.Idx) : a j * b j = a one * b one := by rw [Subsingleton.elim j one]
  rw [← hd, ← hi]
  exact congrArg (_ * ·) (e _)

/-! ## The two agree -/

/-- A device's dot product, of its blocks of whole arrays. -/
theorem dotAt_block (x : Cert.ReferenceIdeal.S4096x4096.Idx → BitVec 8) (w : Cert.ReferenceIdeal.S4096x2048.Idx → BitVec 8) (d : Fin 4)
    (r : Fin 4096) (l : Fin 2048) :
    dotAt (Layout.block ⟨2, ![4096, 1024]⟩ ⟨2, ![4096, 4096]⟩ 1 4 d x) (Layout.block ⟨2, ![1024, 2048]⟩ ⟨2, ![4096, 2048]⟩ 0 4 d w) r l
      = ∑ k : Fin 1024, (x (ix2 r ⟨d.val * 1024 + k.val, by omega⟩)).toInt * (w (ix2 ⟨d.val * 1024 + k.val, by omega⟩ l)).toInt := by
  unfold dotAt
  refine Finset.sum_congr rfl fun k _ => ?_
  have hx : Layout.block ⟨2, ![4096, 1024]⟩ ⟨2, ![4096, 4096]⟩ 1 4 d x (by decide) (ix2 r k) = x (ix2 r ⟨d.val * 1024 + k.val, by omega⟩) :=
    congrArg x (funext fun a => Fin.ext (by match a with | ⟨0, _⟩ => rfl | ⟨1, _⟩ => rfl))
  have hw : Layout.block ⟨2, ![1024, 2048]⟩ ⟨2, ![4096, 2048]⟩ 0 4 d w (by decide) (ix2 k l) = w (ix2 ⟨d.val * 1024 + k.val, by omega⟩ l) :=
    congrArg w (funext fun a => Fin.ext (by match a with | ⟨0, _⟩ => rfl | ⟨1, _⟩ => rfl))
  rw [hx, hw]

/-- Where the devices hold their blocks of whole arrays and the scale factors, of real product, the ring's result is the
    reference's. -/
theorem result_eq (x : Cert.ReferenceIdeal.S4096x4096.Idx → BitVec 8) (w : Cert.ReferenceIdeal.S4096x2048.Idx → BitVec 8)
    (a b : S1.Idx → EReal)
    (hx : ∀ c : Dev nD, m ((c : Thread nD τ).loc main_arg0) = Layout.block ⟨2, ![4096, 1024]⟩ ⟨2, ![4096, 4096]⟩ 1 4 c x)
    (hw : ∀ c : Dev nD, m ((c : Thread nD τ).loc main_arg1) = Layout.block ⟨2, ![1024, 2048]⟩ ⟨2, ![4096, 2048]⟩ 0 4 c w)
    (ha : ∀ c : Dev nD, fac0 m c = a) (hb : ∀ c : Dev nD, fac1 m c = b)
    (hf : ∀ c : Dev nD, Fits (m ((c : Thread nD τ).loc main_arg0)) (m ((c : Thread nD τ).loc main_arg1)))
    (hr : ∃ r : ℝ, a one * b one = (r : EReal)) :
    result (data m) = Cert.RingRef.out (F := Ideal) x w a b := by
  obtain ⟨r, hr⟩ := hr
  funext i
  have h (d : Fin 4) : (((dotAt (m (((d : Dev nD) : Thread nD τ).loc main_arg0)) (m (((d : Dev nD) : Thread nD τ).loc main_arg1))
      (rowOf i) (colOf i) : ℤ) : ℝ) : EReal) * scale m d
      = (((((∑ k : Fin 1024, (x (ix2 (rowOf i) ⟨d.val * 1024 + k.val, by omega⟩)).toInt * (w (ix2 ⟨d.val * 1024 + k.val, by omega⟩ (colOf i))).toInt
        : ℤ) : ℝ) * r : ℝ)) : EReal) := by
    rw [hx, hw, dotAt_block, scale_eq, ha, hb, hr, EReal.coe_mul]
  rw [result_apply m hf, out_apply, hr, Finset.sum_congr rfl fun d _ => h d, ← coe_sum, ← Finset.sum_mul, ← Int.cast_sum,
    ← sum_blocks fun q : Fin 4096 => (x (ix2 (rowOf i) q)).toInt * (w (ix2 q (colOf i))).toInt, EReal.coe_mul]

end Cert.RingProof

end
-- ==== Proof.lean ====
/-
# The certificate

Every execution of the kernel on the four devices, of its idealization and of the reference ends with the operands as they were
and every semaphore at zero; the idealization rewrote no operation; and over the extended reals every device ends with what the
reference computes of the whole arrays.
-/
module

public import proofs.«01_k».proof.Defs
public import proofs.«01_k».proof.Proof.Gen.Kernel
public import proofs.«01_k».proof.Proof.Launch
public import proofs.«01_k».proof.Proof.Range
public import proofs.«01_k».proof.Proof.Reference
public import proofs.«01_k».proof.Proof.Value
public import proofs.«01_k».proof.Proof.Gen.Pre_in_range_KernelIdeal
public import proofs.«01_k».proof.Proof.Gen.Pre_in_range_ReferenceIdeal

@[expose] public section

noncomputable section

namespace Cert.Proof

open Idealize.ShloMosaic Idealize.SL.Sem

/-- The idealized kernel ends with its operands as they were and every semaphore at zero. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.RingProof.run_main (F := Ideal) m ρ)

set_option maxRecDepth 100000 in
/-- The kernel's body and its idealization's are the same program text, -/
theorem body_eq {F : FTy → Type} [FloatOps F] : Cert.Kernel.cc0_body (F := F) = Cert.KernelIdeal.cc0_body (F := F) := rfl

set_option maxRecDepth 100000 in
/-- so their body tables are the same, -/
theorem defs_eq {F : FTy → Type} [FloatOps F] : Cert.Kernel.defs (F := F) = Cert.KernelIdeal.defs (F := F) :=
  congrArg (Pipeline.defs Cert.KernelIdeal.pcfgs) (by
    unfold Cert.Kernel.defs₀ Cert.KernelIdeal.defs₀
    refine congrArg Defs.onTc (funext fun ℓ => funext fun a => ?_)
    match ℓ, a with
    | 0, (t, s) =>
      dsimp only
      rw [body_eq])

set_option maxRecDepth 100000 in
/-- and what is proved of the one's executions holds of the other's: the kernel ends with its operands as they were and every
    semaphore at zero. -/
theorem frame_kernel : Cert.quiescent_Kernel := fun m ρ _ => by
  have h := Cert.RingProof.run_main (F := Bits) m ρ
  rw [← defs_eq] at h
  exact (θ_run Cert.Kernel.defs _ _).mono
    (fun _ h => ⟨fun c => ⟨(h.1 c).1, (h.1 c).2.1, (h.1 c).2.2.1, (h.1 c).2.2.2.1⟩, h.2⟩) h

/-- And so does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.RingRef.run_main (F := Ideal) m ρ)

/-- From the devices' blocks of the reference's arrays, every device of the idealized kernel ends with the reference's result. -/
theorem algebraic : Cert.algebraic_KernelIdeal_ReferenceIdeal_pre_in_range_KernelIdeal := fun m ρ m' ρ' hp h => by
  refine ⟨_, ?_, (θ_run Cert.ReferenceIdeal.defs _ _).mono (fun r hr => hr 0) (Cert.RingRef.run_main (F := Ideal) m' ρ')⟩
  have e := Cert.RingProof.result_eq m _ _ _ _ (fun c => (h c).1) (fun c => (h c).2.1) (fun c => (h c).2.2.1) (fun c => (h c).2.2.2)
    (fun c => Cert.RingRange.not_all_min (hp c).2) (by
      obtain ⟨r, hr⟩ := Cert.RingRange.scale_real (hp 0).1 Cert.RingProof.one
      exact ⟨r, by rw [← (h 0).2.2.1, ← (h 0).2.2.2]; exact hr⟩)
  exact (θ_run Cert.KernelIdeal.defs _ _).mono
    (fun _ hr c => ⟨(hr.1 c).2.2.2.2.trans e, (hr.1 c).1, (hr.1 c).2.1, (hr.1 c).2.2.1, (hr.1 c).2.2.2.1⟩)
    (Cert.RingProof.run_main (F := Ideal) m ρ)

theorem claim : Cert.Claim := ⟨Cert.Kernel.Gen.facts, Cert.KernelIdeal.Gen.facts, Cert.ReferenceIdeal.Gen.facts,
  Cert.Pre_in_range_KernelIdeal.Gen.facts, Cert.Pre_in_range_ReferenceIdeal.Gen.facts,
  frame_kernel, frame_kernelIdeal, fun m ρ _ => frame_kernelIdeal m ρ trivial, frame_reference,
  fun m ρ _ => frame_reference m ρ trivial, trivial, algebraic⟩

end Cert.Proof

end
